-- ==== Defs.lean ====
def Pre_KernelIdeal (m : (ℓ : Loc Cert.KernelIdeal.nD Cert.KernelIdeal.τ Cert.KernelIdeal.sig) → Buf (Elt Ideal) ℓ) : Prop :=
  True

def Pre_KernelIdeal_boxes_in_range [hPre_boxes_in_range : Cert.Pre_boxes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_in_range.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_in_range [hPre_boxes_in_range : Cert.Pre_boxes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_in_range.fn (F := Ideal) (m ((c.tc : Thread Cert.ReferenceIdeal.nD Cert.ReferenceIdeal.τ).loc Cert.ReferenceIdeal.main_arg0))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_boxes_in_range [hKernelIdeal : Cert.KernelIdeal.Facts] [hPre_boxes_in_range : Cert.Pre_boxes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_boxes_in_range [hReferenceIdeal : Cert.ReferenceIdeal.Facts] [hPre_boxes_in_range : Cert.Pre_boxes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def algebraic_KernelIdeal_ReferenceIdeal_pre_boxes_in_range [hKernelIdeal : Cert.KernelIdeal.Facts] [hReferenceIdeal : Cert.ReferenceIdeal.Facts] [hPre_boxes_in_range : Cert.Pre_boxes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernelIdeal : Cert.KernelIdeal.Facts) (hReferenceIdeal : Cert.ReferenceIdeal.Facts) (hPre_boxes_in_range : Cert.Pre_boxes_in_range.Facts),
    quiescent_KernelIdeal (hKernelIdeal := hKernelIdeal)
    ∧ quiescent_KernelIdeal_pre_boxes_in_range (hKernelIdeal := hKernelIdeal) (hPre_boxes_in_range := hPre_boxes_in_range)
    ∧ quiescent_ReferenceIdeal (hReferenceIdeal := hReferenceIdeal)
    ∧ quiescent_ReferenceIdeal_pre_boxes_in_range (hReferenceIdeal := hReferenceIdeal) (hPre_boxes_in_range := hPre_boxes_in_range)
    ∧ algebraic_KernelIdeal_ReferenceIdeal_pre_boxes_in_range (hKernelIdeal := hKernelIdeal) (hReferenceIdeal := hReferenceIdeal) (hPre_boxes_in_range := hPre_boxes_in_range)
-- ==== Pre_boxes_in_range.lean ====
abbrev S1x8x20000x85 : Shape := ⟨4, ![1, 8, 20000, 85]⟩
abbrev S1x8x20000x1 : Shape := ⟨4, ![1, 8, 20000, 1]⟩
abbrev S_ : Shape := ⟨0, ![]⟩

class Facts : Prop where
  slices_S1x8x20000x85_S1x8x20000x1_0_0_0_0 : S1x8x20000x85.Slices ![0, 0, 0, 0] S1x8x20000x1
  slices_S1x8x20000x85_S1x8x20000x1_0_0_0_2 : S1x8x20000x85.Slices ![0, 0, 0, 2] S1x8x20000x1
  bcast_S_S1x8x20000x1 : S_.BroadcastsInDim S1x8x20000x1 (![] : Fin 0 → Fin S1x8x20000x1.rank)
  reducesTo_S1x8x20000x1_S_d0_1_2_3 : S1x8x20000x1.ReducesTo [0, 1, 2, 3] S_
  h_S_ : 0 < S_.numel

variable [Facts]

def fn {F : FTy → Type} [FloatOps F] (main_arg0 : FVec F S1x8x20000x85 .f32) : IVec S_ 1 :=
  let main_v0 : FVec F S1x8x20000x1 .f32 := (extractStridedSlice S1x8x20000x1 ![0, 0, 0, 0] · slices_S1x8x20000x85_S1x8x20000x1_0_0_0_0) main_arg0
  let main_v1 : FVec F S1x8x20000x1 .f32 := (extractStridedSlice S1x8x20000x1 ![0, 0, 0, 2] · slices_S1x8x20000x85_S1x8x20000x1_0_0_0_2) main_arg0
  let main_cst : FVec F S_ .f32 := constant S_ .f32 0x00000000#32
  let main_v2 : FVec F S1x8x20000x1 .f32 := broadcastInDim S1x8x20000x1 ![] bcast_S_S1x8x20000x1 main_cst
  let main_v3 : IVec S1x8x20000x1 1 := cmpf .oge main_v0 main_v2
  let main_cst_0 : FVec F S_ .f32 := constant S_ .f32 0x45000000#32
  let main_v4 : FVec F S1x8x20000x1 .f32 := broadcastInDim S1x8x20000x1 ![] bcast_S_S1x8x20000x1 main_cst_0
  let main_v5 : IVec S1x8x20000x1 1 := cmpf .ole main_v0 main_v4
  let main_v6 : IVec S1x8x20000x1 1 := andi main_v3 main_v5
  let main_cst_1 : FVec F S_ .f32 := constant S_ .f32 0x00000000#32
  let main_v7 : FVec F S1x8x20000x1 .f32 := broadcastInDim S1x8x20000x1 ![] bcast_S_S1x8x20000x1 main_cst_1
  let main_v8 : IVec S1x8x20000x1 1 := cmpf .oge main_v1 main_v7
  let main_v9 : IVec S1x8x20000x1 1 := andi main_v6 main_v8
  let main_cst_2 : FVec F S_ .f32 := constant S_ .f32 0x45000000#32
  let main_v10 : FVec F S1x8x20000x1 .f32 := broadcastInDim S1x8x20000x1 ![] bcast_S_S1x8x20000x1 main_cst_2
  let main_v11 : IVec S1x8x20000x1 1 := cmpf .ole main_v1 main_v10
  let main_v12 : IVec S1x8x20000x1 1 := andi main_v9 main_v11
  let main_c : IVec S_ 1 := constantI S_ 1 1#1
  let main_v13 : IVec S_ 1 := (fun x v => Host.reduce IntOp.andi x v reducesTo_S1x8x20000x1_S_d0_1_2_3 h_S_) main_v12 main_c
  main_v13
-- ==== KernelIdeal.lean ====
abbrev S1x8x20000x85 : Shape := ⟨4, ![1, 8, 20000, 85]⟩
abbrev S8x20000x85 : Shape := ⟨3, ![8, 20000, 85]⟩
abbrev S8x20000x80 : Shape := ⟨3, ![8, 20000, 80]⟩
abbrev S8x20000x1 : Shape := ⟨3, ![8, 20000, 1]⟩
abbrev S8x20000x4 : Shape := ⟨3, ![8, 20000, 4]⟩
abbrev S_ : Shape := ⟨0, ![]⟩
abbrev S8x20000x3 : Shape := ⟨3, ![8, 20000, 3]⟩
abbrev S8x20000x88 : Shape := ⟨3, ![8, 20000, 88]⟩
abbrev S8x20480x88 : Shape := ⟨3, ![8, 20480, 88]⟩
abbrev S8x160x128x88 : Shape := ⟨4, ![8, 160, 128, 88]⟩
abbrev S8x160x88x128 : Shape := ⟨4, ![8, 160, 88, 128]⟩
abbrev S8x160x128 : Shape := ⟨3, ![8, 160, 128]⟩
abbrev S1x16x88x128 : Shape := ⟨4, ![1, 16, 88, 128]⟩
abbrev S1x16x128 : Shape := ⟨3, ![1, 16, 128]⟩
abbrev S16x88x128 : Shape := ⟨3, ![16, 88, 128]⟩
abbrev S16x80x128 : Shape := ⟨3, ![16, 80, 128]⟩
abbrev S16x1x128 : Shape := ⟨3, ![16, 1, 128]⟩
abbrev S16x128 : Shape := ⟨2, ![16, 128]⟩
abbrev S8x8x1024 : Shape := ⟨3, ![8, 8, 1024]⟩
abbrev S1x160x128 : Shape := ⟨3, ![1, 160, 128]⟩
abbrev S1x8x1024 : Shape := ⟨3, ![1, 8, 1024]⟩
abbrev S160x128 : Shape := ⟨2, ![160, 128]⟩
abbrev S80x128 : Shape := ⟨2, ![80, 128]⟩
abbrev S1 : Shape := ⟨1, ![1]⟩
abbrev S8x1024 : Shape := ⟨2, ![8, 1024]⟩
abbrev S1x128 : Shape := ⟨2, ![1, 128]⟩
abbrev S1x1x1 : Shape := ⟨3, ![1, 1, 1]⟩
abbrev S1x1x128 : Shape := ⟨3, ![1, 1, 128]⟩
abbrev S1x1 : Shape := ⟨2, ![1, 1]⟩
abbrev S2x1 : Shape := ⟨2, ![2, 1]⟩
abbrev S8x1 : Shape := ⟨2, ![8, 1]⟩
abbrev S8x1024x8 : Shape := ⟨3, ![8, 1024, 8]⟩
abbrev S8x1000x6 : Shape := ⟨3, ![8, 1000, 6]⟩

abbrev nBuf : Space → Nat
  | .hbm => 27
  | .vmem => 54
  | .smem => 1
  | _ => 0

abbrev bufTy : (tb : Table) → Fin (tcTables nBuf tb) → BufTy
  | .hbm, ⟨0, _⟩ => ⟨S1x8x20000x85, .f32⟩
  | .hbm, ⟨1, _⟩ => ⟨S8x20000x85, .f32⟩
  | .hbm, ⟨2, _⟩ => ⟨S8x20000x80, .f32⟩
  | .hbm, ⟨3, _⟩ => ⟨S8x20000x1, .f32⟩
  | .hbm, ⟨4, _⟩ => ⟨S8x20000x4, .f32⟩
  | .hbm, ⟨5, _⟩ => ⟨S_, .f32⟩
  | .hbm, ⟨6, _⟩ => ⟨S8x20000x3, .f32⟩
  | .hbm, ⟨7, _⟩ => ⟨S8x20000x88, .f32⟩
  | .hbm, ⟨8, _⟩ => ⟨S_, .i32⟩
  | .hbm, ⟨9, _⟩ => ⟨S_, .f32⟩
  | .hbm, ⟨10, _⟩ => ⟨S8x20480x88, .f32⟩
  | .hbm, ⟨11, _⟩ => ⟨S8x160x128x88, .f32⟩
  | .hbm, ⟨12, _⟩ => ⟨S8x160x88x128, .f32⟩
  | .hbm, ⟨13, _⟩ => ⟨S8x160x128, .f32⟩
  | .hbm, ⟨14, _⟩ => ⟨S8x160x128, .f32⟩
  | .hbm, ⟨15, _⟩ => ⟨S8x160x128, .f32⟩
  | .hbm, ⟨16, _⟩ => ⟨S8x160x128, .f32⟩
  | .hbm, ⟨17, _⟩ => ⟨S8x160x128, .f32⟩
  | .hbm, ⟨18, _⟩ => ⟨S8x160x128, .f32⟩
  | .hbm, ⟨19, _⟩ => ⟨S8x160x128, .f32⟩
  | .hbm, ⟨20, _⟩ => ⟨S8x160x128, .f32⟩
  | .hbm, ⟨21, _⟩ => ⟨S8x160x128, .f32⟩
  | .hbm, ⟨22, _⟩ => ⟨S8x160x128, .f32⟩
  | .hbm, ⟨23, _⟩ => ⟨S8x160x128, .f32⟩
  | .hbm, ⟨24, _⟩ => ⟨S8x8x1024, .f32⟩
  | .hbm, ⟨25, _⟩ => ⟨S8x1024x8, .f32⟩
  | .hbm, ⟨26, _⟩ => ⟨S8x1000x6, .f32⟩
  | .local _ .vmem, ⟨0, _⟩ => ⟨S1x16x88x128, .f32⟩
  | .local _ .vmem, ⟨1, _⟩ => ⟨S1x16x88x128, .f32⟩
  | .local _ .vmem, ⟨2, _⟩ => ⟨S1x16x128, .f32⟩
  | .local _ .vmem, ⟨3, _⟩ => ⟨S1x16x128, .f32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | .local _ .vmem, ⟨8, _⟩ => ⟨S1x16x128, .f32⟩
  | .local _ .vmem, ⟨9, _⟩ => ⟨S1x16x128, .f32⟩
  | .local _ .vmem, ⟨10, _⟩ => ⟨S1x16x128, .f32⟩
  | .local _ .vmem, ⟨11, _⟩ => ⟨S1x16x128, .f32⟩
  | .local _ .vmem, ⟨12, _⟩ => ⟨S1x16x128, .f32⟩
  | .local _ .vmem, ⟨13, _⟩ => ⟨S1x16x128, .f32⟩
  | .local _ .vmem, ⟨14, _⟩ => ⟨S1x16x128, .f32⟩
  | .local _ .vmem, ⟨15, _⟩ => ⟨S1x16x128, .f32⟩
  | .local _ .vmem, ⟨16, _⟩ => ⟨S1x16x128, .f32⟩
  | .local _ .vmem, ⟨17, _⟩ => ⟨S1x16x128, .f32⟩
  | .local _ .vmem, ⟨18, _⟩ => ⟨S1x16x128, .f32⟩
  | .local _ .vmem, ⟨19, _⟩ => ⟨S1x16x128, .f32⟩
  | .local _ .vmem, ⟨20, _⟩ => ⟨S1x16x128, .f32⟩
  | .local _ .vmem, ⟨21, _⟩ => ⟨S1x16x128, .f32⟩
  | .local _ .vmem, ⟨22, _⟩ => ⟨S1x16x128, .f32⟩
  | .local _ .vmem, ⟨23, _⟩ => ⟨S1x16x128, .f32⟩
  | .local _ .vmem, ⟨24, _⟩ => ⟨S1x160x128, .f32⟩
  | .local _ .vmem, ⟨25, _⟩ => ⟨S1x160x128, .f32⟩
  | .local _ .vmem, ⟨26, _⟩ => ⟨S1x160x128, .f32⟩
  | .local _ .vmem, ⟨27, _⟩ => ⟨S1x160x128, .f32⟩
  | .local _ .vmem, ⟨28, _⟩ => ⟨S1x160x128, .f32⟩
  | .local _ .vmem, ⟨29, _⟩ => ⟨S1x160x128, .f32⟩
  | .local _ .vmem, ⟨30, _⟩ => ⟨S1x160x128, .f32⟩
  | .local _ .vmem, ⟨31, _⟩ => ⟨S1x160x128, .f32⟩
  | .local _ .vmem, ⟨32, _⟩ => ⟨S1x160x128, .f32⟩
  | .local _ .vmem, ⟨33, _⟩ => ⟨S1x160x128, .f32⟩
  | .local _ .vmem, ⟨34, _⟩ => ⟨S1x160x128, .f32⟩
  | .local _ .vmem, ⟨35, _⟩ => ⟨S1x160x128, .f32⟩
  | .local _ .vmem, ⟨36, _⟩ => ⟨S1x160x128, .f32⟩
  | .local _ .vmem, ⟨37, _⟩ => ⟨S1x160x128, .f32⟩
  | .local _ .vmem, ⟨38, _⟩ => ⟨S1x160x128, .f32⟩
  | .local _ .vmem, ⟨39, _⟩ => ⟨S1x160x128, .f32⟩
  | .local _ .vmem, ⟨40, _⟩ => ⟨S1x160x128, .f32⟩
  | .local _ .vmem, ⟨41, _⟩ => ⟨S1x160x128, .f32⟩
  | .local _ .vmem, ⟨42, _⟩ => ⟨S1x160x128, .f32⟩
  | .local _ .vmem, ⟨43, _⟩ => ⟨S1x160x128, .f32⟩
  | .local _ .vmem, ⟨44, _⟩ => ⟨S1x160x128, .f32⟩
  | .local _ .vmem, ⟨45, _⟩ => ⟨S1x160x128, .f32⟩
  | .local _ .vmem, ⟨46, _⟩ => ⟨S1x8x1024, .f32⟩
  | .local _ .vmem, ⟨47, _⟩ => ⟨S1x8x1024, .f32⟩
  | .local _ .vmem, ⟨48, _⟩ => ⟨S160x128, .f32⟩
  | .local _ .vmem, ⟨49, _⟩ => ⟨S80x128, .f32⟩
  | .local _ .vmem, ⟨50, _⟩ => ⟨S80x128, .f32⟩
  | .local _ .vmem, ⟨51, _⟩ => ⟨S80x128, .f32⟩
  | .local _ .vmem, ⟨52, _⟩ => ⟨S80x128, .f32⟩
  | .local _ .vmem, ⟨53, _⟩ => ⟨S80x128, .f32⟩
  | .local _ .smem, ⟨0, _⟩ => ⟨S1, .f32⟩
  | _, _ => ⟨S1x8x20000x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .smem, ⟨0, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev main_v9_4 : Ref sig .tc := ⟨.hbm, 17, rfl⟩
abbrev main_v9_5 : Ref sig .tc := ⟨.hbm, 18, rfl⟩
abbrev main_v9_6 : Ref sig .tc := ⟨.hbm, 19, rfl⟩
abbrev main_v9_7 : Ref sig .tc := ⟨.hbm, 20, rfl⟩
abbrev main_v9_8 : Ref sig .tc := ⟨.hbm, 21, rfl⟩
abbrev main_v9_9 : Ref sig .tc := ⟨.hbm, 22, rfl⟩
abbrev main_v9_10 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg3_1 : Ref sig .tc := ⟨.vmem, 31, rfl⟩
abbrev cc1_stg4_0 : Ref sig .tc := ⟨.vmem, 32, rfl⟩
abbrev cc1_stg4_1 : Ref sig .tc := ⟨.vmem, 33, rfl⟩
abbrev cc1_stg5_0 : Ref sig .tc := ⟨.vmem, 34, rfl⟩
abbrev cc1_stg5_1 : Ref sig .tc := ⟨.vmem, 35, rfl⟩
abbrev cc1_stg6_0 : Ref sig .tc := ⟨.vmem, 36, rfl⟩
abbrev cc1_stg6_1 : Ref sig .tc := ⟨.vmem, 37, rfl⟩
abbrev cc1_stg7_0 : Ref sig .tc := ⟨.vmem, 38, rfl⟩
abbrev cc1_stg7_1 : Ref sig .tc := ⟨.vmem, 39, rfl⟩
abbrev cc1_stg8_0 : Ref sig .tc := ⟨.vmem, 40, rfl⟩
abbrev cc1_stg8_1 : Ref sig .tc := ⟨.vmem, 41, rfl⟩
abbrev cc1_stg9_0 : Ref sig .tc := ⟨.vmem, 42, rfl⟩
abbrev cc1_stg9_1 : Ref sig .tc := ⟨.vmem, 43, rfl⟩
abbrev cc1_stg10_0 : Ref sig .tc := ⟨.vmem, 44, rfl⟩
abbrev cc1_stg10_1 : Ref sig .tc := ⟨.vmem, 45, rfl⟩
abbrev cc1_stg11_0 : Ref sig .tc := ⟨.vmem, 46, rfl⟩
abbrev cc1_stg11_1 : Ref sig .tc := ⟨.vmem, 47, rfl⟩
abbrev cc1_scratch0 : Ref sig .tc := ⟨.vmem, 48, rfl⟩
abbrev cc1_scratch1 : Ref sig .tc := ⟨.vmem, 49, rfl⟩
abbrev cc1_scratch2 : Ref sig .tc := ⟨.vmem, 50, rfl⟩
abbrev cc1_scratch3 : Ref sig .tc := ⟨.vmem, 51, rfl⟩
abbrev cc1_scratch4 : Ref sig .tc := ⟨.vmem, 52, rfl⟩
abbrev cc1_scratch5 : Ref sig .tc := ⟨.vmem, 53, rfl⟩
abbrev cc1_scratch6 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem5_1 : DmaSem sig := 35
abbrev cc1_sem6_0 : DmaSem sig := 36
abbrev cc1_sem6_1 : DmaSem sig := 37
abbrev cc1_sem7_0 : DmaSem sig := 38
abbrev cc1_sem7_1 : DmaSem sig := 39
abbrev cc1_sem8_0 : DmaSem sig := 40
abbrev cc1_sem8_1 : DmaSem sig := 41
abbrev cc1_sem9_0 : DmaSem sig := 42
abbrev cc1_sem9_1 : DmaSem sig := 43
abbrev cc1_sem10_0 : DmaSem sig := 44
abbrev cc1_sem10_1 : DmaSem sig := 45
abbrev cc1_sem11_0 : DmaSem sig := 46
abbrev cc1_sem11_1 : DmaSem sig := 47

abbrev nD : Nat := 1
abbrev τ : Topo := Topo.v7x

variable {F : FTy → Type} [FloatOps F]

abbrev grid0 : Pipeline.Grid := ⟨2, ![8, 10], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x88x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨1, ![8], ![false]⟩

def k1_off1 (v53 : BitVec 32) : Fin 2 → Nat :=
  let c0_i32_30 : BitVec 32 := 0#32
  let v55 : BitVec 1 := Scalar.cmpi .sgt v53 c0_i32_30
  let v56 : BitVec 32 := Scalar.extui v55
  let c0_i32_31 : BitVec 32 := 0#32
  let v57 : BitVec 1 := Scalar.cmpi .slt v53 c0_i32_31
  let v58 : BitVec 32 := Scalar.extui v57
  let v59 : BitVec 32 := Scalar.subi v56 v58
  let c128_i32 : BitVec 32 := 128#32
  let c0_i32_32 : BitVec 32 := 0#32
  let v60 : BitVec 1 := Scalar.cmpi .sgt c128_i32 c0_i32_32
  let v61 : BitVec 32 := Scalar.extui v60
  let c0_i32_33 : BitVec 32 := 0#32
  let v62 : BitVec 1 := Scalar.cmpi .slt c128_i32 c0_i32_33
  let v63 : BitVec 32 := Scalar.extui v62
  let v64 : BitVec 32 := Scalar.subi v61 v63
  let v65 : BitVec 1 := Scalar.cmpi .ne v59 v64
  let v66 : BitVec 32 := Scalar.remsi v53 c128_i32
  let c0_i32_34 : BitVec 32 := 0#32
  let v67 : BitVec 1 := Scalar.cmpi .ne v66 c0_i32_34
  let v68 : BitVec 1 := Scalar.andi v65 v67
  let v54 : BitVec 32 := Scalar.divsi v53 c128_i32
  let c1_i32 : BitVec 32 := 1#32
  let v69 : BitVec 32 := Scalar.subi v54 c1_i32
  let v70 : BitVec 32 := Scalar.select v68 v69 v54
  let v73 : Index := Scalar.indexCast v70
  let c0_36 : Index := 0#32
  ![v73.toNat, 0]

def k1_off2 (v53 : BitVec 32) : Fin 3 → Nat :=
  let c0_42 : Index := 0#32
  let c0_i32_30 : BitVec 32 := 0#32
  let v55 : BitVec 1 := Scalar.cmpi .sgt v53 c0_i32_30
  let v56 : BitVec 32 := Scalar.extui v55
  let c0_i32_31 : BitVec 32 := 0#32
  let v57 : BitVec 1 := Scalar.cmpi .slt v53 c0_i32_31
  let v58 : BitVec 32 := Scalar.extui v57
  let v59 : BitVec 32 := Scalar.subi v56 v58
  let c128_i32 : BitVec 32 := 128#32
  let c0_i32_32 : BitVec 32 := 0#32
  let v60 : BitVec 1 := Scalar.cmpi .sgt c128_i32 c0_i32_32
  let v61 : BitVec 32 := Scalar.extui v60
  let c0_i32_33 : BitVec 32 := 0#32
  let v62 : BitVec 1 := Scalar.cmpi .slt c128_i32 c0_i32_33
  let v63 : BitVec 32 := Scalar.extui v62
  let v64 : BitVec 32 := Scalar.subi v61 v63
  let v65 : BitVec 1 := Scalar.cmpi .ne v59 v64
  let v66 : BitVec 32 := Scalar.remsi v53 c128_i32
  let c0_i32_34 : BitVec 32 := 0#32
  let v67 : BitVec 1 := Scalar.cmpi .ne v66 c0_i32_34
  let v68 : BitVec 1 := Scalar.andi v65 v67
  let v54 : BitVec 32 := Scalar.divsi v53 c128_i32
  let c1_i32 : BitVec 32 := 1#32
  let v69 : BitVec 32 := Scalar.subi v54 c1_i32
  let v70 : BitVec 32 := Scalar.select v68 v69 v54
  let v96 : Index := Scalar.indexCast v70
  let c0_43 : Index := 0#32
  ![0, v96.toNat, 0]
def k1_off3 (v144 : BitVec 32) : Fin 2 → Nat :=
  let v145 : Index := Scalar.indexCast v144
  let c0_60 : Index := 0#32
  ![v145.toNat, 0]

def k1_chk2 (v144 : BitVec 32) : Prop :=
  (∀ a, (k1_off3 v144) a + S1x128.size a ≤ S80x128.size a)
theorem k1_off3_inb : ∀ (v144 : BitVec 32) (k1_hw2 : k1_chk2 v144), ∀ a, (k1_off3 v144) a + S1x128.size a ≤ S80x128.size a := fun v144 k1_hw2 => k1_hw2

def k1_off4 (v53 : BitVec 32) : Fin 3 → Nat :=
  let c0_82 : Index := 0#32
  let c0_i32_30 : BitVec 32 := 0#32
  let v55 : BitVec 1 := Scalar.cmpi .sgt v53 c0_i32_30
  let v56 : BitVec 32 := Scalar.extui v55
  let c0_i32_31 : BitVec 32 := 0#32
  let v57 : BitVec 1 := Scalar.cmpi .slt v53 c0_i32_31
  let v58 : BitVec 32 := Scalar.extui v57
  let v59 : BitVec 32 := Scalar.subi v56 v58
  let c128_i32 : BitVec 32 := 128#32
  let c0_i32_32 : BitVec 32 := 0#32
  let v60 : BitVec 1 := Scalar.cmpi .sgt c128_i32 c0_i32_32
  let v61 : BitVec 32 := Scalar.extui v60
  let c0_i32_33 : BitVec 32 := 0#32
  let v62 : BitVec 1 := Scalar.cmpi .slt c128_i32 c0_i32_33
  let v63 : BitVec 32 := Scalar.extui v62
  let v64 : BitVec 32 := Scalar.subi v61 v63
  let v65 : BitVec 1 := Scalar.cmpi .ne v59 v64
  let v66 : BitVec 32 := Scalar.remsi v53 c128_i32
  let c0_i32_34 : BitVec 32 := 0#32
  let v67 : BitVec 1 := Scalar.cmpi .ne v66 c0_i32_34
  let v68 : BitVec 1 := Scalar.andi v65 v67
  let v54 : BitVec 32 := Scalar.divsi v53 c128_i32
  let c1_i32 : BitVec 32 := 1#32
  let v69 : BitVec 32 := Scalar.subi v54 c1_i32
  let v70 : BitVec 32 := Scalar.select v68 v69 v54
  let v231 : Index := Scalar.indexCast v70
  let c0_83 : Index := 0#32
  ![0, v231.toNat, 0]

def k1_chk1 (v53 : BitVec 32) : Prop :=
  (∀ a, (k1_off1 v53) a + S1x128.size a ≤ S160x128.size a) ∧
  (∀ a, (k1_off2 v53) a + S1x1x128.size a ≤ S1x160x128.size a) ∧
  (∀ a, (k1_off4 v53) a + S1x1x128.size a ≤ S1x160x128.size a)
theorem k1_off1_inb : ∀ (v53 : BitVec 32) (k1_hw1 : k1_chk1 v53), ∀ a, (k1_off1 v53) a + S1x128.size a ≤ S160x128.size a := fun v53 k1_hw1 => k1_hw1.1
theorem k1_off2_inb : ∀ (v53 : BitVec 32) (k1_hw1 : k1_chk1 v53), ∀ a, (k1_off2 v53) a + S1x1x128.size a ≤ S1x160x128.size a := fun v53 k1_hw1 => k1_hw1.2.1
theorem k1_off4_inb : ∀ (v53 : BitVec 32) (k1_hw1 : k1_chk1 v53), ∀ a, (k1_off4 v53) a + S1x1x128.size a ≤ S1x160x128.size a := fun v53 k1_hw1 => k1_hw1.2.2

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x160x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x160x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x160x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x160x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x160x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x160x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x160x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x160x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x160x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x160x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x160x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x8x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== ReferenceIdeal.lean ====
abbrev S1x8x20000x85 : Shape := ⟨4, ![1, 8, 20000, 85]⟩
abbrev S8x20000x85 : Shape := ⟨3, ![8, 20000, 85]⟩
abbrev S8 : Shape := ⟨1, ![8]⟩
abbrev S8x20000x4 : Shape := ⟨3, ![8, 20000, 4]⟩
abbrev S8x20000x2 : Shape := ⟨3, ![8, 20000, 2]⟩
abbrev S_ : Shape := ⟨0, ![]⟩
abbrev S8x20000x1 : Shape := ⟨3, ![8, 20000, 1]⟩
abbrev S8x20000 : Shape := ⟨2, ![8, 20000]⟩
abbrev S8x20000x80 : Shape := ⟨3, ![8, 20000, 80]⟩
abbrev S8x1000 : Shape := ⟨2, ![8, 1000]⟩
abbrev S8x1 : Shape := ⟨2, ![8, 1]⟩
abbrev S8x2 : Shape := ⟨2, ![8, 2]⟩
abbrev S8x4 : Shape := ⟨2, ![8, 4]⟩
abbrev S8x1x2 : Shape := ⟨3, ![8, 1, 2]⟩
abbrev S1 : Shape := ⟨1, ![1]⟩
abbrev S8x1000x1 : Shape := ⟨3, ![8, 1000, 1]⟩
abbrev S8x1000x2 : Shape := ⟨3, ![8, 1000, 2]⟩
abbrev S8x1000x4 : Shape := ⟨3, ![8, 1000, 4]⟩
abbrev S8x1000x6 : Shape := ⟨3, ![8, 1000, 6]⟩

abbrev nBuf : Space → Nat
  | .hbm => 272
  | .vmem => 0
  | .smem => 0
  | _ => 0

abbrev hbmTy0_0 (i : Nat) : BufTy := match i % 128 with
  | 0 => ⟨S1x8x20000x85, .f32⟩
  | 1 => ⟨S8x20000x85, .f32⟩
  | 2 => ⟨S8, .i32⟩
  | 3 => ⟨S8x20000x4, .f32⟩
  | 4 => ⟨S8x20000x2, .f32⟩
  | 5 => ⟨S8x20000x2, .f32⟩
  | 6 => ⟨S_, .f32⟩
  | 7 => ⟨S8x20000x2, .f32⟩
  | 8 => ⟨S8x20000x2, .f32⟩
  | 9 => ⟨S8x20000x2, .f32⟩
  | 10 => ⟨S_, .f32⟩
  | 11 => ⟨S8x20000x2, .f32⟩
  | 12 => ⟨S8x20000x2, .f32⟩
  | 13 => ⟨S8x20000x2, .f32⟩
  | 14 => ⟨S8x20000x4, .f32⟩
  | 15 => ⟨S8x20000x1, .f32⟩
  | 16 => ⟨S8x20000, .f32⟩
  | 17 => ⟨S8x20000x80, .f32⟩
  | 18 => ⟨S8x20000x1, .f32⟩
  | 19 => ⟨S8x20000x80, .f32⟩
  | 20 => ⟨S8x20000x80, .f32⟩
  | 21 => ⟨S_, .f32⟩
  | 22 => ⟨S8x20000, .f32⟩
  | 23 => ⟨S8x20000x80, .i32⟩
  | 24 => ⟨S_, .f32⟩
  | 25 => ⟨S_, .i32⟩
  | 26 => ⟨S8x20000, .f32⟩
  | 27 => ⟨S8x20000, .i32⟩
  | 28 => ⟨S8x20000, .f32⟩
  | 29 => ⟨S_, .f32⟩
  | 30 => ⟨S8x20000, .f32⟩
  | 31 => ⟨S8x20000, .i1⟩
  | 32 => ⟨S_, .f32⟩
  | 33 => ⟨S8x20000, .f32⟩
  | 34 => ⟨S8x20000, .i1⟩
  | 35 => ⟨S8x20000, .i1⟩
  | 36 => ⟨S8x20000x1, .f32⟩
  | 37 => ⟨S_, .f32⟩
  | 38 => ⟨S8x20000x1, .f32⟩
  | 39 => ⟨S8x20000x1, .f32⟩
  | 40 => ⟨S8x20000x4, .f32⟩
  | 41 => ⟨S8x20000x4, .f32⟩
  | 42 => ⟨S_, .f32⟩
  | 43 => ⟨S_, .f32⟩
  | 44 => ⟨S8x20000, .f32⟩
  | 45 => ⟨S8x20000, .f32⟩
  | 46 => ⟨S_, .i32⟩
  | 47 => ⟨S8x1000, .i32⟩
  | 48 => ⟨S_, .i1⟩
  | 49 => ⟨S8x1000, .i1⟩
  | 50 => ⟨S_, .i32⟩
  | 51 => ⟨S_, .i32⟩
  | 52 => ⟨S8, .i32⟩
  | 53 => ⟨S8x20000x4, .f32⟩
  | 54 => ⟨S_, .i32⟩
  | 55 => ⟨S_, .i32⟩
  | 56 => ⟨S8x20000, .f32⟩
  | 57 => ⟨S8x1000, .i32⟩
  | 58 => ⟨S8x1000, .i1⟩
  | 59 => ⟨S_, .i32⟩
  | 60 => ⟨S_, .i1⟩
  | 61 => ⟨S_, .i32⟩
  | 62 => ⟨S_, .i32⟩
  | 63 => ⟨S8x20000, .i32⟩
  | 64 => ⟨S_, .f32⟩
  | 65 => ⟨S_, .i32⟩
  | 66 => ⟨S8, .f32⟩
  | 67 => ⟨S8, .i32⟩
  | 68 => ⟨S_, .i32⟩
  | 69 => ⟨S8, .i32⟩
  | 70 => ⟨S8, .i1⟩
  | 71 => ⟨S_, .i32⟩
  | 72 => ⟨S8, .i32⟩
  | 73 => ⟨S8, .i32⟩
  | 74 => ⟨S8, .i32⟩
  | 75 => ⟨S_, .i32⟩
  | 76 => ⟨S8, .i32⟩
  | 77 => ⟨S8, .i1⟩
  | 78 => ⟨S_, .i32⟩
  | 79 => ⟨S8, .i32⟩
  | 80 => ⟨S8, .i32⟩
  | 81 => ⟨S8, .i32⟩
  | 82 => ⟨S8x1, .i32⟩
  | 83 => ⟨S8x1, .i32⟩
  | 84 => ⟨S8x2, .i32⟩
  | 85 => ⟨S8, .f32⟩
  | 86 => ⟨S_, .f32⟩
  | 87 => ⟨S8, .f32⟩
  | 88 => ⟨S8, .i1⟩
  | 89 => ⟨S_, .i32⟩
  | 90 => ⟨S8, .i32⟩
  | 91 => ⟨S8, .i1⟩
  | 92 => ⟨S_, .i32⟩
  | 93 => ⟨S8, .i32⟩
  | 94 => ⟨S8, .i32⟩
  | 95 => ⟨S8, .i32⟩
  | 96 => ⟨S_, .i32⟩
  | 97 => ⟨S8, .i32⟩
  | 98 => ⟨S8, .i1⟩
  | 99 => ⟨S_, .i32⟩
  | 100 => ⟨S8, .i32⟩
  | 101 => ⟨S8, .i32⟩
  | 102 => ⟨S8, .i32⟩
  | 103 => ⟨S8x1, .i32⟩
  | 104 => ⟨S8x1, .i32⟩
  | 105 => ⟨S8x2, .i32⟩
  | 106 => ⟨S8x4, .f32⟩
  | 107 => ⟨S8x2, .f32⟩
  | 108 => ⟨S8x1x2, .f32⟩
  | 109 => ⟨S8x20000x2, .f32⟩
  | 110 => ⟨S8x20000x2, .f32⟩
  | 111 => ⟨S8x20000x2, .f32⟩
  | 112 => ⟨S8x2, .f32⟩
  | 113 => ⟨S8x1x2, .f32⟩
  | 114 => ⟨S8x20000x2, .f32⟩
  | 115 => ⟨S8x20000x2, .f32⟩
  | 116 => ⟨S8x20000x2, .f32⟩
  | 117 => ⟨S8x20000x2, .f32⟩
  | 118 => ⟨S_, .f32⟩
  | 119 => ⟨S_, .f32⟩
  | 120 => ⟨S8x20000x2, .f32⟩
  | 121 => ⟨S8x20000x2, .f32⟩
  | 122 => ⟨S8x20000x1, .f32⟩
  | 123 => ⟨S8x20000, .f32⟩
  | 124 => ⟨S8x20000x1, .f32⟩
  | 125 => ⟨S8x20000, .f32⟩
  | 126 => ⟨S8x20000, .f32⟩
  | 127 => ⟨S8x1, .f32⟩
  | _ => ⟨S1x8x20000x85, .f32⟩

abbrev hbmTy0_1 (i : Nat) : BufTy := match i % 128 with
  | 0 => ⟨S8, .f32⟩
  | 1 => ⟨S8x1, .f32⟩
  | 2 => ⟨S8, .f32⟩
  | 3 => ⟨S8, .f32⟩
  | 4 => ⟨S8x1, .f32⟩
  | 5 => ⟨S8, .f32⟩
  | 6 => ⟨S8x1, .f32⟩
  | 7 => ⟨S8, .f32⟩
  | 8 => ⟨S8, .f32⟩
  | 9 => ⟨S8, .f32⟩
  | 10 => ⟨S8x20000x1, .f32⟩
  | 11 => ⟨S8x20000, .f32⟩
  | 12 => ⟨S8x20000x1, .f32⟩
  | 13 => ⟨S8x20000, .f32⟩
  | 14 => ⟨S8x20000, .f32⟩
  | 15 => ⟨S8x20000x1, .f32⟩
  | 16 => ⟨S8x20000, .f32⟩
  | 17 => ⟨S8x20000x1, .f32⟩
  | 18 => ⟨S8x20000, .f32⟩
  | 19 => ⟨S8x20000, .f32⟩
  | 20 => ⟨S8x20000, .f32⟩
  | 21 => ⟨S8x1, .f32⟩
  | 22 => ⟨S8x20000, .f32⟩
  | 23 => ⟨S8x20000, .f32⟩
  | 24 => ⟨S8x20000, .f32⟩
  | 25 => ⟨S_, .f32⟩
  | 26 => ⟨S8x20000, .f32⟩
  | 27 => ⟨S8x20000, .f32⟩
  | 28 => ⟨S8x20000, .f32⟩
  | 29 => ⟨S_, .f32⟩
  | 30 => ⟨S8x20000, .f32⟩
  | 31 => ⟨S8x20000, .i1⟩
  | 32 => ⟨S_, .f32⟩
  | 33 => ⟨S_, .f32⟩
  | 34 => ⟨S8x20000, .f32⟩
  | 35 => ⟨S8x20000, .f32⟩
  | 36 => ⟨S_, .i32⟩
  | 37 => ⟨S8, .i32⟩
  | 38 => ⟨S8, .i1⟩
  | 39 => ⟨S_, .i32⟩
  | 40 => ⟨S8, .i32⟩
  | 41 => ⟨S8, .i32⟩
  | 42 => ⟨S8, .i32⟩
  | 43 => ⟨S_, .i32⟩
  | 44 => ⟨S8, .i32⟩
  | 45 => ⟨S8, .i1⟩
  | 46 => ⟨S_, .i32⟩
  | 47 => ⟨S8, .i32⟩
  | 48 => ⟨S8, .i32⟩
  | 49 => ⟨S8, .i32⟩
  | 50 => ⟨S8x1, .i32⟩
  | 51 => ⟨S8x1, .i32⟩
  | 52 => ⟨S8x2, .i32⟩
  | 53 => ⟨S_, .f32⟩
  | 54 => ⟨S8, .f32⟩
  | 55 => ⟨S8x20000, .f32⟩
  | 56 => ⟨S8x1, .i1⟩
  | 57 => ⟨S8x20000, .i1⟩
  | 58 => ⟨S8x20000, .f32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S1, .i32⟩
  | 66 => ⟨S8x1000, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S1, .i32⟩
  | 74 => ⟨S8x1000, .i1⟩
  | 75 => ⟨S_, .i32⟩
  | 76 => ⟨S_, .i32⟩
  | 77 => ⟨S8x1, .i32⟩
  | 78 => ⟨S_, .i32⟩
  | 79 => ⟨S8x1, .i32⟩
  | 80 => ⟨S8x1, .i1⟩
  | 81 => ⟨S_, .i32⟩
  | 82 => ⟨S8x1, .i32⟩
  | 83 => ⟨S8x1, .i32⟩
  | 84 => ⟨S8x1, .i32⟩
  | 85 => ⟨S_, .i32⟩
  | 86 => ⟨S8x1000, .i32⟩
  | 87 => ⟨S8x1000, .i1⟩
  | 88 => ⟨S_, .i32⟩
  | 89 => ⟨S8x1000, .i32⟩
  | 90 => ⟨S8x1000, .i32⟩
  | 91 => ⟨S8x1000, .i32⟩
  | 92 => ⟨S8x1000, .i32⟩
  | 93 => ⟨S8x1000x1, .i32⟩
  | 94 => ⟨S8x1000x1, .i32⟩
  | 95 => ⟨S8x1000x2, .i32⟩
  | 96 => ⟨S8x1000x4, .f32⟩
  | 97 => ⟨S_, .i32⟩
  | 98 => ⟨S8x1, .i32⟩
  | 99 => ⟨S8x1, .i1⟩
  | 100 => ⟨S_, .i32⟩
  | 101 => ⟨S8x1, .i32⟩
  | 102 => ⟨S8x1, .i32⟩
  | 103 => ⟨S8x1, .i32⟩
  | 104 => ⟨S_, .i32⟩
  | 105 => ⟨S8x1000, .i32⟩
  | 106 => ⟨S8x1000, .i1⟩
  | 107 => ⟨S_, .i32⟩
  | 108 => ⟨S8x1000, .i32⟩
  | 109 => ⟨S8x1000, .i32⟩
  | 110 => ⟨S8x1000, .i32⟩
  | 111 => ⟨S8x1000, .i32⟩
  | 112 => ⟨S8x1000x1, .i32⟩
  | 113 => ⟨S8x1000x1, .i32⟩
  | 114 => ⟨S8x1000x2, .i32⟩
  | 115 => ⟨S8x1000, .f32⟩
  | 116 => ⟨S8x1000x1, .f32⟩
  | 117 => ⟨S_, .i32⟩
  | 118 => ⟨S8x1, .i32⟩
  | 119 => ⟨S8x1, .i1⟩
  | 120 => ⟨S_, .i32⟩
  | 121 => ⟨S8x1, .i32⟩
  | 122 => ⟨S8x1, .i32⟩
  | 123 => ⟨S8x1, .i32⟩
  | 124 => ⟨S_, .i32⟩
  | 125 => ⟨S8x1000, .i32⟩
  | 126 => ⟨S8x1000, .i1⟩
  | 127 => ⟨S_, .i32⟩
  | _ => ⟨S1x8x20000x85, .f32⟩

abbrev hbmTy0_2 (i : Nat) : BufTy := match i % 128 with
  | 0 => ⟨S8x1000, .i32⟩
  | 1 => ⟨S8x1000, .i32⟩
  | 2 => ⟨S8x1000, .i32⟩
  | 3 => ⟨S8x1000, .i32⟩
  | 4 => ⟨S8x1000x1, .i32⟩
  | 5 => ⟨S8x1000x1, .i32⟩
  | 6 => ⟨S8x1000x2, .i32⟩
  | 7 => ⟨S8x1000, .f32⟩
  | 8 => ⟨S8x1000x1, .f32⟩
  | 9 => ⟨S8x1000x6, .f32⟩
  | 10 => ⟨S8x1000x1, .i1⟩
  | 11 => ⟨S_, .f32⟩
  | 12 => ⟨S_, .f32⟩
  | 13 => ⟨S8x1000x6, .i1⟩
  | 14 => ⟨S8x1000x6, .f32⟩
  | 15 => ⟨S8x1000x6, .f32⟩
  | _ => ⟨S1x8x20000x85, .f32⟩

abbrev hbmTy (i : Nat) : BufTy := match i / 128 with
  | 0 => hbmTy0_0 i
  | 1 => hbmTy0_1 i
  | 2 => hbmTy0_2 i
  | _ => ⟨S1x8x20000x85, .f32⟩

abbrev bufTy : (tb : Table) → Fin (tcTables nBuf tb) → BufTy
  | .hbm, ⟨i, _⟩ => hbmTy i
  | _, _ => ⟨S1x8x20000x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_1 : Ref sig .tc := ⟨.hbm, 21, rfl⟩
abbrev main_v18 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_v31 : Ref sig .tc := ⟨.hbm, 45, rfl⟩
abbrev main_c : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_c_7 : Ref sig .tc := ⟨.hbm, 50, rfl⟩
abbrev main_c_8 : Ref sig .tc := ⟨.hbm, 51, rfl⟩
abbrev main_v34_0 : Ref sig .tc := ⟨.hbm, 52, rfl⟩
abbrev main_v34_1 : Ref sig .tc := ⟨.hbm, 53, rfl⟩
abbrev main_v34_2 : Ref sig .tc := ⟨.hbm, 54, rfl⟩
abbrev main_v34_3 : Ref sig .tc := ⟨.hbm, 55, rfl⟩
abbrev main_v34_4 : Ref sig .tc := ⟨.hbm, 56, rfl⟩
abbrev main_v34_5 : Ref sig .tc := ⟨.hbm, 57, rfl⟩
abbrev main_v34_6 : Ref sig .tc := ⟨.hbm, 58, rfl⟩
abbrev main_while0c_c_28 : Ref sig .tc := ⟨.hbm, 59, rfl⟩
abbrev main_while0c_v86 : Ref sig .tc := ⟨.hbm, 60, rfl⟩
abbrev main_while0b_c_28 : Ref sig .tc := ⟨.hbm, 61, rfl⟩
abbrev main_while0b_v86 : Ref sig .tc := ⟨.hbm, 62, rfl⟩
abbrev main_while0b_call2_v0 : Ref sig .tc := ⟨.hbm, 63, rfl⟩
abbrev main_while0b_call2_cst : Ref sig .tc := ⟨.hbm, 64, rfl⟩
abbrev main_while0b_call2_c : Ref sig .tc := ⟨.hbm, 65, rfl⟩
abbrev main_while0b_call2_v1_0 : Ref sig .tc := ⟨.hbm, 66, rfl⟩
abbrev main_while0b_v87 : Ref sig .tc := ⟨.hbm, 67, rfl⟩
abbrev main_while0b_c_29 : Ref sig .tc := ⟨.hbm, 68, rfl⟩
abbrev main_while0b_v88 : Ref sig .tc := ⟨.hbm, 69, rfl⟩
abbrev main_while0b_v89 : Ref sig .tc := ⟨.hbm, 70, rfl⟩
abbrev main_while0b_c_30 : Ref sig .tc := ⟨.hbm, 71, rfl⟩
abbrev main_while0b_v90 : Ref sig .tc := ⟨.hbm, 72, rfl⟩
abbrev main_while0b_v91 : Ref sig .tc := ⟨.hbm, 73, rfl⟩
abbrev main_while0b_v92 : Ref sig .tc := ⟨.hbm, 74, rfl⟩
abbrev main_while0b_c_31 : Ref sig .tc := ⟨.hbm, 75, rfl⟩
abbrev main_while0b_v93 : Ref sig .tc := ⟨.hbm, 76, rfl⟩
abbrev main_while0b_v94 : Ref sig .tc := ⟨.hbm, 77, rfl⟩
abbrev main_while0b_c_32 : Ref sig .tc := ⟨.hbm, 78, rfl⟩
abbrev main_while0b_v95 : Ref sig .tc := ⟨.hbm, 79, rfl⟩
abbrev main_while0b_v96 : Ref sig .tc := ⟨.hbm, 80, rfl⟩
abbrev main_while0b_v97 : Ref sig .tc := ⟨.hbm, 81, rfl⟩
abbrev main_while0b_v98 : Ref sig .tc := ⟨.hbm, 82, rfl⟩
abbrev main_while0b_v99 : Ref sig .tc := ⟨.hbm, 83, rfl⟩
abbrev main_while0b_v100 : Ref sig .tc := ⟨.hbm, 84, rfl⟩
abbrev main_while0b_v101 : Ref sig .tc := ⟨.hbm, 85, rfl⟩
abbrev main_while0b_cst_33 : Ref sig .tc := ⟨.hbm, 86, rfl⟩
abbrev main_while0b_v102 : Ref sig .tc := ⟨.hbm, 87, rfl⟩
abbrev main_while0b_v103 : Ref sig .tc := ⟨.hbm, 88, rfl⟩
abbrev main_while0b_c_34 : Ref sig .tc := ⟨.hbm, 89, rfl⟩
abbrev main_while0b_v104 : Ref sig .tc := ⟨.hbm, 90, rfl⟩
abbrev main_while0b_v105 : Ref sig .tc := ⟨.hbm, 91, rfl⟩
abbrev main_while0b_c_35 : Ref sig .tc := ⟨.hbm, 92, rfl⟩
abbrev main_while0b_v106 : Ref sig .tc := ⟨.hbm, 93, rfl⟩
abbrev main_while0b_v107 : Ref sig .tc := ⟨.hbm, 94, rfl⟩
abbrev main_while0b_v108 : Ref sig .tc := ⟨.hbm, 95, rfl⟩
abbrev main_while0b_c_36 : Ref sig .tc := ⟨.hbm, 96, rfl⟩
abbrev main_while0b_v109 : Ref sig .tc := ⟨.hbm, 97, rfl⟩
abbrev main_while0b_v110 : Ref sig .tc := ⟨.hbm, 98, rfl⟩
abbrev main_while0b_c_37 : Ref sig .tc := ⟨.hbm, 99, rfl⟩
abbrev main_while0b_v111 : Ref sig .tc := ⟨.hbm, 100, rfl⟩
abbrev main_while0b_v112 : Ref sig .tc := ⟨.hbm, 101, rfl⟩
abbrev main_while0b_v113 : Ref sig .tc := ⟨.hbm, 102, rfl⟩
abbrev main_while0b_v114 : Ref sig .tc := ⟨.hbm, 103, rfl⟩
abbrev main_while0b_v115 : Ref sig .tc := ⟨.hbm, 104, rfl⟩
abbrev main_while0b_v116 : Ref sig .tc := ⟨.hbm, 105, rfl⟩
abbrev main_while0b_v117 : Ref sig .tc := ⟨.hbm, 106, rfl⟩
abbrev main_while0b_v118 : Ref sig .tc := ⟨.hbm, 107, rfl⟩
abbrev main_while0b_v119 : Ref sig .tc := ⟨.hbm, 108, rfl⟩
abbrev main_while0b_v120 : Ref sig .tc := ⟨.hbm, 109, rfl⟩
abbrev main_while0b_v121 : Ref sig .tc := ⟨.hbm, 110, rfl⟩
abbrev main_while0b_v122 : Ref sig .tc := ⟨.hbm, 111, rfl⟩
abbrev main_while0b_v123 : Ref sig .tc := ⟨.hbm, 112, rfl⟩
abbrev main_while0b_v124 : Ref sig .tc := ⟨.hbm, 113, rfl⟩
abbrev main_while0b_v125 : Ref sig .tc := ⟨.hbm, 114, rfl⟩
abbrev main_while0b_v126 : Ref sig .tc := ⟨.hbm, 115, rfl⟩
abbrev main_while0b_v127 : Ref sig .tc := ⟨.hbm, 116, rfl⟩
abbrev main_while0b_v128 : Ref sig .tc := ⟨.hbm, 117, rfl⟩
abbrev main_while0b_cst_38 : Ref sig .tc := ⟨.hbm, 118, rfl⟩
abbrev main_while0b_call3_v0 : Ref sig .tc := ⟨.hbm, 119, rfl⟩
abbrev main_while0b_call3_v1 : Ref sig .tc := ⟨.hbm, 120, rfl⟩
abbrev main_while0b_v129 : Ref sig .tc := ⟨.hbm, 121, rfl⟩
abbrev main_while0b_v130 : Ref sig .tc := ⟨.hbm, 122, rfl⟩
abbrev main_while0b_v131 : Ref sig .tc := ⟨.hbm, 123, rfl⟩
abbrev main_while0b_v132 : Ref sig .tc := ⟨.hbm, 124, rfl⟩
abbrev main_while0b_v133 : Ref sig .tc := ⟨.hbm, 125, rfl⟩
abbrev main_while0b_v134 : Ref sig .tc := ⟨.hbm, 126, rfl⟩
abbrev main_while0b_v135 : Ref sig .tc := ⟨.hbm, 127, rfl⟩
abbrev main_while0b_v136 : Ref sig .tc := ⟨.hbm, 128, rfl⟩
abbrev main_while0b_v137 : Ref sig .tc := ⟨.hbm, 129, rfl⟩
abbrev main_while0b_v138 : Ref sig .tc := ⟨.hbm, 130, rfl⟩
abbrev main_while0b_v139 : Ref sig .tc := ⟨.hbm, 131, rfl⟩
abbrev main_while0b_v140 : Ref sig .tc := ⟨.hbm, 132, rfl⟩
abbrev main_while0b_v141 : Ref sig .tc := ⟨.hbm, 133, rfl⟩
abbrev main_while0b_v142 : Ref sig .tc := ⟨.hbm, 134, rfl⟩
abbrev main_while0b_v143 : Ref sig .tc := ⟨.hbm, 135, rfl⟩
abbrev main_while0b_v144 : Ref sig .tc := ⟨.hbm, 136, rfl⟩
abbrev main_while0b_v145 : Ref sig .tc := ⟨.hbm, 137, rfl⟩
abbrev main_while0b_v146 : Ref sig .tc := ⟨.hbm, 138, rfl⟩
abbrev main_while0b_v147 : Ref sig .tc := ⟨.hbm, 139, rfl⟩
abbrev main_while0b_v148 : Ref sig .tc := ⟨.hbm, 140, rfl⟩
abbrev main_while0b_v149 : Ref sig .tc := ⟨.hbm, 141, rfl⟩
abbrev main_while0b_v150 : Ref sig .tc := ⟨.hbm, 142, rfl⟩
abbrev main_while0b_v151 : Ref sig .tc := ⟨.hbm, 143, rfl⟩
abbrev main_while0b_v152 : Ref sig .tc := ⟨.hbm, 144, rfl⟩
abbrev main_while0b_v153 : Ref sig .tc := ⟨.hbm, 145, rfl⟩
abbrev main_while0b_v154 : Ref sig .tc := ⟨.hbm, 146, rfl⟩
abbrev main_while0b_v155 : Ref sig .tc := ⟨.hbm, 147, rfl⟩
abbrev main_while0b_v156 : Ref sig .tc := ⟨.hbm, 148, rfl⟩
abbrev main_while0b_v157 : Ref sig .tc := ⟨.hbm, 149, rfl⟩
abbrev main_while0b_v158 : Ref sig .tc := ⟨.hbm, 150, rfl⟩
abbrev main_while0b_v159 : Ref sig .tc := ⟨.hbm, 151, rfl⟩
abbrev main_while0b_v160 : Ref sig .tc := ⟨.hbm, 152, rfl⟩
abbrev main_while0b_cst_39 : Ref sig .tc := ⟨.hbm, 153, rfl⟩
abbrev main_while0b_v161 : Ref sig .tc := ⟨.hbm, 154, rfl⟩
abbrev main_while0b_v162 : Ref sig .tc := ⟨.hbm, 155, rfl⟩
abbrev main_while0b_v163 : Ref sig .tc := ⟨.hbm, 156, rfl⟩
abbrev main_while0b_cst_40 : Ref sig .tc := ⟨.hbm, 157, rfl⟩
abbrev main_while0b_v164 : Ref sig .tc := ⟨.hbm, 158, rfl⟩
abbrev main_while0b_v165 : Ref sig .tc := ⟨.hbm, 159, rfl⟩
abbrev main_while0b_cst_41 : Ref sig .tc := ⟨.hbm, 160, rfl⟩
abbrev main_while0b_call4_v0 : Ref sig .tc := ⟨.hbm, 161, rfl⟩
abbrev main_while0b_call4_v1 : Ref sig .tc := ⟨.hbm, 162, rfl⟩
abbrev main_while0b_v166 : Ref sig .tc := ⟨.hbm, 163, rfl⟩
abbrev main_while0b_c_42 : Ref sig .tc := ⟨.hbm, 164, rfl⟩
abbrev main_while0b_v167 : Ref sig .tc := ⟨.hbm, 165, rfl⟩
abbrev main_while0b_v168 : Ref sig .tc := ⟨.hbm, 166, rfl⟩
abbrev main_while0b_c_43 : Ref sig .tc := ⟨.hbm, 167, rfl⟩
abbrev main_while0b_v169 : Ref sig .tc := ⟨.hbm, 168, rfl⟩
abbrev main_while0b_v170 : Ref sig .tc := ⟨.hbm, 169, rfl⟩
abbrev main_while0b_v171 : Ref sig .tc := ⟨.hbm, 170, rfl⟩
abbrev main_while0b_c_44 : Ref sig .tc := ⟨.hbm, 171, rfl⟩
abbrev main_while0b_v172 : Ref sig .tc := ⟨.hbm, 172, rfl⟩
abbrev main_while0b_v173 : Ref sig .tc := ⟨.hbm, 173, rfl⟩
abbrev main_while0b_c_45 : Ref sig .tc := ⟨.hbm, 174, rfl⟩
abbrev main_while0b_v174 : Ref sig .tc := ⟨.hbm, 175, rfl⟩
abbrev main_while0b_v175 : Ref sig .tc := ⟨.hbm, 176, rfl⟩
abbrev main_while0b_v176 : Ref sig .tc := ⟨.hbm, 177, rfl⟩
abbrev main_while0b_v177 : Ref sig .tc := ⟨.hbm, 178, rfl⟩
abbrev main_while0b_v178 : Ref sig .tc := ⟨.hbm, 179, rfl⟩
abbrev main_while0b_v179 : Ref sig .tc := ⟨.hbm, 180, rfl⟩
abbrev main_while0b_cst_46 : Ref sig .tc := ⟨.hbm, 181, rfl⟩
abbrev main_while0b_v180 : Ref sig .tc := ⟨.hbm, 182, rfl⟩
abbrev main_while0b_v181 : Ref sig .tc := ⟨.hbm, 183, rfl⟩
abbrev main_while0b_v182 : Ref sig .tc := ⟨.hbm, 184, rfl⟩
abbrev main_while0b_call5_v0 : Ref sig .tc := ⟨.hbm, 185, rfl⟩
abbrev main_while0b_v183 : Ref sig .tc := ⟨.hbm, 186, rfl⟩
abbrev main_while0b_c_47 : Ref sig .tc := ⟨.hbm, 187, rfl⟩
abbrev main_while0b_v184 : Ref sig .tc := ⟨.hbm, 188, rfl⟩
abbrev main_while0b_c_48 : Ref sig .tc := ⟨.hbm, 189, rfl⟩
abbrev main_while0b_v185 : Ref sig .tc := ⟨.hbm, 190, rfl⟩
abbrev main_while0b_v186 : Ref sig .tc := ⟨.hbm, 191, rfl⟩
abbrev main_while0b_v187 : Ref sig .tc := ⟨.hbm, 192, rfl⟩
abbrev main_while0b_v188 : Ref sig .tc := ⟨.hbm, 193, rfl⟩
abbrev main_while0b_v189 : Ref sig .tc := ⟨.hbm, 194, rfl⟩
abbrev main_while0b_c_49 : Ref sig .tc := ⟨.hbm, 195, rfl⟩
abbrev main_while0b_v190 : Ref sig .tc := ⟨.hbm, 196, rfl⟩
abbrev main_while0b_c_50 : Ref sig .tc := ⟨.hbm, 197, rfl⟩
abbrev main_while0b_v191 : Ref sig .tc := ⟨.hbm, 198, rfl⟩
abbrev main_while0b_v192 : Ref sig .tc := ⟨.hbm, 199, rfl⟩
abbrev main_while0b_v193 : Ref sig .tc := ⟨.hbm, 200, rfl⟩
abbrev main_while0b_v194 : Ref sig .tc := ⟨.hbm, 201, rfl⟩
abbrev main_while0b_v195 : Ref sig .tc := ⟨.hbm, 202, rfl⟩
abbrev main_while0b_c_51 : Ref sig .tc := ⟨.hbm, 203, rfl⟩
abbrev main_while0b_v196 : Ref sig .tc := ⟨.hbm, 204, rfl⟩
abbrev main_v35 : Ref sig .tc := ⟨.hbm, 205, rfl⟩
abbrev main_c_9 : Ref sig .tc := ⟨.hbm, 206, rfl⟩
abbrev main_v36 : Ref sig .tc := ⟨.hbm, 207, rfl⟩
abbrev main_v37 : Ref sig .tc := ⟨.hbm, 208, rfl⟩
abbrev main_c_10 : Ref sig .tc := ⟨.hbm, 209, rfl⟩
abbrev main_v38 : Ref sig .tc := ⟨.hbm, 210, rfl⟩
abbrev main_v39 : Ref sig .tc := ⟨.hbm, 211, rfl⟩
abbrev main_v40 : Ref sig .tc := ⟨.hbm, 212, rfl⟩
abbrev main_c_11 : Ref sig .tc := ⟨.hbm, 213, rfl⟩
abbrev main_v41 : Ref sig .tc := ⟨.hbm, 214, rfl⟩
abbrev main_v42 : Ref sig .tc := ⟨.hbm, 215, rfl⟩
abbrev main_c_12 : Ref sig .tc := ⟨.hbm, 216, rfl⟩
abbrev main_v43 : Ref sig .tc := ⟨.hbm, 217, rfl⟩
abbrev main_v44 : Ref sig .tc := ⟨.hbm, 218, rfl⟩
abbrev main_v45 : Ref sig .tc := ⟨.hbm, 219, rfl⟩
abbrev main_v46 : Ref sig .tc := ⟨.hbm, 220, rfl⟩
abbrev main_v47 : Ref sig .tc := ⟨.hbm, 221, rfl⟩
abbrev main_v48 : Ref sig .tc := ⟨.hbm, 222, rfl⟩
abbrev main_v49 : Ref sig .tc := ⟨.hbm, 223, rfl⟩
abbrev main_v50 : Ref sig .tc := ⟨.hbm, 224, rfl⟩
abbrev main_c_13 : Ref sig .tc := ⟨.hbm, 225, rfl⟩
abbrev main_v51 : Ref sig .tc := ⟨.hbm, 226, rfl⟩
abbrev main_v52 : Ref sig .tc := ⟨.hbm, 227, rfl⟩
abbrev main_c_14 : Ref sig .tc := ⟨.hbm, 228, rfl⟩
abbrev main_v53 : Ref sig .tc := ⟨.hbm, 229, rfl⟩
abbrev main_v54 : Ref sig .tc := ⟨.hbm, 230, rfl⟩
abbrev main_v55 : Ref sig .tc := ⟨.hbm, 231, rfl⟩
abbrev main_c_15 : Ref sig .tc := ⟨.hbm, 232, rfl⟩
abbrev main_v56 : Ref sig .tc := ⟨.hbm, 233, rfl⟩
abbrev main_v57 : Ref sig .tc := ⟨.hbm, 234, rfl⟩
abbrev main_c_16 : Ref sig .tc := ⟨.hbm, 235, rfl⟩
abbrev main_v58 : Ref sig .tc := ⟨.hbm, 236, rfl⟩
abbrev main_v59 : Ref sig .tc := ⟨.hbm, 237, rfl⟩
abbrev main_v60 : Ref sig .tc := ⟨.hbm, 238, rfl⟩
abbrev main_v61 : Ref sig .tc := ⟨.hbm, 239, rfl⟩
abbrev main_v62 : Ref sig .tc := ⟨.hbm, 240, rfl⟩
abbrev main_v63 : Ref sig .tc := ⟨.hbm, 241, rfl⟩
abbrev main_v64 : Ref sig .tc := ⟨.hbm, 242, rfl⟩
abbrev main_v65 : Ref sig .tc := ⟨.hbm, 243, rfl⟩
abbrev main_v66 : Ref sig .tc := ⟨.hbm, 244, rfl⟩
abbrev main_c_17 : Ref sig .tc := ⟨.hbm, 245, rfl⟩
abbrev main_v67 : Ref sig .tc := ⟨.hbm, 246, rfl⟩
abbrev main_v68 : Ref sig .tc := ⟨.hbm, 247, rfl⟩
abbrev main_c_18 : Ref sig .tc := ⟨.hbm, 248, rfl⟩
abbrev main_v69 : Ref sig .tc := ⟨.hbm, 249, rfl⟩
abbrev main_v70 : Ref sig .tc := ⟨.hbm, 250, rfl⟩
abbrev main_v71 : Ref sig .tc := ⟨.hbm, 251, rfl⟩
abbrev main_c_19 : Ref sig .tc := ⟨.hbm, 252, rfl⟩
abbrev main_v72 : Ref sig .tc := ⟨.hbm, 253, rfl⟩
abbrev main_v73 : Ref sig .tc := ⟨.hbm, 254, rfl⟩
abbrev main_c_20 : Ref sig .tc := ⟨.hbm, 255, rfl⟩
abbrev main_v74 : Ref sig .tc := ⟨.hbm, 256, rfl⟩
abbrev main_v75 : Ref sig .tc := ⟨.hbm, 257, rfl⟩
abbrev main_v76 : Ref sig .tc := ⟨.hbm, 258, rfl⟩
abbrev main_v77 : Ref sig .tc := ⟨.hbm, 259, rfl⟩
abbrev main_v78 : Ref sig .tc := ⟨.hbm, 260, rfl⟩
abbrev main_v79 : Ref sig .tc := ⟨.hbm, 261, rfl⟩
abbrev main_v80 : Ref sig .tc := ⟨.hbm, 262, rfl⟩
abbrev main_v81 : Ref sig .tc := ⟨.hbm, 263, rfl⟩
abbrev main_v82 : Ref sig .tc := ⟨.hbm, 264, rfl⟩
abbrev main_v83 : Ref sig .tc := ⟨.hbm, 265, rfl⟩
abbrev main_v84 : Ref sig .tc := ⟨.hbm, 266, rfl⟩
abbrev main_cst_21 : Ref sig .tc := ⟨.hbm, 267, rfl⟩
abbrev main_call6_v0 : Ref sig .tc := ⟨.hbm, 268, rfl⟩
abbrev main_call6_v1 : Ref sig .tc := ⟨.hbm, 269, rfl⟩
abbrev main_call6_v2 : Ref sig .tc := ⟨.hbm, 270, rfl⟩
abbrev main_v85 : Ref sig .tc := ⟨.hbm, 271, rfl⟩

abbrev nD : Nat := 1
abbrev τ : Topo := Topo.v7x

variable {F : FTy → Type} [FloatOps F]

abbrev main_while0_count : Scf.Loop 32 := ⟨0#32, 1000#32, 1#32⟩
-- ==== Proof.Ker.Step.lean ====
/-
  One trip of the second kernel's loop as a function on what its buffers hold, and what it is for a run of trips to end.
-/
module

public import proofs.«01_k».proof.Proof.Gen.KernelIdeal.Skeleton
public import Idealize.ShloMosaic.Lib.VecWindow

@[expose] public section

noncomputable section

namespace Cert.KernelIdeal.Nms

open Cert.KernelIdeal Cert.KernelIdeal.Gen
open Idealize.ShloMosaic Idealize.ShloMosaic.TcCoe
open VecWindow (window put)

variable {F : FTy → Type} [FloatOps F]

/-- The eleven blocks the kernel reads, one per operand: the scores, the shifted corners, their areas, the classes, the
    unshifted corners. -/
structure Ins (F : FTy → Type) where
  /-- the scores -/
  s : Vec F S1x160x128 .f32
  /-- the shifted left edges -/
  x1 : Vec F S1x160x128 .f32
  /-- the shifted top edges -/
  y1 : Vec F S1x160x128 .f32
  /-- the shifted right edges -/
  x2 : Vec F S1x160x128 .f32
  /-- the shifted bottom edges -/
  y2 : Vec F S1x160x128 .f32
  /-- the areas -/
  a : Vec F S1x160x128 .f32
  /-- the classes -/
  j : Vec F S1x160x128 .f32
  /-- the left edges -/
  ux1 : Vec F S1x160x128 .f32
  /-- the top edges -/
  uy1 : Vec F S1x160x128 .f32
  /-- the right edges -/
  ux2 : Vec F S1x160x128 .f32
  /-- the bottom edges -/
  uy2 : Vec F S1x160x128 .f32

/-- What one trip finds: the remaining scores, the five arrays of kept boxes (a row a class, a lane a box), the word in
    scalar memory, and the three carried values: how many are kept, the greatest remaining score, the result so far. -/
structure St (F : FTy → Type) where
  /-- the remaining scores -/
  s : Vec F S160x128 .f32
  /-- the kept boxes' left edges -/
  r1 : Vec F S80x128 .f32
  /-- the kept boxes' top edges -/
  r2 : Vec F S80x128 .f32
  /-- the kept boxes' right edges -/
  r3 : Vec F S80x128 .f32
  /-- the kept boxes' bottom edges -/
  r4 : Vec F S80x128 .f32
  /-- the kept boxes' areas -/
  r5 : Vec F S80x128 .f32
  /-- the word in scalar memory -/
  p : Vec F S1 .f32
  /-- how many are kept -/
  k : BitVec 32
  /-- the greatest remaining score -/
  m : F .f32
  /-- the result so far -/
  acc : FVec F S8x1024 .f32

/-- Every place's number. -/
abbrev places : FVec F S160x128 .f32 := k1_pay11 (F := F)
/-- The lanes' numbers. -/
abbrev lanes : IVec S1x128 32 := iota .tc S1x128 32 [1] iota_S1x128_d1_w32
/-- The result's columns' numbers. -/
abbrev cols : IVec S8x1024 32 := iota .tc S8x1024 32 [1] iota_S8x1024_d1_w32

/-- Is there a trip to run: fewer than a thousand are kept, and the greatest remaining score is above zero. -/
def St.test (σ : St F) : BitVec 1 :=
  Scalar.andi (Scalar.cmpi .slt σ.k 1000#32) (Scalar.cmpf .ogt σ.m (Scalar.ofBits .f32 0x00000000#32))

/-- The place popped: the first at which the greatest remaining score stands. -/
def St.pos (σ : St F) : BitVec 32 := Scalar.fptosi 32 (k1_pay13 places σ.m σ.s)

/-- The place's row of 128: a division rounding down. -/
def rowOf (w : BitVec 32) : BitVec 32 :=
  Scalar.select
    (Scalar.andi
      (Scalar.cmpi .ne (Scalar.subi (Scalar.extui (Scalar.cmpi .sgt w 0#32)) (Scalar.extui (Scalar.cmpi .slt w 0#32)))
        (Scalar.subi (Scalar.extui (Scalar.cmpi .sgt 128#32 0#32)) (Scalar.extui (Scalar.cmpi .slt 128#32 0#32))))
      (Scalar.cmpi .ne (Scalar.remsi w 128#32) 0#32))
    (Scalar.subi (Scalar.divsi w 128#32) 1#32) (Scalar.divsi w 128#32)

/-- The place's lane. -/
def laneOf (w : BitVec 32) : BitVec 32 := Scalar.subi w (Scalar.muli (rowOf w) 128#32)

section Trip

variable (I : Ins F) (σ : St F) (h1 : k1_chk1 σ.pos)

/-- The popped place's row of a block. -/
abbrev pick2 (x : Vec F S1x160x128 .f32) : Vec F S1x1x128 .f32 := window x (k1_off2 σ.pos) S1x1x128.size (k1_off2_inb σ.pos h1)
/-- The popped place's row of a block, by the last four loads' offsets. -/
abbrev pick4 (x : Vec F S1x160x128 .f32) : Vec F S1x1x128 .f32 := window x (k1_off4 σ.pos) S1x1x128.size (k1_off4_inb σ.pos h1)
/-- The lane's one-hot row. -/
abbrev hot : FVec F S1x128 .f32 := k1_pay18 (F := F) lanes (laneOf σ.pos)
/-- The popped box's shifted left edge, -/
abbrev bx1 : F .f32 := k1_pay19 lanes (laneOf σ.pos) (pick2 σ h1 I.x1)
/-- top edge, -/
abbrev by1 : F .f32 := k1_pay20 lanes (laneOf σ.pos) (pick2 σ h1 I.y1)
/-- right edge, -/
abbrev bx2 : F .f32 := k1_pay21 lanes (laneOf σ.pos) (pick2 σ h1 I.x2)
/-- bottom edge, -/
abbrev by2 : F .f32 := k1_pay22 lanes (laneOf σ.pos) (pick2 σ h1 I.y2)
/-- area, -/
abbrev ba : F .f32 := k1_pay23 (hot σ) (pick2 σ h1 I.a)
/-- class as a number, -/
abbrev bj : F .f32 := k1_pay24 (hot σ) (pick2 σ h1 I.j)
/-- class as a word. -/
def St.cls : BitVec 32 := Scalar.fptosi 32 (bj I σ h1)

/-- The remaining scores without the popped place. -/
abbrev s1 : Vec F S160x128 .f32 :=
  put σ.s (k1_off1 σ.pos) S1x128.size (k1_pay14 places lanes σ.m σ.s (window σ.s (k1_off1 σ.pos) S1x128.size (k1_off1_inb σ.pos h1)))
/-- The greatest of them. -/
abbrev m1 : F .f32 := k1_pay17 σ.s (k1_pay15 places σ.m σ.s) (k1_pay16 (F := F))

variable (h2 : k1_chk2 (σ.cls I h1))

/-- The class's row of an array of kept boxes. -/
abbrev slot (x : Vec F S80x128 .f32) : Vec F S1x128 .f32 := window x (k1_off3 (σ.cls I h1)) S1x128.size (k1_off3_inb (σ.cls I h1) h2)
/-- The popped box's overlaps with its class's kept boxes. -/
abbrev iou : FVec F S1x128 .f32 :=
  k1_pay25 (hot σ) (bx1 I σ h1) (by1 I σ h1) (bx2 I σ h1) (by2 I σ h1) (pick2 σ h1 I.a)
    (slot I σ h1 h2 σ.r1) (slot I σ h1 h2 σ.r2) (slot I σ h1 h2 σ.r3) (slot I σ h1 h2 σ.r4) (slot I σ h1 h2 σ.r5)
/-- Is the popped box kept. -/
def keep : BitVec 1 := Scalar.xori (Scalar.cmpf .ogt (k1_pay26 (iou I σ h1 h2)) (Scalar.ofBits .f32 0x00000000#32)) 1#1
/-- How many boxes of its class are kept already. -/
def count : BitVec 32 := extractAt ![0, 0, 0] (k1_pay27 (slot I σ h1 h2 σ.r3)) inpos_S1x1x1_p0_0_0
/-- Are the remaining scores to be suppressed at once: the box is kept and its class's row is full. -/
def eager : BitVec 1 :=
  Scalar.cmpi .ne (Scalar.extui (Scalar.andi (keep I σ h1 h2) (Scalar.cmpi .sge (count I σ h1 h2) 128#32)) : BitVec 32) 0#32
/-- The remaining scores, those that overlap the popped box too much put out. -/
abbrev sup : FVec F S160x128 .f32 :=
  k1_pay12 (bx1 I σ h1) (by1 I σ h1) (bx2 I σ h1) (by2 I σ h1) (ba I σ h1) (s1 σ h1) I.x2 I.x1 I.y2 I.y1 I.a

/-- What the trip leaves. -/
def St.next : St F where
  s := if eager I σ h1 h2 = 1#1 then k1_pay35 (sup I σ h1) else s1 σ h1
  r1 := put σ.r1 (k1_off3 (σ.cls I h1)) S1x128.size
    (k1_pay29 lanes (bx1 I σ h1) (slot I σ h1 h2 σ.r1) (slot I σ h1 h2 σ.r3) (iou I σ h1 h2))
  r2 := put σ.r2 (k1_off3 (σ.cls I h1)) S1x128.size
    (k1_pay30 lanes (by1 I σ h1) (slot I σ h1 h2 σ.r2) (slot I σ h1 h2 σ.r3) (iou I σ h1 h2))
  r3 := put σ.r3 (k1_off3 (σ.cls I h1)) S1x128.size
    (k1_pay31 lanes (bx2 I σ h1) (slot I σ h1 h2 σ.r3) (iou I σ h1 h2))
  r4 := put σ.r4 (k1_off3 (σ.cls I h1)) S1x128.size
    (k1_pay33 (k1_pay32 lanes (by2 I σ h1) (slot I σ h1 h2 σ.r3) (slot I σ h1 h2 σ.r4) (iou I σ h1 h2)))
  r5 := put σ.r5 (k1_off3 (σ.cls I h1)) S1x128.size
    (k1_pay34 (ba I σ h1) (slot I σ h1 h2 σ.r5) (k1_pay28 lanes (slot I σ h1 h2 σ.r3) (iou I σ h1 h2)))
  p := if eager I σ h1 h2 = 1#1 then fun _ => k1_pay36 (sup I σ h1) else fun _ => m1 σ
  k := Scalar.addi σ.k (Scalar.extui (keep I σ h1 h2))
  m := if eager I σ h1 h2 = 1#1 then k1_pay36 (sup I σ h1) else m1 σ
  acc := k1_pay4 cols σ.k σ.m σ.acc (bj I σ h1) (keep I σ h1 h2) (k1_pay37 (hot σ) (pick4 σ h1 I.ux1)) (k1_pay38 (hot σ) (pick4 σ h1 I.uy1))
    (k1_pay39 (hot σ) (pick4 σ h1 I.ux2)) (k1_pay40 (hot σ) (pick4 σ h1 I.uy2))

end Trip

/-- `Runs I n σ σ'`: from `σ` the loop runs `n` trips, every check of theirs passing, and stops at `σ'`. -/
inductive Runs (I : Ins F) : ℕ → St F → St F → Prop
  /-- no trip to run -/
  | stop (σ : St F) (h : ¬ σ.test = 1#1) : Runs I 0 σ σ
  /-- one trip, then the rest -/
  | step {n : ℕ} {σ σ' : St F} (h : σ.test = 1#1) (h1 : k1_chk1 σ.pos) (h2 : k1_chk2 (σ.cls I h1))
      (hr : Runs I n (σ.next I h1 h2) σ') : Runs I (n + 1) σ σ'

/-- What the loop starts from. -/
def start (I : Ins F) (p : Vec F S1 .f32) : St F where
  s := k1_pay5 I.s
  r1 := k1_pay6
  r2 := k1_pay7
  r3 := k1_pay8
  r4 := k1_pay9
  r5 := k1_pay10
  p := p
  k := 0#32
  m := k1_pay1 (k1_pay5 I.s)
  acc := k1_pay2

end Cert.KernelIdeal.Nms

end
-- ==== Proof.Ker.Facts.lean ====
/-
  Small facts of extended reals and words that the two kernels' values need: constants, whole numbers converted to
  floats and back, a maximum and a minimum over a finite set, a sum with one term.
-/
module

public import proofs.«01_k».proof.Proof.Ker.Step
public import Idealize.ShloMosaic.Lib.Pointwise
public import Idealize.ShloMosaic.Lib.Routing.Words

@[expose] public section

set_option maxRecDepth 16384

noncomputable section

namespace Cert.KernelIdeal.Nms

open Cert.KernelIdeal Cert.KernelIdeal.Gen
open Idealize.ShloMosaic Idealize.ShloMosaic.TcCoe
open Idealize.ShloMosaic.Pointwise

/-! ### Constants -/

theorem c_neg_one : Ideal.ofBits .f32 0xBF800000#32 = ((-1 : ℝ) : EReal) := by
  simp [Ideal.ofBits, Ideal.ieee, ← EReal.coe_mul, ← EReal.coe_pow] <;> norm_num
theorem c_128 : Ideal.ofBits .f32 0x43000000#32 = ((128 : ℝ) : EReal) := by
  simp [Ideal.ofBits, Ideal.ieee, ← EReal.coe_mul, ← EReal.coe_pow] <;> norm_num
theorem c_half : Ideal.ofBits .f32 0x3F000000#32 = ((1 / 2 : ℝ) : EReal) := by
  simp [Ideal.ofBits, Ideal.ieee, ← EReal.coe_mul, ← EReal.coe_pow] <;> norm_num
theorem c_two : Ideal.ofBits .f32 0x40000000#32 = ((2 : ℝ) : EReal) := by
  simp [Ideal.ofBits, Ideal.ieee, ← EReal.coe_mul, ← EReal.coe_pow] <;> norm_num
theorem c_4096 : Ideal.ofBits .f32 0x45800000#32 = ((4096 : ℝ) : EReal) := by
  simp [Ideal.ofBits, Ideal.ieee, ← EReal.coe_mul, ← EReal.coe_pow] <;> norm_num
theorem c_1e9 : Ideal.ofBits .f32 0x4E6E6B28#32 = ((1000000000 : ℝ) : EReal) := by
  simp [Ideal.ofBits, Ideal.ieee, ← EReal.coe_mul, ← EReal.coe_pow] <;> norm_num
theorem c_neg_1e9 : Ideal.ofBits .f32 0xCE6E6B28#32 = ((-1000000000 : ℝ) : EReal) := by
  simp [Ideal.ofBits, Ideal.ieee, ← EReal.coe_mul, ← EReal.coe_pow] <;> norm_num
theorem c_neg_5e8 : Ideal.ofBits .f32 0xCDEE6B28#32 = ((-500000000 : ℝ) : EReal) := by
  simp [Ideal.ofBits, Ideal.ieee, ← EReal.coe_mul, ← EReal.coe_pow] <;> norm_num
theorem c_3e7 : Ideal.ofBits .f32 0x4BE4E1C0#32 = ((30000000 : ℝ) : EReal) := by
  simp [Ideal.ofBits, Ideal.ieee, ← EReal.coe_mul, ← EReal.coe_pow] <;> norm_num
theorem c_top : Ideal.ofBits .f32 0x7F800000#32 = (⊤ : EReal) := by
  simp [Ideal.ofBits, Ideal.ieee]
theorem c_bot : Ideal.ofBits .f32 0xFF800000#32 = (⊥ : EReal) := by
  simp [Ideal.ofBits, Ideal.ieee]
theorem c_quarter : Ideal.ofBits .f32 0x3E800000#32 = ((1 / 4 : ℝ) : EReal) := by
  simp [Ideal.ofBits, Ideal.ieee, ← EReal.coe_mul, ← EReal.coe_pow] <;> norm_num
theorem c_eps_pos : ∃ e : ℝ, 0 < e ∧ Ideal.ofBits .f32 0x3089705F#32 = (e : EReal) := by
  refine ⟨_, ?_, by simp [Ideal.ofBits, Ideal.ieee]; rfl⟩
  positivity
theorem c_thr_pos : ∃ e : ℝ, 0 < e ∧ e < 1 / 2 ∧ Ideal.ofBits .f32 0x3EE66666#32 = (e : EReal) := by
  refine ⟨_, ?_, ?_, by simp [Ideal.ofBits, Ideal.ieee]; rfl⟩
  · positivity
  · norm_num

/-! ### Whole numbers -/

/-- A word under 2³¹ as a float is its number. -/
theorem sitofp_nat {n : ℕ} (h : n < 2 ^ 31) : (FloatOps.sitofp (F := Ideal) .f32 (BitVec.ofNat 32 n)) = ((n : ℝ) : EReal) := by
  show (((BitVec.ofNat 32 n).toInt : ℝ) : EReal) = _
  have : (BitVec.ofNat 32 n).toInt = n := by
    rw [BitVec.toInt_ofNat']; simp only [Int.bmod]; omega
  rw [this]; norm_num

/-- And back. -/
theorem fptosi_nat {n : ℕ} (h : n < 2 ^ 31) : Ideal.fptosi 32 ((n : ℝ) : EReal) = BitVec.ofNat 32 n := by
  unfold Ideal.fptosi
  have : Ideal.toIntClamped (-(2 ^ (32 - 1) : Nat)) ((2 ^ (32 - 1) : Nat) - 1) ((n : ℝ) : EReal) = (n : ℤ) := by
    show max _ (min _ (if (0 : ℝ) ≤ n then ⌊(n : ℝ)⌋ else ⌈(n : ℝ)⌉)) = _
    rw [if_pos (Nat.cast_nonneg n), Int.floor_natCast]
    norm_num
    omega
  rw [this]; exact BitVec.ofInt_natCast ..

/-- The row of a place. -/
theorem rowOf_nat {n : ℕ} (h : n < 20480) : rowOf (BitVec.ofNat 32 n) = BitVec.ofNat 32 (n / 128) := by
  have hd : Scalar.divsi (BitVec.ofNat 32 n) 128#32 = BitVec.ofNat 32 (n / 128) :=
    Routing.divsi_word _ (by omega) (by omega) (by omega)
  rcases Nat.eq_zero_or_pos n with h0 | h0
  · subst h0; decide
  · have hi : (BitVec.ofNat 32 n).toInt = n := by
      rw [BitVec.toInt_ofNat']; simp only [Int.bmod]; omega
    have h1 : Scalar.cmpi .sgt (BitVec.ofNat 32 n) 0#32 = 1#1 := by
      simp [Scalar.cmpi, IntOp.cmpi, BitVec.slt, hi, h0]
    have h2 : Scalar.cmpi .slt (BitVec.ofNat 32 n) 0#32 = 0#1 := by
      have hn : ¬ (n : ℤ) < 0 := by omega
      simp [Scalar.cmpi, IntOp.cmpi, BitVec.slt, hi, hn]
    unfold rowOf
    rw [h1, h2, hd]
    have e : Scalar.cmpi .ne (Scalar.subi (Scalar.extui (1#1) : BitVec 32) (Scalar.extui (0#1)))
        (Scalar.subi (Scalar.extui (Scalar.cmpi .sgt 128#32 0#32)) (Scalar.extui (Scalar.cmpi .slt 128#32 0#32))) = 0#1 := by decide
    rw [e]
    show Scalar.select (0#1 &&& _) _ _ = _
    rw [BitVec.zero_and]
    rfl

/-- The lane of a place. -/
theorem laneOf_nat {n : ℕ} (h : n < 20480) : laneOf (BitVec.ofNat 32 n) = BitVec.ofNat 32 (n % 128) := by
  unfold laneOf
  rw [rowOf_nat h]
  apply BitVec.eq_of_toNat_eq
  simp [Scalar.subi, Scalar.muli, IntOp.subi, IntOp.muli]
  omega

/-! ### A maximum and a minimum over a finite set -/

section Folds

variable {ι : Type} [Fintype ι]

/-- A greatest is at least each. -/
theorem fold_max_ge (f : ι → EReal) (i : ι) : f i ≤ Finset.univ.fold max (⊥ : EReal) f :=
  (Finset.le_fold_max (f i)).mpr (.inr ⟨i, Finset.mem_univ i, le_rfl⟩)

/-- A greatest is one of them. -/
theorem fold_max_attained [Nonempty ι] (f : ι → EReal) : ∃ i, f i = Finset.univ.fold max (⊥ : EReal) f := by
  obtain ⟨i, -, hi⟩ := Finset.exists_max_image Finset.univ f Finset.univ_nonempty
  exact ⟨i, le_antisymm (fold_max_ge f i) ((Finset.fold_max_le _).mpr ⟨bot_le, fun j hj => hi j hj⟩)⟩

/-- A least is at most each. -/
theorem fold_min_le (f : ι → EReal) (i : ι) : Finset.univ.fold min (⊤ : EReal) f ≤ f i :=
  (Finset.fold_min_le (f i)).mpr (.inr ⟨i, Finset.mem_univ i, le_rfl⟩)

/-- A least is one of them. -/
theorem fold_min_attained [Nonempty ι] (f : ι → EReal) : ∃ i, f i = Finset.univ.fold min (⊤ : EReal) f := by
  obtain ⟨i, -, hi⟩ := Finset.exists_min_image Finset.univ f Finset.univ_nonempty
  exact ⟨i, le_antisymm ((Finset.le_fold_min _).mpr ⟨le_top, fun j hj => hi j hj⟩) (fold_min_le f i)⟩

/-- What is at least each is the greatest. -/
theorem fold_max_eq (f : ι → EReal) (i : ι) (h : ∀ j, f j ≤ f i) : Finset.univ.fold max (⊥ : EReal) f = f i :=
  le_antisymm ((Finset.fold_max_le _).mpr ⟨bot_le, fun j _ => h j⟩) (fold_max_ge f i)

/-- What is at most each is the least. -/
theorem fold_min_eq (f : ι → EReal) (i : ι) (h : ∀ j, f i ≤ f j) : Finset.univ.fold min (⊤ : EReal) f = f i :=
  le_antisymm (fold_min_le f i) ((Finset.le_fold_min _).mpr ⟨le_top, fun j _ => h j⟩)

end Folds

/-! ### A sum with one term -/

/-- A lane's one-hot weight. -/
theorem onehot_val (x l : Fin 128) :
    (FloatOps.sitofp (F := Ideal) .f32 (BitVec.setWidth 32 (IntOp.cmpi .eq (BitVec.ofNat 32 x) (BitVec.ofNat 32 l)))) = if x = l then (1 : EReal) else 0 := by
  by_cases h : x = l
  · subst h
    rw [if_pos rfl]
    have : BitVec.setWidth 32 (IntOp.cmpi .eq (BitVec.ofNat 32 x) (BitVec.ofNat 32 x)) = BitVec.ofNat 32 1 := by
      simp [IntOp.cmpi]
    rw [this, sitofp_nat (by norm_num)]; norm_num
  · rw [if_neg h]
    have : BitVec.setWidth 32 (IntOp.cmpi .eq (BitVec.ofNat 32 x) (BitVec.ofNat 32 l)) = BitVec.ofNat 32 0 := by
      have hne : (BitVec.ofNat 32 x == BitVec.ofNat 32 l) = false := by
        rw [beq_eq_false_iff_ne]
        intro hh
        have := congrArg BitVec.toNat hh
        simp at this
        omega
      simp [IntOp.cmpi, hne]
    rw [this, sitofp_nat (by norm_num)]; norm_num

/-- A sum against a one-hot row picks that lane's term. -/
theorem sum_onehot (f : Fin 128 → EReal) (l : Fin 128) :
    ∑ x : Fin 128, f x * (FloatOps.sitofp (F := Ideal) .f32 (BitVec.setWidth 32 (IntOp.cmpi .eq (BitVec.ofNat 32 x) (BitVec.ofNat 32 l)))) = f l := by
  simp only [onehot_val]
  rw [Finset.sum_eq_single l (fun b _ hb => by rw [if_neg hb, mul_zero]) (fun h => absurd (Finset.mem_univ l) h), if_pos rfl, mul_one]

end Cert.KernelIdeal.Nms

end
-- ==== Proof.Ker.Trip.lean ====
/-
  One trip of the second kernel's loop over extended reals: the place popped, what is read there, and every field of
  what the trip leaves, entry by entry.
-/
module

public import proofs.«01_k».proof.Proof.Ker.Facts

@[expose] public section

set_option maxRecDepth 16384

noncomputable section

namespace Cert.KernelIdeal.Nms

open Cert.KernelIdeal Cert.KernelIdeal.Gen
open Idealize.ShloMosaic Idealize.ShloMosaic.TcCoe
open Idealize.ShloMosaic.Pointwise
open VecWindow (window put)

/-- A place: a row of 160 and a lane of 128. -/
abbrev P := Fin 160 × Fin 128

/-- A place's number. -/
def num (p : P) : ℕ := p.1 * 128 + p.2

/-- A place's number is below 20480. -/
theorem num_lt (p : P) : num p < 20480 := by
  have h1 := p.1.isLt; have h2 := p.2.isLt; unfold num; omega

/-- Places with one number are one place. -/
theorem num_inj {p q : P} (h : num p = num q) : p = q := by
  have h1 := p.2.isLt; have h2 := q.2.isLt; unfold num at h
  exact Prod.ext (Fin.ext (by omega)) (Fin.ext (by omega))

/-- The row of a place from its number. -/
theorem num_row (p : P) : num p / 128 = p.1 := by
  have h1 := p.2.isLt; unfold num; omega

/-- The lane of a place from its number. -/
theorem num_lane (p : P) : num p % 128 = p.2 := by
  have h1 := p.2.isLt; unfold num; omega

/-- The places' numbers as floats. -/
theorem places_apply (p : P) : places (F := Ideal) (ix2 p.1 p.2) = ((num p : ℝ) : EReal) := by
  have h1 := p.1.isLt; have h2 := p.2.isLt
  show k1_pay11 (F := Ideal) (ix2 p.1 p.2) = _
  pointwise [k1_pay11]
  rw [sitofp_nat (by omega), sitofp_nat (by omega), c_128, ← EReal.coe_mul, ← EReal.coe_add]
  unfold num; push_cast; rfl

/-- A box: its corners and its area. -/
structure Box where
  /-- left -/
  x1 : EReal
  /-- top -/
  y1 : EReal
  /-- right -/
  x2 : EReal
  /-- bottom -/
  y2 : EReal
  /-- area -/
  a : EReal

/-- How much two boxes share. -/
def inter (p q : Box) : EReal := max (min p.x2 q.x2 - max p.x1 q.x1) 0 * max (min p.y2 q.y2 - max p.y1 q.y1) 0
/-- How much of what they cover together they share. -/
def iouOf (p q : Box) : EReal := Ideal.div (inter p q) (p.a + q.a - inter p q + Ideal.ofBits .f32 0x3089705F#32)
/-- They overlap too much. -/
def Over (p q : Box) : Prop := Ideal.ofBits .f32 0x3EE66666#32 < iouOf p q

/-- A place's box. -/
def boxAt (I : Ins Ideal) (p : P) : Box :=
  ⟨I.x1 (ix3 0 p.1 p.2), I.y1 (ix3 0 p.1 p.2), I.x2 (ix3 0 p.1 p.2), I.y2 (ix3 0 p.1 p.2), I.a (ix3 0 p.1 p.2)⟩
/-- A kept box. -/
def slotAt (σ : St Ideal) (c : Fin 80) (l : Fin 128) : Box :=
  ⟨σ.r1 (ix2 c l), σ.r2 (ix2 c l), σ.r3 (ix2 c l), σ.r4 (ix2 c l), σ.r5 (ix2 c l)⟩

/-- The value carried is the greatest remaining score. -/
def Top (σ : St Ideal) : Prop := σ.m = Finset.univ.fold max (⊥ : EReal) fun x : P => σ.s (ix2 x.1 x.2)

/-- The greatest of all scores, as a fold. -/
theorem pay1_apply (v : Vec Ideal S160x128 .f32) : k1_pay1 (F := Ideal) v = Finset.univ.fold max (⊥ : EReal) fun x : P => v (ix2 x.1 x.2) := by
  pointwise [k1_pay1]
  rw [c_bot]

/-- At the start the carried score is the greatest. -/
theorem start_top (I : Ins Ideal) (p) : Top (start I p) := by
  unfold Top
  simp only [start]
  exact pay1_apply _

/-- The first place with the greatest remaining score. -/
structure First (σ : St Ideal) (p : P) : Prop where
  /-- it has that score -/
  eq : σ.s (ix2 p.1 p.2) = σ.m
  /-- no place before it has -/
  le : ∀ q : P, σ.s (ix2 q.1 q.2) = σ.m → num p ≤ num q

/-- The least number at which the greatest score stands is the first such place's. -/
theorem pay13_first {σ : St Ideal} {p : P} (h : First σ p) : k1_pay13 places σ.m σ.s = ((num p : ℝ) : EReal) := by
  have hg : k1_pay13 places σ.m σ.s = Finset.univ.fold min (⊤ : EReal) fun x : P =>
      if σ.s (ix2 x.1 x.2) = σ.m then ((num x : ℝ) : EReal) else Ideal.ofBits .f32 0x4BE4E1C0#32 := by
    simp only [← places_apply]
    generalize places (F := Ideal) = w
    pointwise [k1_pay13]
    rw [c_top]
  rw [hg]
  refine (fold_min_eq _ p fun q => ?_).trans (if_pos h.eq)
  rw [if_pos h.eq]
  split
  · rename_i hq
    exact EReal.coe_le_coe_iff.mpr (Nat.cast_le.mpr (h.le q hq))
  · rw [c_3e7]
    have := num_lt p
    exact EReal.coe_le_coe_iff.mpr (by
      have : (num p : ℝ) ≤ 20480 := by exact_mod_cast this.le
      linarith)

/-- The place popped is the first greatest. -/
theorem pos_first {σ : St Ideal} {p : P} (h : First σ p) : σ.pos = BitVec.ofNat 32 (num p) := by
  unfold St.pos
  rw [pay13_first h]
  exact fptosi_nat (by have := num_lt p; omega)

/-- There is a first place with the greatest score. -/
theorem exists_first {σ : St Ideal} (h : Top σ) : ∃ p, First σ p := by
  classical
  obtain ⟨i, hi⟩ := fold_max_attained fun x : P => σ.s (ix2 x.1 x.2)
  obtain ⟨p, hp, hmin⟩ := Finset.exists_min_image (Finset.univ.filter fun x : P => σ.s (ix2 x.1 x.2) = σ.m) num
    ⟨i, by rw [Finset.mem_filter]; exact ⟨Finset.mem_univ _, hi.trans h.symm⟩⟩
  exact ⟨p, (Finset.mem_filter.mp hp).2, fun q hq => hmin q (Finset.mem_filter.mpr ⟨Finset.mem_univ _, hq⟩)⟩

/-! ### Rows -/

theorem window_row3 (x : Vec Ideal S1x160x128 .f32) {off : Fin 3 → ℕ} {r : ℕ} (hr : r < 160) (hoff : off = ![0, r, 0]) (inb) (l : Fin 128) :
    window x off S1x1x128.size inb (ix3 0 0 l) = x (ix3 0 ⟨r, hr⟩ l) := by
  subst hoff
  unfold window
  congr 1
  funext a
  apply Fin.ext
  fin_cases a
  · rfl
  · show r + 1 * 0 = r; omega
  · show 0 + 1 * l.val = l.val; omega

/-- A row read from a two-axis block. -/
theorem window_row2 {R : ℕ} (x : (⟨2, ![R, 128]⟩ : Shape).Idx → EReal) {off : Fin 2 → ℕ} {r : ℕ} (hr : r < R) (hoff : off = ![r, 0]) (inb) (l : Fin 128) :
    window x off S1x128.size inb (ix2 0 l) = x (ix2 ⟨r, hr⟩ l) := by
  subst hoff
  unfold window
  congr 1
  funext a
  apply Fin.ext
  fin_cases a
  · show r + 1 * 0 = r; omega
  · show 0 + 1 * l.val = l.val; omega

/-- A row written to a two-axis block. -/
theorem put_row2 {R : ℕ} (x : (⟨2, ![R, 128]⟩ : Shape).Idx → EReal) {off : Fin 2 → ℕ} {r : ℕ} (hoff : off = ![r, 0])
    (w : S1x128.Idx → EReal) (i : Fin R) (l : Fin 128) :
    put x off S1x128.size w (ix2 i l) = if i.val = r then w (ix2 0 l) else x (ix2 i l) := by
  subst hoff
  unfold put
  by_cases h : i.val = r
  · have hh : ∀ a : Fin 2, (![r, 0] : Fin 2 → ℕ) a ≤ ((ix2 i l : (⟨2, ![R, 128]⟩ : Shape).Idx) a).val
        ∧ ((ix2 i l : (⟨2, ![R, 128]⟩ : Shape).Idx) a).val < (![r, 0] : Fin 2 → ℕ) a + S1x128.size a := by
      intro a
      fin_cases a
      · show r ≤ i.val ∧ i.val < r + 1; omega
      · show 0 ≤ l.val ∧ l.val < 0 + 128; omega
    rw [dif_pos hh, if_pos h]
    congr 1
    funext a
    apply Fin.ext
    fin_cases a
    · show i.val - r = 0; omega
    · show l.val - 0 = l.val; omega
  · rw [if_neg h, dif_neg]
    intro hh
    have h0 : r ≤ i.val ∧ i.val < r + 1 := hh 0
    omega

/-- A selection on the equality of two words. -/
theorem select_nat {α : Type} {a b : ℕ} (ha : a < 2 ^ 32) (hb : b < 2 ^ 32) (x y : α) :
    Scalar.select (IntOp.cmpi .eq (BitVec.ofNat 32 a) (BitVec.ofNat 32 b)) x y = if a = b then x else y := by
  by_cases h : a = b
  · subst h; rw [if_pos rfl]; simp [IntOp.cmpi, Scalar.select]
  · have hne : (BitVec.ofNat 32 a == BitVec.ofNat 32 b) = false := by
      rw [beq_eq_false_iff_ne]
      intro hh
      have := congrArg BitVec.toNat hh
      simp only [BitVec.toNat_ofNat] at this
      omega
    rw [if_neg h]
    simp [IntOp.cmpi, Scalar.select, hne]

section At

variable {I : Ins Ideal} {σ : St Ideal} {p : P}

/-- The popped place's row word. -/
theorem row_first (h : σ.pos = BitVec.ofNat 32 (num p)) : rowOf σ.pos = BitVec.ofNat 32 p.1 := by
  rw [h, rowOf_nat (num_lt p), num_row]
/-- The popped place's lane word. -/
theorem lane_first (h : σ.pos = BitVec.ofNat 32 (num p)) : laneOf σ.pos = BitVec.ofNat 32 p.2 := by
  rw [h, laneOf_nat (num_lt p), num_lane]

/-- The popped place's row. -/
theorem row_toNat (h : σ.pos = BitVec.ofNat 32 (num p)) : (rowOf σ.pos).toNat = p.1 := by
  have := p.1.isLt
  rw [row_first h, BitVec.toNat_ofNat]; omega

/-- The scores' row is read at the popped row. -/
theorem off1 (h : σ.pos = BitVec.ofNat 32 (num p)) : k1_off1 σ.pos = ![p.1.val, 0] := by
  rw [← row_toNat h]; rfl
/-- A block's row is read at the popped row. -/
theorem off2 (h : σ.pos = BitVec.ofNat 32 (num p)) : k1_off2 σ.pos = ![0, p.1.val, 0] := by
  rw [← row_toNat h]; rfl
/-- A block's row is read at the popped row, by the last loads. -/
theorem off4 (h : σ.pos = BitVec.ofNat 32 (num p)) : k1_off4 σ.pos = ![0, p.1.val, 0] := by
  rw [← row_toNat h]; rfl

/-- The checks of the popped place's offsets pass. -/
theorem chk1 (h : σ.pos = BitVec.ofNat 32 (num p)) : k1_chk1 σ.pos := by
  have hp := p.1.isLt
  unfold k1_chk1
  rw [off1 h, off2 h, off4 h]
  refine ⟨fun a => ?_, fun a => ?_, fun a => ?_⟩ <;> fin_cases a
  · show p.1.val + 1 ≤ 160; omega
  · show 0 + 128 ≤ 128; omega
  · show 0 + 1 ≤ 1; omega
  · show p.1.val + 1 ≤ 160; omega
  · show 0 + 128 ≤ 128; omega
  · show 0 + 1 ≤ 1; omega
  · show p.1.val + 1 ≤ 160; omega
  · show 0 + 128 ≤ 128; omega

variable (h : σ.pos = BitVec.ofNat 32 (num p)) (h1 : k1_chk1 σ.pos)
include h

/-- The row read is the popped row. -/
theorem pick2_apply (x : Vec Ideal S1x160x128 .f32) (l : Fin 128) : pick2 σ h1 x (ix3 0 0 l) = x (ix3 0 p.1 l) :=
  window_row3 x p.1.isLt (off2 h) _ l
/-- The row read by the last loads is the popped row. -/
theorem pick4_apply (x : Vec Ideal S1x160x128 .f32) (l : Fin 128) : pick4 σ h1 x (ix3 0 0 l) = x (ix3 0 p.1 l) :=
  window_row3 x p.1.isLt (off4 h) _ l

omit h in
/-- A lane is picked by a sum against a one-hot row. -/
theorem pay19_apply (w : BitVec 32) (v : Vec Ideal S1x1x128 .f32) : k1_pay19 lanes w v
    = ∑ x : Fin 128, v (ix3 0 0 x) * (FloatOps.sitofp (F := Ideal) .f32 (BitVec.setWidth 32 (IntOp.cmpi .eq (BitVec.ofNat 32 x) w))) := by
  pointwise [k1_pay19, k1_pay18]
  simp

/-- What the lane's one-hot sum picks from the place's row. -/
theorem pick_sum (x : Vec Ideal S1x160x128 .f32) : k1_pay19 lanes (laneOf σ.pos) (pick2 σ h1 x) = x (ix3 0 p.1 p.2) := by
  rw [pay19_apply, lane_first h]
  simp only [pick2_apply h h1]
  exact sum_onehot (fun l => x (ix3 0 p.1 l)) p.2

/-- The number picked is the popped place's, by the last loads. -/
theorem pick_sum4 (x : Vec Ideal S1x160x128 .f32) : k1_pay19 lanes (laneOf σ.pos) (pick4 σ h1 x) = x (ix3 0 p.1 p.2) := by
  rw [pay19_apply, lane_first h]
  simp only [pick4_apply h h1]
  exact sum_onehot (fun l => x (ix3 0 p.1 l)) p.2

/-- The popped left edge. -/
theorem bx1_eq : bx1 I σ h1 = (boxAt I p).x1 := pick_sum h h1 I.x1
/-- The popped top edge. -/
theorem by1_eq : by1 I σ h1 = (boxAt I p).y1 := pick_sum h h1 I.y1
/-- The popped right edge. -/
theorem bx2_eq : bx2 I σ h1 = (boxAt I p).x2 := pick_sum h h1 I.x2
/-- The popped bottom edge. -/
theorem by2_eq : by2 I σ h1 = (boxAt I p).y2 := pick_sum h h1 I.y2
/-- The popped area. -/
theorem ba_eq : ba I σ h1 = (boxAt I p).a := pick_sum h h1 I.a
/-- The popped class. -/
theorem bj_eq : bj I σ h1 = I.j (ix3 0 p.1 p.2) := pick_sum h h1 I.j

omit h in
/-- The row of scores written back, lane by lane. -/
theorem pay14_apply (m : Ideal .f32) (v : Vec Ideal S160x128 .f32) (w : Vec Ideal S1x128 .f32) (l : Fin 128) :
    k1_pay14 places lanes m v w (ix2 0 l)
      = Scalar.select (IntOp.cmpi .eq (BitVec.ofNat 32 l) (laneOf (Scalar.fptosi 32 (k1_pay13 places m v)))) (Ideal.ofBits .f32 0xBF800000#32) (w (ix2 0 l)) := by
  pointwise [k1_pay14]
  rfl

/-- The remaining scores without the popped place. -/
theorem s1_apply (q : P) : s1 σ h1 (ix2 q.1 q.2) = if q = p then Ideal.ofBits .f32 0xBF800000#32 else σ.s (ix2 q.1 q.2) := by
  have hw : window σ.s (k1_off1 σ.pos) S1x128.size (k1_off1_inb σ.pos h1) (ix2 0 q.2) = σ.s (ix2 p.1 q.2) :=
    window_row2 σ.s p.1.isLt (off1 h) _ q.2
  have hp := p.2.isLt; have hq := q.2.isLt
  refine (put_row2 σ.s (off1 h) _ q.1 q.2).trans ?_
  by_cases hr : q.1.val = p.1.val
  · rw [if_pos hr, pay14_apply]
    rw [show laneOf (Scalar.fptosi 32 (k1_pay13 places σ.m σ.s)) = _ from lane_first h, hw, select_nat (by omega) (by omega)]
    have hr' : q.1 = p.1 := Fin.ext hr
    by_cases hl : q.2.val = p.2.val
    · rw [if_pos hl, if_pos (Prod.ext hr' (Fin.ext hl))]
    · rw [if_neg hl, if_neg (fun e => hl (by rw [e])), hr']
  · rw [if_neg hr, if_neg (fun e => hr (by rw [e]))]

omit h in
/-- The greatest score once the popped place is out, as a fold. -/
theorem pay17_apply (w : FVec Ideal S160x128 .f32) (m : Ideal .f32) (v : Vec Ideal S160x128 .f32) :
    k1_pay17 v (k1_pay15 w m v) (k1_pay16 (F := Ideal))
      = Finset.univ.fold max (⊥ : EReal) fun x : P =>
        if w (ix2 x.1 x.2) = k1_pay13 w m v then Ideal.ofBits .f32 0xBF800000#32 else v (ix2 x.1 x.2) := by
  pointwise [k1_pay17, k1_pay15, k1_pay16]
  rw [c_bot]

omit h in
/-- The greatest of them. -/
theorem m1_apply (hf : First σ p) (h1 : k1_chk1 σ.pos) : m1 σ = Finset.univ.fold max (⊥ : EReal) fun x : P => s1 σ h1 (ix2 x.1 x.2) := by
  have e : (fun x : P => s1 σ h1 (ix2 x.1 x.2)) = fun x : P =>
      if places (F := Ideal) (ix2 x.1 x.2) = k1_pay13 places σ.m σ.s then Ideal.ofBits .f32 0xBF800000#32 else σ.s (ix2 x.1 x.2) := by
    funext x
    rw [s1_apply (pos_first hf) h1, places_apply, pay13_first hf]
    by_cases hx : x = p
    · rw [if_pos hx, if_pos (by rw [hx])]
    · rw [if_neg hx, if_neg]
      intro he
      exact hx (num_inj (Nat.cast_injective (R := ℝ) (EReal.coe_injective he)))
  rw [e]
  exact pay17_apply _ _ _

end At

end Cert.KernelIdeal.Nms

end
-- ==== Proof.Ker.Trip2.lean ====
/-
  One trip of the second kernel's loop over extended reals, continued: is the popped box kept, how many of its class
  are, and every field of what the trip leaves.
-/
module

public import proofs.«01_k».proof.Proof.Ker.Trip

@[expose] public section

set_option maxRecDepth 16384

noncomputable section

namespace Cert.KernelIdeal.Nms

open Cert.KernelIdeal Cert.KernelIdeal.Gen
open Idealize.ShloMosaic Idealize.ShloMosaic.TcCoe
open Idealize.ShloMosaic.Pointwise
open VecWindow (window put)

/-- The overlaps with a class's kept boxes, lane by lane. -/
theorem pay25_apply (h : FVec Ideal S1x128 .f32) (a b c d : Ideal .f32) (w : Vec Ideal S1x1x128 .f32) (v1 v2 v3 v4 v5 : Vec Ideal S1x128 .f32) (l : Fin 128) :
    k1_pay25 h a b c d w v1 v2 v3 v4 v5 (ix2 0 l)
      = iouOf ⟨v1 (ix2 0 l), v2 (ix2 0 l), v3 (ix2 0 l), v4 (ix2 0 l), v5 (ix2 0 l)⟩ ⟨a, b, c, d, k1_pay23 h w⟩ := by
  pointwise [k1_pay25, iouOf, inter]
  simp only [min_comm, max_comm]

/-- The scores after suppression, place by place. -/
theorem pay12_apply (a b c d e : Ideal .f32) (s : Vec Ideal S160x128 .f32) (v1 v2 v3 v4 v5 : Vec Ideal S1x160x128 .f32) (q : P) :
    k1_pay12 a b c d e s v1 v2 v3 v4 v5 (ix2 q.1 q.2)
      = if Ideal.ofBits .f32 0x3EE66666#32 < iouOf ⟨a, b, c, d, e⟩ ⟨v2 (ix3 0 q.1 q.2), v4 (ix3 0 q.1 q.2), v1 (ix3 0 q.1 q.2), v3 (ix3 0 q.1 q.2), v5 (ix3 0 q.1 q.2)⟩
        then Ideal.ofBits .f32 0xBF800000#32 else s (ix2 q.1 q.2) := by
  pointwise [k1_pay12, iouOf, inter]

/-- Whether some overlap is above the threshold, as a fold. -/
theorem pay26_apply (v : FVec Ideal S1x128 .f32) : k1_pay26 v
    = Finset.univ.fold max (⊥ : EReal) fun x : Fin 1 × Fin 128 => if Ideal.ofBits .f32 0x3EE66666#32 < v (ix2 0 x.2) then (1 : EReal) else 0 := by
  pointwise [k1_pay26]
  rw [c_bot]

/-- A fold of word additions is the word of the sum. -/
theorem fold_addi {ι : Type} (s : Finset ι) (g : ι → ℕ) :
    s.fold IntOp.addi (0#32) (fun x => BitVec.ofNat 32 (g x)) = BitVec.ofNat 32 (∑ x ∈ s, g x) := by
  classical
  induction s using Finset.induction_on with
  | empty => rfl
  | insert a s ha ih =>
    rw [Finset.fold_insert ha, ih, Finset.sum_insert ha]
    simp [IntOp.addi, BitVec.ofNat_add]

/-- How many lanes of a row are taken. -/
def taken (r : Fin 128 → EReal) : ℕ := ∑ l : Fin 128, if Ideal.ofBits .f32 0xCDEE6B28#32 < r l then 1 else 0

/-- At most 128 are taken. -/
theorem taken_le (r : Fin 128 → EReal) : taken r ≤ 128 := by
  unfold taken
  refine (Finset.sum_le_card_nsmul _ _ 1 fun l _ => ?_).trans (by simp)
  split <;> omega

/-- The count of kept boxes, as a word. -/
theorem pay27_apply (v : Vec Ideal S1x128 .f32) : extractAt ![0, 0, 0] (k1_pay27 v) inpos_S1x1x1_p0_0_0 = BitVec.ofNat 32 (taken fun l => v (ix2 0 l)) := by
  pointwise [k1_pay27]
  simp only [Routing.setWidth_ofBool]
  rw [fold_addi, Fintype.sum_prod_type]
  simp [taken]

/-- The count's test: the row is full. -/
theorem sge_128 {n : ℕ} (hn : n ≤ 128) : Scalar.cmpi .sge (BitVec.ofNat 32 n) 128#32 = 1#1 ↔ n = 128 := by
  have hi : (BitVec.ofNat 32 n).toInt = n := by
    rw [BitVec.toInt_ofNat']; simp only [Int.bmod]; omega
  show BitVec.ofBool (BitVec.sle 128#32 (BitVec.ofNat 32 n)) = 1#1 ↔ _
  have hb : ∀ b : Bool, BitVec.ofBool b = 1#1 ↔ b = true := by decide
  rw [hb]
  unfold BitVec.sle
  rw [hi, show (128#32 : BitVec 32).toInt = 128 from rfl, decide_eq_true_iff]
  omega

section At

variable {I : Ins Ideal} {σ : St Ideal} {p : P} {c : Fin 80} (h : σ.pos = BitVec.ofNat 32 (num p)) (h1 : k1_chk1 σ.pos)
  (hc : σ.cls I h1 = BitVec.ofNat 32 c)

omit h in
include hc in
/-- The class's row is read at the class. -/
theorem off3 : k1_off3 (σ.cls I h1) = ![c.val, 0] := by
  have : (σ.cls I h1).toNat = c.val := by
    have := c.isLt
    rw [hc, BitVec.toNat_ofNat]; omega
  rw [← this]; rfl

omit h in
include hc in
/-- The check of the class's row passes. -/
theorem chk2 : k1_chk2 (σ.cls I h1) := by
  have := c.isLt
  unfold k1_chk2
  rw [off3 h1 hc]
  intro a
  fin_cases a
  · show c.val + 1 ≤ 80; omega
  · show 0 + 128 ≤ 128; omega

include h in
/-- The class, if the place's class is a number under 80. -/
theorem cls_eq (hj : I.j (ix3 0 p.1 p.2) = ((c.val : ℝ) : EReal)) : σ.cls I h1 = BitVec.ofNat 32 c := by
  have := c.isLt
  unfold St.cls
  rw [bj_eq h h1, hj]
  exact fptosi_nat (by omega)

variable (h2 : k1_chk2 (σ.cls I h1))

omit h in
include hc in
/-- The row read is the class's. -/
theorem slot_apply (x : Vec Ideal S80x128 .f32) (l : Fin 128) : slot I σ h1 h2 x (ix2 0 l) = x (ix2 c l) :=
  window_row2 x c.isLt (off3 h1 hc) _ l

include h hc in
/-- The overlaps. -/
theorem iou_apply (l : Fin 128) : iou I σ h1 h2 (ix2 0 l) = iouOf (slotAt σ c l) (boxAt I p) := by
  unfold iou
  rw [pay25_apply, slot_apply h1 hc h2, slot_apply h1 hc h2, slot_apply h1 hc h2, slot_apply h1 hc h2, slot_apply h1 hc h2, bx1_eq h h1, by1_eq h h1,
    bx2_eq h h1, by2_eq h h1, show k1_pay23 (hot σ) (pick2 σ h1 I.a) = _ from ba_eq (I := I) h h1]
  rfl

/-- The popped box overlaps no kept box of its class too much. -/
def Keeps (I : Ins Ideal) (σ : St Ideal) (p : P) (c : Fin 80) : Prop := ∀ l, ¬ Over (slotAt σ c l) (boxAt I p)

/-- A bit that is not one is zero. -/
theorem bit_ne {b : BitVec 1} (hb : ¬ b = 1#1) : b = 0#1 := by revert b; decide

include h hc in
/-- It is kept exactly then. -/
theorem keep_iff : keep I σ h1 h2 = 1#1 ↔ Keeps I σ p c := by
  have hx : ∀ b : Bool, Scalar.xori (BitVec.ofBool b) 1#1 = 1#1 ↔ b = false := by decide
  unfold keep
  rw [pay26_apply]
  simp only [iou_apply h h1 hc h2]
  show Scalar.xori (BitVec.ofBool (decide (Ideal.ofBits .f32 0x00000000#32 < _))) 1#1 = 1#1 ↔ _
  rw [hx, decide_eq_false_iff_not, Ideal.ofBits_zero_f32]
  constructor
  · intro hn l ho
    refine hn (lt_of_lt_of_le ?_ (fold_max_ge (fun x : Fin 1 × Fin 128 => if Ideal.ofBits .f32 0x3EE66666#32 < iouOf (slotAt σ c x.2) (boxAt I p) then (1 : EReal) else 0) (0, l)))
    exact lt_of_lt_of_eq zero_lt_one (if_pos ho).symm
  · intro hk hlt
    have : Finset.univ.fold max (⊥ : EReal) (fun x : Fin 1 × Fin 128 => if Ideal.ofBits .f32 0x3EE66666#32 < iouOf (slotAt σ c x.2) (boxAt I p) then (1 : EReal) else 0) ≤ 0 :=
      (Finset.fold_max_le _).mpr ⟨bot_le, fun x _ => (if_neg (hk x.2)).le⟩
    exact absurd hlt (not_lt.mpr this)

/-- How many boxes of a class are kept. -/
def kept (σ : St Ideal) (c : Fin 80) : ℕ := taken fun l => σ.r3 (ix2 c l)

omit h in
include hc in
/-- The count is the number kept. -/
theorem count_eq : count I σ h1 h2 = BitVec.ofNat 32 (kept σ c) := by
  unfold count
  rw [pay27_apply]
  simp only [slot_apply h1 hc h2]
  rfl

omit h in
include hc in
/-- Suppression at once happens when the box is kept and the row is full. -/
theorem eager_iff : eager I σ h1 h2 = 1#1 ↔ keep I σ h1 h2 = 1#1 ∧ kept σ c = 128 := by
  have hb : ∀ a b : BitVec 1, Scalar.cmpi .ne (Scalar.extui (Scalar.andi a b) : BitVec 32) 0#32 = 1#1 ↔ a = 1#1 ∧ b = 1#1 := by decide
  have hle : kept σ c ≤ 128 := taken_le _
  unfold eager
  rw [hb, count_eq h1 hc h2]
  refine and_congr_right fun _ => ?_
  exact sge_128 hle

omit h in
include hc in
/-- The lanes the trip writes. -/
theorem pay28_sel {α : Type} (l : Fin 128) (x y : α) :
    Scalar.select (k1_pay28 lanes (slot I σ h1 h2 σ.r3) (iou I σ h1 h2) (ix2 0 l)) x y
      = if keep I σ h1 h2 = 1#1 ∧ kept σ c = l then x else y := by
  have hle : kept σ c ≤ 128 := taken_le _
  have hl := l.isLt
  have e : k1_pay28 lanes (slot I σ h1 h2 σ.r3) (iou I σ h1 h2) (ix2 0 l)
      = IntOp.cmpi .eq (BitVec.ofNat 32 l) (Scalar.select (keep I σ h1 h2) (count I σ h1 h2) 4294967295#32) := by
    generalize hw : slot I σ h1 h2 σ.r3 = w
    unfold keep count
    rw [hw]
    generalize iou I σ h1 h2 = v
    pointwise [k1_pay28]
  rw [e, count_eq h1 hc h2]
  by_cases hk : keep I σ h1 h2 = 1#1
  · rw [hk, show Scalar.select 1#1 (BitVec.ofNat 32 (kept σ c)) 4294967295#32 = BitVec.ofNat 32 (kept σ c) from rfl, select_nat (by omega) (by omega)]
    by_cases he : l.val = kept σ c
    · rw [if_pos he, if_pos ⟨rfl, he.symm⟩]
    · rw [if_neg he, if_neg fun hh => he hh.2.symm]
  · rw [bit_ne hk, show Scalar.select 0#1 (BitVec.ofNat 32 (kept σ c)) 4294967295#32 = BitVec.ofNat 32 4294967295 from rfl, select_nat (by omega) (by omega),
      if_neg (by omega), if_neg fun hh => absurd hh.1 (by decide)]

end At

end Cert.KernelIdeal.Nms

end
-- ==== Proof.Ker.Next.lean ====
/-
  What one trip of the second kernel's loop leaves, over extended reals, entry by entry.
-/
module

public import proofs.«01_k».proof.Proof.Ker.Trip2

@[expose] public section

set_option maxRecDepth 16384

noncomputable section

namespace Cert.KernelIdeal.Nms

open Cert.KernelIdeal Cert.KernelIdeal.Gen
open Idealize.ShloMosaic Idealize.ShloMosaic.TcCoe
open Idealize.ShloMosaic.Pointwise
open VecWindow (window put)

/-- The greatest of the suppressed scores, as a fold. -/
theorem pay36_apply (v : FVec Ideal S160x128 .f32) : k1_pay36 v = Finset.univ.fold max (⊥ : EReal) fun x : P => v (ix2 x.1 x.2) := by
  pointwise [k1_pay36]
  rw [c_bot]

/-- The scores stored are the suppressed ones. -/
theorem pay35_apply (v : FVec Ideal S160x128 .f32) : k1_pay35 v = v := by
  funext i
  pointwise [k1_pay35]

/-- A place's column of the result, at a greatest score. -/
def colOf (I : Ins Ideal) (p : P) (m : EReal) (i : Fin 8) : EReal :=
  if i.val = 0 then I.ux1 (ix3 0 p.1 p.2) else if i.val = 1 then I.uy1 (ix3 0 p.1 p.2) else if i.val = 2 then I.ux2 (ix3 0 p.1 p.2)
  else if i.val = 3 then I.uy2 (ix3 0 p.1 p.2) else if i.val = 4 then m else if i.val = 5 then I.j (ix3 0 p.1 p.2) else 0

/-- The result's column written in a trip, place by place. -/
theorem pay4_apply (k : BitVec 32) (m : Ideal .f32) (acc : FVec Ideal S8x1024 .f32) (j : Ideal .f32) (b : BitVec 1)
    (u1 u2 u3 : FVec Ideal S1x1 .f32) (u4 : FVec Ideal S1x1x128 .f32) (i : Fin 8) (l : Fin 1024) :
    k1_pay4 cols k m acc j b u1 u2 u3 u4 (ix2 i l)
      = Scalar.select (IntOp.cmpi .eq (BitVec.ofNat 32 l) (Scalar.select b k 4294967295#32))
        (if i.val = 0 then u1 (ix2 0 0) else if i.val = 1 then u2 (ix2 0 0) else if i.val = 2 then u3 (ix2 0 0)
          else if i.val = 3 then ∑ x : Fin 128, u4 (ix3 0 0 x) else if i.val = 4 then m else if i.val = 5 then j else 0) (acc (ix2 i l)) := by
  pointwise [k1_pay4]
  fin_vals i with hi
  all_goals simp [hi]

/-- The first unshifted number picked. -/
theorem pay37_apply (w : BitVec 32) (v : Vec Ideal S1x1x128 .f32) : k1_pay37 (k1_pay18 (F := Ideal) lanes w) v (ix2 0 0) = k1_pay19 lanes w v := by
  pointwise [k1_pay37, k1_pay19, k1_pay18]
/-- The second unshifted number picked. -/
theorem pay38_apply (w : BitVec 32) (v : Vec Ideal S1x1x128 .f32) : k1_pay38 (k1_pay18 (F := Ideal) lanes w) v (ix2 0 0) = k1_pay19 lanes w v := by
  pointwise [k1_pay38, k1_pay19, k1_pay18]
/-- The third unshifted number picked. -/
theorem pay39_apply (w : BitVec 32) (v : Vec Ideal S1x1x128 .f32) : k1_pay39 (k1_pay18 (F := Ideal) lanes w) v (ix2 0 0) = k1_pay19 lanes w v := by
  pointwise [k1_pay39, k1_pay19, k1_pay18]
/-- The fourth unshifted number picked. -/
theorem pay40_apply (w : BitVec 32) (v : Vec Ideal S1x1x128 .f32) :
    ∑ x : Fin 128, k1_pay40 (k1_pay18 (F := Ideal) lanes w) v (ix3 0 0 x) = k1_pay19 lanes w v := by
  rw [pay19_apply]
  refine Finset.sum_congr rfl fun x _ => ?_
  pointwise [k1_pay40, k1_pay18]

/-- Overlap is a comparison. -/
instance (p q : Box) : Decidable (Over p q) := by
  unfold Over
  infer_instance

section At

variable {I : Ins Ideal} {σ : St Ideal} {p : P} {c : Fin 80} (h : σ.pos = BitVec.ofNat 32 (num p)) (h1 : k1_chk1 σ.pos)
  (hc : σ.cls I h1 = BitVec.ofNat 32 c) (h2 : k1_chk2 (σ.cls I h1))

include h in
/-- The remaining scores after suppressing at once. -/
theorem sup_apply (q : P) : sup I σ h1 (ix2 q.1 q.2)
    = if Over (boxAt I p) (boxAt I q) then Ideal.ofBits .f32 0xBF800000#32 else s1 σ h1 (ix2 q.1 q.2) := by
  unfold sup
  rw [pay12_apply, bx1_eq h h1, by1_eq h h1, bx2_eq h h1, by2_eq h h1, ba_eq h h1]
  exact if_congr Iff.rfl rfl rfl

include h in
/-- The remaining scores. -/
theorem next_s (q : P) : (σ.next I h1 h2).s (ix2 q.1 q.2)
    = if q = p ∨ (eager I σ h1 h2 = 1#1 ∧ Over (boxAt I p) (boxAt I q)) then Ideal.ofBits .f32 0xBF800000#32 else σ.s (ix2 q.1 q.2) := by
  show (if eager I σ h1 h2 = 1#1 then k1_pay35 (sup I σ h1) else s1 σ h1) (ix2 q.1 q.2) = _
  by_cases he : eager I σ h1 h2 = 1#1
  · rw [if_pos he, pay35_apply, sup_apply h h1, s1_apply h h1]
    by_cases ho : Over (boxAt I p) (boxAt I q)
    · rw [if_pos ho, if_pos (.inr ⟨he, ho⟩)]
    · rw [if_neg ho]
      exact if_congr ⟨Or.inl, fun hh => hh.resolve_right fun hx => ho hx.2⟩ rfl rfl
  · rw [if_neg he, s1_apply h h1]
    exact if_congr ⟨Or.inl, fun hh => hh.resolve_right fun hx => he hx.1⟩ rfl rfl

/-- The value carried is again the greatest of them. -/
theorem next_top (hf : First σ p) : Top (σ.next I h1 h2) := by
  unfold Top
  show (if eager I σ h1 h2 = 1#1 then k1_pay36 (sup I σ h1) else m1 σ)
    = Finset.univ.fold max (⊥ : EReal) fun x : P => (if eager I σ h1 h2 = 1#1 then k1_pay35 (sup I σ h1) else s1 σ h1) (ix2 x.1 x.2)
  by_cases he : eager I σ h1 h2 = 1#1
  · simp only [if_pos he, pay35_apply]
    exact pay36_apply _
  · simp only [if_neg he]
    exact m1_apply hf h1

include hc h in
/-- The kept boxes. -/
theorem next_slot (c' : Fin 80) (l : Fin 128) : slotAt (σ.next I h1 h2) c' l
    = if c' = c ∧ keep I σ h1 h2 = 1#1 ∧ kept σ c = l then boxAt I p else slotAt σ c' l := by
  have key : ∀ (x : Vec Ideal S80x128 .f32) (b : Ideal .f32) (w : FVec Ideal S1x128 .f32)
      (hw : ∀ l : Fin 128, w (ix2 0 l) = Scalar.select (k1_pay28 lanes (slot I σ h1 h2 σ.r3) (iou I σ h1 h2) (ix2 0 l)) b (slot I σ h1 h2 x (ix2 0 l))),
      put x (k1_off3 (σ.cls I h1)) S1x128.size w (ix2 c' l) = if c' = c ∧ keep I σ h1 h2 = 1#1 ∧ kept σ c = l then b else x (ix2 c' l) := by
    intro x b w hw
    refine (put_row2 x (off3 h1 hc) w c' l).trans ?_
    by_cases hcc : c' = c
    · subst hcc
      rw [if_pos rfl, hw, pay28_sel h1 hc h2, slot_apply h1 hc h2]
      exact if_congr ⟨fun hh => ⟨rfl, hh⟩, fun hh => hh.2⟩ rfl rfl
    · rw [if_neg (fun e => hcc (Fin.ext e)), if_neg fun hh => hcc hh.1]
  have e1 : (σ.next I h1 h2).r1 (ix2 c' l) = _ := key σ.r1 (bx1 I σ h1) _ fun l => by
    generalize slot I σ h1 h2 σ.r1 = w; generalize slot I σ h1 h2 σ.r3 = w3; generalize iou I σ h1 h2 = v
    pointwise [k1_pay29]
  have e2 : (σ.next I h1 h2).r2 (ix2 c' l) = _ := key σ.r2 (by1 I σ h1) _ fun l => by
    generalize slot I σ h1 h2 σ.r2 = w; generalize slot I σ h1 h2 σ.r3 = w3; generalize iou I σ h1 h2 = v
    pointwise [k1_pay30]
  have e3 : (σ.next I h1 h2).r3 (ix2 c' l) = _ := key σ.r3 (bx2 I σ h1) _ fun l => by
    generalize slot I σ h1 h2 σ.r3 = w3; generalize iou I σ h1 h2 = v
    pointwise [k1_pay31]
  have e4 : (σ.next I h1 h2).r4 (ix2 c' l) = _ := key σ.r4 (by2 I σ h1) _ fun l => by
    generalize slot I σ h1 h2 σ.r4 = w; generalize slot I σ h1 h2 σ.r3 = w3; generalize iou I σ h1 h2 = v
    pointwise [k1_pay33, k1_pay32]
  have e5 : (σ.next I h1 h2).r5 (ix2 c' l) = _ := key σ.r5 (ba I σ h1) _ fun l => by
    generalize slot I σ h1 h2 σ.r5 = w; generalize k1_pay28 lanes (slot I σ h1 h2 σ.r3) (iou I σ h1 h2) = v
    pointwise [k1_pay34]
  unfold slotAt
  rw [e1, e2, e3, e4, e5, bx1_eq h h1, by1_eq h h1, bx2_eq h h1, by2_eq h h1, ba_eq h h1]
  by_cases hh : c' = c ∧ keep I σ h1 h2 = 1#1 ∧ kept σ c = l
  · simp only [if_pos hh]
  · simp only [if_neg hh]

include h in
/-- The result so far. -/
theorem next_acc {n : ℕ} (hn : n < 1024) (hk : σ.k = BitVec.ofNat 32 n) (i : Fin 8) (l : Fin 1024) : (σ.next I h1 h2).acc (ix2 i l)
    = if keep I σ h1 h2 = 1#1 ∧ l.val = n then colOf I p σ.m i else σ.acc (ix2 i l) := by
  have hl := l.isLt
  show k1_pay4 cols σ.k σ.m σ.acc (bj I σ h1) (keep I σ h1 h2) (k1_pay37 (hot σ) (pick4 σ h1 I.ux1)) (k1_pay38 (hot σ) (pick4 σ h1 I.uy1))
    (k1_pay39 (hot σ) (pick4 σ h1 I.ux2)) (k1_pay40 (hot σ) (pick4 σ h1 I.uy2)) (ix2 i l) = _
  rw [pay4_apply, pay37_apply, pay38_apply, pay39_apply, pay40_apply, pick_sum4 h h1, pick_sum4 h h1, pick_sum4 h h1, pick_sum4 h h1, bj_eq h h1, hk]
  show Scalar.select _ (colOf I p σ.m i) _ = _
  by_cases hb : keep I σ h1 h2 = 1#1
  · rw [hb, show Scalar.select 1#1 (BitVec.ofNat 32 n) 4294967295#32 = BitVec.ofNat 32 n from rfl, select_nat (by omega) (by omega)]
    exact if_congr ⟨fun hh => ⟨rfl, hh⟩, fun hh => hh.2⟩ rfl rfl
  · rw [bit_ne hb, show Scalar.select 0#1 (BitVec.ofNat 32 n) 4294967295#32 = BitVec.ofNat 32 4294967295 from rfl, select_nat (by omega) (by omega),
      if_neg (by omega), if_neg fun hh => absurd hh.1 (by decide)]

/-- How many are kept. -/
theorem next_k {n : ℕ} (hk : σ.k = BitVec.ofNat 32 n) : (σ.next I h1 h2).k = BitVec.ofNat 32 (if keep I σ h1 h2 = 1#1 then n + 1 else n) := by
  show Scalar.addi σ.k (Scalar.extui (keep I σ h1 h2)) = _
  rw [hk]
  by_cases hb : keep I σ h1 h2 = 1#1
  · rw [if_pos hb, hb, BitVec.ofNat_add]; rfl
  · rw [if_neg hb, bit_ne hb]
    show BitVec.ofNat 32 n + 0#32 = _
    rw [BitVec.add_zero]

/-- Is there a trip to run. -/
theorem test_iff {n : ℕ} (hn : n < 2 ^ 31) (hk : σ.k = BitVec.ofNat 32 n) : σ.test = 1#1 ↔ n < 1000 ∧ 0 < σ.m := by
  have hi : (BitVec.ofNat 32 n).toInt = n := by
    rw [BitVec.toInt_ofNat']; simp only [Int.bmod]; omega
  have hb : ∀ a b : Bool, Scalar.andi (BitVec.ofBool a) (BitVec.ofBool b) = 1#1 ↔ a = true ∧ b = true := by decide
  unfold St.test
  rw [hk]
  show Scalar.andi (BitVec.ofBool (BitVec.slt (BitVec.ofNat 32 n) 1000#32)) (BitVec.ofBool (decide (Ideal.ofBits .f32 0x00000000#32 < σ.m))) = 1#1 ↔ _
  rw [hb, Ideal.ofBits_zero_f32]
  unfold BitVec.slt
  rw [hi, show (1000#32 : BitVec 32).toInt = 1000 from rfl, decide_eq_true_iff, decide_eq_true_iff]
  refine and_congr_left fun _ => ?_
  omega

end At

end Cert.KernelIdeal.Nms

end
-- ==== Proof.Ker.Own.lean ====
/-
  Loads and unmasked stores on a memref held whole, read as functions on the shape's own indices: the rules that the two
  kernels' bodies are run by.
-/
module

public import Idealize.ShloMosaic.Lib.Tactic
public import Idealize.ShloMosaic.Lib.VecWindow
public import Idealize.ShloMosaic.Lib.Memref

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {nD : Nat} {τ : Topo} {sig : RefSig} {Ix : Type} [DecidableEq Ix] {Val : EltTy → Type} {Λ : Labels} {Name : Type} [DecidableEq Name]
variable {U : Type} [URA U] {Lvl : Type} [Preorder Lvl]

local notation "𝕄" => MT nD τ sig Ix Val Name U Lvl

variable {defs : Defs nD τ sig Val Λ} (𝒱 : Variants) (c : Thread nD τ) (bd : Option 𝒱.V) (E : Set Name) {α : Type}

/-- Storing the whole of a memref leaves the payload, whatever was there. -/
theorem put_full {s : Shape} {β : Type} (x : s.Idx → β) (off : Fin s.rank → ℕ) (inb : ∀ a, off a + s.size a ≤ s.size a)
    (w : s.Idx → β) : put x off s.size w = w := by
  funext y
  have h0 : ∀ a, off a = 0 := fun a => by have := inb a; omega
  have hy : ∀ a, off a ≤ (y a).val ∧ (y a).val < off a + s.size a := fun a => by rw [h0 a]; have := (y a).isLt; omega
  unfold put
  rw [dif_pos hy]
  exact congrArg w (funext fun a => Fin.ext (by show (y a).val - off a = _; rw [h0 a]; rfl))

/-- Loading the whole of a memref reads what it holds. -/
theorem window_full {s : Shape} {β : Type} (x : s.Idx → β) (off : Fin s.rank → ℕ) (inb : ∀ a, off a + s.size a ≤ s.size a) :
    window x off s.size inb = x := by
  funext y
  exact congrArg x (funext fun a => Fin.ext (by
    show off a + 1 * (y a).val = (y a).val
    have := inb a; omega))

/-- A load through a unit-stride rectangle of a memref held at `X` continues at that window of `X`. -/
theorem own_load {cs : CoreSpace} {s : Shape} {e : EltTy} {m : Memref sig c.2.kind cs s e} {off size : Fin s.rank → ℕ}
    {inb : ∀ a, off a + size a ≤ s.size a} {hl : m.view.LoadsAt (Rect.unit off size inb).toLoadRect}
    {k : ((Rect.unit off size inb).shape.Idx → Val e) → Prog (TpuEff nD τ sig Val Λ c.2) α} {q : PosShare TreeShare} {X : s.Idx → Val e} {Q : α → sProp 𝕄} :
    (owns c m q X : sProp 𝕄)
      ⊢ iprop((owns c m q X -∗ wp frame (wpE defs 𝒱 c bd) E (k (window X off size inb)) Q)
        -∗ wp frame (wpE defs 𝒱 c bd) E (.op (.load m (Rect.unit off size inb).toLoadRect hl) k) Q) := by
  unfold owns
  iintro ⟨%f, %hf, H⟩ Hk
  iapply (wp_load 𝒱 c bd E (m := m) (S := m.view.set) (by rw [View.set]; exact Finset.map_subset_map.mpr (Finset.subset_univ _))) $$ H
  iintro H
  rw [show m.view.readAt Val (Rect.unit off size inb).toLoadRect f = window X off size inb by subst hf; rfl]
  iapply Hk
  iexists f; isplitr; · ipureintro; exact hf
  iexact H

/-- A load of the whole of a memref held at `X` continues at `X`. -/
theorem own_load_full {cs : CoreSpace} {s : Shape} {e : EltTy} {m : Memref sig c.2.kind cs s e} {off : Fin s.rank → ℕ}
    {inb : ∀ a, off a + s.size a ≤ s.size a} {hl : m.view.LoadsAt (Rect.unit off s.size inb).toLoadRect}
    {k : (s.Idx → Val e) → Prog (TpuEff nD τ sig Val Λ c.2) α} {q : PosShare TreeShare} {X : s.Idx → Val e} {Q : α → sProp 𝕄} :
    (owns c m q X : sProp 𝕄)
      ⊢ iprop((owns c m q X -∗ wp frame (wpE defs 𝒱 c bd) E (k X) Q)
        -∗ wp frame (wpE defs 𝒱 c bd) E (.op (.load m (Rect.unit off s.size inb).toLoadRect hl) k) Q) := by
  have h := own_load (defs := defs) (𝒱 := 𝒱) (c := c) (bd := bd) (E := E) (Q := Q) (m := m) (off := off) (size := s.size) (inb := inb) (hl := hl)
    (k := k) (q := q) (X := X)
  rwa [window_full] at h

/-- An unmasked store through a unit-stride rectangle of a memref held at `X` leaves `X` with the payload put there. -/
theorem own_store {cs : CoreSpace} {s : Shape} {e : EltTy} {m : Memref sig c.2.kind cs s e} {off size : Fin s.rank → ℕ}
    {inb : ∀ a, off a + size a ≤ s.size a} {w : (Rect.unit off size inb).shape.Idx → Val e}
    {hx : (m.access (Rect.unit off size inb)).Stores Finset.univ} {hm : (Finset.univ : Finset (Rect.unit off size inb).shape.Idx) = Finset.univ ∨ ∀ a, (Rect.unit off size inb).stride a = 1}
    {k : PUnit → Prog (TpuEff nD τ sig Val Λ c.2) α} {X : s.Idx → Val e} {Q : α → sProp 𝕄} :
    (owns c m fullShare X : sProp 𝕄)
      ⊢ iprop((owns c m fullShare (put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  iapply (wp_store 𝒱 c bd E (m := m) (r := Rect.unit off size inb) (S := (m.view.set : Finset (m.view.ty.Idx))) (by
    intro i hi
    have : (m.access (Rect.unit off size inb)).setOn Finset.univ ⊆ m.view.set := by
      show (m.view.slice _).set ⊆ _
      rw [View.set_slice]; exact Finset.map_subset_map.mpr (Finset.subset_univ _)
    exact this hi)) $$ H
  iintro H
  iapply Hk
  iexists _; isplitr; swap; · iexact H
  ipureintro
  subst hf
  exact View.read_writes_cons_put m.view f inb w [] rfl

/-- An unmasked store of the whole of a memref leaves the payload. -/
theorem own_store_full {cs : CoreSpace} {s : Shape} {e : EltTy} {m : Memref sig c.2.kind cs s e} {off : Fin s.rank → ℕ}
    {inb : ∀ a, off a + s.size a ≤ s.size a} {w : s.Idx → Val e}
    {hx : (m.access (Rect.unit off s.size inb)).Stores Finset.univ} {hm : (Finset.univ : Finset (Rect.unit off s.size inb).shape.Idx) = Finset.univ ∨ ∀ a, (Rect.unit off s.size inb).stride a = 1}
    {k : PUnit → Prog (TpuEff nD τ sig Val Λ c.2) α} {X : s.Idx → Val e} {Q : α → sProp 𝕄} :
    (owns c m fullShare X : sProp 𝕄)
      ⊢ iprop((owns c m fullShare w -∗ wp frame (wpE defs 𝒱 c bd) E (k ⟨⟩) Q)
        -∗ wp frame (wpE defs 𝒱 c bd) E (.op (.store m (Rect.unit off s.size inb) w Finset.univ hx hm) k) Q) := by
  have h := own_store (defs := defs) (𝒱 := 𝒱) (c := c) (bd := bd) (E := E) (Q := Q) (m := m) (off := off) (size := s.size) (inb := inb) (hx := hx)
    (hm := hm) (w := w) (k := k) (X := X)
  rwa [put_full X off inb w] at h

end Cert.Proof

end
-- ==== Proof.Ker.Loop.lean ====
/-
  The second kernel's loop, run: what its label does from held buffers is what `Runs` says.
-/
module

public import proofs.«01_k».proof.Proof.Ker.Own
public import proofs.«01_k».proof.Proof.Ker.Step
public import Idealize.ShloMosaic.Lib.Tactic

@[expose] public section

noncomputable section

namespace Cert.KernelIdeal.Nms

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

variable {F : FTy → Type} [FloatOps F]

/-- The ghost state of a run: the rounds library's, for the pipeline's cells. -/
abbrev UR (nD : Nat) (τ : Topo) : Type := URounds (GSem nD τ sig) Unit

local notation "𝕄" => MT nD τ sig Unit (Elt F) ℕ (UR nD τ) ℕ

/-- A call is answered at a natural number below the caller's. -/
abbrev 𝒱₀ : Variants := Variants.nat

/-- The memory the kernel works on: the eleven blocks read, the block written, the six scratch arrays and the scalar. -/
structure Mems where
  m1 : Memref sig .tc .vmem S1x160x128 .f32
  h1 : m1.IsWhole
  m2 : Memref sig .tc .vmem S1x160x128 .f32
  h2 : m2.IsWhole
  m3 : Memref sig .tc .vmem S1x160x128 .f32
  h3 : m3.IsWhole
  m4 : Memref sig .tc .vmem S1x160x128 .f32
  h4 : m4.IsWhole
  m5 : Memref sig .tc .vmem S1x160x128 .f32
  h5 : m5.IsWhole
  m6 : Memref sig .tc .vmem S1x160x128 .f32
  h6 : m6.IsWhole
  m7 : Memref sig .tc .vmem S1x160x128 .f32
  h7 : m7.IsWhole
  m8 : Memref sig .tc .vmem S1x160x128 .f32
  h8 : m8.IsWhole
  m9 : Memref sig .tc .vmem S1x160x128 .f32
  h9 : m9.IsWhole
  m10 : Memref sig .tc .vmem S1x160x128 .f32
  h10 : m10.IsWhole
  m11 : Memref sig .tc .vmem S1x160x128 .f32
  h11 : m11.IsWhole
  m12 : Memref sig .tc .vmem S1x8x1024 .f32
  h12 : m12.IsWhole
  m13 : Memref sig .tc .vmem S160x128 .f32
  h13 : m13.IsWhole
  m14 : Memref sig .tc .vmem S80x128 .f32
  h14 : m14.IsWhole
  m15 : Memref sig .tc .vmem S80x128 .f32
  h15 : m15.IsWhole
  m16 : Memref sig .tc .vmem S80x128 .f32
  h16 : m16.IsWhole
  m17 : Memref sig .tc .vmem S80x128 .f32
  h17 : m17.IsWhole
  m18 : Memref sig .tc .vmem S80x128 .f32
  h18 : m18.IsWhole
  m19 : Memref sig .tc .smem S1 .f32
  h19 : m19.IsWhole

variable (c : Dev nD) (i : grid1.Coords) (A : Mems)

/-- The blocks read inside the loop, held. -/
def heldIns (I : Ins F) : sProp 𝕄 :=
  iprop(owns c A.m2 fullShare I.x1 ∗ owns c A.m3 fullShare I.y1 ∗ owns c A.m4 fullShare I.x2 ∗ owns c A.m5 fullShare I.y2
    ∗ owns c A.m6 fullShare I.a ∗ owns c A.m7 fullShare I.j ∗ owns c A.m8 fullShare I.ux1 ∗ owns c A.m9 fullShare I.uy1
    ∗ owns c A.m10 fullShare I.ux2 ∗ owns c A.m11 fullShare I.uy2)

/-- The scratch arrays and the scalar, held. -/
def heldSt (σ : St F) : sProp 𝕄 :=
  iprop(owns c A.m13 fullShare σ.s ∗ owns c A.m14 fullShare σ.r1 ∗ owns c A.m15 fullShare σ.r2 ∗ owns c A.m16 fullShare σ.r3
    ∗ owns c A.m17 fullShare σ.r4 ∗ owns c A.m18 fullShare σ.r5 ∗ owns c A.m19 fullShare σ.p)

/-- The loop's arguments at a state. -/
abbrev args (σ : St F) : (Λ₀ F).Args (2 : (Λ₀ F).Label) :=
  ⟨i, A.m13, A.h13, places, lanes, A.m19, A.h19, A.m2, A.h2, A.m3, A.h3, A.m4, A.h4, A.m5, A.h5, A.m6, A.h6, A.m7, A.h7,
    A.m14, A.h14, A.m15, A.h15, A.m16, A.h16, A.m17, A.h17, A.m18, A.h18, A.m8, A.h8, A.m9, A.h9, A.m10, A.h10, A.m11, A.h11,
    cols, σ.k, σ.m, σ.acc⟩

/-- What the loop's label does from a state `σ` that its trips take to `σ'`. -/
def spec (I : Ins F) (σ σ' : St F) : sWPT 𝕄 (BitVec 32 × F .f32 × FVec F S8x1024 .f32) := do
  sWPT.consume iprop(heldIns c A I ∗ heldSt c A σ)
  sWPT.produce iprop(heldIns c A I ∗ heldSt c A σ')
  pure (σ'.k, σ'.m, σ'.acc)

theorem spec_apply (I : Ins F) (σ σ' : St F) (K : BitVec 32 × F .f32 × FVec F S8x1024 .f32 → sProp 𝕄) :
    spec c A I σ σ' K = iprop(iprop(heldIns c A I ∗ heldSt c A σ) ∗ (iprop(heldIns c A I ∗ heldSt c A σ') -∗ K (σ'.k, σ'.m, σ'.acc))) := rfl

set_option maxRecDepth 8000 in
set_option maxHeartbeats 4000000 in
/-- The label meets its specification, by induction on the trips. -/
theorem spec_le (E : Set ℕ) (I : Ins F) {n : ℕ} {σ σ' : St F} (hr : Runs I n σ σ') :
    spec c A I σ σ' ≤ wp frame (wpE (defs₀ (F := F)) 𝒱₀ (c : Thread nD τ) (some n)) E (defs₀ (F := F) .tc 2 (args i A σ)) := by
  induction hr with
  | stop σ h =>
    intro K
    show _ ⊢ wp frame (wpE (defs₀ (F := F)) 𝒱₀ (c : Thread nD τ) (some 0)) E
      (cc1_while1 i A.m13 A.h13 places lanes A.m19 A.h19 A.m2 A.h2 A.m3 A.h3 A.m4 A.h4 A.m5 A.h5 A.m6 A.h6 A.m7 A.h7
        A.m14 A.h14 A.m15 A.h15 A.m16 A.h16 A.m17 A.h17 A.m18 A.h18 A.m8 A.h8 A.m9 A.h9 A.m10 A.h10 A.m11 A.h11 cols σ.k σ.m σ.acc) K
    rw [spec_apply]
    simp only [cc1_while1_eq_skeleton]; unfold cc1_while1_skel
    have h' : ¬ Scalar.andi (Scalar.cmpi .slt σ.k 1000#32) (Scalar.cmpf .ogt σ.m (Scalar.ofBits .f32 0x00000000#32)) = 1#1 := h
    simp only [h', ↓reduceIte, Prog.pure_eq_ret]
    iintro ⟨H, Hk⟩
    rw [wp_ret]; imodintro
    iapply Hk
    iexact H
  | @step n σ σ' h h1 h2 hr ih =>
    intro K
    show _ ⊢ wp frame (wpE (defs₀ (F := F)) 𝒱₀ (c : Thread nD τ) (some (n + 1))) E
      (cc1_while1 i A.m13 A.h13 places lanes A.m19 A.h19 A.m2 A.h2 A.m3 A.h3 A.m4 A.h4 A.m5 A.h5 A.m6 A.h6 A.m7 A.h7
        A.m14 A.h14 A.m15 A.h15 A.m16 A.h16 A.m17 A.h17 A.m18 A.h18 A.m8 A.h8 A.m9 A.h9 A.m10 A.h10 A.m11 A.h11 cols σ.k σ.m σ.acc) K
    rw [spec_apply]
    simp only [cc1_while1_eq_skeleton]; unfold cc1_while1_skel
    have h' : Scalar.andi (Scalar.cmpi .slt σ.k 1000#32) (Scalar.cmpf .ogt σ.m (Scalar.ofBits .f32 0x00000000#32)) = 1#1 := h
    simp only [h', ↓reduceIte, k1_part3_eq_skeleton, k1_part3_skel, Prog.lift, Prog.bind_op, Prog.bind_ret, Prog.pure_eq_ret]
    unfold heldIns heldSt
    iintro ⟨⟨⟨X1, Y1, X2, Y2, XA, XJ, U1, V1, U2, V2⟩, S, R1, R2, R3, R4, R5, P⟩, Hk⟩
    iapply (own_load_full 𝒱₀ (c : Thread nD τ) (some (n + 1)) E) $$ S; iintro S
    iapply (wp_assume 𝒱₀ (c : Thread nD τ) (some (n + 1)) E h1)
    iapply (own_load 𝒱₀ (c : Thread nD τ) (some (n + 1)) E) $$ S; iintro S
    iapply (own_load 𝒱₀ (c : Thread nD τ) (some (n + 1)) E) $$ S; iintro S
    iapply (own_store 𝒱₀ (c : Thread nD τ) (some (n + 1)) E) $$ S; iintro S
    simp only [k1_part4_eq_skeleton, k1_part4_skel, smemLoad, smemLoadElt, Prog.lift, Prog.bind_op, Prog.bind_ret, Prog.pure_eq_ret]
    iapply (own_load_full 𝒱₀ (c : Thread nD τ) (some (n + 1)) E) $$ P; iintro P
    iapply (own_store_full 𝒱₀ (c : Thread nD τ) (some (n + 1)) E) $$ P; iintro P
    iapply (own_load 𝒱₀ (c : Thread nD τ) (some (n + 1)) E) $$ X1; iintro X1
    iapply (own_load 𝒱₀ (c : Thread nD τ) (some (n + 1)) E) $$ Y1; iintro Y1
    iapply (own_load 𝒱₀ (c : Thread nD τ) (some (n + 1)) E) $$ X2; iintro X2
    iapply (own_load 𝒱₀ (c : Thread nD τ) (some (n + 1)) E) $$ Y2; iintro Y2
    simp only [k1_part5_eq_skeleton, k1_part5_skel, Prog.lift, Prog.bind_op, Prog.bind_ret, Prog.pure_eq_ret]
    iapply (own_load 𝒱₀ (c : Thread nD τ) (some (n + 1)) E) $$ XA; iintro XA
    iapply (own_load 𝒱₀ (c : Thread nD τ) (some (n + 1)) E) $$ XJ; iintro XJ
    iapply (wp_assume 𝒱₀ (c : Thread nD τ) (some (n + 1)) E h2)
    iapply (own_load 𝒱₀ (c : Thread nD τ) (some (n + 1)) E) $$ R1; iintro R1
    iapply (own_load 𝒱₀ (c : Thread nD τ) (some (n + 1)) E) $$ R2; iintro R2
    iapply (own_load 𝒱₀ (c : Thread nD τ) (some (n + 1)) E) $$ R3; iintro R3
    iapply (own_load 𝒱₀ (c : Thread nD τ) (some (n + 1)) E) $$ R4; iintro R4
    iapply (own_load 𝒱₀ (c : Thread nD τ) (some (n + 1)) E) $$ R5; iintro R5
    simp only [k1_part6_eq_skeleton, k1_part6_skel, Prog.lift, Prog.bind_op, Prog.bind_ret, Prog.pure_eq_ret]
    iapply (own_load 𝒱₀ (c : Thread nD τ) (some (n + 1)) E) $$ R1; iintro R1
    iapply (own_store 𝒱₀ (c : Thread nD τ) (some (n + 1)) E) $$ R1; iintro R1
    iapply (own_load 𝒱₀ (c : Thread nD τ) (some (n + 1)) E) $$ R2; iintro R2
    iapply (own_store 𝒱₀ (c : Thread nD τ) (some (n + 1)) E) $$ R2; iintro R2
    iapply (own_load 𝒱₀ (c : Thread nD τ) (some (n + 1)) E) $$ R3; iintro R3
    iapply (own_store 𝒱₀ (c : Thread nD τ) (some (n + 1)) E) $$ R3; iintro R3
    iapply (own_load 𝒱₀ (c : Thread nD τ) (some (n + 1)) E) $$ R4; iintro R4
    simp only [k1_part7_eq_skeleton, k1_part7_skel, k1_part2_eq_skeleton, k1_part2_skel, Prog.lift, Prog.bind_op, Prog.bind_ret, Prog.pure_eq_ret]
    iapply (own_store 𝒱₀ (c : Thread nD τ) (some (n + 1)) E) $$ R4; iintro R4
    iapply (own_load 𝒱₀ (c : Thread nD τ) (some (n + 1)) E) $$ R5; iintro R5
    iapply (own_store 𝒱₀ (c : Thread nD τ) (some (n + 1)) E) $$ R5; iintro R5
    by_cases he : eager I σ h1 h2 = 1#1
    · have hs : (σ.next I h1 h2).s = k1_pay35 (sup I σ h1) := if_pos he
      have hp : (σ.next I h1 h2).p = fun _ => k1_pay36 (sup I σ h1) := if_pos he
      have hm : (σ.next I h1 h2).m = k1_pay36 (sup I σ h1) := if_pos he
      rw [if_pos]
      swap
      · exact he
      simp only [Prog.bind_op, Prog.bind_ret]
      iapply (own_load_full 𝒱₀ (c : Thread nD τ) (some (n + 1)) E) $$ S; iintro S
      iapply (own_load_full 𝒱₀ (c : Thread nD τ) (some (n + 1)) E) $$ X2; iintro X2
      iapply (own_load_full 𝒱₀ (c : Thread nD τ) (some (n + 1)) E) $$ X1; iintro X1
      iapply (own_load_full 𝒱₀ (c : Thread nD τ) (some (n + 1)) E) $$ Y2; iintro Y2
      iapply (own_load_full 𝒱₀ (c : Thread nD τ) (some (n + 1)) E) $$ Y1; iintro Y1
      iapply (own_load_full 𝒱₀ (c : Thread nD τ) (some (n + 1)) E) $$ XA; iintro XA
      iapply (own_load_full 𝒱₀ (c : Thread nD τ) (some (n + 1)) E) $$ S; iintro S
      iapply (own_store_full 𝒱₀ (c : Thread nD τ) (some (n + 1)) E) $$ S; iintro S
      iapply (own_load_full 𝒱₀ (c : Thread nD τ) (some (n + 1)) E) $$ P; iintro P
      iapply (own_store_full 𝒱₀ (c : Thread nD τ) (some (n + 1)) E) $$ P; iintro P
      have ih' := ih
      unfold args at ih'
      rw [hm] at ih'
      iapply (own_load 𝒱₀ (c : Thread nD τ) (some (n + 1)) E) $$ U1; iintro U1
      iapply (own_load 𝒱₀ (c : Thread nD τ) (some (n + 1)) E) $$ V1; iintro V1
      iapply (own_load 𝒱₀ (c : Thread nD τ) (some (n + 1)) E) $$ U2; iintro U2
      iapply (own_load 𝒱₀ (c : Thread nD τ) (some (n + 1)) E) $$ V2; iintro V2
      iapply (own_load_full 𝒱₀ (c : Thread nD τ) (some (n + 1)) E) $$ P; iintro P
      iapply (wp_call_spec 𝒱₀ (c : Thread nD τ) (some (n + 1)) E (spec c A I (σ.next I h1 h2) σ') n (fun u hu => by cases hu; exact Nat.lt_succ_self n)
        ih')
      rw [spec_apply]
      isplitr [Hk]
      · unfold heldIns heldSt
        isplitl [X1 Y1 X2 Y2 XA XJ U1 V1 U2 V2]
        · isplitl [X1]; · iexact X1
          isplitl [Y1]; · iexact Y1
          isplitl [X2]; · iexact X2
          isplitl [Y2]; · iexact Y2
          isplitl [XA]; · iexact XA
          isplitl [XJ]; · iexact XJ
          isplitl [U1]; · iexact U1
          isplitl [V1]; · iexact V1
          isplitl [U2]; · iexact U2
          iexact V2
        isplitl [S]; · rw [hs]; iexact S
        isplitl [R1]; · iexact R1
        isplitl [R2]; · iexact R2
        isplitl [R3]; · iexact R3
        isplitl [R4]; · iexact R4
        isplitl [R5]; · iexact R5
        rw [hp]; iexact P
      iintro H
      rw [wp_ret]; imodintro
      iapply Hk
      iexact H
    · have hs : (σ.next I h1 h2).s = s1 σ h1 := if_neg he
      have hp : (σ.next I h1 h2).p = fun _ => m1 σ := if_neg he
      have hm : (σ.next I h1 h2).m = m1 σ := if_neg he
      rw [if_neg]
      swap
      · exact he
      simp only [Prog.bind_op, Prog.bind_ret]
      have ih' := ih
      unfold args at ih'
      rw [hm] at ih'
      iapply (own_load 𝒱₀ (c : Thread nD τ) (some (n + 1)) E) $$ U1; iintro U1
      iapply (own_load 𝒱₀ (c : Thread nD τ) (some (n + 1)) E) $$ V1; iintro V1
      iapply (own_load 𝒱₀ (c : Thread nD τ) (some (n + 1)) E) $$ U2; iintro U2
      iapply (own_load 𝒱₀ (c : Thread nD τ) (some (n + 1)) E) $$ V2; iintro V2
      iapply (own_load_full 𝒱₀ (c : Thread nD τ) (some (n + 1)) E) $$ P; iintro P
      iapply (wp_call_spec 𝒱₀ (c : Thread nD τ) (some (n + 1)) E (spec c A I (σ.next I h1 h2) σ') n (fun u hu => by cases hu; exact Nat.lt_succ_self n)
        ih')
      rw [spec_apply]
      isplitr [Hk]
      · unfold heldIns heldSt
        isplitl [X1 Y1 X2 Y2 XA XJ U1 V1 U2 V2]
        · isplitl [X1]; · iexact X1
          isplitl [Y1]; · iexact Y1
          isplitl [X2]; · iexact X2
          isplitl [Y2]; · iexact Y2
          isplitl [XA]; · iexact XA
          isplitl [XJ]; · iexact XJ
          isplitl [U1]; · iexact U1
          isplitl [V1]; · iexact V1
          isplitl [U2]; · iexact U2
          iexact V2
        isplitl [S]; · rw [hs]; iexact S
        isplitl [R1]; · iexact R1
        isplitl [R2]; · iexact R2
        isplitl [R3]; · iexact R3
        isplitl [R4]; · iexact R4
        isplitl [R5]; · iexact R5
        rw [hp]; iexact P
      iintro H
      rw [wp_ret]; imodintro
      iapply Hk
      iexact H

end Cert.KernelIdeal.Nms

end
-- ==== Proof.Ker.Body.lean ====
/-
  The two kernels' bodies, run: what each leaves in the blocks it writes.
-/
module

public import proofs.«01_k».proof.Proof.Ker.Loop

@[expose] public section

noncomputable section

namespace Cert.KernelIdeal.Nms

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

variable {F : FTy → Type} [FloatOps F]

local notation "𝕄" => MT nD τ sig Unit (Elt F) ℕ (UR nD τ) ℕ

/-! ### The second kernel -/

/-- The word in scalar memory is written before it is read: what it holds at the start does not matter to a run. -/
theorem Runs.word {I : Ins F} {n : ℕ} {σ σ' : St F} (h : Runs I n σ σ') (p : Vec F S1 .f32) :
    ∃ p', Runs I n { σ with p := p } { σ' with p := p' } := by
  cases h with
  | stop σ h => exact ⟨p, .stop _ h⟩
  | @step n _ _ h h1 h2 hr =>
    have hn : St.next I { σ with p := p } h1 h2 = σ.next I h1 h2 := rfl
    refine ⟨σ'.p, .step (σ := { σ with p := p }) h h1 h2 ?_⟩
    rw [hn]
    exact hr

/-- The loop ends, from the state the kernel starts it in. -/
def Ends (I : Ins F) : Prop := ∃ n σ', Runs I n (start I fun _ => Scalar.ofBits .f32 0x00000000#32) σ'

open Classical in
/-- The block the kernel writes: the result the loop ends with, if it ends. -/
def outOf (I : Ins F) : Vec F S1x8x1024 .f32 :=
  if h : Ends I then k1_pay3 h.choose_spec.choose.acc else k1_pay3 (k1_pay2 (F := F))

/-- At the start none are kept. -/
theorem start_k (I : Ins F) (p : Vec F S1 .f32) : (start I p).k = 0#32 := by simp only [start]
/-- At the start the carried score is the greatest of all. -/
theorem start_m (I : Ins F) (p : Vec F S1 .f32) : (start I p).m = k1_pay1 (k1_pay5 I.s) := by simp only [start]
/-- At the start the result is zero. -/
theorem start_acc (I : Ins F) (p : Vec F S1 .f32) : (start I p).acc = k1_pay2 := by simp only [start]

/-- Whatever the word holds, the loop runs to a state whose result is the block the kernel writes. -/
theorem Ends.runs {I : Ins F} (h : Ends I) (p : Vec F S1 .f32) :
    ∃ n σ', Runs I n (start I p) σ' ∧ k1_pay3 σ'.acc = outOf I := by
  obtain ⟨p', hp⟩ := h.choose_spec.choose_spec.word p
  have hs : ({ start I (fun _ => Scalar.ofBits .f32 0x00000000#32) with p := p } : St F) = start I p := by simp only [start]
  rw [hs] at hp
  exact ⟨_, _, hp, by unfold outOf; rw [dif_pos h]⟩

/-- The block the kernel writes is the result of a run. -/
theorem Ends.out {I : Ins F} (h : Ends I) :
    ∃ n σ', Runs I n (start I fun _ => Scalar.ofBits .f32 0x00000000#32) σ' ∧ outOf I = k1_pay3 σ'.acc :=
  ⟨_, _, h.choose_spec.choose_spec, by unfold outOf; rw [dif_pos h]⟩

variable (c : Dev nD)

/-- The scratch arrays and the scalar, held at anything. -/
def anySt (A : Mems) : sProp 𝕄 :=
  iprop((∃ X : Vec F S160x128 .f32, owns c A.m13 fullShare X) ∗ (∃ X : Vec F S80x128 .f32, owns c A.m14 fullShare X) ∗ (∃ X : Vec F S80x128 .f32, owns c A.m15 fullShare X)
    ∗ (∃ X : Vec F S80x128 .f32, owns c A.m16 fullShare X) ∗ (∃ X : Vec F S80x128 .f32, owns c A.m17 fullShare X) ∗ (∃ X : Vec F S80x128 .f32, owns c A.m18 fullShare X)
    ∗ (∃ X : Vec F S1 .f32, owns c A.m19 fullShare X))

set_option maxRecDepth 8000 in
set_option maxHeartbeats 4000000 in
/-- The second kernel's body: from its blocks held, its loop ending, it leaves the block it writes at `outOf`. -/
theorem nms_body (i : grid1.Coords) (A : Mems) (E : Set ℕ) (I : Ins F) (hE : Ends I) (K : PUnit → sProp 𝕄) :
    iprop((owns c A.m1 fullShare I.s ∗ heldIns c A I ∗ (∃ X : Vec F S1x8x1024 .f32, owns c A.m12 fullShare X) ∗ anySt (F := F) c A)
      ∗ ((owns c A.m1 fullShare I.s ∗ heldIns c A I ∗ owns c A.m12 fullShare (outOf I) ∗ anySt (F := F) c A) -∗ K ⟨⟩))
    ⊢ wp frame (wpE (defs₀ (F := F)) 𝒱₀ (c : Thread nD τ) none) E
        (cc1__nms_kernel i A.m1 A.h1 A.m2 A.h2 A.m3 A.h3 A.m4 A.h4 A.m5 A.h5 A.m6 A.h6 A.m7 A.h7 A.m8 A.h8 A.m9 A.h9 A.m10 A.h10 A.m11 A.h11
          A.m12 A.h12 A.m13 A.h13 A.m14 A.h14 A.m15 A.h15 A.m16 A.h16 A.m17 A.h17 A.m18 A.h18 A.m19 A.h19) K := by
  simp only [cc1__nms_kernel_eq_skeleton]; unfold cc1__nms_kernel_skel
  simp only [k1_part1_eq_skeleton, k1_part1_skel, Prog.lift, Prog.bind_op, Prog.bind_ret, Prog.pure_eq_ret]
  unfold anySt
  iintro ⟨⟨S0, HI, ⟨%o, O⟩, ⟨%s, S⟩, ⟨%r1, R1⟩, ⟨%r2, R2⟩, ⟨%r3, R3⟩, ⟨%r4, R4⟩, ⟨%r5, R5⟩, ⟨%p, P⟩⟩, Hk⟩
  iapply (own_load_full 𝒱₀ (c : Thread nD τ) none E) $$ S0; iintro S0
  iapply (own_load_full 𝒱₀ (c : Thread nD τ) none E) $$ S; iintro S
  iapply (own_store_full 𝒱₀ (c : Thread nD τ) none E) $$ S; iintro S
  iapply (own_load_full 𝒱₀ (c : Thread nD τ) none E) $$ R1; iintro R1
  iapply (own_store_full 𝒱₀ (c : Thread nD τ) none E) $$ R1; iintro R1
  iapply (own_load_full 𝒱₀ (c : Thread nD τ) none E) $$ R2; iintro R2
  iapply (own_store_full 𝒱₀ (c : Thread nD τ) none E) $$ R2; iintro R2
  iapply (own_load_full 𝒱₀ (c : Thread nD τ) none E) $$ R3; iintro R3
  iapply (own_store_full 𝒱₀ (c : Thread nD τ) none E) $$ R3; iintro R3
  iapply (own_load_full 𝒱₀ (c : Thread nD τ) none E) $$ R4; iintro R4
  iapply (own_store_full 𝒱₀ (c : Thread nD τ) none E) $$ R4; iintro R4
  iapply (own_load_full 𝒱₀ (c : Thread nD τ) none E) $$ R5; iintro R5
  iapply (own_store_full 𝒱₀ (c : Thread nD τ) none E) $$ R5; iintro R5
  iapply (own_load_full 𝒱₀ (c : Thread nD τ) none E) $$ S; iintro S
  obtain ⟨n, σ', hr, hacc⟩ := hE.runs p
  have hsp := spec_le c i A E I hr
  unfold args at hsp
  rw [start_k, start_m, start_acc] at hsp
  iapply (wp_call_spec 𝒱₀ (c : Thread nD τ) none E (spec c A I (start I p) σ') n (fun u hu => nomatch hu) hsp)
  rw [spec_apply]
  isplitl [HI S R1 R2 R3 R4 R5 P]
  · isplitl [HI]; · iexact HI
    unfold heldSt
    isplitl [S]; · iexact S
    isplitl [R1]; · iexact R1
    isplitl [R2]; · iexact R2
    isplitl [R3]; · iexact R3
    isplitl [R4]; · iexact R4
    isplitl [R5]; · iexact R5
    iexact P
  unfold heldSt
  iintro ⟨HI, S, R1, R2, R3, R4, R5, P⟩
  iapply (own_load_full 𝒱₀ (c : Thread nD τ) none E) $$ O; iintro O
  iapply (own_store_full 𝒱₀ (c : Thread nD τ) none E) $$ O; iintro O
  rw [wp_ret]; imodintro
  iapply Hk
  isplitl [S0]; · iexact S0
  isplitl [HI]; · iexact HI
  isplitl [O]; · rw [← hacc]; iexact O
  isplitl [S]; · iexists _; iexact S
  isplitl [R1]; · iexists _; iexact R1
  isplitl [R2]; · iexists _; iexact R2
  isplitl [R3]; · iexists _; iexact R3
  isplitl [R4]; · iexists _; iexact R4
  isplitl [R5]; · iexists _; iexact R5
  iexists _; iexact P

/-! ### The first kernel -/

/-- The memory the first kernel works on: the block read and the eleven blocks written. -/
structure PMems where
  m2 : Memref sig .tc .vmem S1x16x88x128 .f32
  h2 : m2.IsWhole
  m3 : Memref sig .tc .vmem S1x16x128 .f32
  h3 : m3.IsWhole
  m4 : Memref sig .tc .vmem S1x16x128 .f32
  h4 : m4.IsWhole
  m5 : Memref sig .tc .vmem S1x16x128 .f32
  h5 : m5.IsWhole
  m6 : Memref sig .tc .vmem S1x16x128 .f32
  h6 : m6.IsWhole
  m7 : Memref sig .tc .vmem S1x16x128 .f32
  h7 : m7.IsWhole
  m8 : Memref sig .tc .vmem S1x16x128 .f32
  h8 : m8.IsWhole
  m9 : Memref sig .tc .vmem S1x16x128 .f32
  h9 : m9.IsWhole
  m10 : Memref sig .tc .vmem S1x16x128 .f32
  h10 : m10.IsWhole
  m11 : Memref sig .tc .vmem S1x16x128 .f32
  h11 : m11.IsWhole
  m12 : Memref sig .tc .vmem S1x16x128 .f32
  h12 : m12.IsWhole
  m13 : Memref sig .tc .vmem S1x16x128 .f32
  h13 : m13.IsWhole

section

variable (v : Vec F S1x16x88x128 .f32)

/-- The scores the first kernel leaves, off the block it reads. -/
abbrev prep_s : Vec F S1x16x128 .f32 := k0_pay23 (k0_pay9 v)
/-- The shifted left edges the first kernel leaves, off the block it reads. -/
abbrev prep_x1 : Vec F S1x16x128 .f32 := k0_pay24 (k0_pay19 v)
/-- The shifted top edges the first kernel leaves, off the block it reads. -/
abbrev prep_y1 : Vec F S1x16x128 .f32 := k0_pay25 (k0_pay20 v)
/-- The shifted right edges the first kernel leaves, off the block it reads. -/
abbrev prep_x2 : Vec F S1x16x128 .f32 := k0_pay26 (k0_pay21 v)
/-- The shifted bottom edges the first kernel leaves, off the block it reads. -/
abbrev prep_y2 : Vec F S1x16x128 .f32 := k0_pay27 (k0_pay12 v) (k0_pay18 v)
/-- The areas the first kernel leaves, off the block it reads. -/
abbrev prep_a : Vec F S1x16x128 .f32 := k0_pay28 (k0_pay12 v) (k0_pay18 v) (k0_pay19 v) (k0_pay20 v) (k0_pay21 v)
/-- The classes the first kernel leaves, off the block it reads. -/
abbrev prep_j : Vec F S1x16x128 .f32 := k0_pay29 (k0_pay8 v)
/-- The left edges the first kernel leaves, off the block it reads. -/
abbrev prep_ux1 : Vec F S1x16x128 .f32 := k0_pay30 (k0_pay15 v)
/-- The top edges the first kernel leaves, off the block it reads. -/
abbrev prep_uy1 : Vec F S1x16x128 .f32 := k0_pay1 (k0_pay16 v)
/-- The right edges the first kernel leaves, off the block it reads. -/
abbrev prep_ux2 : Vec F S1x16x128 .f32 := k0_pay2 (k0_pay17 v)
/-- The bottom edges the first kernel leaves, off the block it reads. -/
abbrev prep_uy2 : Vec F S1x16x128 .f32 := k0_pay3 (k0_pay18 v)

end

set_option maxRecDepth 8000 in
set_option maxHeartbeats 4000000 in
/-- The first kernel's body: from the block it reads held at `v` it leaves the eleven blocks. -/
theorem prep_body (i : grid0.Coords) (A : PMems) (E : Set ℕ) (v : Vec F S1x16x88x128 .f32) (K : PUnit → sProp 𝕄) :
    iprop((owns c A.m2 fullShare v ∗ (∃ X : Vec F S1x16x128 .f32, owns c A.m3 fullShare X) ∗ (∃ X : Vec F S1x16x128 .f32, owns c A.m4 fullShare X) ∗ (∃ X : Vec F S1x16x128 .f32, owns c A.m5 fullShare X) ∗ (∃ X : Vec F S1x16x128 .f32, owns c A.m6 fullShare X) ∗ (∃ X : Vec F S1x16x128 .f32, owns c A.m7 fullShare X) ∗ (∃ X : Vec F S1x16x128 .f32, owns c A.m8 fullShare X) ∗ (∃ X : Vec F S1x16x128 .f32, owns c A.m9 fullShare X) ∗ (∃ X : Vec F S1x16x128 .f32, owns c A.m10 fullShare X) ∗ (∃ X : Vec F S1x16x128 .f32, owns c A.m11 fullShare X) ∗ (∃ X : Vec F S1x16x128 .f32, owns c A.m12 fullShare X) ∗ (∃ X : Vec F S1x16x128 .f32, owns c A.m13 fullShare X))
      ∗ ((owns c A.m2 fullShare v ∗ owns c A.m3 fullShare (prep_s v) ∗ owns c A.m4 fullShare (prep_x1 v) ∗ owns c A.m5 fullShare (prep_y1 v) ∗ owns c A.m6 fullShare (prep_x2 v) ∗ owns c A.m7 fullShare (prep_y2 v) ∗ owns c A.m8 fullShare (prep_a v) ∗ owns c A.m9 fullShare (prep_j v) ∗ owns c A.m10 fullShare (prep_ux1 v) ∗ owns c A.m11 fullShare (prep_uy1 v) ∗ owns c A.m12 fullShare (prep_ux2 v) ∗ owns c A.m13 fullShare (prep_uy2 v)) -∗ K ⟨⟩))
    ⊢ wp frame (wpE (defs₀ (F := F)) 𝒱₀ (c : Thread nD τ) none) E
        (cc0__prep_kernel i A.m2 A.h2 A.m3 A.h3 A.m4 A.h4 A.m5 A.h5 A.m6 A.h6 A.m7 A.h7 A.m8 A.h8 A.m9 A.h9 A.m10 A.h10 A.m11 A.h11 A.m12 A.h12 A.m13 A.h13) K := by
  simp only [cc0__prep_kernel_eq_skeleton]; unfold cc0__prep_kernel_skel
  simp only [k0_part1_eq_skeleton, k0_part1_skel, k0_part2_eq_skeleton, k0_part2_skel, Prog.lift, Prog.bind_op, Prog.bind_ret, Prog.pure_eq_ret]
  iintro ⟨⟨V, ⟨%x3, H3⟩, ⟨%x4, H4⟩, ⟨%x5, H5⟩, ⟨%x6, H6⟩, ⟨%x7, H7⟩, ⟨%x8, H8⟩, ⟨%x9, H9⟩, ⟨%x10, H10⟩, ⟨%x11, H11⟩, ⟨%x12, H12⟩, ⟨%x13, H13⟩⟩, Hk⟩
  iapply (own_load_full 𝒱₀ (c : Thread nD τ) none E) $$ V; iintro V
  iapply (own_load_full 𝒱₀ (c : Thread nD τ) none E) $$ H3; iintro H3
  iapply (own_store_full 𝒱₀ (c : Thread nD τ) none E) $$ H3; iintro H3
  iapply (own_load_full 𝒱₀ (c : Thread nD τ) none E) $$ H4; iintro H4
  iapply (own_store_full 𝒱₀ (c : Thread nD τ) none E) $$ H4; iintro H4
  iapply (own_load_full 𝒱₀ (c : Thread nD τ) none E) $$ H5; iintro H5
  iapply (own_store_full 𝒱₀ (c : Thread nD τ) none E) $$ H5; iintro H5
  iapply (own_load_full 𝒱₀ (c : Thread nD τ) none E) $$ H6; iintro H6
  iapply (own_store_full 𝒱₀ (c : Thread nD τ) none E) $$ H6; iintro H6
  iapply (own_load_full 𝒱₀ (c : Thread nD τ) none E) $$ H7; iintro H7
  iapply (own_store_full 𝒱₀ (c : Thread nD τ) none E) $$ H7; iintro H7
  iapply (own_load_full 𝒱₀ (c : Thread nD τ) none E) $$ H8; iintro H8
  iapply (own_store_full 𝒱₀ (c : Thread nD τ) none E) $$ H8; iintro H8
  iapply (own_load_full 𝒱₀ (c : Thread nD τ) none E) $$ H9; iintro H9
  iapply (own_store_full 𝒱₀ (c : Thread nD τ) none E) $$ H9; iintro H9
  iapply (own_load_full 𝒱₀ (c : Thread nD τ) none E) $$ H10; iintro H10
  iapply (own_store_full 𝒱₀ (c : Thread nD τ) none E) $$ H10; iintro H10
  iapply (own_load_full 𝒱₀ (c : Thread nD τ) none E) $$ H11; iintro H11
  iapply (own_store_full 𝒱₀ (c : Thread nD τ) none E) $$ H11; iintro H11
  iapply (own_load_full 𝒱₀ (c : Thread nD τ) none E) $$ H12; iintro H12
  iapply (own_store_full 𝒱₀ (c : Thread nD τ) none E) $$ H12; iintro H12
  iapply (own_load_full 𝒱₀ (c : Thread nD τ) none E) $$ H13; iintro H13
  iapply (own_store_full 𝒱₀ (c : Thread nD τ) none E) $$ H13; iintro H13
  rw [wp_ret]; imodintro
  iapply Hk
  isplitl [V]; · iexact V
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.KernelIdeal.Nms

end
-- ==== Proof.Ker.End.lean ====
/-
  The second kernel's loop ends, over extended reals, when every place's class is a class: each trip takes a positive
  score away.
-/
module

public import proofs.«01_k».proof.Proof.Ker.Next
public import proofs.«01_k».proof.Proof.Ker.Body

@[expose] public section

set_option maxRecDepth 16384

noncomputable section

namespace Cert.KernelIdeal.Nms

open Cert.KernelIdeal Cert.KernelIdeal.Gen
open Idealize.ShloMosaic Idealize.ShloMosaic.TcCoe
open Idealize.ShloMosaic.Pointwise

/-- A run ends at one state. -/
theorem Runs.det {F : FTy → Type} [FloatOps F] {I : Ins F} {n n' : ℕ} {σ a b : St F} (h : Runs I n σ a) (h' : Runs I n' σ b) : a = b := by
  induction h generalizing n' with
  | stop σ h =>
    cases h' with
    | stop _ _ => rfl
    | step g _ _ _ => exact absurd g h
  | step h h1 h2 hr ih =>
    cases h' with
    | stop _ g => exact absurd h g
    | step _ _ _ hr' => exact ih hr'

/-- The places with a positive score left. -/
def live (σ : St Ideal) : Finset P := Finset.univ.filter fun q => 0 < σ.s (ix2 q.1 q.2)

/-- The loop runs to its end, and whatever every trip keeps holds there. -/
theorem runs_of {I : Ins Ideal} (hj : ∀ p : P, ∃ c : Fin 80, I.j (ix3 0 p.1 p.2) = ((c.val : ℝ) : EReal)) (Inv : ℕ → St Ideal → Prop)
    (hInv : ∀ n σ, Inv n σ → Top σ ∧ σ.k = BitVec.ofNat 32 n ∧ n ≤ 1000)
    (step : ∀ n σ p (c : Fin 80) h1 h2, Inv n σ → n < 1000 → 0 < σ.m → First σ p → I.j (ix3 0 p.1 p.2) = ((c.val : ℝ) : EReal) →
      σ.cls I h1 = BitVec.ofNat 32 c → Inv (if keep I σ h1 h2 = 1#1 then n + 1 else n) (σ.next I h1 h2)) :
    ∀ (N : ℕ) (n : ℕ) (σ : St Ideal), (live σ).card ≤ N → Inv n σ → ∃ M n' σ', Runs I M σ σ' ∧ Inv n' σ' ∧ ¬ (n' < 1000 ∧ 0 < σ'.m) := by
  intro N
  induction N with
  | zero =>
    intro n σ hN hi
    obtain ⟨ht, hk, hn⟩ := hInv n σ hi
    have hno : ¬ (n < 1000 ∧ 0 < σ.m) := by
      rintro ⟨_, hm⟩
      obtain ⟨p, hp⟩ := exists_first ht
      have : p ∈ live σ := Finset.mem_filter.mpr ⟨Finset.mem_univ _, by rw [hp.eq]; exact hm⟩
      rw [Finset.card_eq_zero.mp (Nat.le_zero.mp hN)] at this
      exact absurd this (Finset.notMem_empty _)
    exact ⟨0, n, σ, .stop σ (by rw [test_iff (by omega) hk]; exact hno), hi, hno⟩
  | succ N ih =>
    intro n σ hN hi
    obtain ⟨ht, hk, hn⟩ := hInv n σ hi
    by_cases hgo : n < 1000 ∧ 0 < σ.m
    · obtain ⟨p, hp⟩ := exists_first ht
      obtain ⟨c, hc⟩ := hj p
      have hpos := pos_first hp
      have h1 : k1_chk1 σ.pos := chk1 hpos
      have hcls := cls_eq hpos h1 hc
      have h2 : k1_chk2 (σ.cls I h1) := chk2 h1 hcls
      have hlt : (live (σ.next I h1 h2)).card ≤ N := by
        refine Nat.le_of_lt_succ (lt_of_lt_of_le (Finset.card_lt_card (Finset.ssubset_iff_of_subset ?_ |>.mpr ⟨p, ?_, ?_⟩)) hN)
        · intro q hq
          have hq' := (Finset.mem_filter.mp hq).2
          rw [next_s hpos h1 h2, c_neg_one] at hq'
          refine Finset.mem_filter.mpr ⟨Finset.mem_univ _, ?_⟩
          by_cases hcond : q = p ∨ (eager I σ h1 h2 = 1#1 ∧ Over (boxAt I p) (boxAt I q))
          · rw [if_pos hcond] at hq'
            exact absurd hq' (by rw [not_lt]; exact EReal.coe_le_coe_iff.mpr (by norm_num : (-1 : ℝ) ≤ 0))
          · rwa [if_neg hcond] at hq'
        · exact Finset.mem_filter.mpr ⟨Finset.mem_univ _, by rw [hp.eq]; exact hgo.2⟩
        · intro hq
          have hq' := (Finset.mem_filter.mp hq).2
          rw [next_s hpos h1 h2, c_neg_one, if_pos (.inl rfl)] at hq'
          exact absurd hq' (by rw [not_lt]; exact EReal.coe_le_coe_iff.mpr (by norm_num : (-1 : ℝ) ≤ 0))
      obtain ⟨M, n', σ', hr, hi', hno⟩ := ih _ _ hlt (step n σ p c h1 h2 hi hgo.1 hgo.2 hp hc hcls)
      exact ⟨M + 1, n', σ', .step ((test_iff (by omega) hk).mpr hgo) h1 h2 hr, hi', hno⟩
    · exact ⟨0, n, σ, .stop σ (by rw [test_iff (by omega) hk]; exact hgo), hi, hgo⟩

/-- The loop ends. -/
theorem ends_of {I : Ins Ideal} (hj : ∀ p : P, ∃ c : Fin 80, I.j (ix3 0 p.1 p.2) = ((c.val : ℝ) : EReal)) : Ends I := by
  obtain ⟨M, n', σ', hr, _⟩ := runs_of hj (fun n σ => Top σ ∧ σ.k = BitVec.ofNat 32 n ∧ n ≤ 1000) (fun _ _ h => h)
    (fun n σ p c h1 h2 hi hn _ hp _ _ => ⟨next_top h1 h2 hp, next_k h1 h2 hi.2.1, by split <;> omega⟩) _ 0 _ le_rfl
    ⟨start_top I fun _ => Scalar.ofBits (F := Ideal) .f32 0x00000000#32, start_k I _, by omega⟩
  exact ⟨M, σ', hr⟩

end Cert.KernelIdeal.Nms

end
-- ==== Proof.Ker.Prep.lean ====
/-
  What the first kernel computes of one box's column of numbers, over extended reals.
-/
module

public import proofs.«01_k».proof.Proof.Ker.Facts
public import proofs.«01_k».proof.Proof.Ker.Body

@[expose] public section

set_option maxRecDepth 16384

noncomputable section

namespace Cert.KernelIdeal.Nms

open Cert.KernelIdeal Cert.KernelIdeal.Gen
open Idealize.ShloMosaic Idealize.ShloMosaic.TcCoe
open Idealize.ShloMosaic.Pointwise

/-- A box's numbers: its 80 class scores, its objectness, its centre and its size, and three zeros. -/
abbrev Col := Fin 88 → EReal

namespace Col

variable (f : Col)

/-- The greatest class confidence. -/
def conf : EReal := Finset.univ.fold max (⊥ : EReal) fun x : Fin 80 => f ⟨x.val, by omega⟩ * f 80
/-- The first class with it, as a number. -/
def cls : EReal := Finset.univ.fold min (⊤ : EReal) fun x : Fin 80 =>
  if f ⟨x.val, by omega⟩ * f 80 = f.conf then ((x.val : ℝ) : EReal) else Ideal.ofBits .f32 0x4E6E6B28#32
/-- The confidence, if it and the objectness pass the threshold, else −1. -/
def score : EReal :=
  if Ideal.ofBits .f32 0x3E800000#32 < f 80 ∧ Ideal.ofBits .f32 0x3E800000#32 < f.conf then f.conf else Ideal.ofBits .f32 0xBF800000#32
/-- Half the width. -/
def hw : EReal := f 83 * Ideal.ofBits .f32 0x3F000000#32
/-- Half the height. -/
def hh : EReal := f 84 * Ideal.ofBits .f32 0x3F000000#32
/-- How far its class shifts a box. -/
def off : EReal := f.cls * Ideal.ofBits .f32 0x45800000#32
/-- The left edge. -/
def ux1 : EReal := f 81 - f.hw
/-- The top edge. -/
def uy1 : EReal := f 82 - f.hh
/-- The right edge. -/
def ux2 : EReal := f 81 + f.hw
/-- The bottom edge. -/
def uy2 : EReal := f 82 + f.hh

/-- There is a first class with the greatest confidence, and `cls` is its number. -/
theorem cls_spec : ∃ c : Fin 80, f.cls = ((c.val : ℝ) : EReal) ∧ f ⟨c.val, by omega⟩ * f 80 = f.conf
    ∧ ∀ x : Fin 80, f ⟨x.val, by omega⟩ * f 80 = f.conf → c ≤ x := by
  classical
  obtain ⟨i, hi⟩ := fold_max_attained fun x : Fin 80 => f ⟨x.val, by omega⟩ * f 80
  obtain ⟨c, hc, hmin⟩ := Finset.exists_min_image (Finset.univ.filter fun x : Fin 80 => f ⟨x.val, by omega⟩ * f 80 = f.conf) id
    ⟨i, by rw [Finset.mem_filter]; exact ⟨Finset.mem_univ _, hi⟩⟩
  have hc' := (Finset.mem_filter.mp hc).2
  refine ⟨c, ?_, hc', fun x hx => hmin x (Finset.mem_filter.mpr ⟨Finset.mem_univ _, hx⟩)⟩
  have h1 : (if f ⟨c.val, by omega⟩ * f 80 = f.conf then ((c.val : ℝ) : EReal) else Ideal.ofBits .f32 0x4E6E6B28#32) = ((c.val : ℝ) : EReal) := if_pos hc'
  refine (fold_min_eq (fun x : Fin 80 => if f ⟨x.val, by omega⟩ * f 80 = f.conf then ((x.val : ℝ) : EReal) else Ideal.ofBits .f32 0x4E6E6B28#32) c
    fun x => ?_).trans h1
  refine h1.trans_le ?_
  by_cases hx : f ⟨x.val, by omega⟩ * f 80 = f.conf
  · have : c.val ≤ x.val := hmin x (Finset.mem_filter.mpr ⟨Finset.mem_univ _, hx⟩)
    exact (EReal.coe_le_coe_iff.mpr (by exact_mod_cast this)).trans_eq (if_pos hx).symm
  · have : c.val ≤ 80 := by omega
    refine le_trans (EReal.coe_le_coe_iff.mpr (le_trans (by exact_mod_cast this : (c.val : ℝ) ≤ 80) (by norm_num) : (c.val : ℝ) ≤ 1000000000)) ?_
    exact (c_1e9.symm.trans (if_neg hx).symm).le

end Col

/-- A box's column of a block. -/
abbrev colAt (v : Vec Ideal S1x16x88x128 .f32) (r : Fin 16) (l : Fin 128) : Col := fun ch => v (ix4 0 r ch l)

variable (v : Vec Ideal S1x16x88x128 .f32) (r : Fin 16) (l : Fin 128)

theorem pay7_at : k0_pay7 v (ix2 r l) = (colAt v r l).conf := by
  pointwise [k0_pay7, k0_pay6, k0_pay5, k0_pay4]
  rw [c_bot]
  rfl

theorem pay5_at : k0_pay5 v (ix2 r l) = (colAt v r l) 80 := by
  pointwise [k0_pay5, k0_pay4]

theorem pay6_at (x : Fin 80) : k0_pay6 v (ix3 r x l) = (colAt v r l) ⟨x.val, by omega⟩ * (colAt v r l) 80 := by
  pointwise [k0_pay6, k0_pay5, k0_pay4]

theorem pay8_at : k0_pay8 v (ix2 r l) = (colAt v r l).cls := by
  have h7 := pay7_at v r l
  have h6 := pay6_at v r l
  pointwise [k0_pay8]
  rw [c_top, h7]
  simp only [h6]
  unfold Col.cls
  refine congrArg (fun g => Finset.univ.fold min (⊤ : EReal) g) (funext fun x => ?_)
  exact if_congr Iff.rfl (sitofp_nat (by omega)) rfl

theorem prep_j_at : prep_j v (ix3 0 r l) = (colAt v r l).cls := by
  rw [← pay8_at]
  pointwise [prep_j, k0_pay29]

theorem prep_s_at : prep_s v (ix3 0 r l) = (colAt v r l).score := by
  have h7 := pay7_at v r l
  have h5 := pay5_at v r l
  have hb : ∀ (a b : Bool) (x y : EReal), Scalar.select (IntOp.andi (BitVec.ofBool a) (BitVec.ofBool b)) x y = if a = true ∧ b = true then x else y := by
    intro a b x y; cases a <;> cases b <;> rfl
  pointwise [prep_s, k0_pay23, k0_pay9]
  rw [h7, h5, hb]
  exact if_congr (and_congr decide_eq_true_iff decide_eq_true_iff) rfl rfl

theorem pay12_at : k0_pay12 v (ix2 r l) = (colAt v r l).off := by
  have h8 := pay8_at v r l
  pointwise [k0_pay12]
  rw [h8]
  rfl

theorem pay15_at : k0_pay15 v (ix2 r l) = (colAt v r l).ux1 := by
  pointwise [k0_pay15, k0_pay10, k0_pay13, k0_pay4]
  rfl
theorem pay16_at : k0_pay16 v (ix2 r l) = (colAt v r l).uy1 := by
  pointwise [k0_pay16, k0_pay11, k0_pay14, k0_pay4]
  rfl
theorem pay17_at : k0_pay17 v (ix2 r l) = (colAt v r l).ux2 := by
  pointwise [k0_pay17, k0_pay10, k0_pay13, k0_pay4]
  rfl
theorem pay18_at : k0_pay18 v (ix2 r l) = (colAt v r l).uy2 := by
  pointwise [k0_pay18, k0_pay11, k0_pay14, k0_pay4]
  rfl

theorem prep_ux1_at : prep_ux1 v (ix3 0 r l) = (colAt v r l).ux1 := by
  rw [← pay15_at]
  pointwise [prep_ux1, k0_pay30]
theorem prep_uy1_at : prep_uy1 v (ix3 0 r l) = (colAt v r l).uy1 := by
  rw [← pay16_at]
  pointwise [prep_uy1, k0_pay1]
theorem prep_ux2_at : prep_ux2 v (ix3 0 r l) = (colAt v r l).ux2 := by
  rw [← pay17_at]
  pointwise [prep_ux2, k0_pay2]
theorem prep_uy2_at : prep_uy2 v (ix3 0 r l) = (colAt v r l).uy2 := by
  rw [← pay18_at]
  pointwise [prep_uy2, k0_pay3]

theorem prep_x1_at : prep_x1 v (ix3 0 r l) = (colAt v r l).ux1 + (colAt v r l).off := by
  rw [← pay15_at, ← pay12_at]
  pointwise [prep_x1, k0_pay24, k0_pay19]
theorem prep_y1_at : prep_y1 v (ix3 0 r l) = (colAt v r l).uy1 + (colAt v r l).off := by
  rw [← pay16_at, ← pay12_at]
  pointwise [prep_y1, k0_pay25, k0_pay20]
theorem prep_x2_at : prep_x2 v (ix3 0 r l) = (colAt v r l).ux2 + (colAt v r l).off := by
  rw [← pay17_at, ← pay12_at]
  pointwise [prep_x2, k0_pay26, k0_pay21]
theorem prep_y2_at : prep_y2 v (ix3 0 r l) = (colAt v r l).uy2 + (colAt v r l).off := by
  rw [← pay18_at, ← pay12_at]
  pointwise [prep_y2, k0_pay27, k0_pay22]
theorem prep_a_at : prep_a v (ix3 0 r l) = ((colAt v r l).ux2 + (colAt v r l).off - ((colAt v r l).ux1 + (colAt v r l).off))
    * ((colAt v r l).uy2 + (colAt v r l).off - ((colAt v r l).uy1 + (colAt v r l).off)) := by
  rw [← pay15_at, ← pay16_at, ← pay17_at, ← pay18_at, ← pay12_at]
  pointwise [prep_a, k0_pay28, k0_pay22, k0_pay19, k0_pay20, k0_pay21]

end Cert.KernelIdeal.Nms

end
-- ==== Proof.Ker.Dat.lean ====
/-
  The two kernels as regions of a run of the program: the proof data of their pipelines.
-/
module

public import proofs.«01_k».proof.Proof.Ker.Body
public import proofs.«01_k».proof.Proof.Gen.KernelIdeal.Points
public import proofs.«01_k».proof.Proof.Gen.KernelIdeal.Regions
public import Idealize.ShloMosaic.Lib.Pipeline.RegionArraysS
public import Idealize.ShloMosaic.Lib.Pipeline.Regions

@[expose] public section

noncomputable section

namespace Cert.KernelIdeal.Nms

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg HostSeg Seg)

variable {F : FTy → Type} [FloatOps F]

local notation "𝕄" => MT nD τ sig Unit (Elt F) ℕ (UR nD τ) ℕ

variable (V : Dev nD → Valuation τ sig (Elt F)) (c : Dev nD)

/-! ### The first kernel's region -/

/-- The block the first kernel reads at a point. -/
def blk0 (t : Fin (cfg0 (F := F)).N) : Vec F S1x16x88x128 .f32 :=
  (((cfg0 (F := F)).win 0).blk t).view.read (Elt F) (V c (Proc.devRef .tc main_v8))

/-- The first region's proof data, entered at `V`. -/
def dat0 : Dat τ (Elt F) Unit ℕ (UR nD τ) ℕ (cfg0 (F := F)) c where
  A w := V c (Proc.devRef .tc (Pipeline.arrRef spec0 w))
  after w t := match w with
    | ⟨0, _⟩ => blk0 V c t
    | ⟨1, _⟩ => prep_s (blk0 V c t)
    | ⟨2, _⟩ => prep_x1 (blk0 V c t)
    | ⟨3, _⟩ => prep_y1 (blk0 V c t)
    | ⟨4, _⟩ => prep_x2 (blk0 V c t)
    | ⟨5, _⟩ => prep_y2 (blk0 V c t)
    | ⟨6, _⟩ => prep_a (blk0 V c t)
    | ⟨7, _⟩ => prep_j (blk0 V c t)
    | ⟨8, _⟩ => prep_ux1 (blk0 V c t)
    | ⟨9, _⟩ => prep_uy1 (blk0 V c t)
    | ⟨10, _⟩ => prep_ux2 (blk0 V c t)
    | ⟨11, _⟩ => prep_uy2 (blk0 V c t)
  Φ _ := Pipeline.scopedRest (Ix := Unit) (Name := ℕ) (U := UR nD τ) (Lvl := ℕ) (Val := Elt F) spec0 c
  q _ := fullShare
  owed _ := 0

theorem before0 (t : Fin (cfg0 (F := F)).N) (d : ((cfg0 (F := F)).win 0).block.Idx → Elt F ((cfg0 (F := F)).win 0).elt) :
    (dat0 V c).before 0 t d = blk0 V c t := by
  unfold Dat.before; rw [if_pos (fetch0_0 t)]; rfl

/-- The staging memrefs of a point. -/
def pmems (t : Fin (cfg0 (F := F)).N) : PMems where
  m2 := st0_0 t
  h2 := hstage0_0 (((cfg0 (F := F)).slots t 0).cast nbuf0_0)
  m3 := st0_1 t
  h3 := hstage0_1 (((cfg0 (F := F)).slots t 1).cast nbuf0_1)
  m4 := st0_2 t
  h4 := hstage0_2 (((cfg0 (F := F)).slots t 2).cast nbuf0_2)
  m5 := st0_3 t
  h5 := hstage0_3 (((cfg0 (F := F)).slots t 3).cast nbuf0_3)
  m6 := st0_4 t
  h6 := hstage0_4 (((cfg0 (F := F)).slots t 4).cast nbuf0_4)
  m7 := st0_5 t
  h7 := hstage0_5 (((cfg0 (F := F)).slots t 5).cast nbuf0_5)
  m8 := st0_6 t
  h8 := hstage0_6 (((cfg0 (F := F)).slots t 6).cast nbuf0_6)
  m9 := st0_7 t
  h9 := hstage0_7 (((cfg0 (F := F)).slots t 7).cast nbuf0_7)
  m10 := st0_8 t
  h10 := hstage0_8 (((cfg0 (F := F)).slots t 8).cast nbuf0_8)
  m11 := st0_9 t
  h11 := hstage0_9 (((cfg0 (F := F)).slots t 9).cast nbuf0_9)
  m12 := st0_10 t
  h12 := hstage0_10 (((cfg0 (F := F)).slots t 10).cast nbuf0_10)
  m13 := st0_11 t
  h13 := hstage0_11 (((cfg0 (F := F)).slots t 11).cast nbuf0_11)

/-! ### The second kernel's region -/

/-- The blocks the second kernel reads at a point. -/
def insAt (t : Fin (cfg1 (F := F)).N) : Ins F where
  s := (((cfg1 (F := F)).win 0).blk t).view.read (Elt F) (V c (Proc.devRef .tc main_v9_0))
  x1 := (((cfg1 (F := F)).win 1).blk t).view.read (Elt F) (V c (Proc.devRef .tc main_v9_1))
  y1 := (((cfg1 (F := F)).win 2).blk t).view.read (Elt F) (V c (Proc.devRef .tc main_v9_2))
  x2 := (((cfg1 (F := F)).win 3).blk t).view.read (Elt F) (V c (Proc.devRef .tc main_v9_3))
  y2 := (((cfg1 (F := F)).win 4).blk t).view.read (Elt F) (V c (Proc.devRef .tc main_v9_4))
  a := (((cfg1 (F := F)).win 5).blk t).view.read (Elt F) (V c (Proc.devRef .tc main_v9_5))
  j := (((cfg1 (F := F)).win 6).blk t).view.read (Elt F) (V c (Proc.devRef .tc main_v9_6))
  ux1 := (((cfg1 (F := F)).win 7).blk t).view.read (Elt F) (V c (Proc.devRef .tc main_v9_7))
  uy1 := (((cfg1 (F := F)).win 8).blk t).view.read (Elt F) (V c (Proc.devRef .tc main_v9_8))
  ux2 := (((cfg1 (F := F)).win 9).blk t).view.read (Elt F) (V c (Proc.devRef .tc main_v9_9))
  uy2 := (((cfg1 (F := F)).win 10).blk t).view.read (Elt F) (V c (Proc.devRef .tc main_v9_10))

/-- The second region's proof data, entered at `V`. -/
def dat1 : Dat τ (Elt F) Unit ℕ (UR nD τ) ℕ (cfg1 (F := F)) c where
  A w := V c (Proc.devRef .tc (Pipeline.arrRef spec1 w))
  after w t := match w with
    | ⟨0, _⟩ => (insAt V c t).s
    | ⟨1, _⟩ => (insAt V c t).x1
    | ⟨2, _⟩ => (insAt V c t).y1
    | ⟨3, _⟩ => (insAt V c t).x2
    | ⟨4, _⟩ => (insAt V c t).y2
    | ⟨5, _⟩ => (insAt V c t).a
    | ⟨6, _⟩ => (insAt V c t).j
    | ⟨7, _⟩ => (insAt V c t).ux1
    | ⟨8, _⟩ => (insAt V c t).uy1
    | ⟨9, _⟩ => (insAt V c t).ux2
    | ⟨10, _⟩ => (insAt V c t).uy2
    | ⟨11, _⟩ => outOf (insAt V c t)
  Φ _ := Pipeline.scopedRest (Ix := Unit) (Name := ℕ) (U := UR nD τ) (Lvl := ℕ) (Val := Elt F) spec1 c
  q _ := fullShare
  owed _ := 0

theorem before1_0 (t : Fin (cfg1 (F := F)).N) (d : ((cfg1 (F := F)).win 0).block.Idx → Elt F ((cfg1 (F := F)).win 0).elt) :
    (dat1 V c).before 0 t d = (insAt V c t).s := by
  unfold Dat.before; rw [if_pos (fetch1_0 t)]; rfl
theorem before1_1 (t : Fin (cfg1 (F := F)).N) (d : ((cfg1 (F := F)).win 1).block.Idx → Elt F ((cfg1 (F := F)).win 1).elt) :
    (dat1 V c).before 1 t d = (insAt V c t).x1 := by
  unfold Dat.before; rw [if_pos (fetch1_1 t)]; rfl
theorem before1_2 (t : Fin (cfg1 (F := F)).N) (d : ((cfg1 (F := F)).win 2).block.Idx → Elt F ((cfg1 (F := F)).win 2).elt) :
    (dat1 V c).before 2 t d = (insAt V c t).y1 := by
  unfold Dat.before; rw [if_pos (fetch1_2 t)]; rfl
theorem before1_3 (t : Fin (cfg1 (F := F)).N) (d : ((cfg1 (F := F)).win 3).block.Idx → Elt F ((cfg1 (F := F)).win 3).elt) :
    (dat1 V c).before 3 t d = (insAt V c t).x2 := by
  unfold Dat.before; rw [if_pos (fetch1_3 t)]; rfl
theorem before1_4 (t : Fin (cfg1 (F := F)).N) (d : ((cfg1 (F := F)).win 4).block.Idx → Elt F ((cfg1 (F := F)).win 4).elt) :
    (dat1 V c).before 4 t d = (insAt V c t).y2 := by
  unfold Dat.before; rw [if_pos (fetch1_4 t)]; rfl
theorem before1_5 (t : Fin (cfg1 (F := F)).N) (d : ((cfg1 (F := F)).win 5).block.Idx → Elt F ((cfg1 (F := F)).win 5).elt) :
    (dat1 V c).before 5 t d = (insAt V c t).a := by
  unfold Dat.before; rw [if_pos (fetch1_5 t)]; rfl
theorem before1_6 (t : Fin (cfg1 (F := F)).N) (d : ((cfg1 (F := F)).win 6).block.Idx → Elt F ((cfg1 (F := F)).win 6).elt) :
    (dat1 V c).before 6 t d = (insAt V c t).j := by
  unfold Dat.before; rw [if_pos (fetch1_6 t)]; rfl
theorem before1_7 (t : Fin (cfg1 (F := F)).N) (d : ((cfg1 (F := F)).win 7).block.Idx → Elt F ((cfg1 (F := F)).win 7).elt) :
    (dat1 V c).before 7 t d = (insAt V c t).ux1 := by
  unfold Dat.before; rw [if_pos (fetch1_7 t)]; rfl
theorem before1_8 (t : Fin (cfg1 (F := F)).N) (d : ((cfg1 (F := F)).win 8).block.Idx → Elt F ((cfg1 (F := F)).win 8).elt) :
    (dat1 V c).before 8 t d = (insAt V c t).uy1 := by
  unfold Dat.before; rw [if_pos (fetch1_8 t)]; rfl
theorem before1_9 (t : Fin (cfg1 (F := F)).N) (d : ((cfg1 (F := F)).win 9).block.Idx → Elt F ((cfg1 (F := F)).win 9).elt) :
    (dat1 V c).before 9 t d = (insAt V c t).ux2 := by
  unfold Dat.before; rw [if_pos (fetch1_9 t)]; rfl
theorem before1_10 (t : Fin (cfg1 (F := F)).N) (d : ((cfg1 (F := F)).win 10).block.Idx → Elt F ((cfg1 (F := F)).win 10).elt) :
    (dat1 V c).before 10 t d = (insAt V c t).uy2 := by
  unfold Dat.before; rw [if_pos (fetch1_10 t)]; rfl

/-- The memory the second kernel works on at a point. -/
def mems (t : Fin (cfg1 (F := F)).N) : Mems where
  m1 := st1_0 t
  h1 := hstage1_0 (((cfg1 (F := F)).slots t 0).cast nbuf1_0)
  m2 := st1_1 t
  h2 := hstage1_1 (((cfg1 (F := F)).slots t 1).cast nbuf1_1)
  m3 := st1_2 t
  h3 := hstage1_2 (((cfg1 (F := F)).slots t 2).cast nbuf1_2)
  m4 := st1_3 t
  h4 := hstage1_3 (((cfg1 (F := F)).slots t 3).cast nbuf1_3)
  m5 := st1_4 t
  h5 := hstage1_4 (((cfg1 (F := F)).slots t 4).cast nbuf1_4)
  m6 := st1_5 t
  h6 := hstage1_5 (((cfg1 (F := F)).slots t 5).cast nbuf1_5)
  m7 := st1_6 t
  h7 := hstage1_6 (((cfg1 (F := F)).slots t 6).cast nbuf1_6)
  m8 := st1_7 t
  h8 := hstage1_7 (((cfg1 (F := F)).slots t 7).cast nbuf1_7)
  m9 := st1_8 t
  h9 := hstage1_8 (((cfg1 (F := F)).slots t 8).cast nbuf1_8)
  m10 := st1_9 t
  h10 := hstage1_9 (((cfg1 (F := F)).slots t 9).cast nbuf1_9)
  m11 := st1_10 t
  h11 := hstage1_10 (((cfg1 (F := F)).slots t 10).cast nbuf1_10)
  m12 := st1_11 t
  h12 := hstage1_11 (((cfg1 (F := F)).slots t 11).cast nbuf1_11)
  m13 := Memref.whole cc1_scratch0
  h13 := Memref.isWhole_whole _
  m14 := Memref.whole cc1_scratch1
  h14 := Memref.isWhole_whole _
  m15 := Memref.whole cc1_scratch2
  h15 := Memref.isWhole_whole _
  m16 := Memref.whole cc1_scratch3
  h16 := Memref.isWhole_whole _
  m17 := Memref.whole cc1_scratch4
  h17 := Memref.isWhole_whole _
  m18 := Memref.whole cc1_scratch5
  h18 := Memref.isWhole_whole _
  m19 := Memref.whole cc1_scratch6
  h19 := Memref.isWhole_whole _

/-- The scratch arrays and the scalar are the scoped buffers no window stages, but for the others. -/
theorem anySt_eq (t : Fin (cfg1 (F := F)).N) :
    (Pipeline.scopedRest (Ix := Unit) (Name := ℕ) (U := UR nD τ) (Lvl := ℕ) (Val := Elt F) spec1 c : sProp 𝕄)
      = iprop(anySt (F := F) c (mems (F := F) t)
        ∗ Pipeline.scopedRestBut (Ix := Unit) (Name := ℕ) (U := UR nD τ) (Lvl := ℕ) (Val := Elt F) spec1 c
            [cc1_scratch0, cc1_scratch1, cc1_scratch2, cc1_scratch3, cc1_scratch4, cc1_scratch5, cc1_scratch6]) := by
  rw [scopedRest1_split]
  unfold anySt mems
  simp only [owns_whole]
  rfl

end Cert.KernelIdeal.Nms

end
-- ==== Proof.Ker.Region0.lean ====
/-
  The first kernel's body obligation.
-/
module

public import proofs.«01_k».proof.Proof.Ker.Dat
public import proofs.«01_k».proof.Proof.Gen.KernelIdeal.Points
public import proofs.«01_k».proof.Proof.Gen.KernelIdeal.Regions
public import Idealize.ShloMosaic.Lib.Pipeline.RegionArraysS
public import Idealize.ShloMosaic.Lib.Pipeline.FrameBody

@[expose] public section

noncomputable section

namespace Cert.KernelIdeal.Nms

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg HostSeg Seg)

variable {F : FTy → Type} [FloatOps F]

local notation "𝕄" => MT nD τ sig Unit (Elt F) ℕ (UR nD τ) ℕ

variable (V : Dev nD → Valuation τ sig (Elt F)) (c : Dev nD)

/-! What the windows hold before and after the body at a point. -/

theorem before0' (t : Fin (cfg0 (F := F)).N) (d) : (dat0 V c).before (0 : Fin 12) t d = blk0 V c t := before0 V c t d
theorem after0_0 (t : Fin (cfg0 (F := F)).N) : (dat0 V c).after (0 : Fin 12) t = blk0 V c t := by dsimp only [dat0]
theorem after0_1 (t : Fin (cfg0 (F := F)).N) : (dat0 V c).after (1 : Fin 12) t = prep_s (blk0 V c t) := by dsimp only [dat0]
theorem after0_2 (t : Fin (cfg0 (F := F)).N) : (dat0 V c).after (2 : Fin 12) t = prep_x1 (blk0 V c t) := by dsimp only [dat0]
theorem after0_3 (t : Fin (cfg0 (F := F)).N) : (dat0 V c).after (3 : Fin 12) t = prep_y1 (blk0 V c t) := by dsimp only [dat0]
theorem after0_4 (t : Fin (cfg0 (F := F)).N) : (dat0 V c).after (4 : Fin 12) t = prep_x2 (blk0 V c t) := by dsimp only [dat0]
theorem after0_5 (t : Fin (cfg0 (F := F)).N) : (dat0 V c).after (5 : Fin 12) t = prep_y2 (blk0 V c t) := by dsimp only [dat0]
theorem after0_6 (t : Fin (cfg0 (F := F)).N) : (dat0 V c).after (6 : Fin 12) t = prep_a (blk0 V c t) := by dsimp only [dat0]
theorem after0_7 (t : Fin (cfg0 (F := F)).N) : (dat0 V c).after (7 : Fin 12) t = prep_j (blk0 V c t) := by dsimp only [dat0]
theorem after0_8 (t : Fin (cfg0 (F := F)).N) : (dat0 V c).after (8 : Fin 12) t = prep_ux1 (blk0 V c t) := by dsimp only [dat0]
theorem after0_9 (t : Fin (cfg0 (F := F)).N) : (dat0 V c).after (9 : Fin 12) t = prep_uy1 (blk0 V c t) := by dsimp only [dat0]
theorem after0_10 (t : Fin (cfg0 (F := F)).N) : (dat0 V c).after (10 : Fin 12) t = prep_ux2 (blk0 V c t) := by dsimp only [dat0]
theorem after0_11 (t : Fin (cfg0 (F := F)).N) : (dat0 V c).after (11 : Fin 12) t = prep_uy2 (blk0 V c t) := by dsimp only [dat0]

/-- The body table's row at a point. -/
theorem row0 (t : Fin (cfg0 (F := F)).N) :
    defs₀ (F := F) .tc (cfg0 (F := F)).body ((cfg0 (F := F)).bodyArgs t ((cfg0 (F := F)).slots t)) = bodyAt0 t := by
  unfold defs₀; rw [Defs.onTc_tc]

set_option maxRecDepth 8000 in
set_option maxHeartbeats 2000000 in
/-- The first kernel's body with an invariant and the tallies riding along. -/
theorem prep_frame (i : grid0.Coords) (A : PMems) (v : Vec F S1x16x88x128 .f32) (Φ O : sProp 𝕄) :
    iprop(Φ ∗ O ∗ owns c A.m2 fullShare v ∗ (∃ X : Vec F S1x16x128 .f32, owns c A.m3 fullShare X) ∗ (∃ X : Vec F S1x16x128 .f32, owns c A.m4 fullShare X) ∗ (∃ X : Vec F S1x16x128 .f32, owns c A.m5 fullShare X) ∗ (∃ X : Vec F S1x16x128 .f32, owns c A.m6 fullShare X) ∗ (∃ X : Vec F S1x16x128 .f32, owns c A.m7 fullShare X) ∗ (∃ X : Vec F S1x16x128 .f32, owns c A.m8 fullShare X) ∗ (∃ X : Vec F S1x16x128 .f32, owns c A.m9 fullShare X) ∗ (∃ X : Vec F S1x16x128 .f32, owns c A.m10 fullShare X) ∗ (∃ X : Vec F S1x16x128 .f32, owns c A.m11 fullShare X) ∗ (∃ X : Vec F S1x16x128 .f32, owns c A.m12 fullShare X) ∗ (∃ X : Vec F S1x16x128 .f32, owns c A.m13 fullShare X))
    ⊢ wp frame (wpE (defs₀ (F := F)) 𝒱₀ (c : Thread nD τ) none) Set.univ
        (cc0__prep_kernel i A.m2 A.h2 A.m3 A.h3 A.m4 A.h4 A.m5 A.h5 A.m6 A.h6 A.m7 A.h7 A.m8 A.h8 A.m9 A.h9 A.m10 A.h10 A.m11 A.h11 A.m12 A.h12 A.m13 A.h13) fun _ =>
          iprop(Φ ∗ O ∗ owns c A.m2 fullShare v ∗ owns c A.m3 fullShare (prep_s v) ∗ owns c A.m4 fullShare (prep_x1 v) ∗ owns c A.m5 fullShare (prep_y1 v) ∗ owns c A.m6 fullShare (prep_x2 v) ∗ owns c A.m7 fullShare (prep_y2 v) ∗ owns c A.m8 fullShare (prep_a v) ∗ owns c A.m9 fullShare (prep_j v) ∗ owns c A.m10 fullShare (prep_ux1 v) ∗ owns c A.m11 fullShare (prep_uy1 v) ∗ owns c A.m12 fullShare (prep_ux2 v) ∗ owns c A.m13 fullShare (prep_uy2 v)) := by
  iintro ⟨HΦ, HO, H⟩
  iapply (prep_body c i A Set.univ v _)
  isplitl [H]; · iexact H
  iintro H
  isplitl [HΦ]; · iexact HΦ
  isplitl [HO]; · iexact HO
  iexact H

set_option maxRecDepth 100000 in
set_option maxHeartbeats 2000000 in
/-- The first kernel's body meets its obligation at every point. -/
theorem body0 : BodyObligation (dat0 V c) (defs₀ (F := F)) 𝒱₀ () Set.univ := fun t => by
  rw [bigSep_W0, bigSep_W0, row0]
  refine triple_restated (prep_frame c (grid0.coords t) (pmems t) (blk0 V c t) ((dat0 V c).Φ t.castSucc) ((dat0 V c).owesAt () t.castSucc)) rfl ?_ (fun _ => ?_)
  rotate_left
  · rw [show (dat0 V c).Φ t.succ = (dat0 V c).Φ t.castSucc from rfl, show (dat0 V c).owesAt () t.succ = (dat0 V c).owesAt () t.castSucc from rfl,
      after0_0, after0_1, after0_2, after0_3, after0_4, after0_5, after0_6, after0_7, after0_8, after0_9, after0_10, after0_11]
    iintro ⟨HΦ, HO, V0, H1, H2, H3, H4, H5, H6, H7, H8, H9, H10, H11⟩
    isplitl [HΦ]; · iexact HΦ
    isplitl [HO]; · iexact HO
    isplitl [V0]; · iexact V0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro ⟨HΦ, HO, ⟨%d0, V0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before0']
  isplitl [HΦ]; · iexact HΦ
  isplitl [HO]; · iexact HO
  isplitl [V0]; · iexact V0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iexists _; iexact H11

end Cert.KernelIdeal.Nms

end
-- ==== Proof.Ker.Region1.lean ====
/-
  The second kernel's body obligation.
-/
module

public import proofs.«01_k».proof.Proof.Ker.Dat
public import proofs.«01_k».proof.Proof.Gen.KernelIdeal.Points
public import proofs.«01_k».proof.Proof.Gen.KernelIdeal.Regions
public import Idealize.ShloMosaic.Lib.Pipeline.RegionArraysS
public import Idealize.ShloMosaic.Lib.Pipeline.FrameBody

@[expose] public section

noncomputable section

namespace Cert.KernelIdeal.Nms

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg HostSeg Seg)

variable {F : FTy → Type} [FloatOps F]

local notation "𝕄" => MT nD τ sig Unit (Elt F) ℕ (UR nD τ) ℕ

variable (V : Dev nD → Valuation τ sig (Elt F)) (c : Dev nD)

/-! What the windows hold before and after the body at a point. -/

theorem before1_0' (t : Fin (cfg1 (F := F)).N) (d) : (dat1 V c).before (0 : Fin 12) t d = (insAt V c t).s := before1_0 V c t d
theorem before1_1' (t : Fin (cfg1 (F := F)).N) (d) : (dat1 V c).before (1 : Fin 12) t d = (insAt V c t).x1 := before1_1 V c t d
theorem before1_2' (t : Fin (cfg1 (F := F)).N) (d) : (dat1 V c).before (2 : Fin 12) t d = (insAt V c t).y1 := before1_2 V c t d
theorem before1_3' (t : Fin (cfg1 (F := F)).N) (d) : (dat1 V c).before (3 : Fin 12) t d = (insAt V c t).x2 := before1_3 V c t d
theorem before1_4' (t : Fin (cfg1 (F := F)).N) (d) : (dat1 V c).before (4 : Fin 12) t d = (insAt V c t).y2 := before1_4 V c t d
theorem before1_5' (t : Fin (cfg1 (F := F)).N) (d) : (dat1 V c).before (5 : Fin 12) t d = (insAt V c t).a := before1_5 V c t d
theorem before1_6' (t : Fin (cfg1 (F := F)).N) (d) : (dat1 V c).before (6 : Fin 12) t d = (insAt V c t).j := before1_6 V c t d
theorem before1_7' (t : Fin (cfg1 (F := F)).N) (d) : (dat1 V c).before (7 : Fin 12) t d = (insAt V c t).ux1 := before1_7 V c t d
theorem before1_8' (t : Fin (cfg1 (F := F)).N) (d) : (dat1 V c).before (8 : Fin 12) t d = (insAt V c t).uy1 := before1_8 V c t d
theorem before1_9' (t : Fin (cfg1 (F := F)).N) (d) : (dat1 V c).before (9 : Fin 12) t d = (insAt V c t).ux2 := before1_9 V c t d
theorem before1_10' (t : Fin (cfg1 (F := F)).N) (d) : (dat1 V c).before (10 : Fin 12) t d = (insAt V c t).uy2 := before1_10 V c t d
theorem after1_0 (t : Fin (cfg1 (F := F)).N) : (dat1 V c).after (0 : Fin 12) t = (insAt V c t).s := by dsimp only [dat1]
theorem after1_1 (t : Fin (cfg1 (F := F)).N) : (dat1 V c).after (1 : Fin 12) t = (insAt V c t).x1 := by dsimp only [dat1]
theorem after1_2 (t : Fin (cfg1 (F := F)).N) : (dat1 V c).after (2 : Fin 12) t = (insAt V c t).y1 := by dsimp only [dat1]
theorem after1_3 (t : Fin (cfg1 (F := F)).N) : (dat1 V c).after (3 : Fin 12) t = (insAt V c t).x2 := by dsimp only [dat1]
theorem after1_4 (t : Fin (cfg1 (F := F)).N) : (dat1 V c).after (4 : Fin 12) t = (insAt V c t).y2 := by dsimp only [dat1]
theorem after1_5 (t : Fin (cfg1 (F := F)).N) : (dat1 V c).after (5 : Fin 12) t = (insAt V c t).a := by dsimp only [dat1]
theorem after1_6 (t : Fin (cfg1 (F := F)).N) : (dat1 V c).after (6 : Fin 12) t = (insAt V c t).j := by dsimp only [dat1]
theorem after1_7 (t : Fin (cfg1 (F := F)).N) : (dat1 V c).after (7 : Fin 12) t = (insAt V c t).ux1 := by dsimp only [dat1]
theorem after1_8 (t : Fin (cfg1 (F := F)).N) : (dat1 V c).after (8 : Fin 12) t = (insAt V c t).uy1 := by dsimp only [dat1]
theorem after1_9 (t : Fin (cfg1 (F := F)).N) : (dat1 V c).after (9 : Fin 12) t = (insAt V c t).ux2 := by dsimp only [dat1]
theorem after1_10 (t : Fin (cfg1 (F := F)).N) : (dat1 V c).after (10 : Fin 12) t = (insAt V c t).uy2 := by dsimp only [dat1]
theorem after1_11 (t : Fin (cfg1 (F := F)).N) : (dat1 V c).after (11 : Fin 12) t = outOf (insAt V c t) := by dsimp only [dat1]

/-- The scoped buffers no window stages, but for the second kernel's own. -/
abbrev rest1 : sProp 𝕄 :=
  Pipeline.scopedRestBut (Ix := Unit) (Name := ℕ) (U := UR nD τ) (Lvl := ℕ) (Val := Elt F) spec1 c
    [cc1_scratch0, cc1_scratch1, cc1_scratch2, cc1_scratch3, cc1_scratch4, cc1_scratch5, cc1_scratch6]

theorem phi1 (t : Fin (cfg1 (F := F)).N) (t' : Fin ((cfg1 (F := F)).N + 1)) :
    (dat1 V c).Φ t' = iprop(anySt (F := F) c (mems (F := F) t) ∗ rest1 (F := F) c) := anySt_eq c t

/-- The body table's row at a point. -/
theorem row1 (t : Fin (cfg1 (F := F)).N) :
    defs₀ (F := F) .tc (cfg1 (F := F)).body ((cfg1 (F := F)).bodyArgs t ((cfg1 (F := F)).slots t)) = bodyAt1 t := by
  unfold defs₀; rw [Defs.onTc_tc]

set_option maxRecDepth 8000 in
set_option maxHeartbeats 2000000 in
/-- The second kernel's body with the other scoped buffers and the tallies riding along. -/
theorem nms_frame (i : grid1.Coords) (A : Mems) (I : Ins F) (hE : Ends I) (Φ O : sProp 𝕄) :
    iprop((anySt (F := F) c A ∗ Φ) ∗ O ∗ owns c A.m1 fullShare I.s ∗ owns c A.m2 fullShare I.x1 ∗ owns c A.m3 fullShare I.y1 ∗ owns c A.m4 fullShare I.x2 ∗ owns c A.m5 fullShare I.y2 ∗ owns c A.m6 fullShare I.a ∗ owns c A.m7 fullShare I.j ∗ owns c A.m8 fullShare I.ux1 ∗ owns c A.m9 fullShare I.uy1 ∗ owns c A.m10 fullShare I.ux2 ∗ owns c A.m11 fullShare I.uy2 ∗ (∃ X : Vec F S1x8x1024 .f32, owns c A.m12 fullShare X))
    ⊢ wp frame (wpE (defs₀ (F := F)) 𝒱₀ (c : Thread nD τ) none) Set.univ
        (cc1__nms_kernel i A.m1 A.h1 A.m2 A.h2 A.m3 A.h3 A.m4 A.h4 A.m5 A.h5 A.m6 A.h6 A.m7 A.h7 A.m8 A.h8 A.m9 A.h9 A.m10 A.h10 A.m11 A.h11 A.m12 A.h12 A.m13 A.h13 A.m14 A.h14 A.m15 A.h15 A.m16 A.h16 A.m17 A.h17 A.m18 A.h18 A.m19 A.h19) fun _ =>
          iprop((anySt (F := F) c A ∗ Φ) ∗ O ∗ owns c A.m1 fullShare I.s ∗ owns c A.m2 fullShare I.x1 ∗ owns c A.m3 fullShare I.y1 ∗ owns c A.m4 fullShare I.x2 ∗ owns c A.m5 fullShare I.y2 ∗ owns c A.m6 fullShare I.a ∗ owns c A.m7 fullShare I.j ∗ owns c A.m8 fullShare I.ux1 ∗ owns c A.m9 fullShare I.uy1 ∗ owns c A.m10 fullShare I.ux2 ∗ owns c A.m11 fullShare I.uy2 ∗ owns c A.m12 fullShare (outOf I)) := by
  iintro ⟨⟨HS, HΦ⟩, HO, H0, H1, H2, H3, H4, H5, H6, H7, H8, H9, H10, H11⟩
  iapply (nms_body c i A Set.univ I hE _)
  unfold heldIns
  isplitl [HS H0 H1 H2 H3 H4 H5 H6 H7 H8 H9 H10 H11]
  · isplitl [H0]; · iexact H0
    isplitl [H1 H2 H3 H4 H5 H6 H7 H8 H9 H10]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [H11]; · iexact H11
    iexact HS
  iintro ⟨H0, ⟨H1, H2, H3, H4, H5, H6, H7, H8, H9, H10⟩, H11, HS⟩
  isplitl [HS HΦ]; · isplitl [HS] <;> iassumption
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxRecDepth 100000 in
set_option maxHeartbeats 2000000 in
/-- The second kernel's body meets its obligation at every point, if its loop ends on every image. -/
theorem body1 (hE : ∀ t, Ends (insAt V c t)) : BodyObligation (dat1 V c) (defs₀ (F := F)) 𝒱₀ () Set.univ := fun t => by
  rw [bigSep_W1, bigSep_W1, row1]
  refine triple_restated (nms_frame c (grid1.coords t) (mems t) (insAt V c t) (hE t) (rest1 c) ((dat1 V c).owesAt () t.castSucc)) rfl ?_
    (fun _ => ?_)
  rotate_left
  · rw [phi1 V c t t.succ, show (dat1 V c).owesAt () t.succ = (dat1 V c).owesAt () t.castSucc from rfl,
      after1_0, after1_1, after1_2, after1_3, after1_4, after1_5, after1_6, after1_7, after1_8, after1_9, after1_10, after1_11]
    iintro ⟨HS, HO, H0, H1, H2, H3, H4, H5, H6, H7, H8, H9, H10, H11⟩
    isplitl [HS]; · iexact HS
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  rw [phi1 V c t t.castSucc]
  iintro ⟨HS, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before1_0', before1_1', before1_2', before1_3', before1_4', before1_5', before1_6', before1_7', before1_8', before1_9', before1_10']
  isplitl [HS]; · iexact HS
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexact H11

end Cert.KernelIdeal.Nms

end
-- ==== Proof.Ker.Run.lean ====
/-
  The whole program run: what its result's buffer holds at the end, if the loop ends on every image.
-/
module

public import proofs.«01_k».proof.Proof.Ker.Region0
public import proofs.«01_k».proof.Proof.Ker.Region1
public import proofs.«01_k».proof.Proof.Gen.KernelIdeal.Points
public import proofs.«01_k».proof.Proof.Gen.KernelIdeal.Regions
public import Idealize.ShloMosaic.Lib.Pipeline.RegionArraysS
public import Idealize.ShloMosaic.Lib.Pipeline.Regions

@[expose] public section

noncomputable section

namespace Cert.KernelIdeal.Nms

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg HostSeg Seg)

variable {F : FTy → Type} [FloatOps F]

local notation "𝕄" => MT nD τ sig Unit (Elt F) ℕ (UR nD τ) ℕ

/-! ### The launch -/

/-- Where the pipelines' cells' ghost state lives. -/
def EP : Emb (UR nD τ) (MT nD τ sig Unit (Elt F) ℕ (UR nD τ) ℕ) :=
  (Emb.refl _).trans (uEmb (nD := nD) (sig := sig) (Ix := Unit) (Val := Elt F) (Name := ℕ) (U := UR nD τ) (Lvl := ℕ)).toEmb

instance EP_landsIn : (EP : Emb (UR nD τ) 𝕄).LandsIn (upEmb : UEmb _ 𝕄) := by unfold EP; infer_instance

/-- Every cell of a TensorCore is given the one level. -/
abbrev L : GSem nD τ sig → Finset Unit := fun g => if g.1.2 = .tc then {()} else ∅
/-- It is zero. -/
abbrev lv : GSem nD τ sig → Unit → ℕ := fun _ _ => 0
/-- No core owes another anything. -/
abbrev D₀ : Dev nD → CellTallies nD τ sig Unit := fun _ => 0

variable (m : (ℓ : Loc nD τ sig) → Buf (Elt F) ℓ) (ρ : Dev nD → PrngReg)

/-- The buffers after the first kernel. -/
def W4 (c : Dev nD) : Valuation τ sig (Elt F) := Pipeline.afterRegion (dat0 (V3 m) c) (V3 m c)
/-- The buffers after the second kernel. -/
def W5 (c : Dev nD) : Valuation τ sig (Elt F) := Pipeline.afterRegion (dat1 (W4 m) c) (W4 m c)
/-- The buffers at the end. -/
def W6 (c : Dev nD) : Valuation τ sig (Elt F) := StableHlo.after hostOps2 (W5 m c)

/-- The two regions' proof data. -/
def pdats : (p : Fin 2) → (c : Dev nD) → Dat τ (Elt F) Unit ℕ (UR nD τ) ℕ ((cfgs (F := F)) p) c
  | 0 => dat0 (V3 m)
  | 1 => dat1 (W4 m)

/-- What rides along between the items: a core owing nothing. -/
abbrev R₀ : Dev nD → sProp 𝕄 := fun c => iprop((∃ Wd, owes (c : Thread nD τ) (D₀ c) Wd) ∗ (BI.emp : sProp 𝕄) ∗ (BI.emp : sProp 𝕄))

theorem arrs0 : Pipeline.arrRefs (pcfgs (F := F) 0).spec ⊆ Pipeline.ucRefs τ sig := by
  show Pipeline.arrRefs spec0 ⊆ Pipeline.ucRefs τ sig
  decide +kernel
theorem arrs1 : Pipeline.arrRefs (pcfgs (F := F) 1).spec ⊆ Pipeline.ucRefs τ sig := by
  show Pipeline.arrRefs spec1 ⊆ Pipeline.ucRefs τ sig
  decide +kernel

theorem cut (p : Fin 2) : Pipeline.LevelCut (pcfgs (F := F)) adm () L lv p D₀ fun _ => 0 where
  hι c w s := by simp [L]
  hιb c w s := le_refl _
  hD c g i h := absurd h (lt_irrefl _)

set_option backward.isDefEq.respectTransparency.types false in
/-- A region whose arrays lie among the buffers held: entered from them, it leaves them with its arrays rewritten. -/
theorem region_of (ds : (p : Fin 2) → (c : Dev nD) → Dat τ (Elt F) Unit ℕ (UR nD τ) ℕ (Pipeline.pin (pcfgs (F := F)) adm p) c) (p : Fin 2)
    (hS : Pipeline.arrRefs (pcfgs (F := F) p).spec ⊆ Pipeline.ucRefs τ sig)
    (kit : Pipeline.PLaunchFacts (nD := nD) (τ := τ) (pcfgs (F := F)) p) (hK : (pcfgs (F := F) p).pre.K = 0)
    (hbody : ∀ c, Pipeline.BodyObligationLoose (ds p c) defs₀ 𝒱₀ () Set.univ)
    (howed : ∀ c t, (ds p c).owed t = D₀ c) (hrec : ∀ c, (ds p c).recorded 0 = Set.univ)
    (hshare : ∀ c w, (ds p c).share w = fullShare)
    (hin : ∀ c, iprop(Pipeline.scopedRest (Pipeline.pin (pcfgs (F := F)) adm p).spec c ∗ (BI.emp : sProp 𝕄)) ⊢ (ds p c).Φ 0)
    (hout : ∀ c, (ds p c).Φ (Fin.last (Pipeline.pin (pcfgs (F := F)) adm p).N)
      ⊢ iprop(Pipeline.scopedRest (Pipeline.pin (pcfgs (F := F)) adm p).spec c ∗ (BI.emp : sProp 𝕄)))
    (W : Dev nD → Valuation τ sig (Elt F))
    (hW : ∀ c w, (ds p c).arrAt w 0 = W c (Proc.devRef .tc (Pipeline.arrRef (Pipeline.pin (pcfgs (F := F)) adm p).spec w))) :
    ∃ R : RegionSeg (pcfgs (F := F)) adm ds () defs₀ 𝒱₀ L lv p,
      (∀ c : Dev nD, iprop(StableHlo.held (c : Thread nD τ) (Pipeline.ucRefs τ sig) (W c) ∗ R₀ c) ⊢ R.pre c)
      ∧ ∀ c : Dev nD, R.post c
        ⊢ iprop(StableHlo.held (c : Thread nD τ) (Pipeline.ucRefs τ sig) (Pipeline.afterRegion (ds p c) (W c)) ∗ R₀ c) :=
  ⟨RegionSeg.ofHeldIn (pcfgs (F := F)) adm ds () defs₀ 𝒱₀ L lv p D₀ (Pipeline.ucRefs τ sig) (fun _ => BI.emp) (fun _ => BI.emp)
      kit hK hbody howed hrec hshare hin hout (fun _ => 0) (cut p) (fun _ => BI.emp) W hW,
    fun c => by
      refine RegionSeg.ofHeldIn_pre (pcs := pcfgs (F := F)) (a := adm) (pdats := ds) (ι := ()) (L := L) (lv := lv) (p := p) (D := D₀)
        (X := fun _ => BI.emp) (Y := fun _ => BI.emp) (R := fun _ => BI.emp) (W := W) hS c,
    fun c => RegionSeg.ofHeldIn_post hS c⟩

set_option backward.isDefEq.respectTransparency.types false in
/-- The first kernel's region. -/
theorem reg0 : ∃ R : RegionSeg (pcfgs (F := F)) adm (pdats m) () defs₀ 𝒱₀ L lv 0,
    (∀ c : Dev nD, iprop(StableHlo.held (c : Thread nD τ) (Pipeline.ucRefs τ sig) (V3 m c) ∗ R₀ c) ⊢ R.pre c)
    ∧ ∀ c : Dev nD, R.post c ⊢ iprop(StableHlo.held (c : Thread nD τ) (Pipeline.ucRefs τ sig) (W4 m c) ∗ R₀ c) :=
  region_of (pdats m) 0 arrs0 launch0.toP rfl (fun c => (body0 (V3 m) c).loose) (fun _ _ => rfl) (fun _ => rfl)
    (fun c => (dat0 (V3 m) c).share_full fun _ => rfl)
    (fun c => by
      show _ ⊢ Pipeline.scopedRest (Ix := Unit) (Name := ℕ) (U := UR nD τ) (Lvl := ℕ) (Val := Elt F) spec0 c
      iintro ⟨H, -⟩; iexact H)
    (fun c => by
      show Pipeline.scopedRest (Ix := Unit) (Name := ℕ) (U := UR nD τ) (Lvl := ℕ) (Val := Elt F) spec0 c ⊢ _
      iintro H; isplitl [H]; · iexact H
      iempintro)
    (V3 m) (fun _ _ => rfl)

set_option backward.isDefEq.respectTransparency.types false in
/-- The second kernel's region. -/
theorem reg1 (hE : ∀ c t, Ends (insAt (W4 m) c t)) : ∃ R : RegionSeg (pcfgs (F := F)) adm (pdats m) () defs₀ 𝒱₀ L lv 1,
    (∀ c : Dev nD, iprop(StableHlo.held (c : Thread nD τ) (Pipeline.ucRefs τ sig) (W4 m c) ∗ R₀ c) ⊢ R.pre c)
    ∧ ∀ c : Dev nD, R.post c ⊢ iprop(StableHlo.held (c : Thread nD τ) (Pipeline.ucRefs τ sig) (W5 m c) ∗ R₀ c) :=
  region_of (pdats m) 1 arrs1 launch1.toP rfl (fun c => (body1 (W4 m) c (hE c)).loose) (fun _ _ => rfl) (fun _ => rfl)
    (fun c => (dat1 (W4 m) c).share_full fun _ => rfl)
    (fun c => by
      show _ ⊢ Pipeline.scopedRest (Ix := Unit) (Name := ℕ) (U := UR nD τ) (Lvl := ℕ) (Val := Elt F) spec1 c
      iintro ⟨H, -⟩; iexact H)
    (fun c => by
      show Pipeline.scopedRest (Ix := Unit) (Name := ℕ) (U := UR nD τ) (Lvl := ℕ) (Val := Elt F) spec1 c ⊢ _
      iintro H; isplitl [H]; · iexact H
      iempintro)
    (W4 m) (fun _ _ => rfl)

/-- The last host stretch over the buffers held. -/
def seg5' : HostSeg (Ix := Unit) (Name := ℕ) (U := UR nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W5 m) R₀

variable (R0 : RegionSeg (pcfgs (F := F)) adm (pdats m) () defs₀ 𝒱₀ L lv 0) (R1 : RegionSeg (pcfgs (F := F)) adm (pdats m) () defs₀ 𝒱₀ L lv 1)

/-- The program's items on a core. -/
abbrev items (_c : Dev nD) : List (Seg (pcfgs (F := F)) adm (pdats m) () defs₀ 𝒱₀ L lv) :=
  [.host (seg0 m 𝒱₀ L lv fun _ => R₀), .host (seg1 m 𝒱₀ L lv fun _ => R₀), .host (seg2 m 𝒱₀ L lv fun _ => R₀), .region R0, .region R1,
    .host (seg5' m)]

/-- The argument is no array of the region. -/
theorem not0 : ∀ w : Fin 12, main_arg0 ≠ Pipeline.arrRef spec0 w := by decide +kernel
/-- The argument is no array of the region. -/
theorem not1 : ∀ w : Fin 12, main_arg0 ≠ Pipeline.arrRef spec1 w := by decide +kernel

/-- No region writes the argument. -/
theorem W6_arg0 (c : Dev nD) : W6 m c main_arg0 = m ((c : Thread nD τ).loc main_arg0) :=
  (StableHlo.after_of_writes_sub hostOps2 _ hostOps2_writes (by decide)).trans <|
    (Pipeline.afterRegion_of_not_arr (dat1 (W4 m) c) (W4 m c) (b := main_arg0) not1).trans <|
    (Pipeline.afterRegion_of_not_arr (dat0 (V3 m) c) (V3 m c) (b := main_arg0) not0).trans <|
    (V3_of m c main_arg0 (by decide)).trans <| (V2_of m c main_arg0 (by decide)).trans (V1_of m c main_arg0 (by decide))

/-- A core at launch: its buffers held, and it owes nothing. -/
theorem launch_core (c : Dev nD) : (iprop(unscopedBufs c (fun b => m ((c.tc : Thread nD τ).loc b)) ∗ unscopedSems0 c
      ∗ owes (c.tc : Thread nD τ) (D₀ c) ∅ ∗ Pipeline.launchCred D₀ c ∗ prngReg c (ρ c) ∗ (BI.emp : sProp 𝕄)) : sProp 𝕄)
    ⊢ (iprop(StableHlo.held (c : Thread nD τ) (Pipeline.ucRefs τ sig) (V0 m c) ∗ R₀ c) : sProp 𝕄) := by
  have h : (unscopedBufs c (fun b => m ((c.tc : Thread nD τ).loc b)) : sProp 𝕄)
      ⊢ StableHlo.held (c : Thread nD τ) (Pipeline.ucRefs τ sig) (V0 m c) := by
    rw [← Pipeline.unscopedBufs_held (Ix := Unit) (Name := ℕ) (U := UR nD τ) (Lvl := ℕ) c (V0 m c)]
  iintro ⟨H, -, HO, -⟩
  isplitl [H]; · iapply h; iexact H
  isplitl [HO]; · iexists _; iexact HO
  isplitl <;> iempintro

set_option backward.isDefEq.respectTransparency.types false in
/-- With the two regions' records, every run of the program ends with its result's buffer at `W6`, its argument as it
    was and every semaphore at zero. -/
theorem run_of
    (hpre0 : ∀ c : Dev nD, iprop(StableHlo.held (c : Thread nD τ) (Pipeline.ucRefs τ sig) (V3 m c) ∗ R₀ c) ⊢ R0.pre c)
    (hpost0 : ∀ c : Dev nD, R0.post c ⊢ iprop(StableHlo.held (c : Thread nD τ) (Pipeline.ucRefs τ sig) (W4 m c) ∗ R₀ c))
    (hpre1 : ∀ c : Dev nD, iprop(StableHlo.held (c : Thread nD τ) (Pipeline.ucRefs τ sig) (W4 m c) ∗ R₀ c) ⊢ R1.pre c)
    (hpost1 : ∀ c : Dev nD, R1.post c ⊢ iprop(StableHlo.held (c : Thread nD τ) (Pipeline.ucRefs τ sig) (W5 m c) ∗ R₀ c)) :
    θ_run defs (onTc (τ := τ) (main (F := F))) ⟨m, fun _ => 0, ρ⟩ (fun r => (∀ c : Dev nD,
      r.2.mem ((c.tc : Thread nD τ).loc main_v12) = W6 m c main_v12
      ∧ r.2.mem ((c.tc : Thread nD τ).loc main_arg0) = m ((c.tc : Thread nD τ).loc main_arg0))
      ∧ r.2.sem = fun _ => 0) := by
  refine Pipeline.θ_run_regions_kit_dev_sems (pcfgs (F := F)) adm (pdats m) () cellOf_inj EP defs₀ 𝒱₀ L lv m ρ main
    (items m R0 R1)
    (fun c Q => by
      rewrite [main_chain c, Seg.run_eq_chain,
        show (items m R0 R1 c).map Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) D₀
    (fun g hg => if_neg hg) (fun _ => BI.emp) (initOf (Pipeline.cells (cfgs (F := F)) cellOf_inj) (Pipeline.launchToks (cfgs (F := F)) cellOf_inj)) ?_
    (T₀ := fun c => iprop(StableHlo.held (c : Thread nD τ) (Pipeline.ucRefs τ sig) (V0 m c) ∗ R₀ c))
    (Tₙ := fun c => StableHlo.held (c : Thread nD τ) (Pipeline.ucRefs τ sig) (W6 m c))
    (hch := fun c => ⟨.rfl, .rfl, .rfl, hpre0 c, (hpost0 c).trans (hpre1 c), hpost1 c, sep_mono .rfl (by iintro ⟨H, -⟩; iexact H)⟩)
    (hinit := ?_) (QY := fun c s => s.mem ((c.tc : Thread nD τ).loc main_v12) = W6 m c main_v12
      ∧ s.mem ((c.tc : Thread nD τ).loc main_arg0) = m ((c.tc : Thread nD τ).loc main_arg0))
    (hfin := fun c s' => ?_) (hQ := fun _ h hz => ⟨h, funext fun g => hz g (.inr (regions_no_unscoped g.2))⟩)
  · iintro H
    imodintro
    isplitl [H]
    · iapply (show (ownU (initOf (Pipeline.cells (cfgs (F := F)) cellOf_inj) (Pipeline.launchToks (cfgs (F := F)) cellOf_inj)) : sProp 𝕄)
        ⊢ BI.own (EP (initOf (Pipeline.cells (cfgs (F := F)) cellOf_inj) (Pipeline.launchToks (cfgs (F := F)) cellOf_inj))) from BI.Entails.refl _)
      iexact H
    · iapply (show (BI.emp : sProp 𝕄) ⊢ bigSep Finset.univ (fun _ : Dev nD => (BI.emp : sProp 𝕄)) from by rw [BI.bigSep_emp_const])
      iempintro
  · have hsplit : (bigSep Finset.univ fun c : Dev nD => iprop(unscopedBufs c (fun b => m ((c.tc : Thread nD τ).loc b)) ∗ unscopedSems0 c
          ∗ owes (c.tc : Thread nD τ) (D₀ c) ∅ ∗ Pipeline.launchCred D₀ c ∗ prngReg c (ρ c) ∗ (BI.emp : sProp 𝕄)))
        ⊢ (bigSep Finset.univ fun c : Dev nD => iprop(StableHlo.held (c : Thread nD τ) (Pipeline.ucRefs τ sig) (V0 m c) ∗ R₀ c)
            : sProp 𝕄) := by
      exact bigSep_mono fun c _ => launch_core m ρ c
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (W6 m c) s') $$ [Hh HSI]
    · isplitl [Hh] <;> iassumption
    icases Hr with ⟨%h, HSI⟩
    imodintro
    isplitr
    · ipureintro
      exact ⟨h (Proc.devRef .tc main_v12) (Finset.mem_filter.mpr ⟨StableHlo.devRef_mem_tcRefs main_v12, by decide⟩),
        (h (Proc.devRef .tc main_arg0) (Finset.mem_filter.mpr ⟨StableHlo.devRef_mem_tcRefs main_arg0, by decide⟩)).trans (W6_arg0 m c)⟩
    · iexact HSI

set_option backward.isDefEq.respectTransparency.types false in
/-- If the loop ends on every image, every run of the program ends with its result's buffer at `W6`, its argument as it
    was and every semaphore at zero. -/
theorem run (hE : ∀ c t, Ends (insAt (W4 m) c t)) :
    θ_run defs (onTc (τ := τ) (main (F := F))) ⟨m, fun _ => 0, ρ⟩ (fun r => (∀ c : Dev nD,
      r.2.mem ((c.tc : Thread nD τ).loc main_v12) = W6 m c main_v12
      ∧ r.2.mem ((c.tc : Thread nD τ).loc main_arg0) = m ((c.tc : Thread nD τ).loc main_arg0))
      ∧ r.2.sem = fun _ => 0) := by
  obtain ⟨R0, hpre0, hpost0⟩ := reg0 m
  obtain ⟨R1, hpre1, hpost1⟩ := reg1 m hE
  exact run_of m ρ R0 R1 hpre0 hpost0 hpre1 hpost1

end Cert.KernelIdeal.Nms

end
-- ==== Proof.Ker.Blocks.lean ====
/-
  The blocks the second kernel reads, place by place, off the transposed array the first kernel reads.
-/
module

public import proofs.«01_k».proof.Proof.Ker.Prep
public import proofs.«01_k».proof.Proof.Ker.Run
public import Idealize.ShloMosaic.Lib.Pipeline.ValueKit

@[expose] public section

set_option maxRecDepth 16384

noncomputable section

namespace Cert.KernelIdeal.Nms

open Cert.KernelIdeal Cert.KernelIdeal.Gen
open Idealize.ShloMosaic Idealize.ShloMosaic.TcCoe
open Idealize.ShloMosaic.Pointwise

variable (V : Dev nD → Valuation τ sig (Elt Ideal)) (c : Dev nD)

/-- Where a point of the first kernel's grid reads, and writes. -/
theorem idx0_0 : ∀ t : Fin (cfg0 (F := Ideal)).N, win0_0.index t = ![t.val / 10, t.val % 10, 0, 0] :=
  (by decide +kernel : ∀ t : Fin grid0.N, win0_0.index t = ![t.val / 10, t.val % 10, 0, 0])
theorem idx0_1 : ∀ t : Fin (cfg0 (F := Ideal)).N, win0_1.index t = ![t.val / 10, t.val % 10, 0] :=
  (by decide +kernel : ∀ t : Fin grid0.N, win0_1.index t = ![t.val / 10, t.val % 10, 0])
theorem idx0_2 : ∀ t : Fin (cfg0 (F := Ideal)).N, win0_2.index t = ![t.val / 10, t.val % 10, 0] :=
  (by decide +kernel : ∀ t : Fin grid0.N, win0_2.index t = ![t.val / 10, t.val % 10, 0])
theorem idx0_3 : ∀ t : Fin (cfg0 (F := Ideal)).N, win0_3.index t = ![t.val / 10, t.val % 10, 0] :=
  (by decide +kernel : ∀ t : Fin grid0.N, win0_3.index t = ![t.val / 10, t.val % 10, 0])
theorem idx0_4 : ∀ t : Fin (cfg0 (F := Ideal)).N, win0_4.index t = ![t.val / 10, t.val % 10, 0] :=
  (by decide +kernel : ∀ t : Fin grid0.N, win0_4.index t = ![t.val / 10, t.val % 10, 0])
theorem idx0_5 : ∀ t : Fin (cfg0 (F := Ideal)).N, win0_5.index t = ![t.val / 10, t.val % 10, 0] :=
  (by decide +kernel : ∀ t : Fin grid0.N, win0_5.index t = ![t.val / 10, t.val % 10, 0])
theorem idx0_6 : ∀ t : Fin (cfg0 (F := Ideal)).N, win0_6.index t = ![t.val / 10, t.val % 10, 0] :=
  (by decide +kernel : ∀ t : Fin grid0.N, win0_6.index t = ![t.val / 10, t.val % 10, 0])
theorem idx0_7 : ∀ t : Fin (cfg0 (F := Ideal)).N, win0_7.index t = ![t.val / 10, t.val % 10, 0] :=
  (by decide +kernel : ∀ t : Fin grid0.N, win0_7.index t = ![t.val / 10, t.val % 10, 0])
theorem idx0_8 : ∀ t : Fin (cfg0 (F := Ideal)).N, win0_8.index t = ![t.val / 10, t.val % 10, 0] :=
  (by decide +kernel : ∀ t : Fin grid0.N, win0_8.index t = ![t.val / 10, t.val % 10, 0])
theorem idx0_9 : ∀ t : Fin (cfg0 (F := Ideal)).N, win0_9.index t = ![t.val / 10, t.val % 10, 0] :=
  (by decide +kernel : ∀ t : Fin grid0.N, win0_9.index t = ![t.val / 10, t.val % 10, 0])
theorem idx0_10 : ∀ t : Fin (cfg0 (F := Ideal)).N, win0_10.index t = ![t.val / 10, t.val % 10, 0] :=
  (by decide +kernel : ∀ t : Fin grid0.N, win0_10.index t = ![t.val / 10, t.val % 10, 0])
theorem idx0_11 : ∀ t : Fin (cfg0 (F := Ideal)).N, win0_11.index t = ![t.val / 10, t.val % 10, 0] :=
  (by decide +kernel : ∀ t : Fin grid0.N, win0_11.index t = ![t.val / 10, t.val % 10, 0])
/-- Where a point of the second kernel's grid reads. -/
theorem idx1_0 : ∀ t : Fin (cfg1 (F := Ideal)).N, win1_0.index t = ![t.val, 0, 0] :=
  (by decide +kernel : ∀ t : Fin grid1.N, win1_0.index t = ![t.val, 0, 0])
theorem idx1_1 : ∀ t : Fin (cfg1 (F := Ideal)).N, win1_1.index t = ![t.val, 0, 0] :=
  (by decide +kernel : ∀ t : Fin grid1.N, win1_1.index t = ![t.val, 0, 0])
theorem idx1_2 : ∀ t : Fin (cfg1 (F := Ideal)).N, win1_2.index t = ![t.val, 0, 0] :=
  (by decide +kernel : ∀ t : Fin grid1.N, win1_2.index t = ![t.val, 0, 0])
theorem idx1_3 : ∀ t : Fin (cfg1 (F := Ideal)).N, win1_3.index t = ![t.val, 0, 0] :=
  (by decide +kernel : ∀ t : Fin grid1.N, win1_3.index t = ![t.val, 0, 0])
theorem idx1_4 : ∀ t : Fin (cfg1 (F := Ideal)).N, win1_4.index t = ![t.val, 0, 0] :=
  (by decide +kernel : ∀ t : Fin grid1.N, win1_4.index t = ![t.val, 0, 0])
theorem idx1_5 : ∀ t : Fin (cfg1 (F := Ideal)).N, win1_5.index t = ![t.val, 0, 0] :=
  (by decide +kernel : ∀ t : Fin grid1.N, win1_5.index t = ![t.val, 0, 0])
theorem idx1_6 : ∀ t : Fin (cfg1 (F := Ideal)).N, win1_6.index t = ![t.val, 0, 0] :=
  (by decide +kernel : ∀ t : Fin grid1.N, win1_6.index t = ![t.val, 0, 0])
theorem idx1_7 : ∀ t : Fin (cfg1 (F := Ideal)).N, win1_7.index t = ![t.val, 0, 0] :=
  (by decide +kernel : ∀ t : Fin grid1.N, win1_7.index t = ![t.val, 0, 0])
theorem idx1_8 : ∀ t : Fin (cfg1 (F := Ideal)).N, win1_8.index t = ![t.val, 0, 0] :=
  (by decide +kernel : ∀ t : Fin grid1.N, win1_8.index t = ![t.val, 0, 0])
theorem idx1_9 : ∀ t : Fin (cfg1 (F := Ideal)).N, win1_9.index t = ![t.val, 0, 0] :=
  (by decide +kernel : ∀ t : Fin grid1.N, win1_9.index t = ![t.val, 0, 0])
theorem idx1_10 : ∀ t : Fin (cfg1 (F := Ideal)).N, win1_10.index t = ![t.val, 0, 0] :=
  (by decide +kernel : ∀ t : Fin grid1.N, win1_10.index t = ![t.val, 0, 0])
theorem idx1_11 : ∀ t : Fin (cfg1 (F := Ideal)).N, win1_11.index t = ![t.val, 0, 0] :=
  (by decide +kernel : ∀ t : Fin grid1.N, win1_11.index t = ![t.val, 0, 0])

/-- The columns of image `b`, from the transposed array. -/
def colsOf (X : Vec Ideal S8x160x88x128 .f32) (b : Fin 8) (p : Fin 160 × Fin 128) : Col := fun ch => X (ix4 b p.1 ch p.2)

/-- An array of one number per box, from the boxes' columns. -/
def arrOf (f : Col → EReal) (X : Vec Ideal S8x160x88x128 .f32) : Vec Ideal S8x160x128 .f32 := fun i =>
  f (colsOf X (i 0) (i 1, i 2))

/-- A box of a point's block is a box of the array. -/
theorem col_blk (t : Fin (cfg0 (F := Ideal)).N) (r : Fin 16) (l : Fin 128) (i : S8x160x128.Idx) (h0 : (i 0).val = t.val / 10)
    (h1 : (i 1).val = t.val % 10 * 16 + r.val) (h2 : (i 2).val = l.val) :
    colAt (blk0 V c t) r l = colsOf (V c (Proc.devRef .tc main_v8)) (i 0) (i 1, i 2) := by
  funext ch
  show V c (Proc.devRef .tc main_v8) _ = V c (Proc.devRef .tc main_v8) _
  refine congrArg (V c (Proc.devRef .tc main_v8)) ?_
  blk_ext [idx0_0 t]

/-- What the first kernel computes box by box, written back at a point, is the array's. -/
theorem at_blk {P : Vec Ideal S1x16x88x128 .f32 → Vec Ideal S1x16x128 .f32} {f : Col → EReal} (hP : ∀ v r l, P v (ix3 0 r l) = f (colAt v r l))
    (t : Fin (cfg0 (F := Ideal)).N) (y : S1x16x128.Idx) (i : S8x160x128.Idx) (h0 : (i 0).val = t.val / 10)
    (h1 : (i 1).val = t.val % 10 * 16 + (y 1).val) (h2 : (i 2).val = (y 2).val) :
    P (blk0 V c t) y = arrOf f (V c (Proc.devRef .tc main_v8)) i := by
  have hy : y = ix3 0 (y 1) (y 2) := by
    funext a
    match a with
    | ⟨0, _⟩ => exact Fin.ext (by have h := (y 0).isLt; change (y 0).val < 1 at h; change (y 0).val = 0; omega)
    | ⟨1, _⟩ => rfl
    | ⟨2, _⟩ => rfl
  refine ((congrArg (P (blk0 V c t)) hy).trans (hP _ _ _)).trans ?_
  exact congrArg f (col_blk V c t _ _ _ h0 h1 h2)

/-! What the first kernel leaves in each of its arrays. -/

theorem arr_s : (dat0 V c).arrAt 1 (cfg0 (F := Ideal)).N = arrOf Col.score (V c (Proc.devRef .tc main_v8)) := by
  refine (dat0 V c).arrAt_eq_of_covers 1 _ (by decide +kernel) fun t hf y => ?_
  blk_simp
  rw [after0_1]
  refine at_blk V c prep_s_at t y _ ?_ ?_ ?_ <;> (blk_simp [idx0_1 t] <;> try omega)
theorem arr_x1 : (dat0 V c).arrAt 2 (cfg0 (F := Ideal)).N = arrOf (fun f => f.ux1 + f.off) (V c (Proc.devRef .tc main_v8)) := by
  refine (dat0 V c).arrAt_eq_of_covers 2 _ (by decide +kernel) fun t hf y => ?_
  blk_simp
  rw [after0_2]
  refine at_blk V c prep_x1_at t y _ ?_ ?_ ?_ <;> (blk_simp [idx0_2 t] <;> try omega)
theorem arr_y1 : (dat0 V c).arrAt 3 (cfg0 (F := Ideal)).N = arrOf (fun f => f.uy1 + f.off) (V c (Proc.devRef .tc main_v8)) := by
  refine (dat0 V c).arrAt_eq_of_covers 3 _ (by decide +kernel) fun t hf y => ?_
  blk_simp
  rw [after0_3]
  refine at_blk V c prep_y1_at t y _ ?_ ?_ ?_ <;> (blk_simp [idx0_3 t] <;> try omega)
theorem arr_x2 : (dat0 V c).arrAt 4 (cfg0 (F := Ideal)).N = arrOf (fun f => f.ux2 + f.off) (V c (Proc.devRef .tc main_v8)) := by
  refine (dat0 V c).arrAt_eq_of_covers 4 _ (by decide +kernel) fun t hf y => ?_
  blk_simp
  rw [after0_4]
  refine at_blk V c prep_x2_at t y _ ?_ ?_ ?_ <;> (blk_simp [idx0_4 t] <;> try omega)
theorem arr_y2 : (dat0 V c).arrAt 5 (cfg0 (F := Ideal)).N = arrOf (fun f => f.uy2 + f.off) (V c (Proc.devRef .tc main_v8)) := by
  refine (dat0 V c).arrAt_eq_of_covers 5 _ (by decide +kernel) fun t hf y => ?_
  blk_simp
  rw [after0_5]
  refine at_blk V c prep_y2_at t y _ ?_ ?_ ?_ <;> (blk_simp [idx0_5 t] <;> try omega)
theorem arr_a : (dat0 V c).arrAt 6 (cfg0 (F := Ideal)).N = arrOf (fun f => (f.ux2 + f.off - (f.ux1 + f.off)) * (f.uy2 + f.off - (f.uy1 + f.off))) (V c (Proc.devRef .tc main_v8)) := by
  refine (dat0 V c).arrAt_eq_of_covers 6 _ (by decide +kernel) fun t hf y => ?_
  blk_simp
  rw [after0_6]
  refine at_blk V c prep_a_at t y _ ?_ ?_ ?_ <;> (blk_simp [idx0_6 t] <;> try omega)
theorem arr_j : (dat0 V c).arrAt 7 (cfg0 (F := Ideal)).N = arrOf Col.cls (V c (Proc.devRef .tc main_v8)) := by
  refine (dat0 V c).arrAt_eq_of_covers 7 _ (by decide +kernel) fun t hf y => ?_
  blk_simp
  rw [after0_7]
  refine at_blk V c prep_j_at t y _ ?_ ?_ ?_ <;> (blk_simp [idx0_7 t] <;> try omega)
theorem arr_ux1 : (dat0 V c).arrAt 8 (cfg0 (F := Ideal)).N = arrOf Col.ux1 (V c (Proc.devRef .tc main_v8)) := by
  refine (dat0 V c).arrAt_eq_of_covers 8 _ (by decide +kernel) fun t hf y => ?_
  blk_simp
  rw [after0_8]
  refine at_blk V c prep_ux1_at t y _ ?_ ?_ ?_ <;> (blk_simp [idx0_8 t] <;> try omega)
theorem arr_uy1 : (dat0 V c).arrAt 9 (cfg0 (F := Ideal)).N = arrOf Col.uy1 (V c (Proc.devRef .tc main_v8)) := by
  refine (dat0 V c).arrAt_eq_of_covers 9 _ (by decide +kernel) fun t hf y => ?_
  blk_simp
  rw [after0_9]
  refine at_blk V c prep_uy1_at t y _ ?_ ?_ ?_ <;> (blk_simp [idx0_9 t] <;> try omega)
theorem arr_ux2 : (dat0 V c).arrAt 10 (cfg0 (F := Ideal)).N = arrOf Col.ux2 (V c (Proc.devRef .tc main_v8)) := by
  refine (dat0 V c).arrAt_eq_of_covers 10 _ (by decide +kernel) fun t hf y => ?_
  blk_simp
  rw [after0_10]
  refine at_blk V c prep_ux2_at t y _ ?_ ?_ ?_ <;> (blk_simp [idx0_10 t] <;> try omega)
theorem arr_uy2 : (dat0 V c).arrAt 11 (cfg0 (F := Ideal)).N = arrOf Col.uy2 (V c (Proc.devRef .tc main_v8)) := by
  refine (dat0 V c).arrAt_eq_of_covers 11 _ (by decide +kernel) fun t hf y => ?_
  blk_simp
  rw [after0_11]
  refine at_blk V c prep_uy2_at t y _ ?_ ?_ ?_ <;> (blk_simp [idx0_11 t] <;> try omega)

/-- The image a point of the second kernel's grid works on. -/
def img (t : Fin (cfg1 (F := Ideal)).N) : Fin 8 := ⟨t.val, t.isLt⟩

/-- The columns of the image of a point. -/
def cols' (t : Fin (cfg1 (F := Ideal)).N) (p : Fin 160 × Fin 128) : Col := colsOf (V c (Proc.devRef .tc main_v8)) (img t) p

variable (m : (ℓ : Loc nD τ sig) → Buf (Elt Ideal) ℓ) (t : Fin (cfg1 (F := Ideal)).N) (p : Fin 160 × Fin 128)

/-- An array of the first kernel's, after it. -/
theorem W4_arr (w : Fin 12) : W4 m c (Proc.devRef .tc (Pipeline.arrRef spec0 w)) = (dat0 (V3 m) c).arrAt w (cfg0 (F := Ideal)).N :=
  Pipeline.afterRegion_arr (dat0 (V3 m) c) (V3 m c) (Pipeline.LaunchFacts.toP (nD := nD) (τ := τ) (Val := Elt Ideal) (launch0 (F := Ideal))).win.arr_inj w

/-- An array of numbers box by box, at a place of a point's image. -/
theorem arrOf_at (f : Col → EReal) (X : Vec Ideal S8x160x88x128 .f32) (i : S8x160x128.Idx) (h0 : (i 0).val = t.val) (h1 : (i 1).val = p.1.val)
    (h2 : (i 2).val = p.2.val) : arrOf f X i = f (colsOf X (img t) p) := by
  have e0 : i 0 = img t := Fin.ext h0
  have e1 : i 1 = p.1 := Fin.ext h1
  have e2 : i 2 = p.2 := Fin.ext h2
  unfold arrOf
  rw [e0, e1, e2]

/-! The blocks the second kernel reads. -/

theorem ins_s : (insAt (W4 m) c t).s (ix3 0 p.1 p.2) = Col.score (cols' (V3 m) c t p) := by
  refine (congrFun ((W4_arr c m 1).trans (arr_s (V3 m) c)) _).trans (arrOf_at t p Col.score _ _ ?_ ?_ ?_) <;> (blk_simp [idx1_0 t] <;> try omega)
theorem ins_x1 : (insAt (W4 m) c t).x1 (ix3 0 p.1 p.2) = (fun f => f.ux1 + f.off) (cols' (V3 m) c t p) := by
  refine (congrFun ((W4_arr c m 2).trans (arr_x1 (V3 m) c)) _).trans (arrOf_at t p (fun f => f.ux1 + f.off) _ _ ?_ ?_ ?_) <;> (blk_simp [idx1_1 t] <;> try omega)
theorem ins_y1 : (insAt (W4 m) c t).y1 (ix3 0 p.1 p.2) = (fun f => f.uy1 + f.off) (cols' (V3 m) c t p) := by
  refine (congrFun ((W4_arr c m 3).trans (arr_y1 (V3 m) c)) _).trans (arrOf_at t p (fun f => f.uy1 + f.off) _ _ ?_ ?_ ?_) <;> (blk_simp [idx1_2 t] <;> try omega)
theorem ins_x2 : (insAt (W4 m) c t).x2 (ix3 0 p.1 p.2) = (fun f => f.ux2 + f.off) (cols' (V3 m) c t p) := by
  refine (congrFun ((W4_arr c m 4).trans (arr_x2 (V3 m) c)) _).trans (arrOf_at t p (fun f => f.ux2 + f.off) _ _ ?_ ?_ ?_) <;> (blk_simp [idx1_3 t] <;> try omega)
theorem ins_y2 : (insAt (W4 m) c t).y2 (ix3 0 p.1 p.2) = (fun f => f.uy2 + f.off) (cols' (V3 m) c t p) := by
  refine (congrFun ((W4_arr c m 5).trans (arr_y2 (V3 m) c)) _).trans (arrOf_at t p (fun f => f.uy2 + f.off) _ _ ?_ ?_ ?_) <;> (blk_simp [idx1_4 t] <;> try omega)
theorem ins_a : (insAt (W4 m) c t).a (ix3 0 p.1 p.2) = (fun f => (f.ux2 + f.off - (f.ux1 + f.off)) * (f.uy2 + f.off - (f.uy1 + f.off))) (cols' (V3 m) c t p) := by
  refine (congrFun ((W4_arr c m 6).trans (arr_a (V3 m) c)) _).trans (arrOf_at t p (fun f => (f.ux2 + f.off - (f.ux1 + f.off)) * (f.uy2 + f.off - (f.uy1 + f.off))) _ _ ?_ ?_ ?_) <;> (blk_simp [idx1_5 t] <;> try omega)
theorem ins_j : (insAt (W4 m) c t).j (ix3 0 p.1 p.2) = Col.cls (cols' (V3 m) c t p) := by
  refine (congrFun ((W4_arr c m 7).trans (arr_j (V3 m) c)) _).trans (arrOf_at t p Col.cls _ _ ?_ ?_ ?_) <;> (blk_simp [idx1_6 t] <;> try omega)
theorem ins_ux1 : (insAt (W4 m) c t).ux1 (ix3 0 p.1 p.2) = Col.ux1 (cols' (V3 m) c t p) := by
  refine (congrFun ((W4_arr c m 8).trans (arr_ux1 (V3 m) c)) _).trans (arrOf_at t p Col.ux1 _ _ ?_ ?_ ?_) <;> (blk_simp [idx1_7 t] <;> try omega)
theorem ins_uy1 : (insAt (W4 m) c t).uy1 (ix3 0 p.1 p.2) = Col.uy1 (cols' (V3 m) c t p) := by
  refine (congrFun ((W4_arr c m 9).trans (arr_uy1 (V3 m) c)) _).trans (arrOf_at t p Col.uy1 _ _ ?_ ?_ ?_) <;> (blk_simp [idx1_8 t] <;> try omega)
theorem ins_ux2 : (insAt (W4 m) c t).ux2 (ix3 0 p.1 p.2) = Col.ux2 (cols' (V3 m) c t p) := by
  refine (congrFun ((W4_arr c m 10).trans (arr_ux2 (V3 m) c)) _).trans (arrOf_at t p Col.ux2 _ _ ?_ ?_ ?_) <;> (blk_simp [idx1_9 t] <;> try omega)
theorem ins_uy2 : (insAt (W4 m) c t).uy2 (ix3 0 p.1 p.2) = Col.uy2 (cols' (V3 m) c t p) := by
  refine (congrFun ((W4_arr c m 11).trans (arr_uy2 (V3 m) c)) _).trans (arrOf_at t p Col.uy2 _ _ ?_ ?_ ?_) <;> (blk_simp [idx1_10 t] <;> try omega)

end Cert.KernelIdeal.Nms

end
-- ==== Proof.Ker.Frame.lean ====
/-
  The idealised program runs to its end: on every image every box's class is a class, so the loop ends.
-/
module

public import proofs.«01_k».proof.Proof.Ker.End
public import proofs.«01_k».proof.Proof.Ker.Blocks

@[expose] public section

noncomputable section

namespace Cert.KernelIdeal.Nms

open Cert.KernelIdeal Cert.KernelIdeal.Gen
open Idealize.ShloMosaic Idealize.ShloMosaic.TcCoe

variable (m : (ℓ : Loc nD τ sig) → Buf (Elt Ideal) ℓ)

/-- The loop ends on every image. -/
theorem ends (c : Dev nD) (t : Fin (cfg1 (F := Ideal)).N) : Ends (insAt (W4 m) c t) :=
  ends_of fun p => by
    obtain ⟨k, hk, _⟩ := (cols' (V3 m) c t p).cls_spec
    exact ⟨k, (ins_j c m t p).trans hk⟩

end Cert.KernelIdeal.Nms

end
-- ==== Proof.Ref.Ops.lean ====
/-
  The reference's host operations: the lists of operations of @main's stretches and of the loop body's, and @main and the
  loop body as the chains of those stretches.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 1600

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 22 host operations of @main, in order. -/
abbrev hostOps0 : List (HloOp τ sig (Elt F)) :=
  [ StableHlo.reshape main_arg0 main_v0 (rfl : (.f32 : EltTy) = .f32) shapeCasts_S1x8x20000x85_S8x20000x85,
    StableHlo.nullary main_v1 (iotaInDim S8 32 0),
    StableHlo.unary main_v0 main_v2 ((extractStridedSlice S8x20000x4 ![0, 0, 0] · slices_S8x20000x85_S8x20000x4_0_0_0) : (⟨S8x20000x85, .f32⟩ : BufTy).Contents (Elt F) → (⟨S8x20000x4, .f32⟩ : BufTy).Contents (Elt F)),
    StableHlo.unary main_v2 main_v3 ((extractStridedSlice S8x20000x2 ![0, 0, 0] · slices_S8x20000x4_S8x20000x2_0_0_0) : (⟨S8x20000x4, .f32⟩ : BufTy).Contents (Elt F) → (⟨S8x20000x2, .f32⟩ : BufTy).Contents (Elt F)),
    StableHlo.unary main_v2 main_v4 ((extractStridedSlice S8x20000x2 ![0, 0, 2] · slices_S8x20000x4_S8x20000x2_0_0_2) : (⟨S8x20000x4, .f32⟩ : BufTy).Contents (Elt F) → (⟨S8x20000x2, .f32⟩ : BufTy).Contents (Elt F)),
    StableHlo.nullary main_cst (constant S_ .f32 0x40000000#32),
    StableHlo.unary main_cst main_v5 (broadcastInDim S8x20000x2 ![] bcast_S_S8x20000x2 : (⟨S_, .f32⟩ : BufTy).Contents (Elt F) → (⟨S8x20000x2, .f32⟩ : BufTy).Contents (Elt F)),
    StableHlo.binary main_v4 main_v5 main_v6 (Host.divf : (⟨S8x20000x2, .f32⟩ : BufTy).Contents (Elt F) → (⟨S8x20000x2, .f32⟩ : BufTy).Contents (Elt F) → (⟨S8x20000x2, .f32⟩ : BufTy).Contents (Elt F)),
    StableHlo.binary main_v3 main_v6 main_v7 (subf : (⟨S8x20000x2, .f32⟩ : BufTy).Contents (Elt F) → (⟨S8x20000x2, .f32⟩ : BufTy).Contents (Elt F) → (⟨S8x20000x2, .f32⟩ : BufTy).Contents (Elt F)),
    StableHlo.nullary main_cst_0 (constant S_ .f32 0x40000000#32),
    StableHlo.unary main_cst_0 main_v8 (broadcastInDim S8x20000x2 ![] bcast_S_S8x20000x2 : (⟨S_, .f32⟩ : BufTy).Contents (Elt F) → (⟨S8x20000x2, .f32⟩ : BufTy).Contents (Elt F)),
    StableHlo.binary main_v4 main_v8 main_v9 (Host.divf : (⟨S8x20000x2, .f32⟩ : BufTy).Contents (Elt F) → (⟨S8x20000x2, .f32⟩ : BufTy).Contents (Elt F) → (⟨S8x20000x2, .f32⟩ : BufTy).Contents (Elt F)),
    StableHlo.binary main_v3 main_v9 main_v10 (addf : (⟨S8x20000x2, .f32⟩ : BufTy).Contents (Elt F) → (⟨S8x20000x2, .f32⟩ : BufTy).Contents (Elt F) → (⟨S8x20000x2, .f32⟩ : BufTy).Contents (Elt F)),
    StableHlo.binary main_v7 main_v10 main_v11 ((fun a b => concatenate S8x20000x4 2 [⟨S8x20000x2, a⟩, ⟨S8x20000x2, b⟩] concatenates_S8x20000x2_S8x20000x2_S8x20000x4_d2) : (⟨S8x20000x2, .f32⟩ : BufTy).Contents (Elt F) → (⟨S8x20000x2, .f32⟩ : BufTy).Contents (Elt F) → (⟨S8x20000x4, .f32⟩ : BufTy).Contents (Elt F)),
    StableHlo.unary main_v0 main_v12 ((extractStridedSlice S8x20000x1 ![0, 0, 4] · slices_S8x20000x85_S8x20000x1_0_0_4) : (⟨S8x20000x85, .f32⟩ : BufTy).Contents (Elt F) → (⟨S8x20000x1, .f32⟩ : BufTy).Contents (Elt F)),
    StableHlo.reshape main_v12 main_v13 (rfl : (.f32 : EltTy) = .f32) shapeCasts_S8x20000x1_S8x20000,
    StableHlo.unary main_v0 main_v14 ((extractStridedSlice S8x20000x80 ![0, 0, 5] · slices_S8x20000x85_S8x20000x80_0_0_5) : (⟨S8x20000x85, .f32⟩ : BufTy).Contents (Elt F) → (⟨S8x20000x80, .f32⟩ : BufTy).Contents (Elt F)),
    StableHlo.unary main_v13 main_v15 (broadcastInDim S8x20000x1 ![0, 1] bcast_S8x20000_S8x20000x1_0_1 : (⟨S8x20000, .f32⟩ : BufTy).Contents (Elt F) → (⟨S8x20000x1, .f32⟩ : BufTy).Contents (Elt F)),
    StableHlo.unary main_v15 main_v16 (broadcastInDim S8x20000x80 ![0, 1, 2] bcast_S8x20000x1_S8x20000x80_0_1_2 : (⟨S8x20000x1, .f32⟩ : BufTy).Contents (Elt F) → (⟨S8x20000x80, .f32⟩ : BufTy).Contents (Elt F)),
    StableHlo.binary main_v14 main_v16 main_v17 (mulf : (⟨S8x20000x80, .f32⟩ : BufTy).Contents (Elt F) → (⟨S8x20000x80, .f32⟩ : BufTy).Contents (Elt F) → (⟨S8x20000x80, .f32⟩ : BufTy).Contents (Elt F)),
    StableHlo.nullary main_cst_1 (constant S_ .f32 0xFF800000#32),
    StableHlo.binary main_v17 main_cst_1 main_v18 ((fun x v => Host.reduce FloatOps.maximumf x v reducesTo_S8x20000x80_S8x20000_d2 h_S_) : (⟨S8x20000x80, .f32⟩ : BufTy).Contents (Elt F) → (⟨S_, .f32⟩ : BufTy).Contents (Elt F) → (⟨S8x20000, .f32⟩ : BufTy).Contents (Elt F)) ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.reshape_bufs_sub .., StableHlo.nullary_bufs_sub .., StableHlo.unary_bufs_sub .., StableHlo.unary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.nullary_bufs_sub .., StableHlo.binary_bufs_sub ..⟩
/-- 5 host operations of @argmax (main_call0), in order. -/
abbrev hostOps0_1 : List (HloOp τ sig (Elt F)) :=
  [ StableHlo.TRef.nullary (.of main_call0_v0 : StableHlo.TRef sig ⟨S8x20000x80, .i32⟩) (iotaInDim S8x20000x80 32 2),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v17 : StableHlo.TRef sig ⟨S8x20000x80, .f32⟩) (.of main_call0_v0 : StableHlo.TRef sig ⟨S8x20000x80, .i32⟩) (.of main_call0_cst : StableHlo.TRef sig ⟨S_, .f32⟩) (.of main_call0_c : StableHlo.TRef sig ⟨S_, .i32⟩) (.of main_call0_v1_0 : StableHlo.TRef sig ⟨S8x20000, .f32⟩) (fun x y u v j => (Host.argReduce reducer_argmax_f32_i32 x y u v reducesTo_S8x20000x80_S8x20000_d2 h_S_ j).1),
    StableHlo.TRef.quaternary (.of main_v17 : StableHlo.TRef sig ⟨S8x20000x80, .f32⟩) (.of main_call0_v0 : StableHlo.TRef sig ⟨S8x20000x80, .i32⟩) (.of main_call0_cst : StableHlo.TRef sig ⟨S_, .f32⟩) (.of main_call0_c : StableHlo.TRef sig ⟨S_, .i32⟩) (.of main_v19 : StableHlo.TRef sig ⟨S8x20000, .i32⟩) (fun x y u v j => (Host.argReduce reducer_argmax_f32_i32 x y u v reducesTo_S8x20000x80_S8x20000_d2 h_S_ j).2) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 15 host operations of @main, in order. -/
abbrev hostOps0_2 : List (HloOp τ sig (Elt F)) :=
  [ StableHlo.unary main_v19 main_v20 (sitofp .f32 : (⟨S8x20000, .i32⟩ : BufTy).Contents (Elt F) → (⟨S8x20000, .f32⟩ : BufTy).Contents (Elt F)),
    StableHlo.nullary main_cst_2 (constant S_ .f32 0x3E800000#32),
    StableHlo.unary main_cst_2 main_v21 (broadcastInDim S8x20000 ![] bcast_S_S8x20000 : (⟨S_, .f32⟩ : BufTy).Contents (Elt F) → (⟨S8x20000, .f32⟩ : BufTy).Contents (Elt F)),
    StableHlo.binary main_v13 main_v21 main_v22 (cmpf .ogt : (⟨S8x20000, .f32⟩ : BufTy).Contents (Elt F) → (⟨S8x20000, .f32⟩ : BufTy).Contents (Elt F) → (⟨S8x20000, .i1⟩ : BufTy).Contents (Elt F)),
    StableHlo.nullary main_cst_3 (constant S_ .f32 0x3E800000#32),
    StableHlo.unary main_cst_3 main_v23 (broadcastInDim S8x20000 ![] bcast_S_S8x20000 : (⟨S_, .f32⟩ : BufTy).Contents (Elt F) → (⟨S8x20000, .f32⟩ : BufTy).Contents (Elt F)),
    StableHlo.binary main_v18 main_v23 main_v24 (cmpf .ogt : (⟨S8x20000, .f32⟩ : BufTy).Contents (Elt F) → (⟨S8x20000, .f32⟩ : BufTy).Contents (Elt F) → (⟨S8x20000, .i1⟩ : BufTy).Contents (Elt F)),
    StableHlo.binary main_v22 main_v24 main_v25 (andi : (⟨S8x20000, .i1⟩ : BufTy).Contents (Elt F) → (⟨S8x20000, .i1⟩ : BufTy).Contents (Elt F) → (⟨S8x20000, .i1⟩ : BufTy).Contents (Elt F)),
    StableHlo.unary main_v20 main_v26 (broadcastInDim S8x20000x1 ![0, 1] bcast_S8x20000_S8x20000x1_0_1 : (⟨S8x20000, .f32⟩ : BufTy).Contents (Elt F) → (⟨S8x20000x1, .f32⟩ : BufTy).Contents (Elt F)),
    StableHlo.nullary main_cst_4 (constant S_ .f32 0x45800000#32),
    StableHlo.unary main_cst_4 main_v27 (broadcastInDim S8x20000x1 ![] bcast_S_S8x20000x1 : (⟨S_, .f32⟩ : BufTy).Contents (Elt F) → (⟨S8x20000x1, .f32⟩ : BufTy).Contents (Elt F)),
    StableHlo.binary main_v26 main_v27 main_v28 (mulf : (⟨S8x20000x1, .f32⟩ : BufTy).Contents (Elt F) → (⟨S8x20000x1, .f32⟩ : BufTy).Contents (Elt F) → (⟨S8x20000x1, .f32⟩ : BufTy).Contents (Elt F)),
    StableHlo.unary main_v28 main_v29 (broadcastInDim S8x20000x4 ![0, 1, 2] bcast_S8x20000x1_S8x20000x4_0_1_2 : (⟨S8x20000x1, .f32⟩ : BufTy).Contents (Elt F) → (⟨S8x20000x4, .f32⟩ : BufTy).Contents (Elt F)),
    StableHlo.binary main_v11 main_v29 main_v30 (addf : (⟨S8x20000x4, .f32⟩ : BufTy).Contents (Elt F) → (⟨S8x20000x4, .f32⟩ : BufTy).Contents (Elt F) → (⟨S8x20000x4, .f32⟩ : BufTy).Contents (Elt F)),
    StableHlo.nullary main_cst_5 (constant S_ .f32 0xBF800000#32) ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub ..⟩
/-- 3 host operations of @_where (main_call1), in order. -/
abbrev hostOps0_3 : List (HloOp τ sig (Elt F)) :=
  [ StableHlo.TRef.unary (.of main_cst_5 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S8x20000, .f32⟩) (broadcastInDim S8x20000 ![] bcast_S_S8x20000),
    StableHlo.TRef.ternary (.of main_v25 : StableHlo.TRef sig ⟨S8x20000, .i1⟩) (.of main_v18 : StableHlo.TRef sig ⟨S8x20000, .f32⟩) (.of main_call1_v1 : StableHlo.TRef sig ⟨S8x20000, .f32⟩) (.of main_v31 : StableHlo.TRef sig ⟨S8x20000, .f32⟩) select ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.unary_bufs_sub .., StableHlo.unary_bufs_sub .., StableHlo.ternary_bufs_sub ..⟩
/-- 13 host operations of @main, in order. -/
abbrev hostOps0_4 : List (HloOp τ sig (Elt F)) :=
  [ StableHlo.nullary main_c (constantI S_ 32 0#32),
    StableHlo.unary main_c main_v32 (broadcastInDim S8x1000 ![] bcast_S_S8x1000 : (⟨S_, .i32⟩ : BufTy).Contents (Elt F) → (⟨S8x1000, .i32⟩ : BufTy).Contents (Elt F)),
    StableHlo.nullary main_c_6 (constantI S_ 1 0#1),
    StableHlo.unary main_c_6 main_v33 (broadcastInDim S8x1000 ![] bcast_S_S8x1000 : (⟨S_, .i1⟩ : BufTy).Contents (Elt F) → (⟨S8x1000, .i1⟩ : BufTy).Contents (Elt F)),
    StableHlo.nullary main_c_7 (constantI S_ 32 0#32),
    StableHlo.nullary main_c_8 (constantI S_ 32 0#32),
    StableHlo.unary main_v1 main_v34_0 id,
    StableHlo.unary main_v30 main_v34_1 id,
    StableHlo.unary main_c_8 main_v34_2 id,
    StableHlo.unary main_c_7 main_v34_3 id,
    StableHlo.unary main_v31 main_v34_4 id,
    StableHlo.unary main_v32 main_v34_5 id,
    StableHlo.unary main_v33 main_v34_6 id ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 63 host operations of @main, in order. -/
abbrev hostOps0_5 : List (HloOp τ sig (Elt F)) :=
  ( StableHlo.unary main_v1 main_v35 (broadcastInDim S8x1 ![0] bcast_S8_S8x1_0 : (⟨S8, .i32⟩ : BufTy).Contents (Elt F) → (⟨S8x1, .i32⟩ : BufTy).Contents (Elt F))
  :: StableHlo.nullary main_c_9 (constantI S_ 32 0#32)
  :: StableHlo.unary main_c_9 main_v36 (broadcastInDim S8x1 ![] bcast_S_S8x1 : (⟨S_, .i32⟩ : BufTy).Contents (Elt F) → (⟨S8x1, .i32⟩ : BufTy).Contents (Elt F))
  :: StableHlo.binary main_v35 main_v36 main_v37 (cmpi .slt : (⟨S8x1, .i32⟩ : BufTy).Contents (Elt F) → (⟨S8x1, .i32⟩ : BufTy).Contents (Elt F) → (⟨S8x1, .i1⟩ : BufTy).Contents (Elt F))
  :: StableHlo.nullary main_c_10 (constantI S_ 32 8#32)
  :: StableHlo.unary main_c_10 main_v38 (broadcastInDim S8x1 ![] bcast_S_S8x1 : (⟨S_, .i32⟩ : BufTy).Contents (Elt F) → (⟨S8x1, .i32⟩ : BufTy).Contents (Elt F))
  :: StableHlo.binary main_v35 main_v38 main_v39 (addi : (⟨S8x1, .i32⟩ : BufTy).Contents (Elt F) → (⟨S8x1, .i32⟩ : BufTy).Contents (Elt F) → (⟨S8x1, .i32⟩ : BufTy).Contents (Elt F))
  :: StableHlo.ternary main_v37 main_v39 main_v35 main_v40 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F))
  :: StableHlo.nullary main_c_11 (constantI S_ 32 0#32)
  :: StableHlo.unary main_c_11 main_v41 (broadcastInDim S8x1000 ![] bcast_S_S8x1000 : (⟨S_, .i32⟩ : BufTy).Contents (Elt F) → (⟨S8x1000, .i32⟩ : BufTy).Contents (Elt F))
  :: StableHlo.binary main_v34_5 main_v41 main_v42 (cmpi .slt : (⟨S8x1000, .i32⟩ : BufTy).Contents (Elt F) → (⟨S8x1000, .i32⟩ : BufTy).Contents (Elt F) → (⟨S8x1000, .i1⟩ : BufTy).Contents (Elt F))
  :: StableHlo.nullary main_c_12 (constantI S_ 32 20000#32)
  :: StableHlo.unary main_c_12 main_v43 (broadcastInDim S8x1000 ![] bcast_S_S8x1000 : (⟨S_, .i32⟩ : BufTy).Contents (Elt F) → (⟨S8x1000, .i32⟩ : BufTy).Contents (Elt F))
  :: StableHlo.binary main_v34_5 main_v43 main_v44 (addi : (⟨S8x1000, .i32⟩ : BufTy).Contents (Elt F) → (⟨S8x1000, .i32⟩ : BufTy).Contents (Elt F) → (⟨S8x1000, .i32⟩ : BufTy).Contents (Elt F))
  :: StableHlo.ternary main_v42 main_v44 main_v34_5 main_v45 (select : (⟨S8x1000, .i1⟩ : BufTy).Contents (Elt F) → (⟨S8x1000, .i32⟩ : BufTy).Contents (Elt F) → (⟨S8x1000, .i32⟩ : BufTy).Contents (Elt F) → (⟨S8x1000, .i32⟩ : BufTy).Contents (Elt F))
  :: StableHlo.unary main_v40 main_v46 (broadcastInDim S8x1000 ![0, 1] bcast_S8x1_S8x1000_0_1 : (⟨S8x1, .i32⟩ : BufTy).Contents (Elt F) → (⟨S8x1000, .i32⟩ : BufTy).Contents (Elt F))
  :: StableHlo.unary main_v46 main_v47 (broadcastInDim S8x1000x1 ![0, 1] bcast_S8x1000_S8x1000x1_0_1 : (⟨S8x1000, .i32⟩ : BufTy).Contents (Elt F) → (⟨S8x1000x1, .i32⟩ : BufTy).Contents (Elt F))
  :: StableHlo.unary main_v45 main_v48 (broadcastInDim S8x1000x1 ![0, 1] bcast_S8x1000_S8x1000x1_0_1 : (⟨S8x1000, .i32⟩ : BufTy).Contents (Elt F) → (⟨S8x1000x1, .i32⟩ : BufTy).Contents (Elt F))
  :: StableHlo.binary main_v47 main_v48 main_v49 ((fun a b => concatenate S8x1000x2 2 [⟨S8x1000x1, a⟩, ⟨S8x1000x1, b⟩] concatenates_S8x1000x1_S8x1000x1_S8x1000x2_d2) : (⟨S8x1000x1, .i32⟩ : BufTy).Contents (Elt F) → (⟨S8x1000x1, .i32⟩ : BufTy).Contents (Elt F) → (⟨S8x1000x2, .i32⟩ : BufTy).Contents (Elt F))
  :: StableHlo.binary main_v11 main_v49 main_v50 ((fun x i => Host.gather gather_S8x20000x4_S8x1000x2_S8x1000x4_2_01_n_n_01_2_114 x i) : (⟨S8x20000x4, .f32⟩ : BufTy).Contents (Elt F) → (⟨S8x1000x2, .i32⟩ : BufTy).Contents (Elt F) → (⟨S8x1000x4, .f32⟩ : BufTy).Contents (Elt F))
  :: StableHlo.nullary main_c_13 (constantI S_ 32 0#32)
  :: StableHlo.unary main_c_13 main_v51 (broadcastInDim S8x1 ![] bcast_S_S8x1 : (⟨S_, .i32⟩ : BufTy).Contents (Elt F) → (⟨S8x1, .i32⟩ : BufTy).Contents (Elt F))
  :: StableHlo.binary main_v35 main_v51 main_v52 (cmpi .slt : (⟨S8x1, .i32⟩ : BufTy).Contents (Elt F) → (⟨S8x1, .i32⟩ : BufTy).Contents (Elt F) → (⟨S8x1, .i1⟩ : BufTy).Contents (Elt F))
  :: StableHlo.nullary main_c_14 (constantI S_ 32 8#32)
  :: StableHlo.unary main_c_14 main_v53 (broadcastInDim S8x1 ![] bcast_S_S8x1 : (⟨S_, .i32⟩ : BufTy).Contents (Elt F) → (⟨S8x1, .i32⟩ : BufTy).Contents (Elt F))
  :: StableHlo.binary main_v35 main_v53 main_v54 (addi : (⟨S8x1, .i32⟩ : BufTy).Contents (Elt F) → (⟨S8x1, .i32⟩ : BufTy).Contents (Elt F) → (⟨S8x1, .i32⟩ : BufTy).Contents (Elt F))
  :: StableHlo.ternary main_v52 main_v54 main_v35 main_v55 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F))
  :: StableHlo.nullary main_c_15 (constantI S_ 32 0#32)
  :: StableHlo.unary main_c_15 main_v56 (broadcastInDim S8x1000 ![] bcast_S_S8x1000 : (⟨S_, .i32⟩ : BufTy).Contents (Elt F) → (⟨S8x1000, .i32⟩ : BufTy).Contents (Elt F))
  :: StableHlo.binary main_v34_5 main_v56 main_v57 (cmpi .slt : (⟨S8x1000, .i32⟩ : BufTy).Contents (Elt F) → (⟨S8x1000, .i32⟩ : BufTy).Contents (Elt F) → (⟨S8x1000, .i1⟩ : BufTy).Contents (Elt F))
  :: StableHlo.nullary main_c_16 (constantI S_ 32 20000#32)
  :: StableHlo.unary main_c_16 main_v58 (broadcastInDim S8x1000 ![] bcast_S_S8x1000 : (⟨S_, .i32⟩ : BufTy).Contents (Elt F) → (⟨S8x1000, .i32⟩ : BufTy).Contents (Elt F))
  :: StableHlo.binary main_v34_5 main_v58 main_v59 (addi : (⟨S8x1000, .i32⟩ : BufTy).Contents (Elt F) → (⟨S8x1000, .i32⟩ : BufTy).Contents (Elt F) → (⟨S8x1000, .i32⟩ : BufTy).Contents (Elt F))
  :: StableHlo.ternary main_v57 main_v59 main_v34_5 main_v60 (select : (⟨S8x1000, .i1⟩ : BufTy).Contents (Elt F) → (⟨S8x1000, .i32⟩ : BufTy).Contents (Elt F) → (⟨S8x1000, .i32⟩ : BufTy).Contents (Elt F) → (⟨S8x1000, .i32⟩ : BufTy).Contents (Elt F))
  :: StableHlo.unary main_v55 main_v61 (broadcastInDim S8x1000 ![0, 1] bcast_S8x1_S8x1000_0_1 : (⟨S8x1, .i32⟩ : BufTy).Contents (Elt F) → (⟨S8x1000, .i32⟩ : BufTy).Contents (Elt F))
  :: StableHlo.unary main_v61 main_v62 (broadcastInDim S8x1000x1 ![0, 1] bcast_S8x1000_S8x1000x1_0_1 : (⟨S8x1000, .i32⟩ : BufTy).Contents (Elt F) → (⟨S8x1000x1, .i32⟩ : BufTy).Contents (Elt F))
  :: StableHlo.unary main_v60 main_v63 (broadcastInDim S8x1000x1 ![0, 1] bcast_S8x1000_S8x1000x1_0_1 : (⟨S8x1000, .i32⟩ : BufTy).Contents (Elt F) → (⟨S8x1000x1, .i32⟩ : BufTy).Contents (Elt F))
  :: StableHlo.binary main_v62 main_v63 main_v64 ((fun a b => concatenate S8x1000x2 2 [⟨S8x1000x1, a⟩, ⟨S8x1000x1, b⟩] concatenates_S8x1000x1_S8x1000x1_S8x1000x2_d2) : (⟨S8x1000x1, .i32⟩ : BufTy).Contents (Elt F) → (⟨S8x1000x1, .i32⟩ : BufTy).Contents (Elt F) → (⟨S8x1000x2, .i32⟩ : BufTy).Contents (Elt F))
  :: StableHlo.binary main_v18 main_v64 main_v65 ((fun x i => Host.gather gather_S8x20000_S8x1000x2_S8x1000_n_01_n_n_01_2_11 x i) : (⟨S8x20000, .f32⟩ : BufTy).Contents (Elt F) → (⟨S8x1000x2, .i32⟩ : BufTy).Contents (Elt F) → (⟨S8x1000, .f32⟩ : BufTy).Contents (Elt F))
  :: StableHlo.unary main_v65 main_v66 (broadcastInDim S8x1000x1 ![0, 1] bcast_S8x1000_S8x1000x1_0_1 : (⟨S8x1000, .f32⟩ : BufTy).Contents (Elt F) → (⟨S8x1000x1, .f32⟩ : BufTy).Contents (Elt F))
  :: StableHlo.nullary main_c_17 (constantI S_ 32 0#32)
  :: StableHlo.unary main_c_17 main_v67 (broadcastInDim S8x1 ![] bcast_S_S8x1 : (⟨S_, .i32⟩ : BufTy).Contents (Elt F) → (⟨S8x1, .i32⟩ : BufTy).Contents (Elt F))
  :: StableHlo.binary main_v35 main_v67 main_v68 (cmpi .slt : (⟨S8x1, .i32⟩ : BufTy).Contents (Elt F) → (⟨S8x1, .i32⟩ : BufTy).Contents (Elt F) → (⟨S8x1, .i1⟩ : BufTy).Contents (Elt F))
  :: StableHlo.nullary main_c_18 (constantI S_ 32 8#32)
  :: StableHlo.unary main_c_18 main_v69 (broadcastInDim S8x1 ![] bcast_S_S8x1 : (⟨S_, .i32⟩ : BufTy).Contents (Elt F) → (⟨S8x1, .i32⟩ : BufTy).Contents (Elt F))
  :: StableHlo.binary main_v35 main_v69 main_v70 (addi : (⟨S8x1, .i32⟩ : BufTy).Contents (Elt F) → (⟨S8x1, .i32⟩ : BufTy).Contents (Elt F) → (⟨S8x1, .i32⟩ : BufTy).Contents (Elt F))
  :: StableHlo.ternary main_v68 main_v70 main_v35 main_v71 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F))
  :: StableHlo.nullary main_c_19 (constantI S_ 32 0#32)
  :: StableHlo.unary main_c_19 main_v72 (broadcastInDim S8x1000 ![] bcast_S_S8x1000 : (⟨S_, .i32⟩ : BufTy).Contents (Elt F) → (⟨S8x1000, .i32⟩ : BufTy).Contents (Elt F))
  :: StableHlo.binary main_v34_5 main_v72 main_v73 (cmpi .slt : (⟨S8x1000, .i32⟩ : BufTy).Contents (Elt F) → (⟨S8x1000, .i32⟩ : BufTy).Contents (Elt F) → (⟨S8x1000, .i1⟩ : BufTy).Contents (Elt F))
  :: StableHlo.nullary main_c_20 (constantI S_ 32 20000#32)
  :: StableHlo.unary main_c_20 main_v74 (broadcastInDim S8x1000 ![] bcast_S_S8x1000 : (⟨S_, .i32⟩ : BufTy).Contents (Elt F) → (⟨S8x1000, .i32⟩ : BufTy).Contents (Elt F))
  :: StableHlo.binary main_v34_5 main_v74 main_v75 (addi : (⟨S8x1000, .i32⟩ : BufTy).Contents (Elt F) → (⟨S8x1000, .i32⟩ : BufTy).Contents (Elt F) → (⟨S8x1000, .i32⟩ : BufTy).Contents (Elt F))
  :: StableHlo.ternary main_v73 main_v75 main_v34_5 main_v76 (select : (⟨S8x1000, .i1⟩ : BufTy).Contents (Elt F) → (⟨S8x1000, .i32⟩ : BufTy).Contents (Elt F) → (⟨S8x1000, .i32⟩ : BufTy).Contents (Elt F) → (⟨S8x1000, .i32⟩ : BufTy).Contents (Elt F))
  :: StableHlo.unary main_v71 main_v77 (broadcastInDim S8x1000 ![0, 1] bcast_S8x1_S8x1000_0_1 : (⟨S8x1, .i32⟩ : BufTy).Contents (Elt F) → (⟨S8x1000, .i32⟩ : BufTy).Contents (Elt F))
  :: StableHlo.unary main_v77 main_v78 (broadcastInDim S8x1000x1 ![0, 1] bcast_S8x1000_S8x1000x1_0_1 : (⟨S8x1000, .i32⟩ : BufTy).Contents (Elt F) → (⟨S8x1000x1, .i32⟩ : BufTy).Contents (Elt F))
  :: StableHlo.unary main_v76 main_v79 (broadcastInDim S8x1000x1 ![0, 1] bcast_S8x1000_S8x1000x1_0_1 : (⟨S8x1000, .i32⟩ : BufTy).Contents (Elt F) → (⟨S8x1000x1, .i32⟩ : BufTy).Contents (Elt F))
  :: StableHlo.binary main_v78 main_v79 main_v80 ((fun a b => concatenate S8x1000x2 2 [⟨S8x1000x1, a⟩, ⟨S8x1000x1, b⟩] concatenates_S8x1000x1_S8x1000x1_S8x1000x2_d2) : (⟨S8x1000x1, .i32⟩ : BufTy).Contents (Elt F) → (⟨S8x1000x1, .i32⟩ : BufTy).Contents (Elt F) → (⟨S8x1000x2, .i32⟩ : BufTy).Contents (Elt F))
  :: StableHlo.binary main_v20 main_v80 main_v81 ((fun x i => Host.gather gather_S8x20000_S8x1000x2_S8x1000_n_01_n_n_01_2_11 x i) : (⟨S8x20000, .f32⟩ : BufTy).Contents (Elt F) → (⟨S8x1000x2, .i32⟩ : BufTy).Contents (Elt F) → (⟨S8x1000, .f32⟩ : BufTy).Contents (Elt F))
  :: StableHlo.unary main_v81 main_v82 (broadcastInDim S8x1000x1 ![0, 1] bcast_S8x1000_S8x1000x1_0_1 : (⟨S8x1000, .f32⟩ : BufTy).Contents (Elt F) → (⟨S8x1000x1, .f32⟩ : BufTy).Contents (Elt F))
  :: StableHlo.nary ![main_v50, main_v66, main_v82] main_v83 (fun u => (concatenate S8x1000x6 2 [⟨S8x1000x4, (u 0 : (⟨S8x1000x4, .f32⟩ : BufTy).Contents (Elt F))⟩, ⟨S8x1000x1, (u 1 : (⟨S8x1000x1, .f32⟩ : BufTy).Contents (Elt F))⟩, ⟨S8x1000x1, (u 2 : (⟨S8x1000x1, .f32⟩ : BufTy).Contents (Elt F))⟩] concatenates_S8x1000x4_S8x1000x1_S8x1000x1_S8x1000x6_d2 : (⟨S8x1000x6, .f32⟩ : BufTy).Contents (Elt F)))
  :: StableHlo.unary main_v34_6 main_v84 (broadcastInDim S8x1000x1 ![0, 1] bcast_S8x1000_S8x1000x1_0_1 : (⟨S8x1000, .i1⟩ : BufTy).Contents (Elt F) → (⟨S8x1000x1, .i1⟩ : BufTy).Contents (Elt F))
  :: StableHlo.nullary main_cst_21 (constant S_ .f32 0x00000000#32)
  :: [] )
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.unary_bufs_sub .., StableHlo.nary_bufs_sub .., StableHlo.unary_bufs_sub .., StableHlo.nullary_bufs_sub ..⟩
/-- 4 host operations of @_where_3 (main_call6), in order. -/
abbrev hostOps0_6 : List (HloOp τ sig (Elt F)) :=
  [ StableHlo.TRef.unary (.of main_cst_21 : StableHlo.TRef sig ⟨S_, .f32⟩) (.of main_call6_v0 : StableHlo.TRef sig ⟨S_, .f32⟩) id,
    StableHlo.TRef.unary (.of main_v84 : StableHlo.TRef sig ⟨S8x1000x1, .i1⟩) (.of main_call6_v1 : StableHlo.TRef sig ⟨S8x1000x6, .i1⟩) (broadcastInDim S8x1000x6 ![0, 1, 2] bcast_S8x1000x1_S8x1000x6_0_1_2),
    StableHlo.TRef.unary (.of main_call6_v0 : StableHlo.TRef sig ⟨S_, .f32⟩) (.of main_call6_v2 : StableHlo.TRef sig ⟨S8x1000x6, .f32⟩) (broadcastInDim S8x1000x6 ![] bcast_S_S8x1000x6),
    StableHlo.TRef.ternary (.of main_call6_v1 : StableHlo.TRef sig ⟨S8x1000x6, .i1⟩) (.of main_v83 : StableHlo.TRef sig ⟨S8x1000x6, .f32⟩) (.of main_call6_v2 : StableHlo.TRef sig ⟨S8x1000x6, .f32⟩) (.of main_v85 : StableHlo.TRef sig ⟨S8x1000x6, .f32⟩) select ]
/-- Each touches TensorCore references only (`HostSeg.ofOps` over `StableHlo.tcRefs`, or a subset by `sub_ucRefs`). -/
theorem hostOps0_6_sub : (hostOps0_6 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 22 host operations of @main, window 0 (statements 1 … 60), in order. -/
abbrev main_part0_ops0 : List (HloOp τ sig (Elt F)) :=
  [ StableHlo.reshape main_arg0 main_v0 (rfl : (.f32 : EltTy) = .f32) shapeCasts_S1x8x20000x85_S8x20000x85,
    StableHlo.nullary main_v1 (iotaInDim S8 32 0),
    StableHlo.unary main_v0 main_v2 ((extractStridedSlice S8x20000x4 ![0, 0, 0] · slices_S8x20000x85_S8x20000x4_0_0_0) : (⟨S8x20000x85, .f32⟩ : BufTy).Contents (Elt F) → (⟨S8x20000x4, .f32⟩ : BufTy).Contents (Elt F)),
    StableHlo.unary main_v2 main_v3 ((extractStridedSlice S8x20000x2 ![0, 0, 0] · slices_S8x20000x4_S8x20000x2_0_0_0) : (⟨S8x20000x4, .f32⟩ : BufTy).Contents (Elt F) → (⟨S8x20000x2, .f32⟩ : BufTy).Contents (Elt F)),
    StableHlo.unary main_v2 main_v4 ((extractStridedSlice S8x20000x2 ![0, 0, 2] · slices_S8x20000x4_S8x20000x2_0_0_2) : (⟨S8x20000x4, .f32⟩ : BufTy).Contents (Elt F) → (⟨S8x20000x2, .f32⟩ : BufTy).Contents (Elt F)),
    StableHlo.nullary main_cst (constant S_ .f32 0x40000000#32),
    StableHlo.unary main_cst main_v5 (broadcastInDim S8x20000x2 ![] bcast_S_S8x20000x2 : (⟨S_, .f32⟩ : BufTy).Contents (Elt F) → (⟨S8x20000x2, .f32⟩ : BufTy).Contents (Elt F)),
    StableHlo.binary main_v4 main_v5 main_v6 (Host.divf : (⟨S8x20000x2, .f32⟩ : BufTy).Contents (Elt F) → (⟨S8x20000x2, .f32⟩ : BufTy).Contents (Elt F) → (⟨S8x20000x2, .f32⟩ : BufTy).Contents (Elt F)),
    StableHlo.binary main_v3 main_v6 main_v7 (subf : (⟨S8x20000x2, .f32⟩ : BufTy).Contents (Elt F) → (⟨S8x20000x2, .f32⟩ : BufTy).Contents (Elt F) → (⟨S8x20000x2, .f32⟩ : BufTy).Contents (Elt F)),
    StableHlo.nullary main_cst_0 (constant S_ .f32 0x40000000#32),
    StableHlo.unary main_cst_0 main_v8 (broadcastInDim S8x20000x2 ![] bcast_S_S8x20000x2 : (⟨S_, .f32⟩ : BufTy).Contents (Elt F) → (⟨S8x20000x2, .f32⟩ : BufTy).Contents (Elt F)),
    StableHlo.binary main_v4 main_v8 main_v9 (Host.divf : (⟨S8x20000x2, .f32⟩ : BufTy).Contents (Elt F) → (⟨S8x20000x2, .f32⟩ : BufTy).Contents (Elt F) → (⟨S8x20000x2, .f32⟩ : BufTy).Contents (Elt F)),
    StableHlo.binary main_v3 main_v9 main_v10 (addf : (⟨S8x20000x2, .f32⟩ : BufTy).Contents (Elt F) → (⟨S8x20000x2, .f32⟩ : BufTy).Contents (Elt F) → (⟨S8x20000x2, .f32⟩ : BufTy).Contents (Elt F)),
    StableHlo.binary main_v7 main_v10 main_v11 ((fun a b => concatenate S8x20000x4 2 [⟨S8x20000x2, a⟩, ⟨S8x20000x2, b⟩] concatenates_S8x20000x2_S8x20000x2_S8x20000x4_d2) : (⟨S8x20000x2, .f32⟩ : BufTy).Contents (Elt F) → (⟨S8x20000x2, .f32⟩ : BufTy).Contents (Elt F) → (⟨S8x20000x4, .f32⟩ : BufTy).Contents (Elt F)),
    StableHlo.unary main_v0 main_v12 ((extractStridedSlice S8x20000x1 ![0, 0, 4] · slices_S8x20000x85_S8x20000x1_0_0_4) : (⟨S8x20000x85, .f32⟩ : BufTy).Contents (Elt F) → (⟨S8x20000x1, .f32⟩ : BufTy).Contents (Elt F)),
    StableHlo.reshape main_v12 main_v13 (rfl : (.f32 : EltTy) = .f32) shapeCasts_S8x20000x1_S8x20000,
    StableHlo.unary main_v0 main_v14 ((extractStridedSlice S8x20000x80 ![0, 0, 5] · slices_S8x20000x85_S8x20000x80_0_0_5) : (⟨S8x20000x85, .f32⟩ : BufTy).Contents (Elt F) → (⟨S8x20000x80, .f32⟩ : BufTy).Contents (Elt F)),
    StableHlo.unary main_v13 main_v15 (broadcastInDim S8x20000x1 ![0, 1] bcast_S8x20000_S8x20000x1_0_1 : (⟨S8x20000, .f32⟩ : BufTy).Contents (Elt F) → (⟨S8x20000x1, .f32⟩ : BufTy).Contents (Elt F)),
    StableHlo.unary main_v15 main_v16 (broadcastInDim S8x20000x80 ![0, 1, 2] bcast_S8x20000x1_S8x20000x80_0_1_2 : (⟨S8x20000x1, .f32⟩ : BufTy).Contents (Elt F) → (⟨S8x20000x80, .f32⟩ : BufTy).Contents (Elt F)),
    StableHlo.binary main_v14 main_v16 main_v17 (mulf : (⟨S8x20000x80, .f32⟩ : BufTy).Contents (Elt F) → (⟨S8x20000x80, .f32⟩ : BufTy).Contents (Elt F) → (⟨S8x20000x80, .f32⟩ : BufTy).Contents (Elt F)),
    StableHlo.nullary main_cst_1 (constant S_ .f32 0xFF800000#32),
    StableHlo.binary main_v17 main_cst_1 main_v18 ((fun x v => Host.reduce FloatOps.maximumf x v reducesTo_S8x20000x80_S8x20000_d2 h_S_) : (⟨S8x20000x80, .f32⟩ : BufTy).Contents (Elt F) → (⟨S_, .f32⟩ : BufTy).Contents (Elt F) → (⟨S8x20000, .f32⟩ : BufTy).Contents (Elt F)) ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.reshape_bufs_sub .., StableHlo.nullary_bufs_sub .., StableHlo.unary_bufs_sub .., StableHlo.unary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.nullary_bufs_sub .., StableHlo.binary_bufs_sub ..⟩
/-- 5 host operations of @argmax (main_call0), window 0 (statements 1 … 60), in order. -/
abbrev main_part0_ops1 : List (HloOp τ sig (Elt F)) :=
  [ StableHlo.TRef.nullary (.of main_call0_v0 : StableHlo.TRef sig ⟨S8x20000x80, .i32⟩) (iotaInDim S8x20000x80 32 2),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v17 : StableHlo.TRef sig ⟨S8x20000x80, .f32⟩) (.of main_call0_v0 : StableHlo.TRef sig ⟨S8x20000x80, .i32⟩) (.of main_call0_cst : StableHlo.TRef sig ⟨S_, .f32⟩) (.of main_call0_c : StableHlo.TRef sig ⟨S_, .i32⟩) (.of main_call0_v1_0 : StableHlo.TRef sig ⟨S8x20000, .f32⟩) (fun x y u v j => (Host.argReduce reducer_argmax_f32_i32 x y u v reducesTo_S8x20000x80_S8x20000_d2 h_S_ j).1),
    StableHlo.TRef.quaternary (.of main_v17 : StableHlo.TRef sig ⟨S8x20000x80, .f32⟩) (.of main_call0_v0 : StableHlo.TRef sig ⟨S8x20000x80, .i32⟩) (.of main_call0_cst : StableHlo.TRef sig ⟨S_, .f32⟩) (.of main_call0_c : StableHlo.TRef sig ⟨S_, .i32⟩) (.of main_v19 : StableHlo.TRef sig ⟨S8x20000, .i32⟩) (fun x y u v j => (Host.argReduce reducer_argmax_f32_i32 x y u v reducesTo_S8x20000x80_S8x20000_d2 h_S_ j).2) ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 15 host operations of @main, window 0 (statements 1 … 60), in order. -/
abbrev main_part0_ops2 : List (HloOp τ sig (Elt F)) :=
  [ StableHlo.unary main_v19 main_v20 (sitofp .f32 : (⟨S8x20000, .i32⟩ : BufTy).Contents (Elt F) → (⟨S8x20000, .f32⟩ : BufTy).Contents (Elt F)),
    StableHlo.nullary main_cst_2 (constant S_ .f32 0x3E800000#32),
    StableHlo.unary main_cst_2 main_v21 (broadcastInDim S8x20000 ![] bcast_S_S8x20000 : (⟨S_, .f32⟩ : BufTy).Contents (Elt F) → (⟨S8x20000, .f32⟩ : BufTy).Contents (Elt F)),
    StableHlo.binary main_v13 main_v21 main_v22 (cmpf .ogt : (⟨S8x20000, .f32⟩ : BufTy).Contents (Elt F) → (⟨S8x20000, .f32⟩ : BufTy).Contents (Elt F) → (⟨S8x20000, .i1⟩ : BufTy).Contents (Elt F)),
    StableHlo.nullary main_cst_3 (constant S_ .f32 0x3E800000#32),
    StableHlo.unary main_cst_3 main_v23 (broadcastInDim S8x20000 ![] bcast_S_S8x20000 : (⟨S_, .f32⟩ : BufTy).Contents (Elt F) → (⟨S8x20000, .f32⟩ : BufTy).Contents (Elt F)),
    StableHlo.binary main_v18 main_v23 main_v24 (cmpf .ogt : (⟨S8x20000, .f32⟩ : BufTy).Contents (Elt F) → (⟨S8x20000, .f32⟩ : BufTy).Contents (Elt F) → (⟨S8x20000, .i1⟩ : BufTy).Contents (Elt F)),
    StableHlo.binary main_v22 main_v24 main_v25 (andi : (⟨S8x20000, .i1⟩ : BufTy).Contents (Elt F) → (⟨S8x20000, .i1⟩ : BufTy).Contents (Elt F) → (⟨S8x20000, .i1⟩ : BufTy).Contents (Elt F)),
    StableHlo.unary main_v20 main_v26 (broadcastInDim S8x20000x1 ![0, 1] bcast_S8x20000_S8x20000x1_0_1 : (⟨S8x20000, .f32⟩ : BufTy).Contents (Elt F) → (⟨S8x20000x1, .f32⟩ : BufTy).Contents (Elt F)),
    StableHlo.nullary main_cst_4 (constant S_ .f32 0x45800000#32),
    StableHlo.unary main_cst_4 main_v27 (broadcastInDim S8x20000x1 ![] bcast_S_S8x20000x1 : (⟨S_, .f32⟩ : BufTy).Contents (Elt F) → (⟨S8x20000x1, .f32⟩ : BufTy).Contents (Elt F)),
    StableHlo.binary main_v26 main_v27 main_v28 (mulf : (⟨S8x20000x1, .f32⟩ : BufTy).Contents (Elt F) → (⟨S8x20000x1, .f32⟩ : BufTy).Contents (Elt F) → (⟨S8x20000x1, .f32⟩ : BufTy).Contents (Elt F)),
    StableHlo.unary main_v28 main_v29 (broadcastInDim S8x20000x4 ![0, 1, 2] bcast_S8x20000x1_S8x20000x4_0_1_2 : (⟨S8x20000x1, .f32⟩ : BufTy).Contents (Elt F) → (⟨S8x20000x4, .f32⟩ : BufTy).Contents (Elt F)),
    StableHlo.binary main_v11 main_v29 main_v30 (addf : (⟨S8x20000x4, .f32⟩ : BufTy).Contents (Elt F) → (⟨S8x20000x4, .f32⟩ : BufTy).Contents (Elt F) → (⟨S8x20000x4, .f32⟩ : BufTy).Contents (Elt F)),
    StableHlo.nullary main_cst_5 (constant S_ .f32 0xBF800000#32) ]
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub ..⟩
/-- 3 host operations of @_where (main_call1), window 0 (statements 1 … 60), in order. -/
abbrev main_part0_ops3 : List (HloOp τ sig (Elt F)) :=
  [ StableHlo.TRef.unary (.of main_cst_5 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S8x20000, .f32⟩) (broadcastInDim S8x20000 ![] bcast_S_S8x20000),
    StableHlo.TRef.ternary (.of main_v25 : StableHlo.TRef sig ⟨S8x20000, .i1⟩) (.of main_v18 : StableHlo.TRef sig ⟨S8x20000, .f32⟩) (.of main_call1_v1 : StableHlo.TRef sig ⟨S8x20000, .f32⟩) (.of main_v31 : StableHlo.TRef sig ⟨S8x20000, .f32⟩) select ]
/-- Each touches TensorCore references only (`HostSeg.ofOps` over `StableHlo.tcRefs`, or a subset by `sub_ucRefs`). -/
theorem main_part0_ops3_sub : (main_part0_ops3 : List (HloOp τ sig (Elt F))).Forall fun op => op.bufs ⊆ StableHlo.tcRefs τ sig :=
  ⟨StableHlo.unary_bufs_sub .., StableHlo.unary_bufs_sub .., StableHlo.ternary_bufs_sub ..⟩
/-- 13 host operations of @main, window 0 (statements 1 … 60), in order. -/
abbrev main_part0_ops4 : List (HloOp τ sig (Elt F)) :=
  [ StableHlo.nullary main_c (constantI S_ 32 0#32),
    StableHlo.unary main_c main_v32 (broadcastInDim S8x1000 ![] bcast_S_S8x1000 : (⟨S_, .i32⟩ : BufTy).Contents (Elt F) → (⟨S8x1000, .i32⟩ : BufTy).Contents (Elt F)),
    StableHlo.nullary main_c_6 (constantI S_ 1 0#1),
    StableHlo.unary main_c_6 main_v33 (broadcastInDim S8x1000 ![] bcast_S_S8x1000 : (⟨S_, .i1⟩ : BufTy).Contents (Elt F) → (⟨S8x1000, .i1⟩ : BufTy).Contents (Elt F)),
    StableHlo.nullary main_c_7 (constantI S_ 32 0#32),
    StableHlo.nullary main_c_8 (constantI S_ 32 0#32),
    StableHlo.unary main_v1 main_v34_0 id,
    StableHlo.unary main_v30 main_v34_1 id,
    StableHlo.unary main_c_8 main_v34_2 id,
    StableHlo.unary main_c_7 main_v34_3 id,
    StableHlo.unary main_v31 main_v34_4 id,
    StableHlo.unary main_v32 main_v34_5 id,
    StableHlo.unary main_v33 main_v34_6 id ]
/-- Each touches TensorCore references only (`HostSeg.ofOps` over `StableHlo.tcRefs`, or a subset by `sub_ucRefs`). -/
theorem main_part0_ops4_sub : (main_part0_ops4 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 7 host operations of @main, window 0 (statements 1 … 60), in order. -/
abbrev main_part0_ops5 : List (HloOp τ sig (Elt F)) :=
  [ StableHlo.unary main_v1 main_v35 (broadcastInDim S8x1 ![0] bcast_S8_S8x1_0 : (⟨S8, .i32⟩ : BufTy).Contents (Elt F) → (⟨S8x1, .i32⟩ : BufTy).Contents (Elt F)),
    StableHlo.nullary main_c_9 (constantI S_ 32 0#32),
    StableHlo.unary main_c_9 main_v36 (broadcastInDim S8x1 ![] bcast_S_S8x1 : (⟨S_, .i32⟩ : BufTy).Contents (Elt F) → (⟨S8x1, .i32⟩ : BufTy).Contents (Elt F)),
    StableHlo.binary main_v35 main_v36 main_v37 (cmpi .slt : (⟨S8x1, .i32⟩ : BufTy).Contents (Elt F) → (⟨S8x1, .i32⟩ : BufTy).Contents (Elt F) → (⟨S8x1, .i1⟩ : BufTy).Contents (Elt F)),
    StableHlo.nullary main_c_10 (constantI S_ 32 8#32),
    StableHlo.unary main_c_10 main_v38 (broadcastInDim S8x1 ![] bcast_S_S8x1 : (⟨S_, .i32⟩ : BufTy).Contents (Elt F) → (⟨S8x1, .i32⟩ : BufTy).Contents (Elt F)),
    StableHlo.binary main_v35 main_v38 main_v39 (addi : (⟨S8x1, .i32⟩ : BufTy).Contents (Elt F) → (⟨S8x1, .i32⟩ : BufTy).Contents (Elt F) → (⟨S8x1, .i32⟩ : BufTy).Contents (Elt F)) ]
/-- Each touches TensorCore references only (`HostSeg.ofOps` over `StableHlo.tcRefs`, or a subset by `sub_ucRefs`). -/
theorem main_part0_ops5_sub : (main_part0_ops5 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    HostLoop.enter 0 ]
  (StableHlo.seq main_part0_ops5) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons]
  chain_rfl

/-- 56 host operations of @main, window 1 (statements 61 … 118), in order. -/
abbrev main_part1_ops0 : List (HloOp τ sig (Elt F)) :=
  ( StableHlo.ternary main_v37 main_v39 main_v35 main_v40 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F))
  :: StableHlo.nullary main_c_11 (constantI S_ 32 0#32)
  :: StableHlo.unary main_c_11 main_v41 (broadcastInDim S8x1000 ![] bcast_S_S8x1000 : (⟨S_, .i32⟩ : BufTy).Contents (Elt F) → (⟨S8x1000, .i32⟩ : BufTy).Contents (Elt F))
  :: StableHlo.binary main_v34_5 main_v41 main_v42 (cmpi .slt : (⟨S8x1000, .i32⟩ : BufTy).Contents (Elt F) → (⟨S8x1000, .i32⟩ : BufTy).Contents (Elt F) → (⟨S8x1000, .i1⟩ : BufTy).Contents (Elt F))
  :: StableHlo.nullary main_c_12 (constantI S_ 32 20000#32)
  :: StableHlo.unary main_c_12 main_v43 (broadcastInDim S8x1000 ![] bcast_S_S8x1000 : (⟨S_, .i32⟩ : BufTy).Contents (Elt F) → (⟨S8x1000, .i32⟩ : BufTy).Contents (Elt F))
  :: StableHlo.binary main_v34_5 main_v43 main_v44 (addi : (⟨S8x1000, .i32⟩ : BufTy).Contents (Elt F) → (⟨S8x1000, .i32⟩ : BufTy).Contents (Elt F) → (⟨S8x1000, .i32⟩ : BufTy).Contents (Elt F))
  :: StableHlo.ternary main_v42 main_v44 main_v34_5 main_v45 (select : (⟨S8x1000, .i1⟩ : BufTy).Contents (Elt F) → (⟨S8x1000, .i32⟩ : BufTy).Contents (Elt F) → (⟨S8x1000, .i32⟩ : BufTy).Contents (Elt F) → (⟨S8x1000, .i32⟩ : BufTy).Contents (Elt F))
  :: StableHlo.unary main_v40 main_v46 (broadcastInDim S8x1000 ![0, 1] bcast_S8x1_S8x1000_0_1 : (⟨S8x1, .i32⟩ : BufTy).Contents (Elt F) → (⟨S8x1000, .i32⟩ : BufTy).Contents (Elt F))
  :: StableHlo.unary main_v46 main_v47 (broadcastInDim S8x1000x1 ![0, 1] bcast_S8x1000_S8x1000x1_0_1 : (⟨S8x1000, .i32⟩ : BufTy).Contents (Elt F) → (⟨S8x1000x1, .i32⟩ : BufTy).Contents (Elt F))
  :: StableHlo.unary main_v45 main_v48 (broadcastInDim S8x1000x1 ![0, 1] bcast_S8x1000_S8x1000x1_0_1 : (⟨S8x1000, .i32⟩ : BufTy).Contents (Elt F) → (⟨S8x1000x1, .i32⟩ : BufTy).Contents (Elt F))
  :: StableHlo.binary main_v47 main_v48 main_v49 ((fun a b => concatenate S8x1000x2 2 [⟨S8x1000x1, a⟩, ⟨S8x1000x1, b⟩] concatenates_S8x1000x1_S8x1000x1_S8x1000x2_d2) : (⟨S8x1000x1, .i32⟩ : BufTy).Contents (Elt F) → (⟨S8x1000x1, .i32⟩ : BufTy).Contents (Elt F) → (⟨S8x1000x2, .i32⟩ : BufTy).Contents (Elt F))
  :: StableHlo.binary main_v11 main_v49 main_v50 ((fun x i => Host.gather gather_S8x20000x4_S8x1000x2_S8x1000x4_2_01_n_n_01_2_114 x i) : (⟨S8x20000x4, .f32⟩ : BufTy).Contents (Elt F) → (⟨S8x1000x2, .i32⟩ : BufTy).Contents (Elt F) → (⟨S8x1000x4, .f32⟩ : BufTy).Contents (Elt F))
  :: StableHlo.nullary main_c_13 (constantI S_ 32 0#32)
  :: StableHlo.unary main_c_13 main_v51 (broadcastInDim S8x1 ![] bcast_S_S8x1 : (⟨S_, .i32⟩ : BufTy).Contents (Elt F) → (⟨S8x1, .i32⟩ : BufTy).Contents (Elt F))
  :: StableHlo.binary main_v35 main_v51 main_v52 (cmpi .slt : (⟨S8x1, .i32⟩ : BufTy).Contents (Elt F) → (⟨S8x1, .i32⟩ : BufTy).Contents (Elt F) → (⟨S8x1, .i1⟩ : BufTy).Contents (Elt F))
  :: StableHlo.nullary main_c_14 (constantI S_ 32 8#32)
  :: StableHlo.unary main_c_14 main_v53 (broadcastInDim S8x1 ![] bcast_S_S8x1 : (⟨S_, .i32⟩ : BufTy).Contents (Elt F) → (⟨S8x1, .i32⟩ : BufTy).Contents (Elt F))
  :: StableHlo.binary main_v35 main_v53 main_v54 (addi : (⟨S8x1, .i32⟩ : BufTy).Contents (Elt F) → (⟨S8x1, .i32⟩ : BufTy).Contents (Elt F) → (⟨S8x1, .i32⟩ : BufTy).Contents (Elt F))
  :: StableHlo.ternary main_v52 main_v54 main_v35 main_v55 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F))
  :: StableHlo.nullary main_c_15 (constantI S_ 32 0#32)
  :: StableHlo.unary main_c_15 main_v56 (broadcastInDim S8x1000 ![] bcast_S_S8x1000 : (⟨S_, .i32⟩ : BufTy).Contents (Elt F) → (⟨S8x1000, .i32⟩ : BufTy).Contents (Elt F))
  :: StableHlo.binary main_v34_5 main_v56 main_v57 (cmpi .slt : (⟨S8x1000, .i32⟩ : BufTy).Contents (Elt F) → (⟨S8x1000, .i32⟩ : BufTy).Contents (Elt F) → (⟨S8x1000, .i1⟩ : BufTy).Contents (Elt F))
  :: StableHlo.nullary main_c_16 (constantI S_ 32 20000#32)
  :: StableHlo.unary main_c_16 main_v58 (broadcastInDim S8x1000 ![] bcast_S_S8x1000 : (⟨S_, .i32⟩ : BufTy).Contents (Elt F) → (⟨S8x1000, .i32⟩ : BufTy).Contents (Elt F))
  :: StableHlo.binary main_v34_5 main_v58 main_v59 (addi : (⟨S8x1000, .i32⟩ : BufTy).Contents (Elt F) → (⟨S8x1000, .i32⟩ : BufTy).Contents (Elt F) → (⟨S8x1000, .i32⟩ : BufTy).Contents (Elt F))
  :: StableHlo.ternary main_v57 main_v59 main_v34_5 main_v60 (select : (⟨S8x1000, .i1⟩ : BufTy).Contents (Elt F) → (⟨S8x1000, .i32⟩ : BufTy).Contents (Elt F) → (⟨S8x1000, .i32⟩ : BufTy).Contents (Elt F) → (⟨S8x1000, .i32⟩ : BufTy).Contents (Elt F))
  :: StableHlo.unary main_v55 main_v61 (broadcastInDim S8x1000 ![0, 1] bcast_S8x1_S8x1000_0_1 : (⟨S8x1, .i32⟩ : BufTy).Contents (Elt F) → (⟨S8x1000, .i32⟩ : BufTy).Contents (Elt F))
  :: StableHlo.unary main_v61 main_v62 (broadcastInDim S8x1000x1 ![0, 1] bcast_S8x1000_S8x1000x1_0_1 : (⟨S8x1000, .i32⟩ : BufTy).Contents (Elt F) → (⟨S8x1000x1, .i32⟩ : BufTy).Contents (Elt F))
  :: StableHlo.unary main_v60 main_v63 (broadcastInDim S8x1000x1 ![0, 1] bcast_S8x1000_S8x1000x1_0_1 : (⟨S8x1000, .i32⟩ : BufTy).Contents (Elt F) → (⟨S8x1000x1, .i32⟩ : BufTy).Contents (Elt F))
  :: StableHlo.binary main_v62 main_v63 main_v64 ((fun a b => concatenate S8x1000x2 2 [⟨S8x1000x1, a⟩, ⟨S8x1000x1, b⟩] concatenates_S8x1000x1_S8x1000x1_S8x1000x2_d2) : (⟨S8x1000x1, .i32⟩ : BufTy).Contents (Elt F) → (⟨S8x1000x1, .i32⟩ : BufTy).Contents (Elt F) → (⟨S8x1000x2, .i32⟩ : BufTy).Contents (Elt F))
  :: StableHlo.binary main_v18 main_v64 main_v65 ((fun x i => Host.gather gather_S8x20000_S8x1000x2_S8x1000_n_01_n_n_01_2_11 x i) : (⟨S8x20000, .f32⟩ : BufTy).Contents (Elt F) → (⟨S8x1000x2, .i32⟩ : BufTy).Contents (Elt F) → (⟨S8x1000, .f32⟩ : BufTy).Contents (Elt F))
  :: StableHlo.unary main_v65 main_v66 (broadcastInDim S8x1000x1 ![0, 1] bcast_S8x1000_S8x1000x1_0_1 : (⟨S8x1000, .f32⟩ : BufTy).Contents (Elt F) → (⟨S8x1000x1, .f32⟩ : BufTy).Contents (Elt F))
  :: StableHlo.nullary main_c_17 (constantI S_ 32 0#32)
  :: StableHlo.unary main_c_17 main_v67 (broadcastInDim S8x1 ![] bcast_S_S8x1 : (⟨S_, .i32⟩ : BufTy).Contents (Elt F) → (⟨S8x1, .i32⟩ : BufTy).Contents (Elt F))
  :: StableHlo.binary main_v35 main_v67 main_v68 (cmpi .slt : (⟨S8x1, .i32⟩ : BufTy).Contents (Elt F) → (⟨S8x1, .i32⟩ : BufTy).Contents (Elt F) → (⟨S8x1, .i1⟩ : BufTy).Contents (Elt F))
  :: StableHlo.nullary main_c_18 (constantI S_ 32 8#32)
  :: StableHlo.unary main_c_18 main_v69 (broadcastInDim S8x1 ![] bcast_S_S8x1 : (⟨S_, .i32⟩ : BufTy).Contents (Elt F) → (⟨S8x1, .i32⟩ : BufTy).Contents (Elt F))
  :: StableHlo.binary main_v35 main_v69 main_v70 (addi : (⟨S8x1, .i32⟩ : BufTy).Contents (Elt F) → (⟨S8x1, .i32⟩ : BufTy).Contents (Elt F) → (⟨S8x1, .i32⟩ : BufTy).Contents (Elt F))
  :: StableHlo.ternary main_v68 main_v70 main_v35 main_v71 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F))
  :: StableHlo.nullary main_c_19 (constantI S_ 32 0#32)
  :: StableHlo.unary main_c_19 main_v72 (broadcastInDim S8x1000 ![] bcast_S_S8x1000 : (⟨S_, .i32⟩ : BufTy).Contents (Elt F) → (⟨S8x1000, .i32⟩ : BufTy).Contents (Elt F))
  :: StableHlo.binary main_v34_5 main_v72 main_v73 (cmpi .slt : (⟨S8x1000, .i32⟩ : BufTy).Contents (Elt F) → (⟨S8x1000, .i32⟩ : BufTy).Contents (Elt F) → (⟨S8x1000, .i1⟩ : BufTy).Contents (Elt F))
  :: StableHlo.nullary main_c_20 (constantI S_ 32 20000#32)
  :: StableHlo.unary main_c_20 main_v74 (broadcastInDim S8x1000 ![] bcast_S_S8x1000 : (⟨S_, .i32⟩ : BufTy).Contents (Elt F) → (⟨S8x1000, .i32⟩ : BufTy).Contents (Elt F))
  :: StableHlo.binary main_v34_5 main_v74 main_v75 (addi : (⟨S8x1000, .i32⟩ : BufTy).Contents (Elt F) → (⟨S8x1000, .i32⟩ : BufTy).Contents (Elt F) → (⟨S8x1000, .i32⟩ : BufTy).Contents (Elt F))
  :: StableHlo.ternary main_v73 main_v75 main_v34_5 main_v76 (select : (⟨S8x1000, .i1⟩ : BufTy).Contents (Elt F) → (⟨S8x1000, .i32⟩ : BufTy).Contents (Elt F) → (⟨S8x1000, .i32⟩ : BufTy).Contents (Elt F) → (⟨S8x1000, .i32⟩ : BufTy).Contents (Elt F))
  :: StableHlo.unary main_v71 main_v77 (broadcastInDim S8x1000 ![0, 1] bcast_S8x1_S8x1000_0_1 : (⟨S8x1, .i32⟩ : BufTy).Contents (Elt F) → (⟨S8x1000, .i32⟩ : BufTy).Contents (Elt F))
  :: StableHlo.unary main_v77 main_v78 (broadcastInDim S8x1000x1 ![0, 1] bcast_S8x1000_S8x1000x1_0_1 : (⟨S8x1000, .i32⟩ : BufTy).Contents (Elt F) → (⟨S8x1000x1, .i32⟩ : BufTy).Contents (Elt F))
  :: StableHlo.unary main_v76 main_v79 (broadcastInDim S8x1000x1 ![0, 1] bcast_S8x1000_S8x1000x1_0_1 : (⟨S8x1000, .i32⟩ : BufTy).Contents (Elt F) → (⟨S8x1000x1, .i32⟩ : BufTy).Contents (Elt F))
  :: StableHlo.binary main_v78 main_v79 main_v80 ((fun a b => concatenate S8x1000x2 2 [⟨S8x1000x1, a⟩, ⟨S8x1000x1, b⟩] concatenates_S8x1000x1_S8x1000x1_S8x1000x2_d2) : (⟨S8x1000x1, .i32⟩ : BufTy).Contents (Elt F) → (⟨S8x1000x1, .i32⟩ : BufTy).Contents (Elt F) → (⟨S8x1000x2, .i32⟩ : BufTy).Contents (Elt F))
  :: StableHlo.binary main_v20 main_v80 main_v81 ((fun x i => Host.gather gather_S8x20000_S8x1000x2_S8x1000_n_01_n_n_01_2_11 x i) : (⟨S8x20000, .f32⟩ : BufTy).Contents (Elt F) → (⟨S8x1000x2, .i32⟩ : BufTy).Contents (Elt F) → (⟨S8x1000, .f32⟩ : BufTy).Contents (Elt F))
  :: StableHlo.unary main_v81 main_v82 (broadcastInDim S8x1000x1 ![0, 1] bcast_S8x1000_S8x1000x1_0_1 : (⟨S8x1000, .f32⟩ : BufTy).Contents (Elt F) → (⟨S8x1000x1, .f32⟩ : BufTy).Contents (Elt F))
  :: StableHlo.nary ![main_v50, main_v66, main_v82] main_v83 (fun u => (concatenate S8x1000x6 2 [⟨S8x1000x4, (u 0 : (⟨S8x1000x4, .f32⟩ : BufTy).Contents (Elt F))⟩, ⟨S8x1000x1, (u 1 : (⟨S8x1000x1, .f32⟩ : BufTy).Contents (Elt F))⟩, ⟨S8x1000x1, (u 2 : (⟨S8x1000x1, .f32⟩ : BufTy).Contents (Elt F))⟩] concatenates_S8x1000x4_S8x1000x1_S8x1000x1_S8x1000x6_d2 : (⟨S8x1000x6, .f32⟩ : BufTy).Contents (Elt F)))
  :: StableHlo.unary main_v34_6 main_v84 (broadcastInDim S8x1000x1 ![0, 1] bcast_S8x1000_S8x1000x1_0_1 : (⟨S8x1000, .i1⟩ : BufTy).Contents (Elt F) → (⟨S8x1000x1, .i1⟩ : BufTy).Contents (Elt F))
  :: StableHlo.nullary main_cst_21 (constant S_ .f32 0x00000000#32)
  :: [] )
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.unary_bufs_sub .., StableHlo.nary_bufs_sub .., StableHlo.unary_bufs_sub .., StableHlo.nullary_bufs_sub ..⟩
/-- 4 host operations of @_where_3 (main_call6), window 1 (statements 61 … 118), in order. -/
abbrev main_part1_ops1 : List (HloOp τ sig (Elt F)) :=
  [ StableHlo.TRef.unary (.of main_cst_21 : StableHlo.TRef sig ⟨S_, .f32⟩) (.of main_call6_v0 : StableHlo.TRef sig ⟨S_, .f32⟩) id,
    StableHlo.TRef.unary (.of main_v84 : StableHlo.TRef sig ⟨S8x1000x1, .i1⟩) (.of main_call6_v1 : StableHlo.TRef sig ⟨S8x1000x6, .i1⟩) (broadcastInDim S8x1000x6 ![0, 1, 2] bcast_S8x1000x1_S8x1000x6_0_1_2),
    StableHlo.TRef.unary (.of main_call6_v0 : StableHlo.TRef sig ⟨S_, .f32⟩) (.of main_call6_v2 : StableHlo.TRef sig ⟨S8x1000x6, .f32⟩) (broadcastInDim S8x1000x6 ![] bcast_S_S8x1000x6),
    StableHlo.TRef.ternary (.of main_call6_v1 : StableHlo.TRef sig ⟨S8x1000x6, .i1⟩) (.of main_v83 : StableHlo.TRef sig ⟨S8x1000x6, .f32⟩) (.of main_call6_v2 : StableHlo.TRef sig ⟨S8x1000x6, .f32⟩) (.of main_v85 : StableHlo.TRef sig ⟨S8x1000x6, .f32⟩) select ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- The last window of `main` (`main_part1`, statements 61 … 118) is the chain of ITS items, each item aligned with the window's
    statements, then `chain_rfl`. -/
theorem main_part1_chain (c : Dev nD) : main_part1 (F := F) c = (Pipeline.chain
  [ StableHlo.seq main_part1_ops0,
    StableHlo.seq main_part1_ops1 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    StableHlo.seq main_part0_ops1,
    StableHlo.seq main_part0_ops2,
    StableHlo.seq main_part0_ops3,
    StableHlo.seq main_part0_ops4,
    HostLoop.enter 0,
    StableHlo.seq main_part0_ops5,
    StableHlo.seq main_part1_ops0,
    StableHlo.seq main_part1_ops1 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .ops [main_part0_ops1],
    .ops [main_part0_ops2],
    .ops [main_part0_ops3],
    .ops [main_part0_ops4],
    .prog (HostLoop.enter 0),
    .ops [main_part0_ops5, main_part1_ops0],
    .ops [main_part1_ops1] ]

/-- The windows' item list is `main_groups` with each stretch cut into its window pieces (`StableHlo.Group.cut`): the two
    lists are the same, by `chain_rfl`. -/
theorem main_chain_cut (c : Dev nD) : (Pipeline.chain
  [ StableHlo.seq main_part0_ops0,
    StableHlo.seq main_part0_ops1,
    StableHlo.seq main_part0_ops2,
    StableHlo.seq main_part0_ops3,
    StableHlo.seq main_part0_ops4,
    HostLoop.enter 0,
    StableHlo.seq main_part0_ops5,
    StableHlo.seq main_part1_ops0,
    StableHlo.seq main_part1_ops1 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    StableHlo.seq hostOps0_1,
    StableHlo.seq hostOps0_2,
    StableHlo.seq hostOps0_3,
    StableHlo.seq hostOps0_4,
    HostLoop.enter 0,
    StableHlo.seq hostOps0_5,
    StableHlo.seq hostOps0_6 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    HostLoop.enter 0,
    StableHlo.seq hostOps0_5,
    StableHlo.seq hostOps0_6 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 2 host operations of host loop 0's body region, in order. -/
abbrev while0Ops0 : List (HloOp τ sig (Elt F)) :=
  [ StableHlo.nullary main_while0b_c_28 (constantI S_ 32 1#32),
    StableHlo.binary main_v34_3 main_while0b_c_28 main_while0b_v86 (addi : (⟨S_, .i32⟩ : BufTy).Contents (Elt F) → (⟨S_, .i32⟩ : BufTy).Contents (Elt F) → (⟨S_, .i32⟩ : BufTy).Contents (Elt F)) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.binary_bufs_sub ..⟩
/-- 5 host operations of @argmax_0 (main_while0b_call2), in order. -/
abbrev while0Ops0_1 : List (HloOp τ sig (Elt F)) :=
  [ StableHlo.TRef.nullary (.of main_while0b_call2_v0 : StableHlo.TRef sig ⟨S8x20000, .i32⟩) (iotaInDim S8x20000 32 1),
    StableHlo.TRef.nullary (.of main_while0b_call2_cst : StableHlo.TRef sig ⟨S_, .f32⟩) (constant S_ .f32 0xFF800000#32),
    StableHlo.TRef.nullary (.of main_while0b_call2_c : StableHlo.TRef sig ⟨S_, .i32⟩) (constantI S_ 32 0#32),
    StableHlo.TRef.quaternary (.of main_v34_4 : StableHlo.TRef sig ⟨S8x20000, .f32⟩) (.of main_while0b_call2_v0 : StableHlo.TRef sig ⟨S8x20000, .i32⟩) (.of main_while0b_call2_cst : StableHlo.TRef sig ⟨S_, .f32⟩) (.of main_while0b_call2_c : StableHlo.TRef sig ⟨S_, .i32⟩) (.of main_while0b_call2_v1_0 : StableHlo.TRef sig ⟨S8, .f32⟩) (fun x y u v j => (Host.argReduce reducer_argmax_f32_i32 x y u v reducesTo_S8x20000_S8_d1 h_S_ j).1),
    StableHlo.TRef.quaternary (.of main_v34_4 : StableHlo.TRef sig ⟨S8x20000, .f32⟩) (.of main_while0b_call2_v0 : StableHlo.TRef sig ⟨S8x20000, .i32⟩) (.of main_while0b_call2_cst : StableHlo.TRef sig ⟨S_, .f32⟩) (.of main_while0b_call2_c : StableHlo.TRef sig ⟨S_, .i32⟩) (.of main_while0b_v87 : StableHlo.TRef sig ⟨S8, .i32⟩) (fun x y u v j => (Host.argReduce reducer_argmax_f32_i32 x y u v reducesTo_S8x20000_S8_d1 h_S_ j).2) ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 51 host operations of host loop 0's body region, in order. -/
abbrev while0Ops0_2 : List (HloOp τ sig (Elt F)) :=
  ( StableHlo.nullary main_while0b_c_29 (constantI S_ 32 0#32)
  :: StableHlo.unary main_while0b_c_29 main_while0b_v88 (broadcastInDim S8 ![] bcast_S_S8 : (⟨S_, .i32⟩ : BufTy).Contents (Elt F) → (⟨S8, .i32⟩ : BufTy).Contents (Elt F))
  :: StableHlo.binary main_v34_0 main_while0b_v88 main_while0b_v89 (cmpi .slt : (⟨S8, .i32⟩ : BufTy).Contents (Elt F) → (⟨S8, .i32⟩ : BufTy).Contents (Elt F) → (⟨S8, .i1⟩ : BufTy).Contents (Elt F))
  :: StableHlo.nullary main_while0b_c_30 (constantI S_ 32 8#32)
  :: StableHlo.unary main_while0b_c_30 main_while0b_v90 (broadcastInDim S8 ![] bcast_S_S8 : (⟨S_, .i32⟩ : BufTy).Contents (Elt F) → (⟨S8, .i32⟩ : BufTy).Contents (Elt F))
  :: StableHlo.binary main_v34_0 main_while0b_v90 main_while0b_v91 (addi : (⟨S8, .i32⟩ : BufTy).Contents (Elt F) → (⟨S8, .i32⟩ : BufTy).Contents (Elt F) → (⟨S8, .i32⟩ : BufTy).Contents (Elt F))
  :: StableHlo.ternary main_while0b_v89 main_while0b_v91 main_v34_0 main_while0b_v92 (select : (⟨S8, .i1⟩ : BufTy).Contents (Elt F) → (⟨S8, .i32⟩ : BufTy).Contents (Elt F) → (⟨S8, .i32⟩ : BufTy).Contents (Elt F) → (⟨S8, .i32⟩ : BufTy).Contents (Elt F))
  :: StableHlo.nullary main_while0b_c_31 (constantI S_ 32 0#32)
  :: StableHlo.unary main_while0b_c_31 main_while0b_v93 (broadcastInDim S8 ![] bcast_S_S8 : (⟨S_, .i32⟩ : BufTy).Contents (Elt F) → (⟨S8, .i32⟩ : BufTy).Contents (Elt F))
  :: StableHlo.binary main_while0b_v87 main_while0b_v93 main_while0b_v94 (cmpi .slt : (⟨S8, .i32⟩ : BufTy).Contents (Elt F) → (⟨S8, .i32⟩ : BufTy).Contents (Elt F) → (⟨S8, .i1⟩ : BufTy).Contents (Elt F))
  :: StableHlo.nullary main_while0b_c_32 (constantI S_ 32 20000#32)
  :: StableHlo.unary main_while0b_c_32 main_while0b_v95 (broadcastInDim S8 ![] bcast_S_S8 : (⟨S_, .i32⟩ : BufTy).Contents (Elt F) → (⟨S8, .i32⟩ : BufTy).Contents (Elt F))
  :: StableHlo.binary main_while0b_v87 main_while0b_v95 main_while0b_v96 (addi : (⟨S8, .i32⟩ : BufTy).Contents (Elt F) → (⟨S8, .i32⟩ : BufTy).Contents (Elt F) → (⟨S8, .i32⟩ : BufTy).Contents (Elt F))
  :: StableHlo.ternary main_while0b_v94 main_while0b_v96 main_while0b_v87 main_while0b_v97 (select : (⟨S8, .i1⟩ : BufTy).Contents (Elt F) → (⟨S8, .i32⟩ : BufTy).Contents (Elt F) → (⟨S8, .i32⟩ : BufTy).Contents (Elt F) → (⟨S8, .i32⟩ : BufTy).Contents (Elt F))
  :: StableHlo.unary main_while0b_v92 main_while0b_v98 (broadcastInDim S8x1 ![0] bcast_S8_S8x1_0 : (⟨S8, .i32⟩ : BufTy).Contents (Elt F) → (⟨S8x1, .i32⟩ : BufTy).Contents (Elt F))
  :: StableHlo.unary main_while0b_v97 main_while0b_v99 (broadcastInDim S8x1 ![0] bcast_S8_S8x1_0 : (⟨S8, .i32⟩ : BufTy).Contents (Elt F) → (⟨S8x1, .i32⟩ : BufTy).Contents (Elt F))
  :: StableHlo.binary main_while0b_v98 main_while0b_v99 main_while0b_v100 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F))
  :: StableHlo.binary main_v34_4 main_while0b_v100 main_while0b_v101 ((fun x i => Host.gather gather_S8x20000_S8x2_S8_n_01_n_n_01_1_11 x i) : (⟨S8x20000, .f32⟩ : BufTy).Contents (Elt F) → (⟨S8x2, .i32⟩ : BufTy).Contents (Elt F) → (⟨S8, .f32⟩ : BufTy).Contents (Elt F))
  :: StableHlo.nullary main_while0b_cst_33 (constant S_ .f32 0x00000000#32)
  :: StableHlo.unary main_while0b_cst_33 main_while0b_v102 (broadcastInDim S8 ![] bcast_S_S8 : (⟨S_, .f32⟩ : BufTy).Contents (Elt F) → (⟨S8, .f32⟩ : BufTy).Contents (Elt F))
  :: StableHlo.binary main_while0b_v101 main_while0b_v102 main_while0b_v103 (cmpf .ogt : (⟨S8, .f32⟩ : BufTy).Contents (Elt F) → (⟨S8, .f32⟩ : BufTy).Contents (Elt F) → (⟨S8, .i1⟩ : BufTy).Contents (Elt F))
  :: StableHlo.nullary main_while0b_c_34 (constantI S_ 32 0#32)
  :: StableHlo.unary main_while0b_c_34 main_while0b_v104 (broadcastInDim S8 ![] bcast_S_S8 : (⟨S_, .i32⟩ : BufTy).Contents (Elt F) → (⟨S8, .i32⟩ : BufTy).Contents (Elt F))
  :: StableHlo.binary main_v34_0 main_while0b_v104 main_while0b_v105 (cmpi .slt : (⟨S8, .i32⟩ : BufTy).Contents (Elt F) → (⟨S8, .i32⟩ : BufTy).Contents (Elt F) → (⟨S8, .i1⟩ : BufTy).Contents (Elt F))
  :: StableHlo.nullary main_while0b_c_35 (constantI S_ 32 8#32)
  :: StableHlo.unary main_while0b_c_35 main_while0b_v106 (broadcastInDim S8 ![] bcast_S_S8 : (⟨S_, .i32⟩ : BufTy).Contents (Elt F) → (⟨S8, .i32⟩ : BufTy).Contents (Elt F))
  :: StableHlo.binary main_v34_0 main_while0b_v106 main_while0b_v107 (addi : (⟨S8, .i32⟩ : BufTy).Contents (Elt F) → (⟨S8, .i32⟩ : BufTy).Contents (Elt F) → (⟨S8, .i32⟩ : BufTy).Contents (Elt F))
  :: StableHlo.ternary main_while0b_v105 main_while0b_v107 main_v34_0 main_while0b_v108 (select : (⟨S8, .i1⟩ : BufTy).Contents (Elt F) → (⟨S8, .i32⟩ : BufTy).Contents (Elt F) → (⟨S8, .i32⟩ : BufTy).Contents (Elt F) → (⟨S8, .i32⟩ : BufTy).Contents (Elt F))
  :: StableHlo.nullary main_while0b_c_36 (constantI S_ 32 0#32)
  :: StableHlo.unary main_while0b_c_36 main_while0b_v109 (broadcastInDim S8 ![] bcast_S_S8 : (⟨S_, .i32⟩ : BufTy).Contents (Elt F) → (⟨S8, .i32⟩ : BufTy).Contents (Elt F))
  :: StableHlo.binary main_while0b_v87 main_while0b_v109 main_while0b_v110 (cmpi .slt : (⟨S8, .i32⟩ : BufTy).Contents (Elt F) → (⟨S8, .i32⟩ : BufTy).Contents (Elt F) → (⟨S8, .i1⟩ : BufTy).Contents (Elt F))
  :: StableHlo.nullary main_while0b_c_37 (constantI S_ 32 20000#32)
  :: StableHlo.unary main_while0b_c_37 main_while0b_v111 (broadcastInDim S8 ![] bcast_S_S8 : (⟨S_, .i32⟩ : BufTy).Contents (Elt F) → (⟨S8, .i32⟩ : BufTy).Contents (Elt F))
  :: StableHlo.binary main_while0b_v87 main_while0b_v111 main_while0b_v112 (addi : (⟨S8, .i32⟩ : BufTy).Contents (Elt F) → (⟨S8, .i32⟩ : BufTy).Contents (Elt F) → (⟨S8, .i32⟩ : BufTy).Contents (Elt F))
  :: StableHlo.ternary main_while0b_v110 main_while0b_v112 main_while0b_v87 main_while0b_v113 (select : (⟨S8, .i1⟩ : BufTy).Contents (Elt F) → (⟨S8, .i32⟩ : BufTy).Contents (Elt F) → (⟨S8, .i32⟩ : BufTy).Contents (Elt F) → (⟨S8, .i32⟩ : BufTy).Contents (Elt F))
  :: StableHlo.unary main_while0b_v108 main_while0b_v114 (broadcastInDim S8x1 ![0] bcast_S8_S8x1_0 : (⟨S8, .i32⟩ : BufTy).Contents (Elt F) → (⟨S8x1, .i32⟩ : BufTy).Contents (Elt F))
  :: StableHlo.unary main_while0b_v113 main_while0b_v115 (broadcastInDim S8x1 ![0] bcast_S8_S8x1_0 : (⟨S8, .i32⟩ : BufTy).Contents (Elt F) → (⟨S8x1, .i32⟩ : BufTy).Contents (Elt F))
  :: StableHlo.binary main_while0b_v114 main_while0b_v115 main_while0b_v116 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F))
  :: StableHlo.binary main_v34_1 main_while0b_v116 main_while0b_v117 ((fun x i => Host.gather gather_S8x20000x4_S8x2_S8x4_1_01_n_n_01_1_114 x i) : (⟨S8x20000x4, .f32⟩ : BufTy).Contents (Elt F) → (⟨S8x2, .i32⟩ : BufTy).Contents (Elt F) → (⟨S8x4, .f32⟩ : BufTy).Contents (Elt F))
  :: StableHlo.unary main_while0b_v117 main_while0b_v118 ((extractStridedSlice S8x2 ![0, 0] · slices_S8x4_S8x2_0_0) : (⟨S8x4, .f32⟩ : BufTy).Contents (Elt F) → (⟨S8x2, .f32⟩ : BufTy).Contents (Elt F))
  :: StableHlo.unary main_while0b_v118 main_while0b_v119 (broadcastInDim S8x1x2 ![0, 2] bcast_S8x2_S8x1x2_0_2 : (⟨S8x2, .f32⟩ : BufTy).Contents (Elt F) → (⟨S8x1x2, .f32⟩ : BufTy).Contents (Elt F))
  :: StableHlo.unary main_v34_1 main_while0b_v120 ((extractStridedSlice S8x20000x2 ![0, 0, 0] · slices_S8x20000x4_S8x20000x2_0_0_0) : (⟨S8x20000x4, .f32⟩ : BufTy).Contents (Elt F) → (⟨S8x20000x2, .f32⟩ : BufTy).Contents (Elt F))
  :: StableHlo.unary main_while0b_v119 main_while0b_v121 (broadcastInDim S8x20000x2 ![0, 1, 2] bcast_S8x1x2_S8x20000x2_0_1_2 : (⟨S8x1x2, .f32⟩ : BufTy).Contents (Elt F) → (⟨S8x20000x2, .f32⟩ : BufTy).Contents (Elt F))
  :: StableHlo.binary main_while0b_v121 main_while0b_v120 main_while0b_v122 (maximumf : (⟨S8x20000x2, .f32⟩ : BufTy).Contents (Elt F) → (⟨S8x20000x2, .f32⟩ : BufTy).Contents (Elt F) → (⟨S8x20000x2, .f32⟩ : BufTy).Contents (Elt F))
  :: StableHlo.unary main_while0b_v117 main_while0b_v123 ((extractStridedSlice S8x2 ![0, 2] · slices_S8x4_S8x2_0_2) : (⟨S8x4, .f32⟩ : BufTy).Contents (Elt F) → (⟨S8x2, .f32⟩ : BufTy).Contents (Elt F))
  :: StableHlo.unary main_while0b_v123 main_while0b_v124 (broadcastInDim S8x1x2 ![0, 2] bcast_S8x2_S8x1x2_0_2 : (⟨S8x2, .f32⟩ : BufTy).Contents (Elt F) → (⟨S8x1x2, .f32⟩ : BufTy).Contents (Elt F))
  :: StableHlo.unary main_v34_1 main_while0b_v125 ((extractStridedSlice S8x20000x2 ![0, 0, 2] · slices_S8x20000x4_S8x20000x2_0_0_2) : (⟨S8x20000x4, .f32⟩ : BufTy).Contents (Elt F) → (⟨S8x20000x2, .f32⟩ : BufTy).Contents (Elt F))
  :: StableHlo.unary main_while0b_v124 main_while0b_v126 (broadcastInDim S8x20000x2 ![0, 1, 2] bcast_S8x1x2_S8x20000x2_0_1_2 : (⟨S8x1x2, .f32⟩ : BufTy).Contents (Elt F) → (⟨S8x20000x2, .f32⟩ : BufTy).Contents (Elt F))
  :: StableHlo.binary main_while0b_v126 main_while0b_v125 main_while0b_v127 (minimumf : (⟨S8x20000x2, .f32⟩ : BufTy).Contents (Elt F) → (⟨S8x20000x2, .f32⟩ : BufTy).Contents (Elt F) → (⟨S8x20000x2, .f32⟩ : BufTy).Contents (Elt F))
  :: StableHlo.binary main_while0b_v127 main_while0b_v122 main_while0b_v128 (subf : (⟨S8x20000x2, .f32⟩ : BufTy).Contents (Elt F) → (⟨S8x20000x2, .f32⟩ : BufTy).Contents (Elt F) → (⟨S8x20000x2, .f32⟩ : BufTy).Contents (Elt F))
  :: StableHlo.nullary main_while0b_cst_38 (constant S_ .f32 0x00000000#32)
  :: [] )
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub ..⟩
/-- 3 host operations of @clip (main_while0b_call3), in order. -/
abbrev while0Ops0_3 : List (HloOp τ sig (Elt F)) :=
  [ StableHlo.TRef.unary (.of main_while0b_cst_38 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S8x20000x2, .f32⟩) (broadcastInDim S8x20000x2 ![] bcast_S_S8x20000x2),
    StableHlo.TRef.binary (.of main_while0b_call3_v1 : StableHlo.TRef sig ⟨S8x20000x2, .f32⟩) (.of main_while0b_v128 : StableHlo.TRef sig ⟨S8x20000x2, .f32⟩) (.of main_while0b_v129 : StableHlo.TRef sig ⟨S8x20000x2, .f32⟩) maximumf ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.unary_bufs_sub .., StableHlo.unary_bufs_sub .., StableHlo.binary_bufs_sub ..⟩
/-- 39 host operations of host loop 0's body region, in order. -/
abbrev while0Ops0_4 : List (HloOp τ sig (Elt F)) :=
  ( StableHlo.unary main_while0b_v129 main_while0b_v130 ((extractStridedSlice S8x20000x1 ![0, 0, 0] · slices_S8x20000x2_S8x20000x1_0_0_0) : (⟨S8x20000x2, .f32⟩ : BufTy).Contents (Elt F) → (⟨S8x20000x1, .f32⟩ : BufTy).Contents (Elt F))
  :: StableHlo.reshape main_while0b_v130 main_while0b_v131 (rfl : (.f32 : EltTy) = .f32) shapeCasts_S8x20000x1_S8x20000
  :: StableHlo.unary main_while0b_v129 main_while0b_v132 ((extractStridedSlice S8x20000x1 ![0, 0, 1] · slices_S8x20000x2_S8x20000x1_0_0_1) : (⟨S8x20000x2, .f32⟩ : BufTy).Contents (Elt F) → (⟨S8x20000x1, .f32⟩ : BufTy).Contents (Elt F))
  :: StableHlo.reshape main_while0b_v132 main_while0b_v133 (rfl : (.f32 : EltTy) = .f32) shapeCasts_S8x20000x1_S8x20000
  :: StableHlo.binary main_while0b_v131 main_while0b_v133 main_while0b_v134 (mulf : (⟨S8x20000, .f32⟩ : BufTy).Contents (Elt F) → (⟨S8x20000, .f32⟩ : BufTy).Contents (Elt F) → (⟨S8x20000, .f32⟩ : BufTy).Contents (Elt F))
  :: StableHlo.unary main_while0b_v117 main_while0b_v135 ((extractStridedSlice S8x1 ![0, 2] · slices_S8x4_S8x1_0_2) : (⟨S8x4, .f32⟩ : BufTy).Contents (Elt F) → (⟨S8x1, .f32⟩ : BufTy).Contents (Elt F))
  :: StableHlo.reshape main_while0b_v135 main_while0b_v136 (rfl : (.f32 : EltTy) = .f32) shapeCasts_S8x1_S8
  :: StableHlo.unary main_while0b_v117 main_while0b_v137 ((extractStridedSlice S8x1 ![0, 0] · slices_S8x4_S8x1_0_0) : (⟨S8x4, .f32⟩ : BufTy).Contents (Elt F) → (⟨S8x1, .f32⟩ : BufTy).Contents (Elt F))
  :: StableHlo.reshape main_while0b_v137 main_while0b_v138 (rfl : (.f32 : EltTy) = .f32) shapeCasts_S8x1_S8
  :: StableHlo.binary main_while0b_v136 main_while0b_v138 main_while0b_v139 (subf : (⟨S8, .f32⟩ : BufTy).Contents (Elt F) → (⟨S8, .f32⟩ : BufTy).Contents (Elt F) → (⟨S8, .f32⟩ : BufTy).Contents (Elt F))
  :: StableHlo.unary main_while0b_v117 main_while0b_v140 ((extractStridedSlice S8x1 ![0, 3] · slices_S8x4_S8x1_0_3) : (⟨S8x4, .f32⟩ : BufTy).Contents (Elt F) → (⟨S8x1, .f32⟩ : BufTy).Contents (Elt F))
  :: StableHlo.reshape main_while0b_v140 main_while0b_v141 (rfl : (.f32 : EltTy) = .f32) shapeCasts_S8x1_S8
  :: StableHlo.unary main_while0b_v117 main_while0b_v142 ((extractStridedSlice S8x1 ![0, 1] · slices_S8x4_S8x1_0_1) : (⟨S8x4, .f32⟩ : BufTy).Contents (Elt F) → (⟨S8x1, .f32⟩ : BufTy).Contents (Elt F))
  :: StableHlo.reshape main_while0b_v142 main_while0b_v143 (rfl : (.f32 : EltTy) = .f32) shapeCasts_S8x1_S8
  :: StableHlo.binary main_while0b_v141 main_while0b_v143 main_while0b_v144 (subf : (⟨S8, .f32⟩ : BufTy).Contents (Elt F) → (⟨S8, .f32⟩ : BufTy).Contents (Elt F) → (⟨S8, .f32⟩ : BufTy).Contents (Elt F))
  :: StableHlo.binary main_while0b_v139 main_while0b_v144 main_while0b_v145 (mulf : (⟨S8, .f32⟩ : BufTy).Contents (Elt F) → (⟨S8, .f32⟩ : BufTy).Contents (Elt F) → (⟨S8, .f32⟩ : BufTy).Contents (Elt F))
  :: StableHlo.unary main_v34_1 main_while0b_v146 ((extractStridedSlice S8x20000x1 ![0, 0, 2] · slices_S8x20000x4_S8x20000x1_0_0_2) : (⟨S8x20000x4, .f32⟩ : BufTy).Contents (Elt F) → (⟨S8x20000x1, .f32⟩ : BufTy).Contents (Elt F))
  :: StableHlo.reshape main_while0b_v146 main_while0b_v147 (rfl : (.f32 : EltTy) = .f32) shapeCasts_S8x20000x1_S8x20000
  :: StableHlo.unary main_v34_1 main_while0b_v148 ((extractStridedSlice S8x20000x1 ![0, 0, 0] · slices_S8x20000x4_S8x20000x1_0_0_0) : (⟨S8x20000x4, .f32⟩ : BufTy).Contents (Elt F) → (⟨S8x20000x1, .f32⟩ : BufTy).Contents (Elt F))
  :: StableHlo.reshape main_while0b_v148 main_while0b_v149 (rfl : (.f32 : EltTy) = .f32) shapeCasts_S8x20000x1_S8x20000
  :: StableHlo.binary main_while0b_v147 main_while0b_v149 main_while0b_v150 (subf : (⟨S8x20000, .f32⟩ : BufTy).Contents (Elt F) → (⟨S8x20000, .f32⟩ : BufTy).Contents (Elt F) → (⟨S8x20000, .f32⟩ : BufTy).Contents (Elt F))
  :: StableHlo.unary main_v34_1 main_while0b_v151 ((extractStridedSlice S8x20000x1 ![0, 0, 3] · slices_S8x20000x4_S8x20000x1_0_0_3) : (⟨S8x20000x4, .f32⟩ : BufTy).Contents (Elt F) → (⟨S8x20000x1, .f32⟩ : BufTy).Contents (Elt F))
  :: StableHlo.reshape main_while0b_v151 main_while0b_v152 (rfl : (.f32 : EltTy) = .f32) shapeCasts_S8x20000x1_S8x20000
  :: StableHlo.unary main_v34_1 main_while0b_v153 ((extractStridedSlice S8x20000x1 ![0, 0, 1] · slices_S8x20000x4_S8x20000x1_0_0_1) : (⟨S8x20000x4, .f32⟩ : BufTy).Contents (Elt F) → (⟨S8x20000x1, .f32⟩ : BufTy).Contents (Elt F))
  :: StableHlo.reshape main_while0b_v153 main_while0b_v154 (rfl : (.f32 : EltTy) = .f32) shapeCasts_S8x20000x1_S8x20000
  :: StableHlo.binary main_while0b_v152 main_while0b_v154 main_while0b_v155 (subf : (⟨S8x20000, .f32⟩ : BufTy).Contents (Elt F) → (⟨S8x20000, .f32⟩ : BufTy).Contents (Elt F) → (⟨S8x20000, .f32⟩ : BufTy).Contents (Elt F))
  :: StableHlo.binary main_while0b_v150 main_while0b_v155 main_while0b_v156 (mulf : (⟨S8x20000, .f32⟩ : BufTy).Contents (Elt F) → (⟨S8x20000, .f32⟩ : BufTy).Contents (Elt F) → (⟨S8x20000, .f32⟩ : BufTy).Contents (Elt F))
  :: StableHlo.unary main_while0b_v145 main_while0b_v157 (broadcastInDim S8x1 ![0] bcast_S8_S8x1_0 : (⟨S8, .f32⟩ : BufTy).Contents (Elt F) → (⟨S8x1, .f32⟩ : BufTy).Contents (Elt F))
  :: StableHlo.unary main_while0b_v157 main_while0b_v158 (broadcastInDim S8x20000 ![0, 1] bcast_S8x1_S8x20000_0_1 : (⟨S8x1, .f32⟩ : BufTy).Contents (Elt F) → (⟨S8x20000, .f32⟩ : BufTy).Contents (Elt F))
  :: StableHlo.binary main_while0b_v158 main_while0b_v156 main_while0b_v159 (addf : (⟨S8x20000, .f32⟩ : BufTy).Contents (Elt F) → (⟨S8x20000, .f32⟩ : BufTy).Contents (Elt F) → (⟨S8x20000, .f32⟩ : BufTy).Contents (Elt F))
  :: StableHlo.binary main_while0b_v159 main_while0b_v134 main_while0b_v160 (subf : (⟨S8x20000, .f32⟩ : BufTy).Contents (Elt F) → (⟨S8x20000, .f32⟩ : BufTy).Contents (Elt F) → (⟨S8x20000, .f32⟩ : BufTy).Contents (Elt F))
  :: StableHlo.nullary main_while0b_cst_39 (constant S_ .f32 0x3089705F#32)
  :: StableHlo.unary main_while0b_cst_39 main_while0b_v161 (broadcastInDim S8x20000 ![] bcast_S_S8x20000 : (⟨S_, .f32⟩ : BufTy).Contents (Elt F) → (⟨S8x20000, .f32⟩ : BufTy).Contents (Elt F))
  :: StableHlo.binary main_while0b_v160 main_while0b_v161 main_while0b_v162 (addf : (⟨S8x20000, .f32⟩ : BufTy).Contents (Elt F) → (⟨S8x20000, .f32⟩ : BufTy).Contents (Elt F) → (⟨S8x20000, .f32⟩ : BufTy).Contents (Elt F))
  :: StableHlo.binary main_while0b_v134 main_while0b_v162 main_while0b_v163 (Host.divf : (⟨S8x20000, .f32⟩ : BufTy).Contents (Elt F) → (⟨S8x20000, .f32⟩ : BufTy).Contents (Elt F) → (⟨S8x20000, .f32⟩ : BufTy).Contents (Elt F))
  :: StableHlo.nullary main_while0b_cst_40 (constant S_ .f32 0x3EE66666#32)
  :: StableHlo.unary main_while0b_cst_40 main_while0b_v164 (broadcastInDim S8x20000 ![] bcast_S_S8x20000 : (⟨S_, .f32⟩ : BufTy).Contents (Elt F) → (⟨S8x20000, .f32⟩ : BufTy).Contents (Elt F))
  :: StableHlo.binary main_while0b_v163 main_while0b_v164 main_while0b_v165 (cmpf .ogt : (⟨S8x20000, .f32⟩ : BufTy).Contents (Elt F) → (⟨S8x20000, .f32⟩ : BufTy).Contents (Elt F) → (⟨S8x20000, .i1⟩ : BufTy).Contents (Elt F))
  :: StableHlo.nullary main_while0b_cst_41 (constant S_ .f32 0xBF800000#32)
  :: [] )
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub ..⟩
/-- 3 host operations of @_where_1 (main_while0b_call4), in order. -/
abbrev while0Ops0_5 : List (HloOp τ sig (Elt F)) :=
  [ StableHlo.TRef.unary (.of main_while0b_cst_41 : StableHlo.TRef sig ⟨S_, .f32⟩) (.of main_while0b_call4_v0 : StableHlo.TRef sig ⟨S_, .f32⟩) id,
    StableHlo.TRef.unary (.of main_while0b_call4_v0 : StableHlo.TRef sig ⟨S_, .f32⟩) (.of main_while0b_call4_v1 : StableHlo.TRef sig ⟨S8x20000, .f32⟩) (broadcastInDim S8x20000 ![] bcast_S_S8x20000),
    StableHlo.TRef.ternary (.of main_while0b_v165 : StableHlo.TRef sig ⟨S8x20000, .i1⟩) (.of main_while0b_call4_v1 : StableHlo.TRef sig ⟨S8x20000, .f32⟩) (.of main_v34_4 : StableHlo.TRef sig ⟨S8x20000, .f32⟩) (.of main_while0b_v166 : StableHlo.TRef sig ⟨S8x20000, .f32⟩) select ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.unary_bufs_sub .., StableHlo.unary_bufs_sub .., StableHlo.ternary_bufs_sub ..⟩
/-- 21 host operations of host loop 0's body region, in order. -/
abbrev while0Ops0_6 : List (HloOp τ sig (Elt F)) :=
  [ StableHlo.nullary main_while0b_c_42 (constantI S_ 32 0#32),
    StableHlo.unary main_while0b_c_42 main_while0b_v167 (broadcastInDim S8 ![] bcast_S_S8 : (⟨S_, .i32⟩ : BufTy).Contents (Elt F) → (⟨S8, .i32⟩ : BufTy).Contents (Elt F)),
    StableHlo.binary main_v34_0 main_while0b_v167 main_while0b_v168 (cmpi .slt : (⟨S8, .i32⟩ : BufTy).Contents (Elt F) → (⟨S8, .i32⟩ : BufTy).Contents (Elt F) → (⟨S8, .i1⟩ : BufTy).Contents (Elt F)),
    StableHlo.nullary main_while0b_c_43 (constantI S_ 32 8#32),
    StableHlo.unary main_while0b_c_43 main_while0b_v169 (broadcastInDim S8 ![] bcast_S_S8 : (⟨S_, .i32⟩ : BufTy).Contents (Elt F) → (⟨S8, .i32⟩ : BufTy).Contents (Elt F)),
    StableHlo.binary main_v34_0 main_while0b_v169 main_while0b_v170 (addi : (⟨S8, .i32⟩ : BufTy).Contents (Elt F) → (⟨S8, .i32⟩ : BufTy).Contents (Elt F) → (⟨S8, .i32⟩ : BufTy).Contents (Elt F)),
    StableHlo.ternary main_while0b_v168 main_while0b_v170 main_v34_0 main_while0b_v171 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.nullary main_while0b_c_44 (constantI S_ 32 0#32),
    StableHlo.unary main_while0b_c_44 main_while0b_v172 (broadcastInDim S8 ![] bcast_S_S8 : (⟨S_, .i32⟩ : BufTy).Contents (Elt F) → (⟨S8, .i32⟩ : BufTy).Contents (Elt F)),
    StableHlo.binary main_while0b_v87 main_while0b_v172 main_while0b_v173 (cmpi .slt : (⟨S8, .i32⟩ : BufTy).Contents (Elt F) → (⟨S8, .i32⟩ : BufTy).Contents (Elt F) → (⟨S8, .i1⟩ : BufTy).Contents (Elt F)),
    StableHlo.nullary main_while0b_c_45 (constantI S_ 32 20000#32),
    StableHlo.unary main_while0b_c_45 main_while0b_v174 (broadcastInDim S8 ![] bcast_S_S8 : (⟨S_, .i32⟩ : BufTy).Contents (Elt F) → (⟨S8, .i32⟩ : BufTy).Contents (Elt F)),
    StableHlo.binary main_while0b_v87 main_while0b_v174 main_while0b_v175 (addi : (⟨S8, .i32⟩ : BufTy).Contents (Elt F) → (⟨S8, .i32⟩ : BufTy).Contents (Elt F) → (⟨S8, .i32⟩ : BufTy).Contents (Elt F)),
    StableHlo.ternary main_while0b_v173 main_while0b_v175 main_while0b_v87 main_while0b_v176 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_while0b_v171 main_while0b_v177 (broadcastInDim S8x1 ![0] bcast_S8_S8x1_0 : (⟨S8, .i32⟩ : BufTy).Contents (Elt F) → (⟨S8x1, .i32⟩ : BufTy).Contents (Elt F)),
    StableHlo.unary main_while0b_v176 main_while0b_v178 (broadcastInDim S8x1 ![0] bcast_S8_S8x1_0 : (⟨S8, .i32⟩ : BufTy).Contents (Elt F) → (⟨S8x1, .i32⟩ : BufTy).Contents (Elt F)),
    StableHlo.binary main_while0b_v177 main_while0b_v178 main_while0b_v179 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
    StableHlo.nullary main_while0b_cst_46 (constant S_ .f32 0xBF800000#32),
    StableHlo.unary main_while0b_cst_46 main_while0b_v180 (broadcastInDim S8 ![] bcast_S_S8 : (⟨S_, .f32⟩ : BufTy).Contents (Elt F) → (⟨S8, .f32⟩ : BufTy).Contents (Elt F)),
    StableHlo.ternary main_while0b_v166 main_while0b_v179 main_while0b_v180 main_while0b_v181 ((fun x i u => Host.scatter scatter_S8x20000_S8x2_S8_n_01_01_1 (fun _ b => b) x i u) : (⟨S8x20000, .f32⟩ : BufTy).Contents (Elt F) → (⟨S8x2, .i32⟩ : BufTy).Contents (Elt F) → (⟨S8, .f32⟩ : BufTy).Contents (Elt F) → (⟨S8x20000, .f32⟩ : BufTy).Contents (Elt F)),
    StableHlo.unary main_while0b_v103 main_while0b_v182 (broadcastInDim S8x1 ![0] bcast_S8_S8x1_0 : (⟨S8, .i1⟩ : BufTy).Contents (Elt F) → (⟨S8x1, .i1⟩ : BufTy).Contents (Elt F)) ]
/-- Each touches TensorCore references only (`HostSeg.ofOps` over `StableHlo.tcRefs`, or a subset by `sub_ucRefs`). -/
theorem while0Ops0_6_sub : (while0Ops0_6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.nullary_bufs_sub .., StableHlo.unary_bufs_sub .., StableHlo.ternary_bufs_sub .., StableHlo.unary_bufs_sub ..⟩
/-- 2 host operations of @_where_2 (main_while0b_call5), in order. -/
abbrev while0Ops0_7 : List (HloOp τ sig (Elt F)) :=
  [ StableHlo.TRef.unary (.of main_while0b_v182 : StableHlo.TRef sig ⟨S8x1, .i1⟩) (.of main_while0b_call5_v0 : StableHlo.TRef sig ⟨S8x20000, .i1⟩) (broadcastInDim S8x20000 ![0, 1] bcast_S8x1_S8x20000_0_1),
    StableHlo.TRef.ternary (.of main_while0b_call5_v0 : StableHlo.TRef sig ⟨S8x20000, .i1⟩) (.of main_while0b_v181 : StableHlo.TRef sig ⟨S8x20000, .f32⟩) (.of main_v34_4 : StableHlo.TRef sig ⟨S8x20000, .f32⟩) (.of main_while0b_v183 : StableHlo.TRef sig ⟨S8x20000, .f32⟩) select ]
/-- Each touches TensorCore references only (`HostSeg.ofOps` over `StableHlo.tcRefs`, or a subset by `sub_ucRefs`). -/
theorem while0Ops0_7_sub : (while0Ops0_7 : List (HloOp τ sig (Elt F))).Forall fun op => op.bufs ⊆ StableHlo.tcRefs τ sig :=
  ⟨StableHlo.unary_bufs_sub .., StableHlo.ternary_bufs_sub ..⟩
/-- 23 host operations of host loop 0's body region, in order. -/
abbrev while0Ops0_8 : List (HloOp τ sig (Elt F)) :=
  [ StableHlo.nullary main_while0b_c_47 (constantI S_ 32 0#32),
    StableHlo.binary main_v34_3 main_while0b_c_47 main_while0b_v184 (cmpi .slt : (⟨S_, .i32⟩ : BufTy).Contents (Elt F) → (⟨S_, .i32⟩ : BufTy).Contents (Elt F) → (⟨S_, .i1⟩ : BufTy).Contents (Elt F)),
    StableHlo.nullary main_while0b_c_48 (constantI S_ 32 1000#32),
    StableHlo.binary main_v34_3 main_while0b_c_48 main_while0b_v185 (addi : (⟨S_, .i32⟩ : BufTy).Contents (Elt F) → (⟨S_, .i32⟩ : BufTy).Contents (Elt F) → (⟨S_, .i32⟩ : BufTy).Contents (Elt F)),
    StableHlo.ternary main_while0b_v184 main_while0b_v185 main_v34_3 main_while0b_v186 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v186 main_while0b_v187 (id : (⟨S_, .i32⟩ : BufTy).Contents (Elt F) → (⟨S_, .i32⟩ : BufTy).Contents (Elt F)),
    StableHlo.unary main_while0b_v187 main_while0b_v188 (broadcastInDim S1 ![] bcast_S_S1 : (⟨S_, .i32⟩ : BufTy).Contents (Elt F) → (⟨S1, .i32⟩ : BufTy).Contents (Elt F)),
    StableHlo.ternary main_v34_5 main_while0b_v188 main_while0b_v87 main_while0b_v189 ((fun x i u => Host.scatter scatter_S8x1000_S1_S8_0_1_1_0 (fun _ b => b) x i u) : (⟨S8x1000, .i32⟩ : BufTy).Contents (Elt F) → (⟨S1, .i32⟩ : BufTy).Contents (Elt F) → (⟨S8, .i32⟩ : BufTy).Contents (Elt F) → (⟨S8x1000, .i32⟩ : BufTy).Contents (Elt F)),
    StableHlo.nullary main_while0b_c_49 (constantI S_ 32 0#32),
    StableHlo.binary main_v34_3 main_while0b_c_49 main_while0b_v190 (cmpi .slt : (⟨S_, .i32⟩ : BufTy).Contents (Elt F) → (⟨S_, .i32⟩ : BufTy).Contents (Elt F) → (⟨S_, .i1⟩ : BufTy).Contents (Elt F)),
    StableHlo.nullary main_while0b_c_50 (constantI S_ 32 1000#32),
    StableHlo.binary main_v34_3 main_while0b_c_50 main_while0b_v191 (addi : (⟨S_, .i32⟩ : BufTy).Contents (Elt F) → (⟨S_, .i32⟩ : BufTy).Contents (Elt F) → (⟨S_, .i32⟩ : BufTy).Contents (Elt F)),
    StableHlo.ternary main_while0b_v190 main_while0b_v191 main_v34_3 main_while0b_v192 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v192 main_while0b_v193 (id : (⟨S_, .i32⟩ : BufTy).Contents (Elt F) → (⟨S_, .i32⟩ : BufTy).Contents (Elt F)),
    StableHlo.unary main_while0b_v193 main_while0b_v194 (broadcastInDim S1 ![] bcast_S_S1 : (⟨S_, .i32⟩ : BufTy).Contents (Elt F) → (⟨S1, .i32⟩ : BufTy).Contents (Elt F)),
    StableHlo.ternary main_v34_6 main_while0b_v194 main_while0b_v103 main_while0b_v195 ((fun x i u => Host.scatter scatter_S8x1000_S1_S8_0_1_1_0 (fun _ b => b) x i u) : (⟨S8x1000, .i1⟩ : BufTy).Contents (Elt F) → (⟨S1, .i32⟩ : BufTy).Contents (Elt F) → (⟨S8, .i1⟩ : BufTy).Contents (Elt F) → (⟨S8x1000, .i1⟩ : BufTy).Contents (Elt F)),
    StableHlo.nullary main_while0b_c_51 (constantI S_ 32 1#32),
    StableHlo.binary main_v34_2 main_while0b_c_51 main_while0b_v196 (addi : (⟨S_, .i32⟩ : BufTy).Contents (Elt F) → (⟨S_, .i32⟩ : BufTy).Contents (Elt F) → (⟨S_, .i32⟩ : BufTy).Contents (Elt F)),
    StableHlo.unary main_while0b_v196 main_v34_2 id,
    StableHlo.unary main_while0b_v86 main_v34_3 id,
    StableHlo.unary main_while0b_v183 main_v34_4 id,
    StableHlo.unary main_while0b_v189 main_v34_5 id,
    StableHlo.unary main_while0b_v195 main_v34_6 id ]
/-- Each touches TensorCore references only (`HostSeg.ofOps` over `StableHlo.tcRefs`, or a subset by `sub_ucRefs`). -/
theorem while0Ops0_8_sub : (while0Ops0_8 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

end Cert.ReferenceIdeal.Gen

end
-- ==== Proof.Ref.Run.lean ====
/-
  The reference's run: every buffer ends at the fold of the operations over the loop's 1000 trips (`run_fold`).
-/
module

public import proofs.«01_k».proof.Proof.Ref.Ops

@[expose] public section

-- a long stretch's `::` list and the decided enumerations over the program's references recurse past the default depth
set_option maxRecDepth 1600

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_v2, main_v3, main_v4, main_cst, main_v5, main_v6, main_v7, main_cst_0, main_v8, main_v9, main_v10, main_v11, main_v12, main_v13, main_v14, main_v15, main_v16, main_v17, main_cst_1, main_v18]
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_call0_v0, main_call0_cst, main_call0_c, main_call0_v1_0, main_v19]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_2` writes, in order. -/
abbrev hostOps0_2_W : List (Ref sig .tc) := [main_v20, main_cst_2, main_v21, main_v22, main_cst_3, main_v23, main_v24, main_v25, main_v26, main_cst_4, main_v27, main_v28, main_v29, main_v30, main_cst_5]
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl
/-- The reference each operation of `hostOps0_3` writes, in order. -/
abbrev hostOps0_3_W : List (Ref sig .tc) := [main_call1_v0, main_call1_v1, main_v31]
theorem hostOps0_3_writes : (hostOps0_3 : List (HloOp τ sig (Elt F))).Forall fun op => op.writes ⊆ (hostOps0_3_W.map (Proc.devRef (τ := τ) .tc)).toFinset :=
  StableHlo.forall_writes_sub_of_map rfl
/-- No operation of `hostOps0_4` allocates a buffer. -/
theorem hostOps0_4_fresh : (hostOps0_4 : List (HloOp τ sig (Elt F))).Forall fun op => op.fresh = ∅ :=
  StableHlo.forall_fresh_of_map rfl
/-- The reference each operation of `hostOps0_4` writes, in order. -/
abbrev hostOps0_4_W : List (Ref sig .tc) := [main_c, main_v32, main_c_6, main_v33, main_c_7, main_c_8, main_v34_0, main_v34_1, main_v34_2, main_v34_3, main_v34_4, main_v34_5, main_v34_6]
theorem hostOps0_4_writes : (hostOps0_4 : List (HloOp τ sig (Elt F))).Forall fun op => op.writes ⊆ (hostOps0_4_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_c_28, main_while0b_v86]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call2_v0, main_while0b_call2_cst, main_while0b_call2_c, main_while0b_call2_v1_0, main_while0b_v87]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_c_29, main_while0b_v88, main_while0b_v89, main_while0b_c_30, main_while0b_v90, main_while0b_v91, main_while0b_v92, main_while0b_c_31, main_while0b_v93, main_while0b_v94, main_while0b_c_32, main_while0b_v95, main_while0b_v96, main_while0b_v97, main_while0b_v98, main_while0b_v99, main_while0b_v100, main_while0b_v101, main_while0b_cst_33, main_while0b_v102, main_while0b_v103, main_while0b_c_34, main_while0b_v104, main_while0b_v105, main_while0b_c_35, main_while0b_v106, main_while0b_v107, main_while0b_v108, main_while0b_c_36, main_while0b_v109, main_while0b_v110, main_while0b_c_37, main_while0b_v111, main_while0b_v112, main_while0b_v113, main_while0b_v114, main_while0b_v115, main_while0b_v116, main_while0b_v117, main_while0b_v118, main_while0b_v119, main_while0b_v120, main_while0b_v121, main_while0b_v122, main_while0b_v123, main_while0b_v124, main_while0b_v125, main_while0b_v126, main_while0b_v127, main_while0b_v128, main_while0b_cst_38]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call3_v0, main_while0b_call3_v1, main_while0b_v129]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_v130, main_while0b_v131, main_while0b_v132, main_while0b_v133, main_while0b_v134, main_while0b_v135, main_while0b_v136, main_while0b_v137, main_while0b_v138, main_while0b_v139, main_while0b_v140, main_while0b_v141, main_while0b_v142, main_while0b_v143, main_while0b_v144, main_while0b_v145, main_while0b_v146, main_while0b_v147, main_while0b_v148, main_while0b_v149, main_while0b_v150, main_while0b_v151, main_while0b_v152, main_while0b_v153, main_while0b_v154, main_while0b_v155, main_while0b_v156, main_while0b_v157, main_while0b_v158, main_while0b_v159, main_while0b_v160, main_while0b_cst_39, main_while0b_v161, main_while0b_v162, main_while0b_v163, main_while0b_cst_40, main_while0b_v164, main_while0b_v165, main_while0b_cst_41]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_call4_v0, main_while0b_call4_v1, main_while0b_v166]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_c_42, main_while0b_v167, main_while0b_v168, main_while0b_c_43, main_while0b_v169, main_while0b_v170, main_while0b_v171, main_while0b_c_44, main_while0b_v172, main_while0b_v173, main_while0b_c_45, main_while0b_v174, main_while0b_v175, main_while0b_v176, main_while0b_v177, main_while0b_v178, main_while0b_v179, main_while0b_cst_46, main_while0b_v180, main_while0b_v181, main_while0b_v182]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `while0Ops0_7` allocates a buffer. -/
theorem while0Ops0_7_fresh : (while0Ops0_7 : List (HloOp τ sig (Elt F))).Forall fun op => op.fresh = ∅ :=
  StableHlo.forall_fresh_of_map rfl
/-- The reference each operation of `while0Ops0_7` writes, in order. -/
abbrev while0Ops0_7_W : List (Ref sig .tc) := [main_while0b_call5_v0, main_while0b_v183]
theorem while0Ops0_7_writes : (while0Ops0_7 : List (HloOp τ sig (Elt F))).Forall fun op => op.writes ⊆ (while0Ops0_7_W.map (Proc.devRef (τ := τ) .tc)).toFinset :=
  StableHlo.forall_writes_sub_of_map rfl
/-- No operation of `while0Ops0_8` allocates a buffer. -/
theorem while0Ops0_8_fresh : (while0Ops0_8 : List (HloOp τ sig (Elt F))).Forall fun op => op.fresh = ∅ :=
  StableHlo.forall_fresh_of_map rfl
/-- The reference each operation of `while0Ops0_8` writes, in order. -/
abbrev while0Ops0_8_W : List (Ref sig .tc) := [main_while0b_c_47, main_while0b_v184, main_while0b_c_48, main_while0b_v185, main_while0b_v186, main_while0b_v187, main_while0b_v188, main_while0b_v189, main_while0b_c_49, main_while0b_v190, main_while0b_c_50, main_while0b_v191, main_while0b_v192, main_while0b_v193, main_while0b_v194, main_while0b_v195, main_while0b_c_51, main_while0b_v196, main_v34_2, main_v34_3, main_v34_4, main_v34_5, main_v34_6]
theorem while0Ops0_8_writes : (while0Ops0_8 : List (HloOp τ sig (Elt F))).Forall fun op => op.writes ⊆ (while0Ops0_8_W.map (Proc.devRef (τ := τ) .tc)).toFinset :=
  StableHlo.forall_writes_sub_of_map rfl
/-- No operation of `hostOps0_5` allocates a buffer. -/
theorem hostOps0_5_fresh : (hostOps0_5 : List (HloOp τ sig (Elt F))).Forall fun op => op.fresh = ∅ :=
  StableHlo.forall_fresh_of_map rfl
/-- No operation of `hostOps0_6` allocates a buffer. -/
theorem hostOps0_6_fresh : (hostOps0_6 : List (HloOp τ sig (Elt F))).Forall fun op => op.fresh = ∅ :=
  StableHlo.forall_fresh_of_map rfl

/-- The condition region's two operations: the bound, and the trip counter compared with it. -/
abbrev condOps : List (HloOp τ sig (Elt F)) :=
  [ StableHlo.nullary main_while0c_c_28 (constantI S_ 32 1000#32),
    StableHlo.binary main_v34_2 main_while0c_c_28 main_while0c_v86 (cmpi .slt) ]

/-- @main's stretches before the loop, the loop body's, and @main's after the loop. -/
abbrev preI : List (List (HloOp τ sig (Elt F))) := [hostOps0, hostOps0_1, hostOps0_2, hostOps0_3, hostOps0_4]
abbrev bodyI : List (List (HloOp τ sig (Elt F))) := [while0Ops0, while0Ops0_1, while0Ops0_2, while0Ops0_3, while0Ops0_4, while0Ops0_5, while0Ops0_6, while0Ops0_7, while0Ops0_8]
abbrev postI : List (List (HloOp τ sig (Elt F))) := [hostOps0_5, hostOps0_6]

theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.nil)))))
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.nil)))))))))
theorem hpost : Plain (postI (F := F)) := .cons hostOps0_5_sub (hf := List.forall_iff_forall_mem.mp hostOps0_5_fresh) (.cons hostOps0_6_sub (hf := List.forall_iff_forall_mem.mp hostOps0_6_fresh) (.nil))

/-- The reference each operation of `condOps` writes, in order. -/
abbrev condOps_W : List (Ref sig .tc) := [main_while0c_c_28, main_while0c_v86]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v34_2`) is written by one stretch of the body, `while0Ops0_8`: not by the condition, nor by the
    body's other stretches. -/
theorem ctr_cond (V : Valuation τ sig (Elt F)) : after condOps V (Proc.devRef .tc main_v34_2) = V (Proc.devRef .tc main_v34_2) :=
  after_of_writes_sub condOps V condOps_writes (by decide +kernel)
theorem ctr_while0Ops0 (V : Valuation τ sig (Elt F)) : after while0Ops0 V (Proc.devRef .tc main_v34_2) = V (Proc.devRef .tc main_v34_2) :=
  after_of_writes_sub while0Ops0 V while0Ops0_writes (by decide +kernel)
theorem ctr_while0Ops0_1 (V : Valuation τ sig (Elt F)) : after while0Ops0_1 V (Proc.devRef .tc main_v34_2) = V (Proc.devRef .tc main_v34_2) :=
  after_of_writes_sub while0Ops0_1 V while0Ops0_1_writes (by decide +kernel)
theorem ctr_while0Ops0_2 (V : Valuation τ sig (Elt F)) : after while0Ops0_2 V (Proc.devRef .tc main_v34_2) = V (Proc.devRef .tc main_v34_2) :=
  after_of_writes_sub while0Ops0_2 V while0Ops0_2_writes (by decide +kernel)
theorem ctr_while0Ops0_3 (V : Valuation τ sig (Elt F)) : after while0Ops0_3 V (Proc.devRef .tc main_v34_2) = V (Proc.devRef .tc main_v34_2) :=
  after_of_writes_sub while0Ops0_3 V while0Ops0_3_writes (by decide +kernel)
theorem ctr_while0Ops0_4 (V : Valuation τ sig (Elt F)) : after while0Ops0_4 V (Proc.devRef .tc main_v34_2) = V (Proc.devRef .tc main_v34_2) :=
  after_of_writes_sub while0Ops0_4 V while0Ops0_4_writes (by decide +kernel)
theorem ctr_while0Ops0_5 (V : Valuation τ sig (Elt F)) : after while0Ops0_5 V (Proc.devRef .tc main_v34_2) = V (Proc.devRef .tc main_v34_2) :=
  after_of_writes_sub while0Ops0_5 V while0Ops0_5_writes (by decide +kernel)
theorem ctr_while0Ops0_6 (V : Valuation τ sig (Elt F)) : after while0Ops0_6 V (Proc.devRef .tc main_v34_2) = V (Proc.devRef .tc main_v34_2) :=
  after_of_writes_sub while0Ops0_6 V while0Ops0_6_writes (by decide +kernel)
theorem ctr_while0Ops0_7 (V : Valuation τ sig (Elt F)) : after while0Ops0_7 V (Proc.devRef .tc main_v34_2) = V (Proc.devRef .tc main_v34_2) :=
  after_of_writes_sub while0Ops0_7 V while0Ops0_7_writes (by decide +kernel)

/-- The function of the body's operation that writes `main_while0b_v100`, named. It packs its operands into a list of dependent pairs
    whose shapes a later argument's type mentions, so `simp` cannot rewrite an operand where it stands; applied by
    name, the operands are plain arguments, which the window lemmas below rewrite before the name unfolds. -/
def fn_main_while0b_v100 : (⟨S8x1, .i32⟩ : BufTy).Contents (Elt F) → (⟨S8x1, .i32⟩ : BufTy).Contents (Elt F) → (⟨S8x2, .i32⟩ : BufTy).Contents (Elt F) :=
  (fun a b => concatenate S8x2 1 [⟨S8x1, a⟩, ⟨S8x1, b⟩] concatenates_S8x1_S8x1_S8x2_d1)

/-- The function of the body's operation that writes `main_while0b_v116`, named. It packs its operands into a list of dependent pairs
    whose shapes a later argument's type mentions, so `simp` cannot rewrite an operand where it stands; applied by
    name, the operands are plain arguments, which the window lemmas below rewrite before the name unfolds. -/
def fn_main_while0b_v116 : (⟨S8x1, .i32⟩ : BufTy).Contents (Elt F) → (⟨S8x1, .i32⟩ : BufTy).Contents (Elt F) → (⟨S8x2, .i32⟩ : BufTy).Contents (Elt F) :=
  (fun a b => concatenate S8x2 1 [⟨S8x1, a⟩, ⟨S8x1, b⟩] concatenates_S8x1_S8x1_S8x2_d1)

/-- The function of the body's operation that writes `main_while0b_v179`, named. It packs its operands into a list of dependent pairs
    whose shapes a later argument's type mentions, so `simp` cannot rewrite an operand where it stands; applied by
    name, the operands are plain arguments, which the window lemmas below rewrite before the name unfolds. -/
def fn_main_while0b_v179 : (⟨S8x1, .i32⟩ : BufTy).Contents (Elt F) → (⟨S8x1, .i32⟩ : BufTy).Contents (Elt F) → (⟨S8x2, .i32⟩ : BufTy).Contents (Elt F) :=
  (fun a b => concatenate S8x2 1 [⟨S8x1, a⟩, ⟨S8x1, b⟩] concatenates_S8x1_S8x1_S8x2_d1)

/-- The body's operations 1 … 2 of 149. -/
abbrev trip_w0 : List (HloOp τ sig (Elt F)) :=
  [ StableHlo.nullary main_while0b_c_28 (constantI S_ 32 1#32),
    StableHlo.binary main_v34_3 main_while0b_c_28 main_while0b_v86 (addi : (⟨S_, .i32⟩ : BufTy).Contents (Elt F) → (⟨S_, .i32⟩ : BufTy).Contents (Elt F) → (⟨S_, .i32⟩ : BufTy).Contents (Elt F)) ]

/-- The body's operations 3 … 7 of 149. -/
abbrev trip_w1 : List (HloOp τ sig (Elt F)) :=
  [ StableHlo.TRef.nullary (.of main_while0b_call2_v0 : StableHlo.TRef sig ⟨S8x20000, .i32⟩) (iotaInDim S8x20000 32 1),
    StableHlo.TRef.nullary (.of main_while0b_call2_cst : StableHlo.TRef sig ⟨S_, .f32⟩) (constant S_ .f32 0xFF800000#32),
    StableHlo.TRef.nullary (.of main_while0b_call2_c : StableHlo.TRef sig ⟨S_, .i32⟩) (constantI S_ 32 0#32),
    StableHlo.TRef.quaternary (.of main_v34_4 : StableHlo.TRef sig ⟨S8x20000, .f32⟩) (.of main_while0b_call2_v0 : StableHlo.TRef sig ⟨S8x20000, .i32⟩) (.of main_while0b_call2_cst : StableHlo.TRef sig ⟨S_, .f32⟩) (.of main_while0b_call2_c : StableHlo.TRef sig ⟨S_, .i32⟩) (.of main_while0b_call2_v1_0 : StableHlo.TRef sig ⟨S8, .f32⟩) (fun x y u v j => (Host.argReduce reducer_argmax_f32_i32 x y u v reducesTo_S8x20000_S8_d1 h_S_ j).1),
    StableHlo.TRef.quaternary (.of main_v34_4 : StableHlo.TRef sig ⟨S8x20000, .f32⟩) (.of main_while0b_call2_v0 : StableHlo.TRef sig ⟨S8x20000, .i32⟩) (.of main_while0b_call2_cst : StableHlo.TRef sig ⟨S_, .f32⟩) (.of main_while0b_call2_c : StableHlo.TRef sig ⟨S_, .i32⟩) (.of main_while0b_v87 : StableHlo.TRef sig ⟨S8, .i32⟩) (fun x y u v j => (Host.argReduce reducer_argmax_f32_i32 x y u v reducesTo_S8x20000_S8_d1 h_S_ j).2) ]

/-- The body's operations 8 … 31 of 149. -/
abbrev trip_w2 : List (HloOp τ sig (Elt F)) :=
  [ StableHlo.nullary main_while0b_c_29 (constantI S_ 32 0#32),
    StableHlo.unary main_while0b_c_29 main_while0b_v88 (broadcastInDim S8 ![] bcast_S_S8 : (⟨S_, .i32⟩ : BufTy).Contents (Elt F) → (⟨S8, .i32⟩ : BufTy).Contents (Elt F)),
    StableHlo.binary main_v34_0 main_while0b_v88 main_while0b_v89 (cmpi .slt : (⟨S8, .i32⟩ : BufTy).Contents (Elt F) → (⟨S8, .i32⟩ : BufTy).Contents (Elt F) → (⟨S8, .i1⟩ : BufTy).Contents (Elt F)),
    StableHlo.nullary main_while0b_c_30 (constantI S_ 32 8#32),
    StableHlo.unary main_while0b_c_30 main_while0b_v90 (broadcastInDim S8 ![] bcast_S_S8 : (⟨S_, .i32⟩ : BufTy).Contents (Elt F) → (⟨S8, .i32⟩ : BufTy).Contents (Elt F)),
    StableHlo.binary main_v34_0 main_while0b_v90 main_while0b_v91 (addi : (⟨S8, .i32⟩ : BufTy).Contents (Elt F) → (⟨S8, .i32⟩ : BufTy).Contents (Elt F) → (⟨S8, .i32⟩ : BufTy).Contents (Elt F)),
    StableHlo.ternary main_while0b_v89 main_while0b_v91 main_v34_0 main_while0b_v92 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.nullary main_while0b_c_31 (constantI S_ 32 0#32),
    StableHlo.unary main_while0b_c_31 main_while0b_v93 (broadcastInDim S8 ![] bcast_S_S8 : (⟨S_, .i32⟩ : BufTy).Contents (Elt F) → (⟨S8, .i32⟩ : BufTy).Contents (Elt F)),
    StableHlo.binary main_while0b_v87 main_while0b_v93 main_while0b_v94 (cmpi .slt : (⟨S8, .i32⟩ : BufTy).Contents (Elt F) → (⟨S8, .i32⟩ : BufTy).Contents (Elt F) → (⟨S8, .i1⟩ : BufTy).Contents (Elt F)),
    StableHlo.nullary main_while0b_c_32 (constantI S_ 32 20000#32),
    StableHlo.unary main_while0b_c_32 main_while0b_v95 (broadcastInDim S8 ![] bcast_S_S8 : (⟨S_, .i32⟩ : BufTy).Contents (Elt F) → (⟨S8, .i32⟩ : BufTy).Contents (Elt F)),
    StableHlo.binary main_while0b_v87 main_while0b_v95 main_while0b_v96 (addi : (⟨S8, .i32⟩ : BufTy).Contents (Elt F) → (⟨S8, .i32⟩ : BufTy).Contents (Elt F) → (⟨S8, .i32⟩ : BufTy).Contents (Elt F)),
    StableHlo.ternary main_while0b_v94 main_while0b_v96 main_while0b_v87 main_while0b_v97 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_while0b_v92 main_while0b_v98 (broadcastInDim S8x1 ![0] bcast_S8_S8x1_0 : (⟨S8, .i32⟩ : BufTy).Contents (Elt F) → (⟨S8x1, .i32⟩ : BufTy).Contents (Elt F)),
    StableHlo.unary main_while0b_v97 main_while0b_v99 (broadcastInDim S8x1 ![0] bcast_S8_S8x1_0 : (⟨S8, .i32⟩ : BufTy).Contents (Elt F) → (⟨S8x1, .i32⟩ : BufTy).Contents (Elt F)),
    StableHlo.binary main_while0b_v98 main_while0b_v99 main_while0b_v100 (fn_main_while0b_v100 (F := F)),
    StableHlo.binary main_v34_4 main_while0b_v100 main_while0b_v101 ((fun x i => Host.gather gather_S8x20000_S8x2_S8_n_01_n_n_01_1_11 x i) : (⟨S8x20000, .f32⟩ : BufTy).Contents (Elt F) → (⟨S8x2, .i32⟩ : BufTy).Contents (Elt F) → (⟨S8, .f32⟩ : BufTy).Contents (Elt F)),
    StableHlo.nullary main_while0b_cst_33 (constant S_ .f32 0x00000000#32),
    StableHlo.unary main_while0b_cst_33 main_while0b_v102 (broadcastInDim S8 ![] bcast_S_S8 : (⟨S_, .f32⟩ : BufTy).Contents (Elt F) → (⟨S8, .f32⟩ : BufTy).Contents (Elt F)),
    StableHlo.binary main_while0b_v101 main_while0b_v102 main_while0b_v103 (cmpf .ogt : (⟨S8, .f32⟩ : BufTy).Contents (Elt F) → (⟨S8, .f32⟩ : BufTy).Contents (Elt F) → (⟨S8, .i1⟩ : BufTy).Contents (Elt F)),
    StableHlo.nullary main_while0b_c_34 (constantI S_ 32 0#32),
    StableHlo.unary main_while0b_c_34 main_while0b_v104 (broadcastInDim S8 ![] bcast_S_S8 : (⟨S_, .i32⟩ : BufTy).Contents (Elt F) → (⟨S8, .i32⟩ : BufTy).Contents (Elt F)),
    StableHlo.binary main_v34_0 main_while0b_v104 main_while0b_v105 (cmpi .slt : (⟨S8, .i32⟩ : BufTy).Contents (Elt F) → (⟨S8, .i32⟩ : BufTy).Contents (Elt F) → (⟨S8, .i1⟩ : BufTy).Contents (Elt F)) ]

/-- The body's operations 32 … 55 of 149. -/
abbrev trip_w3 : List (HloOp τ sig (Elt F)) :=
  [ StableHlo.nullary main_while0b_c_35 (constantI S_ 32 8#32),
    StableHlo.unary main_while0b_c_35 main_while0b_v106 (broadcastInDim S8 ![] bcast_S_S8 : (⟨S_, .i32⟩ : BufTy).Contents (Elt F) → (⟨S8, .i32⟩ : BufTy).Contents (Elt F)),
    StableHlo.binary main_v34_0 main_while0b_v106 main_while0b_v107 (addi : (⟨S8, .i32⟩ : BufTy).Contents (Elt F) → (⟨S8, .i32⟩ : BufTy).Contents (Elt F) → (⟨S8, .i32⟩ : BufTy).Contents (Elt F)),
    StableHlo.ternary main_while0b_v105 main_while0b_v107 main_v34_0 main_while0b_v108 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.nullary main_while0b_c_36 (constantI S_ 32 0#32),
    StableHlo.unary main_while0b_c_36 main_while0b_v109 (broadcastInDim S8 ![] bcast_S_S8 : (⟨S_, .i32⟩ : BufTy).Contents (Elt F) → (⟨S8, .i32⟩ : BufTy).Contents (Elt F)),
    StableHlo.binary main_while0b_v87 main_while0b_v109 main_while0b_v110 (cmpi .slt : (⟨S8, .i32⟩ : BufTy).Contents (Elt F) → (⟨S8, .i32⟩ : BufTy).Contents (Elt F) → (⟨S8, .i1⟩ : BufTy).Contents (Elt F)),
    StableHlo.nullary main_while0b_c_37 (constantI S_ 32 20000#32),
    StableHlo.unary main_while0b_c_37 main_while0b_v111 (broadcastInDim S8 ![] bcast_S_S8 : (⟨S_, .i32⟩ : BufTy).Contents (Elt F) → (⟨S8, .i32⟩ : BufTy).Contents (Elt F)),
    StableHlo.binary main_while0b_v87 main_while0b_v111 main_while0b_v112 (addi : (⟨S8, .i32⟩ : BufTy).Contents (Elt F) → (⟨S8, .i32⟩ : BufTy).Contents (Elt F) → (⟨S8, .i32⟩ : BufTy).Contents (Elt F)),
    StableHlo.ternary main_while0b_v110 main_while0b_v112 main_while0b_v87 main_while0b_v113 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_while0b_v108 main_while0b_v114 (broadcastInDim S8x1 ![0] bcast_S8_S8x1_0 : (⟨S8, .i32⟩ : BufTy).Contents (Elt F) → (⟨S8x1, .i32⟩ : BufTy).Contents (Elt F)),
    StableHlo.unary main_while0b_v113 main_while0b_v115 (broadcastInDim S8x1 ![0] bcast_S8_S8x1_0 : (⟨S8, .i32⟩ : BufTy).Contents (Elt F) → (⟨S8x1, .i32⟩ : BufTy).Contents (Elt F)),
    StableHlo.binary main_while0b_v114 main_while0b_v115 main_while0b_v116 (fn_main_while0b_v116 (F := F)),
    StableHlo.binary main_v34_1 main_while0b_v116 main_while0b_v117 ((fun x i => Host.gather gather_S8x20000x4_S8x2_S8x4_1_01_n_n_01_1_114 x i) : (⟨S8x20000x4, .f32⟩ : BufTy).Contents (Elt F) → (⟨S8x2, .i32⟩ : BufTy).Contents (Elt F) → (⟨S8x4, .f32⟩ : BufTy).Contents (Elt F)),
    StableHlo.unary main_while0b_v117 main_while0b_v118 ((extractStridedSlice S8x2 ![0, 0] · slices_S8x4_S8x2_0_0) : (⟨S8x4, .f32⟩ : BufTy).Contents (Elt F) → (⟨S8x2, .f32⟩ : BufTy).Contents (Elt F)),
    StableHlo.unary main_while0b_v118 main_while0b_v119 (broadcastInDim S8x1x2 ![0, 2] bcast_S8x2_S8x1x2_0_2 : (⟨S8x2, .f32⟩ : BufTy).Contents (Elt F) → (⟨S8x1x2, .f32⟩ : BufTy).Contents (Elt F)),
    StableHlo.unary main_v34_1 main_while0b_v120 ((extractStridedSlice S8x20000x2 ![0, 0, 0] · slices_S8x20000x4_S8x20000x2_0_0_0) : (⟨S8x20000x4, .f32⟩ : BufTy).Contents (Elt F) → (⟨S8x20000x2, .f32⟩ : BufTy).Contents (Elt F)),
    StableHlo.unary main_while0b_v119 main_while0b_v121 (broadcastInDim S8x20000x2 ![0, 1, 2] bcast_S8x1x2_S8x20000x2_0_1_2 : (⟨S8x1x2, .f32⟩ : BufTy).Contents (Elt F) → (⟨S8x20000x2, .f32⟩ : BufTy).Contents (Elt F)),
    StableHlo.binary main_while0b_v121 main_while0b_v120 main_while0b_v122 (maximumf : (⟨S8x20000x2, .f32⟩ : BufTy).Contents (Elt F) → (⟨S8x20000x2, .f32⟩ : BufTy).Contents (Elt F) → (⟨S8x20000x2, .f32⟩ : BufTy).Contents (Elt F)),
    StableHlo.unary main_while0b_v117 main_while0b_v123 ((extractStridedSlice S8x2 ![0, 2] · slices_S8x4_S8x2_0_2) : (⟨S8x4, .f32⟩ : BufTy).Contents (Elt F) → (⟨S8x2, .f32⟩ : BufTy).Contents (Elt F)),
    StableHlo.unary main_while0b_v123 main_while0b_v124 (broadcastInDim S8x1x2 ![0, 2] bcast_S8x2_S8x1x2_0_2 : (⟨S8x2, .f32⟩ : BufTy).Contents (Elt F) → (⟨S8x1x2, .f32⟩ : BufTy).Contents (Elt F)),
    StableHlo.unary main_v34_1 main_while0b_v125 ((extractStridedSlice S8x20000x2 ![0, 0, 2] · slices_S8x20000x4_S8x20000x2_0_0_2) : (⟨S8x20000x4, .f32⟩ : BufTy).Contents (Elt F) → (⟨S8x20000x2, .f32⟩ : BufTy).Contents (Elt F)),
    StableHlo.unary main_while0b_v124 main_while0b_v126 (broadcastInDim S8x20000x2 ![0, 1, 2] bcast_S8x1x2_S8x20000x2_0_1_2 : (⟨S8x1x2, .f32⟩ : BufTy).Contents (Elt F) → (⟨S8x20000x2, .f32⟩ : BufTy).Contents (Elt F)) ]

/-- The body's operations 56 … 58 of 149. -/
abbrev trip_w4 : List (HloOp τ sig (Elt F)) :=
  [ StableHlo.binary main_while0b_v126 main_while0b_v125 main_while0b_v127 (minimumf : (⟨S8x20000x2, .f32⟩ : BufTy).Contents (Elt F) → (⟨S8x20000x2, .f32⟩ : BufTy).Contents (Elt F) → (⟨S8x20000x2, .f32⟩ : BufTy).Contents (Elt F)),
    StableHlo.binary main_while0b_v127 main_while0b_v122 main_while0b_v128 (subf : (⟨S8x20000x2, .f32⟩ : BufTy).Contents (Elt F) → (⟨S8x20000x2, .f32⟩ : BufTy).Contents (Elt F) → (⟨S8x20000x2, .f32⟩ : BufTy).Contents (Elt F)),
    StableHlo.nullary main_while0b_cst_38 (constant S_ .f32 0x00000000#32) ]

/-- The body's operations 59 … 61 of 149. -/
abbrev trip_w5 : List (HloOp τ sig (Elt F)) :=
  [ StableHlo.TRef.unary (.of main_while0b_cst_38 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S8x20000x2, .f32⟩) (broadcastInDim S8x20000x2 ![] bcast_S_S8x20000x2),
    StableHlo.TRef.binary (.of main_while0b_call3_v1 : StableHlo.TRef sig ⟨S8x20000x2, .f32⟩) (.of main_while0b_v128 : StableHlo.TRef sig ⟨S8x20000x2, .f32⟩) (.of main_while0b_v129 : StableHlo.TRef sig ⟨S8x20000x2, .f32⟩) maximumf ]

/-- The body's operations 62 … 85 of 149. -/
abbrev trip_w6 : List (HloOp τ sig (Elt F)) :=
  [ StableHlo.unary main_while0b_v129 main_while0b_v130 ((extractStridedSlice S8x20000x1 ![0, 0, 0] · slices_S8x20000x2_S8x20000x1_0_0_0) : (⟨S8x20000x2, .f32⟩ : BufTy).Contents (Elt F) → (⟨S8x20000x1, .f32⟩ : BufTy).Contents (Elt F)),
    StableHlo.reshape main_while0b_v130 main_while0b_v131 (rfl : (.f32 : EltTy) = .f32) shapeCasts_S8x20000x1_S8x20000,
    StableHlo.unary main_while0b_v129 main_while0b_v132 ((extractStridedSlice S8x20000x1 ![0, 0, 1] · slices_S8x20000x2_S8x20000x1_0_0_1) : (⟨S8x20000x2, .f32⟩ : BufTy).Contents (Elt F) → (⟨S8x20000x1, .f32⟩ : BufTy).Contents (Elt F)),
    StableHlo.reshape main_while0b_v132 main_while0b_v133 (rfl : (.f32 : EltTy) = .f32) shapeCasts_S8x20000x1_S8x20000,
    StableHlo.binary main_while0b_v131 main_while0b_v133 main_while0b_v134 (mulf : (⟨S8x20000, .f32⟩ : BufTy).Contents (Elt F) → (⟨S8x20000, .f32⟩ : BufTy).Contents (Elt F) → (⟨S8x20000, .f32⟩ : BufTy).Contents (Elt F)),
    StableHlo.unary main_while0b_v117 main_while0b_v135 ((extractStridedSlice S8x1 ![0, 2] · slices_S8x4_S8x1_0_2) : (⟨S8x4, .f32⟩ : BufTy).Contents (Elt F) → (⟨S8x1, .f32⟩ : BufTy).Contents (Elt F)),
    StableHlo.reshape main_while0b_v135 main_while0b_v136 (rfl : (.f32 : EltTy) = .f32) shapeCasts_S8x1_S8,
    StableHlo.unary main_while0b_v117 main_while0b_v137 ((extractStridedSlice S8x1 ![0, 0] · slices_S8x4_S8x1_0_0) : (⟨S8x4, .f32⟩ : BufTy).Contents (Elt F) → (⟨S8x1, .f32⟩ : BufTy).Contents (Elt F)),
    StableHlo.reshape main_while0b_v137 main_while0b_v138 (rfl : (.f32 : EltTy) = .f32) shapeCasts_S8x1_S8,
    StableHlo.binary main_while0b_v136 main_while0b_v138 main_while0b_v139 (subf : (⟨S8, .f32⟩ : BufTy).Contents (Elt F) → (⟨S8, .f32⟩ : BufTy).Contents (Elt F) → (⟨S8, .f32⟩ : BufTy).Contents (Elt F)),
    StableHlo.unary main_while0b_v117 main_while0b_v140 ((extractStridedSlice S8x1 ![0, 3] · slices_S8x4_S8x1_0_3) : (⟨S8x4, .f32⟩ : BufTy).Contents (Elt F) → (⟨S8x1, .f32⟩ : BufTy).Contents (Elt F)),
    StableHlo.reshape main_while0b_v140 main_while0b_v141 (rfl : (.f32 : EltTy) = .f32) shapeCasts_S8x1_S8,
    StableHlo.unary main_while0b_v117 main_while0b_v142 ((extractStridedSlice S8x1 ![0, 1] · slices_S8x4_S8x1_0_1) : (⟨S8x4, .f32⟩ : BufTy).Contents (Elt F) → (⟨S8x1, .f32⟩ : BufTy).Contents (Elt F)),
    StableHlo.reshape main_while0b_v142 main_while0b_v143 (rfl : (.f32 : EltTy) = .f32) shapeCasts_S8x1_S8,
    StableHlo.binary main_while0b_v141 main_while0b_v143 main_while0b_v144 (subf : (⟨S8, .f32⟩ : BufTy).Contents (Elt F) → (⟨S8, .f32⟩ : BufTy).Contents (Elt F) → (⟨S8, .f32⟩ : BufTy).Contents (Elt F)),
    StableHlo.binary main_while0b_v139 main_while0b_v144 main_while0b_v145 (mulf : (⟨S8, .f32⟩ : BufTy).Contents (Elt F) → (⟨S8, .f32⟩ : BufTy).Contents (Elt F) → (⟨S8, .f32⟩ : BufTy).Contents (Elt F)),
    StableHlo.unary main_v34_1 main_while0b_v146 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    StableHlo.reshape main_while0b_v146 main_while0b_v147 (rfl : (.f32 : EltTy) = .f32) shapeCasts_S8x20000x1_S8x20000,
    StableHlo.unary main_v34_1 main_while0b_v148 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    StableHlo.reshape main_while0b_v148 main_while0b_v149 (rfl : (.f32 : EltTy) = .f32) shapeCasts_S8x20000x1_S8x20000,
    StableHlo.binary main_while0b_v147 main_while0b_v149 main_while0b_v150 (subf : (⟨S8x20000, .f32⟩ : BufTy).Contents (Elt F) → (⟨S8x20000, .f32⟩ : BufTy).Contents (Elt F) → (⟨S8x20000, .f32⟩ : BufTy).Contents (Elt F)),
    StableHlo.unary main_v34_1 main_while0b_v151 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    StableHlo.reshape main_while0b_v151 main_while0b_v152 (rfl : (.f32 : EltTy) = .f32) shapeCasts_S8x20000x1_S8x20000,
    StableHlo.unary main_v34_1 main_while0b_v153 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)) ]

/-- The body's operations 86 … 100 of 149. -/
abbrev trip_w7 : List (HloOp τ sig (Elt F)) :=
  [ StableHlo.reshape main_while0b_v153 main_while0b_v154 (rfl : (.f32 : EltTy) = .f32) shapeCasts_S8x20000x1_S8x20000,
    StableHlo.binary main_while0b_v152 main_while0b_v154 main_while0b_v155 (subf : (⟨S8x20000, .f32⟩ : BufTy).Contents (Elt F) → (⟨S8x20000, .f32⟩ : BufTy).Contents (Elt F) → (⟨S8x20000, .f32⟩ : BufTy).Contents (Elt F)),
    StableHlo.binary main_while0b_v150 main_while0b_v155 main_while0b_v156 (mulf : (⟨S8x20000, .f32⟩ : BufTy).Contents (Elt F) → (⟨S8x20000, .f32⟩ : BufTy).Contents (Elt F) → (⟨S8x20000, .f32⟩ : BufTy).Contents (Elt F)),
    StableHlo.unary main_while0b_v145 main_while0b_v157 (broadcastInDim S8x1 ![0] bcast_S8_S8x1_0 : (⟨S8, .f32⟩ : BufTy).Contents (Elt F) → (⟨S8x1, .f32⟩ : BufTy).Contents (Elt F)),
    StableHlo.unary main_while0b_v157 main_while0b_v158 (broadcastInDim S8x20000 ![0, 1] bcast_S8x1_S8x20000_0_1 : (⟨S8x1, .f32⟩ : BufTy).Contents (Elt F) → (⟨S8x20000, .f32⟩ : BufTy).Contents (Elt F)),
    StableHlo.binary main_while0b_v158 main_while0b_v156 main_while0b_v159 (addf : (⟨S8x20000, .f32⟩ : BufTy).Contents (Elt F) → (⟨S8x20000, .f32⟩ : BufTy).Contents (Elt F) → (⟨S8x20000, .f32⟩ : BufTy).Contents (Elt F)),
    StableHlo.binary main_while0b_v159 main_while0b_v134 main_while0b_v160 (subf : (⟨S8x20000, .f32⟩ : BufTy).Contents (Elt F) → (⟨S8x20000, .f32⟩ : BufTy).Contents (Elt F) → (⟨S8x20000, .f32⟩ : BufTy).Contents (Elt F)),
    StableHlo.nullary main_while0b_cst_39 (constant S_ .f32 0x3089705F#32),
    StableHlo.unary main_while0b_cst_39 main_while0b_v161 (broadcastInDim S8x20000 ![] bcast_S_S8x20000 : (⟨S_, .f32⟩ : BufTy).Contents (Elt F) → (⟨S8x20000, .f32⟩ : BufTy).Contents (Elt F)),
    StableHlo.binary main_while0b_v160 main_while0b_v161 main_while0b_v162 (addf : (⟨S8x20000, .f32⟩ : BufTy).Contents (Elt F) → (⟨S8x20000, .f32⟩ : BufTy).Contents (Elt F) → (⟨S8x20000, .f32⟩ : BufTy).Contents (Elt F)),
    StableHlo.binary main_while0b_v134 main_while0b_v162 main_while0b_v163 (Host.divf : (⟨S8x20000, .f32⟩ : BufTy).Contents (Elt F) → (⟨S8x20000, .f32⟩ : BufTy).Contents (Elt F) → (⟨S8x20000, .f32⟩ : BufTy).Contents (Elt F)),
    StableHlo.nullary main_while0b_cst_40 (constant S_ .f32 0x3EE66666#32),
    StableHlo.unary main_while0b_cst_40 main_while0b_v164 (broadcastInDim S8x20000 ![] bcast_S_S8x20000 : (⟨S_, .f32⟩ : BufTy).Contents (Elt F) → (⟨S8x20000, .f32⟩ : BufTy).Contents (Elt F)),
    StableHlo.binary main_while0b_v163 main_while0b_v164 main_while0b_v165 (cmpf .ogt : (⟨S8x20000, .f32⟩ : BufTy).Contents (Elt F) → (⟨S8x20000, .f32⟩ : BufTy).Contents (Elt F) → (⟨S8x20000, .i1⟩ : BufTy).Contents (Elt F)),
    StableHlo.nullary main_while0b_cst_41 (constant S_ .f32 0xBF800000#32) ]

/-- The body's operations 101 … 103 of 149. -/
abbrev trip_w8 : List (HloOp τ sig (Elt F)) :=
  [ StableHlo.TRef.unary (.of main_while0b_cst_41 : StableHlo.TRef sig ⟨S_, .f32⟩) (.of main_while0b_call4_v0 : StableHlo.TRef sig ⟨S_, .f32⟩) id,
    StableHlo.TRef.unary (.of main_while0b_call4_v0 : StableHlo.TRef sig ⟨S_, .f32⟩) (.of main_while0b_call4_v1 : StableHlo.TRef sig ⟨S8x20000, .f32⟩) (broadcastInDim S8x20000 ![] bcast_S_S8x20000),
    StableHlo.TRef.ternary (.of main_while0b_v165 : StableHlo.TRef sig ⟨S8x20000, .i1⟩) (.of main_while0b_call4_v1 : StableHlo.TRef sig ⟨S8x20000, .f32⟩) (.of main_v34_4 : StableHlo.TRef sig ⟨S8x20000, .f32⟩) (.of main_while0b_v166 : StableHlo.TRef sig ⟨S8x20000, .f32⟩) select ]

/-- The body's operations 104 … 124 of 149. -/
abbrev trip_w9 : List (HloOp τ sig (Elt F)) :=
  [ StableHlo.nullary main_while0b_c_42 (constantI S_ 32 0#32),
    StableHlo.unary main_while0b_c_42 main_while0b_v167 (broadcastInDim S8 ![] bcast_S_S8 : (⟨S_, .i32⟩ : BufTy).Contents (Elt F) → (⟨S8, .i32⟩ : BufTy).Contents (Elt F)),
    StableHlo.binary main_v34_0 main_while0b_v167 main_while0b_v168 (cmpi .slt : (⟨S8, .i32⟩ : BufTy).Contents (Elt F) → (⟨S8, .i32⟩ : BufTy).Contents (Elt F) → (⟨S8, .i1⟩ : BufTy).Contents (Elt F)),
    StableHlo.nullary main_while0b_c_43 (constantI S_ 32 8#32),
    StableHlo.unary main_while0b_c_43 main_while0b_v169 (broadcastInDim S8 ![] bcast_S_S8 : (⟨S_, .i32⟩ : BufTy).Contents (Elt F) → (⟨S8, .i32⟩ : BufTy).Contents (Elt F)),
    StableHlo.binary main_v34_0 main_while0b_v169 main_while0b_v170 (addi : (⟨S8, .i32⟩ : BufTy).Contents (Elt F) → (⟨S8, .i32⟩ : BufTy).Contents (Elt F) → (⟨S8, .i32⟩ : BufTy).Contents (Elt F)),
    StableHlo.ternary main_while0b_v168 main_while0b_v170 main_v34_0 main_while0b_v171 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.nullary main_while0b_c_44 (constantI S_ 32 0#32),
    StableHlo.unary main_while0b_c_44 main_while0b_v172 (broadcastInDim S8 ![] bcast_S_S8 : (⟨S_, .i32⟩ : BufTy).Contents (Elt F) → (⟨S8, .i32⟩ : BufTy).Contents (Elt F)),
    StableHlo.binary main_while0b_v87 main_while0b_v172 main_while0b_v173 (cmpi .slt : (⟨S8, .i32⟩ : BufTy).Contents (Elt F) → (⟨S8, .i32⟩ : BufTy).Contents (Elt F) → (⟨S8, .i1⟩ : BufTy).Contents (Elt F)),
    StableHlo.nullary main_while0b_c_45 (constantI S_ 32 20000#32),
    StableHlo.unary main_while0b_c_45 main_while0b_v174 (broadcastInDim S8 ![] bcast_S_S8 : (⟨S_, .i32⟩ : BufTy).Contents (Elt F) → (⟨S8, .i32⟩ : BufTy).Contents (Elt F)),
    StableHlo.binary main_while0b_v87 main_while0b_v174 main_while0b_v175 (addi : (⟨S8, .i32⟩ : BufTy).Contents (Elt F) → (⟨S8, .i32⟩ : BufTy).Contents (Elt F) → (⟨S8, .i32⟩ : BufTy).Contents (Elt F)),
    StableHlo.ternary main_while0b_v173 main_while0b_v175 main_while0b_v87 main_while0b_v176 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_while0b_v171 main_while0b_v177 (broadcastInDim S8x1 ![0] bcast_S8_S8x1_0 : (⟨S8, .i32⟩ : BufTy).Contents (Elt F) → (⟨S8x1, .i32⟩ : BufTy).Contents (Elt F)),
    StableHlo.unary main_while0b_v176 main_while0b_v178 (broadcastInDim S8x1 ![0] bcast_S8_S8x1_0 : (⟨S8, .i32⟩ : BufTy).Contents (Elt F) → (⟨S8x1, .i32⟩ : BufTy).Contents (Elt F)),
    StableHlo.binary main_while0b_v177 main_while0b_v178 main_while0b_v179 (fn_main_while0b_v179 (F := F)),
    StableHlo.nullary main_while0b_cst_46 (constant S_ .f32 0xBF800000#32),
    StableHlo.unary main_while0b_cst_46 main_while0b_v180 (broadcastInDim S8 ![] bcast_S_S8 : (⟨S_, .f32⟩ : BufTy).Contents (Elt F) → (⟨S8, .f32⟩ : BufTy).Contents (Elt F)),
    StableHlo.ternary main_while0b_v166 main_while0b_v179 main_while0b_v180 main_while0b_v181 ((fun x i u => Host.scatter scatter_S8x20000_S8x2_S8_n_01_01_1 (fun _ b => b) x i u) : (⟨S8x20000, .f32⟩ : BufTy).Contents (Elt F) → (⟨S8x2, .i32⟩ : BufTy).Contents (Elt F) → (⟨S8, .f32⟩ : BufTy).Contents (Elt F) → (⟨S8x20000, .f32⟩ : BufTy).Contents (Elt F)),
    StableHlo.unary main_while0b_v103 main_while0b_v182 (broadcastInDim S8x1 ![0] bcast_S8_S8x1_0 : (⟨S8, .i1⟩ : BufTy).Contents (Elt F) → (⟨S8x1, .i1⟩ : BufTy).Contents (Elt F)) ]

/-- The body's operations 125 … 126 of 149. -/
abbrev trip_w10 : List (HloOp τ sig (Elt F)) :=
  [ StableHlo.TRef.unary (.of main_while0b_v182 : StableHlo.TRef sig ⟨S8x1, .i1⟩) (.of main_while0b_call5_v0 : StableHlo.TRef sig ⟨S8x20000, .i1⟩) (broadcastInDim S8x20000 ![0, 1] bcast_S8x1_S8x20000_0_1),
    StableHlo.TRef.ternary (.of main_while0b_call5_v0 : StableHlo.TRef sig ⟨S8x20000, .i1⟩) (.of main_while0b_v181 : StableHlo.TRef sig ⟨S8x20000, .f32⟩) (.of main_v34_4 : StableHlo.TRef sig ⟨S8x20000, .f32⟩) (.of main_while0b_v183 : StableHlo.TRef sig ⟨S8x20000, .f32⟩) select ]

/-- The body's operations 127 … 142 of 149. -/
abbrev trip_w11 : List (HloOp τ sig (Elt F)) :=
  [ StableHlo.nullary main_while0b_c_47 (constantI S_ 32 0#32),
    StableHlo.binary main_v34_3 main_while0b_c_47 main_while0b_v184 (cmpi .slt : (⟨S_, .i32⟩ : BufTy).Contents (Elt F) → (⟨S_, .i32⟩ : BufTy).Contents (Elt F) → (⟨S_, .i1⟩ : BufTy).Contents (Elt F)),
    StableHlo.nullary main_while0b_c_48 (constantI S_ 32 1000#32),
    StableHlo.binary main_v34_3 main_while0b_c_48 main_while0b_v185 (addi : (⟨S_, .i32⟩ : BufTy).Contents (Elt F) → (⟨S_, .i32⟩ : BufTy).Contents (Elt F) → (⟨S_, .i32⟩ : BufTy).Contents (Elt F)),
    StableHlo.ternary main_while0b_v184 main_while0b_v185 main_v34_3 main_while0b_v186 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v186 main_while0b_v187 (id : (⟨S_, .i32⟩ : BufTy).Contents (Elt F) → (⟨S_, .i32⟩ : BufTy).Contents (Elt F)),
    StableHlo.unary main_while0b_v187 main_while0b_v188 (broadcastInDim S1 ![] bcast_S_S1 : (⟨S_, .i32⟩ : BufTy).Contents (Elt F) → (⟨S1, .i32⟩ : BufTy).Contents (Elt F)),
    StableHlo.ternary main_v34_5 main_while0b_v188 main_while0b_v87 main_while0b_v189 ((fun x i u => Host.scatter scatter_S8x1000_S1_S8_0_1_1_0 (fun _ b => b) x i u) : (⟨S8x1000, .i32⟩ : BufTy).Contents (Elt F) → (⟨S1, .i32⟩ : BufTy).Contents (Elt F) → (⟨S8, .i32⟩ : BufTy).Contents (Elt F) → (⟨S8x1000, .i32⟩ : BufTy).Contents (Elt F)),
    StableHlo.nullary main_while0b_c_49 (constantI S_ 32 0#32),
    StableHlo.binary main_v34_3 main_while0b_c_49 main_while0b_v190 (cmpi .slt : (⟨S_, .i32⟩ : BufTy).Contents (Elt F) → (⟨S_, .i32⟩ : BufTy).Contents (Elt F) → (⟨S_, .i1⟩ : BufTy).Contents (Elt F)),
    StableHlo.nullary main_while0b_c_50 (constantI S_ 32 1000#32),
    StableHlo.binary main_v34_3 main_while0b_c_50 main_while0b_v191 (addi : (⟨S_, .i32⟩ : BufTy).Contents (Elt F) → (⟨S_, .i32⟩ : BufTy).Contents (Elt F) → (⟨S_, .i32⟩ : BufTy).Contents (Elt F)),
    StableHlo.ternary main_while0b_v190 main_while0b_v191 main_v34_3 main_while0b_v192 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v192 main_while0b_v193 (id : (⟨S_, .i32⟩ : BufTy).Contents (Elt F) → (⟨S_, .i32⟩ : BufTy).Contents (Elt F)),
    StableHlo.unary main_while0b_v193 main_while0b_v194 (broadcastInDim S1 ![] bcast_S_S1 : (⟨S_, .i32⟩ : BufTy).Contents (Elt F) → (⟨S1, .i32⟩ : BufTy).Contents (Elt F)),
    StableHlo.ternary main_v34_6 main_while0b_v194 main_while0b_v103 main_while0b_v195 ((fun x i u => Host.scatter scatter_S8x1000_S1_S8_0_1_1_0 (fun _ b => b) x i u) : (⟨S8x1000, .i1⟩ : BufTy).Contents (Elt F) → (⟨S1, .i32⟩ : BufTy).Contents (Elt F) → (⟨S8, .i1⟩ : BufTy).Contents (Elt F) → (⟨S8x1000, .i1⟩ : BufTy).Contents (Elt F)) ]

/-- The body's operations 143 … 149 of 149: the counter's step and the copies back into the carried buffers. -/
abbrev while0Ops0_8_step : List (HloOp τ sig (Elt F)) :=
  [ StableHlo.nullary main_while0b_c_51 (constantI S_ 32 1#32),
    StableHlo.binary main_v34_2 main_while0b_c_51 main_while0b_v196 (addi : (⟨S_, .i32⟩ : BufTy).Contents (Elt F) → (⟨S_, .i32⟩ : BufTy).Contents (Elt F) → (⟨S_, .i32⟩ : BufTy).Contents (Elt F)),
    StableHlo.unary main_while0b_v196 main_v34_2 id,
    StableHlo.unary main_while0b_v86 main_v34_3 id,
    StableHlo.unary main_while0b_v183 main_v34_4 id,
    StableHlo.unary main_while0b_v189 main_v34_5 id,
    StableHlo.unary main_while0b_v195 main_v34_6 id ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 := rfl
set_option maxRecDepth 5000 in
/-- `while0Ops0_2` is its windows in order. -/
theorem while0Ops0_2_cut : (while0Ops0_2 : List (HloOp τ sig (Elt F))) = trip_w2 ++ (trip_w3 ++ (trip_w4)) := rfl
set_option maxRecDepth 5000 in
/-- `while0Ops0_3` is its windows in order. -/
theorem while0Ops0_3_cut : (while0Ops0_3 : List (HloOp τ sig (Elt F))) = trip_w5 := rfl
set_option maxRecDepth 5000 in
/-- `while0Ops0_4` is its windows in order. -/
theorem while0Ops0_4_cut : (while0Ops0_4 : List (HloOp τ sig (Elt F))) = trip_w6 ++ (trip_w7) := rfl
set_option maxRecDepth 5000 in
/-- `while0Ops0_5` is its windows in order. -/
theorem while0Ops0_5_cut : (while0Ops0_5 : List (HloOp τ sig (Elt F))) = trip_w8 := rfl
set_option maxRecDepth 5000 in
/-- `while0Ops0_6` is its windows in order. -/
theorem while0Ops0_6_cut : (while0Ops0_6 : List (HloOp τ sig (Elt F))) = trip_w9 := rfl
set_option maxRecDepth 5000 in
/-- `while0Ops0_7` is its windows in order. -/
theorem while0Ops0_7_cut : (while0Ops0_7 : List (HloOp τ sig (Elt F))) = trip_w10 := rfl
set_option maxRecDepth 5000 in
/-- `while0Ops0_8` is its windows in order, then the step. -/
theorem while0Ops0_8_cut : (while0Ops0_8 : List (HloOp τ sig (Elt F))) = trip_w11 ++ (while0Ops0_8_step) := rfl

/-- The buffers that window `trip_w0`'s operations write. -/
abbrev trip_w0_W : List (Ref sig .tc) := [main_while0b_c_28, main_while0b_v86]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w1`'s operations write. -/
abbrev trip_w1_W : List (Ref sig .tc) := [main_while0b_call2_v0, main_while0b_call2_cst, main_while0b_call2_c, main_while0b_call2_v1_0, main_while0b_v87]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w2`'s operations write. -/
abbrev trip_w2_W : List (Ref sig .tc) := [main_while0b_c_29, main_while0b_v88, main_while0b_v89, main_while0b_c_30, main_while0b_v90, main_while0b_v91, main_while0b_v92, main_while0b_c_31, main_while0b_v93, main_while0b_v94, main_while0b_c_32, main_while0b_v95, main_while0b_v96, main_while0b_v97, main_while0b_v98, main_while0b_v99, main_while0b_v100, main_while0b_v101, main_while0b_cst_33, main_while0b_v102, main_while0b_v103, main_while0b_c_34, main_while0b_v104, main_while0b_v105]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w3`'s operations write. -/
abbrev trip_w3_W : List (Ref sig .tc) := [main_while0b_c_35, main_while0b_v106, main_while0b_v107, main_while0b_v108, main_while0b_c_36, main_while0b_v109, main_while0b_v110, main_while0b_c_37, main_while0b_v111, main_while0b_v112, main_while0b_v113, main_while0b_v114, main_while0b_v115, main_while0b_v116, main_while0b_v117, main_while0b_v118, main_while0b_v119, main_while0b_v120, main_while0b_v121, main_while0b_v122, main_while0b_v123, main_while0b_v124, main_while0b_v125, main_while0b_v126]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w4`'s operations write. -/
abbrev trip_w4_W : List (Ref sig .tc) := [main_while0b_v127, main_while0b_v128, main_while0b_cst_38]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w5`'s operations write. -/
abbrev trip_w5_W : List (Ref sig .tc) := [main_while0b_call3_v0, main_while0b_call3_v1, main_while0b_v129]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w6`'s operations write. -/
abbrev trip_w6_W : List (Ref sig .tc) := [main_while0b_v130, main_while0b_v131, main_while0b_v132, main_while0b_v133, main_while0b_v134, main_while0b_v135, main_while0b_v136, main_while0b_v137, main_while0b_v138, main_while0b_v139, main_while0b_v140, main_while0b_v141, main_while0b_v142, main_while0b_v143, main_while0b_v144, main_while0b_v145, main_while0b_v146, main_while0b_v147, main_while0b_v148, main_while0b_v149, main_while0b_v150, main_while0b_v151, main_while0b_v152, main_while0b_v153]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w7`'s operations write. -/
abbrev trip_w7_W : List (Ref sig .tc) := [main_while0b_v154, main_while0b_v155, main_while0b_v156, main_while0b_v157, main_while0b_v158, main_while0b_v159, main_while0b_v160, main_while0b_cst_39, main_while0b_v161, main_while0b_v162, main_while0b_v163, main_while0b_cst_40, main_while0b_v164, main_while0b_v165, main_while0b_cst_41]
set_option maxRecDepth 8192 in
theorem trip_w7_writes : (trip_w7 : List (HloOp τ sig (Elt F))).Forall fun op => op.writes ⊆ (trip_w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w8`'s operations write. -/
abbrev trip_w8_W : List (Ref sig .tc) := [main_while0b_call4_v0, main_while0b_call4_v1, main_while0b_v166]
set_option maxRecDepth 8192 in
theorem trip_w8_writes : (trip_w8 : List (HloOp τ sig (Elt F))).Forall fun op => op.writes ⊆ (trip_w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w9`'s operations write. -/
abbrev trip_w9_W : List (Ref sig .tc) := [main_while0b_c_42, main_while0b_v167, main_while0b_v168, main_while0b_c_43, main_while0b_v169, main_while0b_v170, main_while0b_v171, main_while0b_c_44, main_while0b_v172, main_while0b_v173, main_while0b_c_45, main_while0b_v174, main_while0b_v175, main_while0b_v176, main_while0b_v177, main_while0b_v178, main_while0b_v179, main_while0b_cst_46, main_while0b_v180, main_while0b_v181, main_while0b_v182]
set_option maxRecDepth 8192 in
theorem trip_w9_writes : (trip_w9 : List (HloOp τ sig (Elt F))).Forall fun op => op.writes ⊆ (trip_w9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w10`'s operations write. -/
abbrev trip_w10_W : List (Ref sig .tc) := [main_while0b_call5_v0, main_while0b_v183]
set_option maxRecDepth 8192 in
theorem trip_w10_writes : (trip_w10 : List (HloOp τ sig (Elt F))).Forall fun op => op.writes ⊆ (trip_w10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w11`'s operations write. -/
abbrev trip_w11_W : List (Ref sig .tc) := [main_while0b_c_47, main_while0b_v184, main_while0b_c_48, main_while0b_v185, main_while0b_v186, main_while0b_v187, main_while0b_v188, main_while0b_v189, main_while0b_c_49, main_while0b_v190, main_while0b_c_50, main_while0b_v191, main_while0b_v192, main_while0b_v193, main_while0b_v194, main_while0b_v195]
set_option maxRecDepth 8192 in
theorem trip_w11_writes : (trip_w11 : List (HloOp τ sig (Elt F))).Forall fun op => op.writes ⊆ (trip_w11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ctr_trip_w11 (V : Valuation τ sig (Elt F)) : after trip_w11 V (Proc.devRef .tc main_v34_2) = V (Proc.devRef .tc main_v34_2) :=
  after_of_writes_sub trip_w11 V trip_w11_writes (by decide +kernel)

set_option maxRecDepth 100000 in
/-- `while0Ops0_8_step` leaves the counter one step on. -/
theorem ctr_while0Ops0_8_step (Y : Valuation τ sig (Elt F)) :
    after while0Ops0_8_step Y (Proc.devRef .tc main_v34_2) = addi (Y (Proc.devRef .tc main_v34_2)) (constantI S_ 32 1#32) := by
  after_results
  rfl

set_option maxRecDepth 100000 in
/-- `while0Ops0_8` leaves the counter one step on: its windows do not write the counter, and `while0Ops0_8_step` steps it. -/
theorem ctr_step (X : Valuation τ sig (Elt F)) :
    after while0Ops0_8 X (Proc.devRef .tc main_v34_2) = addi (X (Proc.devRef .tc main_v34_2)) (constantI S_ 32 1#32) := by
  simp only [while0Ops0_8_cut, after_append]
  rw [ctr_while0Ops0_8_step, ctr_trip_w11]

/-- The counter is the loop's lower bound at the loop's entry: its last writer before the loop read back. -/
theorem ctr_entry (c : Dev nD) : entryContents preI m c (Proc.devRef .tc main_v34_2) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v34_2) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_7, ctr_while0Ops0_6, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 1000 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v34_2 HostLoop.idx0)
        (HloOp.result _ (atK m k c) main_while0c_c_28 HostLoop.idx0) = 1#1) (k < 1000)
    rw [nullary_result_ne _ _ _ _ (by decide), nullary_result, hctr]
    exact Scf.cmpi_slt_iv_ub_iff (lb := 0#32) (ub := 1000#32) (st := 1#32) (by decide) (show k ≤ Scf.trips 0#32 1000#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 1000 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 1000 m ρ (cond_spec m)

end Cert.ReferenceIdeal.Value

end
-- ==== Proof.Ref.Frame.lean ====
/-
  The buffers that the reference's loop does not write, and the reference's frame: it runs, its argument ends unchanged.
-/
module

public import proofs.«01_k».proof.Proof.Ref.Run
public import Idealize.ShloMosaic.Lib.Quiescent
public import Idealize.ShloMosaic.Lib.Claim

@[expose] public section

set_option maxRecDepth 4000

noncomputable section

namespace Cert.ReferenceIdeal.Value

open Cert.ReferenceIdeal Cert.ReferenceIdeal.Gen
open Idealize.ShloMosaic Idealize.ShloMosaic.TcCoe
open Idealize.ShloMosaic.StableHlo
open Idealize.SL.Sem

variable {F : FTy → Type} [FloatOps F]

/-- Every buffer that the condition or a stretch of the loop's body writes. -/
abbrev loop_W : List (Ref sig .tc) :=
  condOps_W ++ (while0Ops0_W ++ (while0Ops0_1_W ++ (while0Ops0_2_W ++ (while0Ops0_3_W ++ (while0Ops0_4_W ++
    (while0Ops0_5_W ++ (while0Ops0_6_W ++ (while0Ops0_7_W ++ while0Ops0_8_W))))))))

/-- One trip leaves a buffer that the loop does not write as it was. -/
theorem trip_keep {b : Ref sig .tc} (h : b ∉ loop_W) (V : Valuation τ sig (Elt F)) :
    afterL bodyI (after condOps V) (Proc.devRef .tc b) = V (Proc.devRef .tc b) := by
  simp only [loop_W, List.mem_append, not_or] at h
  obtain ⟨hc, h0, h1, h2, h3, h4, h5, h6, h7, h8⟩ := h
  simp only [bodyI, afterL_cons, afterL_nil]
  rw [after_of_writes_sub while0Ops0_8 _ while0Ops0_8_writes h8, after_of_writes_sub while0Ops0_7 _ while0Ops0_7_writes h7,
    after_of_writes_sub while0Ops0_6 _ while0Ops0_6_writes h6, after_of_writes_sub while0Ops0_5 _ while0Ops0_5_writes h5,
    after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0, after_of_writes_sub condOps _ condOps_writes hc]

variable (m : (ℓ : Loc nD τ sig) → Buf (Elt F) ℓ) (ρ : Dev nD → PrngReg)

/-- Every trip leaves a buffer that the loop does not write as the loop found it. -/
theorem atK_keep {b : Ref sig .tc} (h : b ∉ loop_W) (c : Dev nD) :
    ∀ k, atK m k c (Proc.devRef .tc b) = entryContents preI m c (Proc.devRef .tc b)
  | 0 => rfl
  | k + 1 => (trip_keep h _).trans (atK_keep h c k)

/-- The stretches after the loop leave the argument as it was. -/
theorem post_keep (V : Valuation τ sig (Elt F)) : afterL postI V (Proc.devRef .tc main_arg0) = V (Proc.devRef .tc main_arg0) := by
  simp only [postI, afterL_cons, afterL_nil]
  after_reads_simp

/-- The stretches before the loop leave the argument as it was. -/
theorem pre_keep (V : Valuation τ sig (Elt F)) : afterL preI V (Proc.devRef .tc main_arg0) = V (Proc.devRef .tc main_arg0) := by
  simp only [preI, afterL_cons, afterL_nil]
  rw [after_of_writes_sub hostOps0_4 _ hostOps0_4_writes (by decide +kernel), after_of_writes_sub hostOps0_3 _ hostOps0_3_writes (by decide +kernel),
    after_of_writes_sub hostOps0_2 _ hostOps0_2_writes (by decide +kernel), after_of_writes_sub hostOps0_1 _ hostOps0_1_writes (by decide +kernel),
    after_of_writes_sub hostOps0 _ hostOps0_writes (by decide +kernel)]

/-- The reference runs: the argument ends as launched, the result at the fold of the operations, every counter at zero. -/
theorem run : θ_run (defs (F := F)) (onTc (τ := τ) (main (F := F))) ⟨m, fun _ => 0, ρ⟩ (fun r =>
    (∀ c : Dev nD, r.2.mem ((c.tc : Thread nD τ).loc main_v85) = finalContents condOps preI bodyI postI 1000 m c (Proc.devRef .tc main_v85)
      ∧ r.2.mem ((c.tc : Thread nD τ).loc main_arg0) = m ((c.tc : Thread nD τ).loc main_arg0)) ∧ r.2.sem = fun _ => 0) := by
  refine θ_run_mono (run_fold m ρ) fun r h => ⟨fun c => ⟨h c main_v85 rfl, (h c main_arg0 rfl).trans ?_⟩, sem_eq_zero_of_no_sems rfl _⟩
  refine (post_keep _).trans ?_
  rw [after_of_writes_sub condOps _ condOps_writes (by decide +kernel)]
  exact (atK_keep m (by decide +kernel) c 1000).trans (pre_keep _)

end Cert.ReferenceIdeal.Value

end
-- ==== Proof.Raw.lean ====
/-
  A box's column of numbers, of the numbers both programs are given.
-/
module

public import proofs.«01_k».proof.Proof.Ker.Prep

@[expose] public section

set_option maxRecDepth 16384

noncomputable section

namespace Cert.KernelIdeal.Nms

open Idealize.ShloMosaic
open Idealize.ShloMosaic.Pointwise

/-- The numbers both programs are given: per image and box, the centre, the size, the objectness and the 80 class scores. -/
abbrev Given := (⟨4, ![1, 8, 20000, 85]⟩ : Shape).Idx → EReal

/-- Box `n` of image `b`, its numbers in the kernel's order. -/
def Given.col (X : Given) (b : Fin 8) (n : Fin 20000) : Col := fun ch =>
  if h : ch.val < 80 then X (ix4 0 b n ⟨5 + ch.val, by omega⟩) else if ch.val = 80 then X (ix4 0 b n 4)
  else if h : ch.val < 85 then X (ix4 0 b n ⟨ch.val - 81, by omega⟩) else 0

variable (X : Given) (b : Fin 8) (n : Fin 20000)

/-- A box's class scores are its numbers 5 to 84. -/
theorem Given.col_cls (x : Fin 80) : X.col b n ⟨x.val, by omega⟩ = X (ix4 0 b n ⟨5 + x.val, by omega⟩) := dif_pos x.isLt
/-- Then its objectness, -/
theorem Given.col_80 : X.col b n 80 = X (ix4 0 b n 4) := rfl
/-- its centre along x, -/
theorem Given.col_81 : X.col b n 81 = X (ix4 0 b n 0) := rfl
/-- its centre along y, -/
theorem Given.col_82 : X.col b n 82 = X (ix4 0 b n 1) := rfl
/-- its width, -/
theorem Given.col_83 : X.col b n 83 = X (ix4 0 b n 2) := rfl
/-- and its height. -/
theorem Given.col_84 : X.col b n 84 = X (ix4 0 b n 3) := rfl

end Cert.KernelIdeal.Nms
-- ==== Proof.Sim.lean ====
/-
  The second kernel's trips followed beside the reference's picks, for one image, over extended reals.
-/
module

public import proofs.«01_k».proof.Proof.Ker.End

@[expose] public section

set_option maxRecDepth 16384

noncomputable section

namespace Cert.KernelIdeal.Nms

open Cert.KernelIdeal Cert.KernelIdeal.Gen
open Idealize.ShloMosaic Idealize.ShloMosaic.TcCoe
open Idealize.ShloMosaic.Pointwise

/-- A score that is never picked. -/
abbrev gone : EReal := Ideal.ofBits .f32 0xBF800000#32

/-- The score of no box is negative. -/
theorem gone_neg : gone < 0 := by
  rw [gone, c_neg_one]
  exact EReal.coe_lt_coe_iff.mpr (by norm_num : (-1 : ℝ) < 0)

/-- What an unused place among the kept boxes holds. -/
def Box.none : Box := ⟨Ideal.ofBits .f32 0x4E6E6B28#32, Ideal.ofBits .f32 0x4E6E6B28#32, Ideal.ofBits .f32 0xCE6E6B28#32, Ideal.ofBits .f32 0xCE6E6B28#32, 0⟩

/-- One image: its boxes, their classes and their first scores. -/
structure Img where
  /-- the boxes, shifted by their classes -/
  bx : Fin 20000 → Box
  /-- the classes -/
  cl : Fin 20000 → Fin 80
  /-- the first scores -/
  s0 : Fin 20000 → EReal

namespace Img

variable (G : Img)

/-- What is asked of an image's boxes. -/
structure Good : Prop where
  /-- a score is positive or that of no box -/
  score : ∀ q, G.s0 q = gone ∨ 0 < G.s0 q
  /-- boxes of different classes do not overlap -/
  apart : ∀ p q, Over (G.bx p) (G.bx q) → G.cl p = G.cl q
  /-- an unused place overlaps no box -/
  none : ∀ q, ¬ Over Box.none (G.bx q)
  /-- a box is told from an unused place -/
  used : ∀ q, Ideal.ofBits .f32 0xCDEE6B28#32 < (G.bx q).x2

/-- Picking the first greatest score, again and again. -/
structure Ran (sc : ℕ → Fin 20000 → EReal) (pick : ℕ → Fin 20000) : Prop where
  /-- the first scores -/
  zero : ∀ q, sc 0 q = G.s0 q
  /-- the pick has the greatest score -/
  best : ∀ k q, sc k q ≤ sc k (pick k)
  /-- no box before it has -/
  first : ∀ k q, q < pick k → sc k q < sc k (pick k)
  /-- it and the boxes it overlaps go -/
  step : ∀ k q, sc (k + 1) q = if 0 < sc k (pick k) then (if q = pick k ∨ Over (G.bx (pick k)) (G.bx q) then gone else sc k q) else sc k q

/-- The second kernel is given this image. -/
structure Is (I : Ins Ideal) : Prop where
  /-- the boxes -/
  box : ∀ (p : P) (h : num p < 20000), boxAt I p = G.bx ⟨num p, h⟩
  /-- the classes -/
  cls : ∀ (p : P) (h : num p < 20000), I.j (ix3 0 p.1 p.2) = (((G.cl ⟨num p, h⟩).val : ℝ) : EReal)
  /-- the first scores -/
  s : ∀ (p : P) (h : num p < 20000), I.s (ix3 0 p.1 p.2) = G.s0 ⟨num p, h⟩
  /-- the places after the boxes -/
  pad : ∀ p : P, ¬ num p < 20000 → I.s (ix3 0 p.1 p.2) = gone
  /-- every place has a class -/
  hj : ∀ p : P, ∃ c : Fin 80, I.j (ix3 0 p.1 p.2) = ((c.val : ℝ) : EReal)

end Img

variable {G : Img} (hG : G.Good) {sc : ℕ → Fin 20000 → EReal} {pick : ℕ → Fin 20000} (hR : G.Ran sc pick)

include hR in
/-- A score stays or goes. -/
theorem Img.Ran.stay (k : ℕ) (q : Fin 20000) : sc k q = G.s0 q ∨ sc k q = gone := by
  induction k with
  | zero => exact .inl (hR.zero q)
  | succ k ih => rw [hR.step]; split <;> [split; skip] <;> [exact .inr rfl; exact ih; exact ih]

include hR in
/-- A score that is gone stays so. -/
theorem Img.Ran.stays {k : ℕ} {q : Fin 20000} (h : sc k q = gone) : sc (k + 1) q = gone := by
  rw [hR.step]; split <;> [split; skip] <;> [rfl; exact h; exact h]

include hR in
/-- No score is below that of no box. -/
theorem gone_le (hG : G.Good) (k : ℕ) (q : Fin 20000) : gone ≤ sc k q := by
  rcases hR.stay k q with h | h
  · rw [h]
    rcases hG.score q with h' | h'
    · rw [h']
    · exact (gone_neg.trans h').le
  · rw [h]

include hR hG in
/-- Scores only fall. -/
theorem Img.Ran.falls {k i : ℕ} (hi : k ≤ i) (q : Fin 20000) : sc i q ≤ sc k q := by
  induction i, hi using Nat.le_induction with
  | base => exact le_rfl
  | succ i hi ih =>
    refine le_trans ?_ ih
    rw [hR.step]; split <;> [split; skip] <;> [exact gone_le hR hG i q; exact le_rfl; exact le_rfl]

/-- What holds between the kernel's trips, `n` boxes kept. -/
structure Inv (G : Img) (I : Ins Ideal) (sc : ℕ → Fin 20000 → EReal) (pick : ℕ → Fin 20000) (n : ℕ) (σ : St Ideal) : Prop where
  top : Top σ
  k : σ.k = BitVec.ofNat 32 n
  le : n ≤ 1000
  /-- a remaining score is the first or gone -/
  stay : ∀ p : P, σ.s (ix2 p.1 p.2) = gone ∨ ∃ h : num p < 20000, σ.s (ix2 p.1 p.2) = G.s0 ⟨num p, h⟩
  /-- what is gone here is gone in the reference -/
  gone : ∀ (p : P) (h : num p < 20000), σ.s (ix2 p.1 p.2) = gone → sc n ⟨num p, h⟩ = gone
  /-- what remains here is gone in the reference exactly when a kept box overlaps it -/
  over : ∀ (p : P) (h : num p < 20000), 0 < σ.s (ix2 p.1 p.2) →
    (sc n ⟨num p, h⟩ = Nms.gone ↔ ∃ l, Over (slotAt σ (G.cl ⟨num p, h⟩) l) (G.bx ⟨num p, h⟩))
  /-- the kept boxes fill the first places -/
  slots : ∀ c, ∃ k : ℕ, k ≤ 128 ∧ (∀ l : Fin 128, l.val < k → ∃ q, slotAt σ c l = G.bx q) ∧ ∀ l : Fin 128, k ≤ l.val → slotAt σ c l = Box.none
  /-- the columns of the result so far -/
  acc : ∀ i : Fin 1000, i.val < n → 0 < sc i (pick i) ∧ ∃ p : P, num p = (pick i).val ∧
    ∀ f : Fin 8, σ.acc (ix2 f ⟨i.val, by omega⟩) = colOf I p (G.s0 (pick i)) f
  /-- and the rest -/
  rest : ∀ i : Fin 1000, n ≤ i.val → ∀ f : Fin 8, σ.acc (ix2 f ⟨i.val, by omega⟩) = 0

/-- The place `l` of a class's row is in use exactly when `l` is below the number kept. -/
theorem used_iff (hG : G.Good) {σ : St Ideal} {c : Fin 80} {k : ℕ} (h1 : ∀ l : Fin 128, l.val < k → ∃ q, slotAt σ c l = G.bx q)
    (h2 : ∀ l : Fin 128, k ≤ l.val → slotAt σ c l = Box.none) (l : Fin 128) : Ideal.ofBits .f32 0xCDEE6B28#32 < σ.r3 (ix2 c l) ↔ l.val < k := by
  by_cases h : l.val < k
  · obtain ⟨q, hq⟩ := h1 l h
    have := hG.used q
    rw [← hq] at this
    exact iff_of_true this h
  · refine iff_of_false (fun hh => ?_) h
    have e : σ.r3 (ix2 c l) = Ideal.ofBits .f32 0xCE6E6B28#32 := congrArg Box.x2 (h2 l (by omega))
    rw [e, c_neg_5e8, c_neg_1e9] at hh
    exact absurd (EReal.coe_lt_coe_iff.mp hh) (by norm_num)

/-- How many are kept of a class. -/
theorem kept_eq (hG : G.Good) {σ : St Ideal} {c : Fin 80} {k : ℕ} (hk : k ≤ 128) (h1 : ∀ l : Fin 128, l.val < k → ∃ q, slotAt σ c l = G.bx q)
    (h2 : ∀ l : Fin 128, k ≤ l.val → slotAt σ c l = Box.none) : kept σ c = k := by
  unfold kept taken
  rw [← Finset.card_filter, show (Finset.univ.filter fun l : Fin 128 => Ideal.ofBits .f32 0xCDEE6B28#32 < σ.r3 (ix2 c l)) =
    Finset.univ.filter fun l : Fin 128 => l.val < k from Finset.filter_congr fun l _ => used_iff hG h1 h2 l]
  rw [Fin.card_filter_val_lt]
  omega

/-- Boxes with equal corners and areas are equal. -/
theorem box_ext {p q : Box} (h1 : p.x1 = q.x1) (h2 : p.y1 = q.y1) (h3 : p.x2 = q.x2) (h4 : p.y2 = q.y2) (h5 : p.a = q.a) : p = q := by
  cases p; cases q; simp only at h1 h2 h3 h4 h5; subst h1 h2 h3 h4 h5; rfl

/-- No box is kept at first. -/
theorem start_slot (I : Ins Ideal) (a) (c : Fin 80) (l : Fin 128) : slotAt (start I a) c l = Box.none := by
  refine box_ext ?_ ?_ ?_ ?_ ?_
  · show k1_pay6 (F := Ideal) (ix2 c l) = Ideal.ofBits .f32 0x4E6E6B28#32
    pointwise [k1_pay6]
  · show k1_pay7 (F := Ideal) (ix2 c l) = Ideal.ofBits .f32 0x4E6E6B28#32
    pointwise [k1_pay7]
  · show k1_pay8 (F := Ideal) (ix2 c l) = Ideal.ofBits .f32 0xCE6E6B28#32
    pointwise [k1_pay8]
  · show k1_pay9 (F := Ideal) (ix2 c l) = Ideal.ofBits .f32 0xCE6E6B28#32
    pointwise [k1_pay9]
  · show k1_pay10 (F := Ideal) (ix2 c l) = 0
    pointwise [k1_pay10]

/-- The first scores. -/
theorem start_s (I : Ins Ideal) (a) (p : P) : (start I a).s (ix2 p.1 p.2) = I.s (ix3 0 p.1 p.2) := by
  show k1_pay5 (F := Ideal) I.s (ix2 p.1 p.2) = _
  pointwise [k1_pay5]

/-- The result is empty at first. -/
theorem start_acc0 (I : Ins Ideal) (a) (f : Fin 8) (l : Fin 1024) : (start I a).acc (ix2 f l) = 0 := by
  show k1_pay2 (F := Ideal) (ix2 f l) = 0
  pointwise [k1_pay2]

include hR in
/-- It holds at first. -/
theorem start_inv (hG : G.Good) {I : Ins Ideal} (hI : G.Is I) (a) : Inv G I sc pick 0 (start I a) where
  top := start_top I a
  k := start_k I a
  le := by omega
  stay p := by
    rw [start_s]
    by_cases h : num p < 20000
    · exact .inr ⟨h, hI.s p h⟩
    · exact .inl (hI.pad p h)
  gone p h hp := by
    rw [start_s, hI.s p h] at hp
    rw [hR.zero, hp]
  over p h hp := by
    rw [start_s, hI.s p h] at hp
    rw [hR.zero]
    refine iff_of_false (fun e => ?_) fun ⟨l, hl⟩ => ?_
    · rw [e] at hp; exact lt_asymm hp gone_neg
    · rw [start_slot] at hl; exact hG.none _ hl
  slots c := ⟨0, by omega, fun l hl => absurd hl (by omega), fun l _ => start_slot I a c l⟩
  acc i hi := absurd hi (by omega)
  rest i _ f := start_acc0 I a f _

section Step

variable {I : Ins Ideal} {n : ℕ} {σ : St Ideal} {p : P} {c : Fin 80}

/-- The pick has a place. -/
theorem Inv.place (hi : Inv G I sc pick n σ) (hm : 0 < σ.m) (hf : First σ p) : ∃ h : num p < 20000, σ.m = G.s0 ⟨num p, h⟩ := by
  rcases hi.stay p with h | ⟨h, e⟩
  · rw [hf.eq] at h; rw [h] at hm; exact absurd hm (lt_asymm gone_neg)
  · exact ⟨h, hf.eq.symm.trans e⟩

/-- Every box has a place. -/
theorem place_of (q : Fin 20000) : ∃ p : P, num p = q.val :=
  ⟨(⟨q.val / 128, by omega⟩, ⟨q.val % 128, by omega⟩), by show q.val / 128 * 128 + q.val % 128 = q.val; omega⟩

/-- No remaining score is above the carried greatest. -/
theorem top_ge (h : Top σ) (q : P) : σ.s (ix2 q.1 q.2) ≤ σ.m := by
  rw [h]; exact fold_max_ge (fun x : P => σ.s (ix2 x.1 x.2)) q

include hR in
/-- A score is at most the one remaining here. -/
theorem Inv.below (hG : G.Good) (hi : Inv G I sc pick n σ) (q : P) (h : num q < 20000) : sc n ⟨num q, h⟩ ≤ σ.s (ix2 q.1 q.2) := by
  rcases hi.stay q with e | ⟨_, e⟩
  · rw [hi.gone q h e, e]
  · rw [e, ← hR.zero]; exact hR.falls hG (Nat.zero_le n) _

include hR in
/-- What is kept here is what the reference picks. -/
theorem Inv.same (hG : G.Good) (hi : Inv G I sc pick n σ) (hm : 0 < σ.m) (hf : First σ p) (h : num p < 20000) (hne : sc n ⟨num p, h⟩ ≠ Nms.gone) :
    pick n = ⟨num p, h⟩ ∧ sc n (pick n) = σ.m := by
  obtain ⟨_, e⟩ := hi.place hm hf
  have e' : sc n ⟨num p, h⟩ = σ.m := ((hR.stay n ⟨num p, h⟩).resolve_right hne).trans e.symm
  obtain ⟨q, hq⟩ := place_of (pick n)
  have hq' : num q < 20000 := by rw [hq]; exact (pick n).isLt
  have eq : (⟨num q, hq'⟩ : Fin 20000) = pick n := Fin.ext hq
  have h2 : σ.m ≤ sc n (pick n) := e' ▸ hR.best n _
  have h3 : sc n (pick n) ≤ σ.s (ix2 q.1 q.2) := eq ▸ hi.below hR hG q hq'
  have h4 := top_ge hi.top q
  have hle : num p ≤ num q := hf.le q (le_antisymm h4 (h2.trans h3))
  have hnlt : ¬ (⟨num p, h⟩ : Fin 20000) < pick n := fun hlt => by
    have := hR.first n _ hlt
    rw [e'] at this
    exact absurd (h3.trans h4) (not_le.mpr this)
  refine ⟨le_antisymm (not_lt.mp hnlt) ?_, le_antisymm (h3.trans h4) h2⟩
  show num p ≤ (pick n).val
  omega

include hR in
/-- Each trip keeps it. -/
theorem Inv.trip (hG : G.Good) (hI : G.Is I) (hi : Inv G I sc pick n σ) (hn : n < 1000) (hm : 0 < σ.m) (hf : First σ p)
    (hc : I.j (ix3 0 p.1 p.2) = ((c.val : ℝ) : EReal)) (h1) (h2) (hcls : σ.cls I h1 = BitVec.ofNat 32 c) :
    Inv G I sc pick (if keep I σ h1 h2 = 1#1 then n + 1 else n) (σ.next I h1 h2) := by
  have hpos := pos_first hf
  obtain ⟨h, hs⟩ := hi.place hm hf
  have hcl : G.cl ⟨num p, h⟩ = c := by
    have := (hI.cls p h).symm.trans hc
    exact Fin.ext (by exact_mod_cast EReal.coe_eq_coe_iff.mp this)
  have hkeep : keep I σ h1 h2 = 1#1 ↔ sc n ⟨num p, h⟩ ≠ Nms.gone := by
    rw [keep_iff hpos h1 hcls h2, Ne, hi.over p h (by rw [hf.eq]; exact hm), not_exists, hcl, ← hI.box p h]
    exact Iff.rfl
  have heager := eager_iff (I := I) (σ := σ) h1 hcls h2
  have hsn := next_s (I := I) hpos h1 h2
  have hsl := next_slot hpos h1 hcls h2
  have hacc := next_acc (I := I) (h := hpos) (h1 := h1) (h2 := h2) (n := n) (by omega) hi.k
  have htop := next_top (I := I) h1 h2 hf
  have hk := next_k (I := I) h1 h2 hi.k
  generalize σ.next I h1 h2 = σ' at *
  generalize eager I σ h1 h2 = eg at *
  generalize keep I σ h1 h2 = kp at *
  obtain ⟨k, hk128, hk1, hk2⟩ := hi.slots c
  have hkept : kept σ c = k := kept_eq hG hk128 hk1 hk2
  rw [hkept] at heager hsl
  by_cases hb : kp = 1#1
  · rw [if_pos hb] at hk ⊢
    obtain ⟨hpick, hscm⟩ := hi.same hR hG hm hf h (hkeep.mp hb)
    have hstep : ∀ q, sc (n + 1) q = if q = ⟨num p, h⟩ ∨ Over (G.bx ⟨num p, h⟩) (G.bx q) then Nms.gone else sc n q := fun q => by
      rw [hR.step, hscm, if_pos hm, hpick]
    have hpk : sc n (pick n) = G.s0 (pick n) := by rw [hscm, hs, hpick]
    have hov : ∀ q (hq : num q < 20000), Over (boxAt I p) (boxAt I q) ↔ Over (G.bx ⟨num p, h⟩) (G.bx ⟨num q, hq⟩) := fun q hq => by
      rw [hI.box p h, hI.box q hq]
    refine ⟨htop, hk, by omega, fun q => ?_, fun q hq e => ?_, fun q hq e => ?_, fun c' => ?_, fun i hin => ?_, fun i hin f => ?_⟩
    · rw [hsn]
      split
      · exact .inl rfl
      · exact hi.stay q
    · rw [hstep]
      rw [hsn] at e
      by_cases e' : q = p ∨ (eg = 1#1 ∧ Over (boxAt I p) (boxAt I q))
      · rw [if_pos]
        rcases e' with e' | e'
        · exact .inl (by subst e'; rfl)
        · exact .inr ((hov q hq).mp e'.2)
      · rw [if_neg e'] at e
        rw [hi.gone q hq e]
        exact ite_self _
    · rw [hsn] at e
      by_cases e' : q = p ∨ (eg = 1#1 ∧ Over (boxAt I p) (boxAt I q))
      · rw [if_pos e'] at e; exact absurd e (lt_asymm gone_neg)
      rw [if_neg e'] at e
      have hold := hi.over q hq e
      have hqp : ¬ (⟨num q, hq⟩ : Fin 20000) = ⟨num p, h⟩ := fun x => e' (.inl (num_inj (congrArg Fin.val x)))
      rw [hstep]
      by_cases ho : Over (G.bx ⟨num p, h⟩) (G.bx ⟨num q, hq⟩)
      · rw [if_pos (.inr ho)]
        have hkl : k < 128 := by
          by_contra hge
          exact e' (.inr ⟨heager.mpr ⟨hb, by omega⟩, (hov q hq).mpr ho⟩)
        refine iff_of_true rfl ⟨⟨k, hkl⟩, ?_⟩
        rw [hsl, if_pos ⟨(hG.apart _ _ ho).symm.trans hcl, hb, rfl⟩, hI.box p h]
        exact ho
      · rw [if_neg (not_or.mpr ⟨hqp, ho⟩), hold]
        refine exists_congr fun l => ?_
        rw [hsl]
        by_cases hx : G.cl ⟨num q, hq⟩ = c ∧ kp = 1#1 ∧ k = l.val
        · rw [if_pos hx, hI.box p h, hx.1, hk2 l (by omega)]
          exact iff_of_false (hG.none _) ho
        · rw [if_neg hx]
    · by_cases hcc : c' = c
      · subst hcc
        by_cases hkl : k < 128
        · refine ⟨k + 1, by omega, fun l hl => ?_, fun l hl => ?_⟩
          · rw [hsl]
            by_cases hx : k = l.val
            · rw [if_pos ⟨rfl, hb, hx⟩]; exact ⟨_, hI.box p h⟩
            · rw [if_neg fun hh => hx hh.2.2]; exact hk1 l (by omega)
          · rw [hsl, if_neg fun hh => by omega]; exact hk2 l (by omega)
        · refine ⟨k, hk128, fun l hl => ?_, fun l hl => ?_⟩
          · rw [hsl, if_neg fun hh => by omega]; exact hk1 l hl
          · rw [hsl, if_neg fun hh => by omega]; exact hk2 l hl
      · obtain ⟨k', g1, g2, g3⟩ := hi.slots c'
        refine ⟨k', g1, fun l hl => ?_, fun l hl => ?_⟩
        · rw [hsl, if_neg fun hh => hcc hh.1]; exact g2 l hl
        · rw [hsl, if_neg fun hh => hcc hh.1]; exact g3 l hl
    · by_cases hx : i.val = n
      · have x1 : sc i (pick i) = σ.m := by rw [hx]; exact hscm
        have x2 : pick i = ⟨num p, h⟩ := by rw [hx]; exact hpick
        refine ⟨by rw [x1]; exact hm, p, by rw [x2], fun f => ?_⟩
        rw [hacc, if_pos ⟨hb, hx⟩, x2, hs]
      · obtain ⟨g1, g2, g3, g4⟩ := hi.acc i (by omega)
        refine ⟨g1, g2, g3, fun f => ?_⟩
        rw [hacc, if_neg fun hh => hx hh.2]; exact g4 f
    · rw [hacc, if_neg fun hh => by have : i.val = n := hh.2; omega]
      exact hi.rest i (by omega) f
  · rw [if_neg hb] at hk ⊢
    have heg : ¬ eg = 1#1 := fun e => hb (heager.mp e).1
    have hsn' : ∀ q : P, σ'.s (ix2 q.1 q.2) = if q = p then Nms.gone else σ.s (ix2 q.1 q.2) := fun q => by
      rw [hsn]; exact if_congr ⟨fun hh => hh.resolve_right fun hx => heg hx.1, Or.inl⟩ rfl rfl
    have hsl' : ∀ c' l, slotAt σ' c' l = slotAt σ c' l := fun c' l => by rw [hsl, if_neg fun hh => hb hh.2.1]
    refine ⟨htop, hk, hi.le, fun q => ?_, fun q hq e => ?_, fun q hq e => ?_, fun c' => ?_, fun i hin => ?_, fun i hin f => ?_⟩
    · rw [hsn']
      by_cases e : q = p
      · rw [if_pos e]; exact .inl rfl
      · rw [if_neg e]; exact hi.stay q
    · rw [hsn'] at e
      by_cases e' : q = p
      · subst e'; exact not_not.mp fun hx => hb (hkeep.mpr hx)
      · rw [if_neg e'] at e; exact hi.gone q hq e
    · rw [hsn'] at e
      by_cases e' : q = p
      · rw [if_pos e'] at e; exact absurd e (lt_asymm gone_neg)
      · rw [if_neg e'] at e
        simp only [hsl']
        exact hi.over q hq e
    · simp only [hsl']; exact hi.slots c'
    · obtain ⟨g1, g2, g3, g4⟩ := hi.acc i hin
      refine ⟨g1, g2, g3, fun f => ?_⟩
      rw [hacc, if_neg fun hh => hb hh.1]; exact g4 f
    · rw [hacc, if_neg fun hh => hb hh.1]; exact hi.rest i hin f

end Step

include hR in
/-- What the second kernel's loop leaves, in the reference's terms. -/
theorem sim (hG : G.Good) {I : Ins Ideal} (hI : G.Is I) {M : ℕ} {σ' : St Ideal} {a} (hrun : Runs I M (start I a) σ') (i : Fin 1000) :
    (0 < sc i (pick i) ∧ ∃ p : P, num p = (pick i).val ∧ ∀ f : Fin 8, σ'.acc (ix2 f ⟨i.val, by omega⟩) = colOf I p (G.s0 (pick i)) f)
      ∨ (¬ 0 < sc i (pick i) ∧ ∀ f : Fin 8, σ'.acc (ix2 f ⟨i.val, by omega⟩) = 0) := by
  obtain ⟨M', n', σ'', hr, hi, hno⟩ := runs_of hI.hj (Inv G I sc pick) (fun n σ h => ⟨h.top, h.k, h.le⟩)
    (fun n σ p c h1 h2 hi hn hm hf hc hcls => hi.trip hR hG hI hn hm hf hc h1 h2 hcls) _ 0 _ le_rfl (start_inv hR hG hI a)
  obtain rfl := hrun.det hr
  by_cases h : i.val < n'
  · exact .inl (hi.acc i h)
  · refine .inr ⟨fun hpos => ?_, hi.rest i (by omega)⟩
    have hm : ¬ 0 < σ'.m := fun x => hno ⟨by omega, x⟩
    obtain ⟨q, hq⟩ := place_of (pick i)
    have hq' : num q < 20000 := by rw [hq]; exact (pick i).isLt
    have eq : (⟨num q, hq'⟩ : Fin 20000) = pick i := Fin.ext hq
    have h1 := hR.falls hG (show n' ≤ i.val by omega) (pick i)
    have h2 := hi.below hR hG q hq'
    rw [eq] at h2
    exact hm (hpos.trans_le (h1.trans (h2.trans (top_ge hi.top q))))

end Cert.KernelIdeal.Nms

end
-- ==== Proof.Geom.lean ====
/-
  Boxes whose numbers lie in [0, 2048] are kept apart by their classes, over extended reals.
-/
module

public import proofs.«01_k».proof.Proof.Raw
public import proofs.«01_k».proof.Proof.Sim

@[expose] public section

set_option maxRecDepth 16384

noncomputable section

namespace Cert.KernelIdeal.Nms

open Cert.KernelIdeal Cert.KernelIdeal.Gen
open Idealize.ShloMosaic Idealize.ShloMosaic.TcCoe
open Idealize.ShloMosaic.Pointwise

/-- Boxes apart along the first axis do not overlap. -/
theorem not_over {p q : Box} (h : min p.x2 q.x2 - max p.x1 q.x1 ≤ 0) : ¬ Over p q := by
  have hi : inter p q = 0 := by
    unfold inter
    rw [max_eq_right h, zero_mul]
  obtain ⟨e, he, _, hc⟩ := c_thr_pos
  unfold Over iouOf
  rw [hi, hc]
  generalize p.a + q.a - 0 + Ideal.ofBits .f32 0x3089705F#32 = d
  unfold Ideal.div
  rw [zero_mul, if_neg (lt_irrefl _)]
  split
  · exact not_lt_bot
  · exact not_lt.mpr (EReal.coe_le_coe_iff.mpr he.le)

/-- A number between two reals is a real. -/
theorem real_of {x : EReal} {a b : ℝ} (h1 : (a : EReal) ≤ x) (h2 : x ≤ (b : EReal)) : ∃ r : ℝ, x = (r : EReal) ∧ a ≤ r ∧ r ≤ b := by
  have ht : x ≠ ⊤ := fun e => by rw [e] at h2; exact absurd h2 (not_le.mpr (EReal.coe_lt_top b))
  have hb : x ≠ ⊥ := fun e => by rw [e] at h1; exact absurd h1 (not_le.mpr (EReal.bot_lt_coe a))
  have e := EReal.coe_toReal ht hb
  exact ⟨x.toReal, e.symm, EReal.coe_le_coe_iff.mp (by rw [e]; exact h1), EReal.coe_le_coe_iff.mp (by rw [e]; exact h2)⟩

/-- A column's box, moved by its class. -/
def Col.box (f : Col) : Box :=
  ⟨f.ux1 + f.off, f.uy1 + f.off, f.ux2 + f.off, f.uy2 + f.off, (f.ux2 + f.off - (f.ux1 + f.off)) * (f.uy2 + f.off - (f.uy1 + f.off))⟩

/-- A column's class. -/
def Col.class (f : Col) : Fin 80 := f.cls_spec.choose

/-- A box's class is the number that the first kernel finds. -/
theorem Col.class_eq (f : Col) : f.cls = ((f.class.val : ℝ) : EReal) := f.cls_spec.choose_spec.1

/-- Where a column's box lies along the first axis. -/
theorem Col.span (f : Col) (h1 : ((0 : ℝ) : EReal) ≤ f 81 ∧ f 81 ≤ ((2048 : ℝ) : EReal)) (h3 : ((0 : ℝ) : EReal) ≤ f 83 ∧ f 83 ≤ ((2048 : ℝ) : EReal)) :
    ∃ a b : ℝ, f.box.x1 = ((a + 4096 * (f.class.val : ℝ) : ℝ) : EReal) ∧ f.box.x2 = ((b + 4096 * (f.class.val : ℝ) : ℝ) : EReal) ∧ -1024 ≤ a ∧ 0 ≤ b ∧ b ≤ 3072 ∧ a ≤ 2048 := by
  obtain ⟨x, hx, x0, x1⟩ := real_of h1.1 h1.2
  obtain ⟨w, hw, w0, w1⟩ := real_of h3.1 h3.2
  refine ⟨x - w * (1 / 2), x + w * (1 / 2), ?_, ?_, by linarith, by linarith, by linarith, by linarith⟩
  · show f 81 - f 83 * _ + f.cls * _ = _
    rw [f.class_eq, hx, hw, c_half, c_4096, mul_comm (4096 : ℝ), EReal.coe_add, EReal.coe_sub, EReal.coe_mul, EReal.coe_mul]
  · show f 81 + f 83 * _ + f.cls * _ = _
    rw [f.class_eq, hx, hw, c_half, c_4096, mul_comm (4096 : ℝ), EReal.coe_add, EReal.coe_add, EReal.coe_mul, EReal.coe_mul]

/-- Image `b` of the given numbers. -/
def Given.img (X : Given) (b : Fin 8) : Img := ⟨fun q => (X.col b q).box, fun q => (X.col b q).class, fun q => (X.col b q).score⟩

/-- The boxes' centres and widths along x (numbers 0 and 2) lie in [0, 2048]. -/
def Given.InRange (X : Given) : Prop := ∀ (b : Fin 8) (n : Fin 20000) (k : Fin 85), (k = 0 ∨ k = 2) →
  ((0 : ℝ) : EReal) ≤ X (ix4 0 b n k) ∧ X (ix4 0 b n k) ≤ ((2048 : ℝ) : EReal)

/-- A first score is that of no box, or positive. -/
theorem Col.score_pos (f : Col) : f.score = gone ∨ 0 < f.score := by
  unfold Col.score
  split
  · next h =>
    refine .inr (lt_trans ?_ h.2)
    rw [c_quarter]
    exact EReal.coe_lt_coe_iff.mpr (by norm_num : (0 : ℝ) < 1 / 4)
  · exact .inl rfl

/-- In range, every image's boxes are as the simulation asks: classes apart, unused places overlapping nothing. -/
theorem Given.good (X : Given) (hX : X.InRange) (b : Fin 8) : (X.img b).Good := by
  have hs : ∀ q, ∃ u v : ℝ, (X.col b q).box.x1 = ((u + 4096 * ((X.col b q).class.val : ℝ) : ℝ) : EReal) ∧
      (X.col b q).box.x2 = ((v + 4096 * ((X.col b q).class.val : ℝ) : ℝ) : EReal) ∧ -1024 ≤ u ∧ 0 ≤ v ∧ v ≤ 3072 ∧ u ≤ 2048 := fun q =>
    (X.col b q).span (by rw [Given.col_81]; exact hX b q 0 (.inl rfl)) (by rw [Given.col_83]; exact hX b q 2 (.inr rfl))
  have hcl : ∀ q, ((X.col b q).class.val : ℝ) ≤ 79 := fun q => by
    have : (X.col b q).class.val ≤ 79 := by omega
    exact_mod_cast this
  refine ⟨fun q => (X.col b q).score_pos, fun p q ho => ?_, fun q => ?_, fun q => ?_⟩
  · obtain ⟨u, v, e1, e2, h1, h2, h3, h4⟩ := hs p
    obtain ⟨u', v', e1', e2', h1', h2', h3', h4'⟩ := hs q
    by_contra hne
    refine not_over ?_ ho
    show min (X.col b p).box.x2 (X.col b q).box.x2 - max (X.col b p).box.x1 (X.col b q).box.x1 ≤ 0
    rw [e1, e2, e1', e2', ← EReal.coe_strictMono.monotone.map_min, ← EReal.coe_strictMono.monotone.map_max, ← EReal.coe_sub]
    refine EReal.coe_le_coe_iff.mpr (sub_nonpos.mpr ?_ : _ ≤ (0 : ℝ))
    have hne' : (X.col b p).class.val ≠ (X.col b q).class.val := fun e => hne (Fin.ext e)
    rcases Nat.lt_or_gt_of_ne hne' with hlt | hlt
    · have : ((X.col b p).class.val : ℝ) + 1 ≤ ((X.col b q).class.val : ℝ) := by exact_mod_cast hlt
      exact (min_le_left _ _).trans (le_trans (by linarith) (le_max_right _ _))
    · have : ((X.col b q).class.val : ℝ) + 1 ≤ ((X.col b p).class.val : ℝ) := by exact_mod_cast hlt
      exact (min_le_right _ _).trans (le_trans (by linarith) (le_max_left _ _))
  · obtain ⟨u, v, e1, e2, h1, h2, h3, h4⟩ := hs q
    refine not_over ?_
    show min (Ideal.ofBits .f32 0xCE6E6B28#32) (X.col b q).box.x2 - max (Ideal.ofBits .f32 0x4E6E6B28#32) (X.col b q).box.x1 ≤ 0
    rw [e1, e2, c_1e9, c_neg_1e9, ← EReal.coe_strictMono.monotone.map_min, ← EReal.coe_strictMono.monotone.map_max, ← EReal.coe_sub]
    refine EReal.coe_le_coe_iff.mpr (sub_nonpos.mpr ?_ : _ ≤ (0 : ℝ))
    exact (min_le_left _ _).trans (le_trans (by norm_num) (le_max_left _ _))
  · obtain ⟨u, v, e1, e2, h1, h2, h3, h4⟩ := hs q
    show _ < (X.col b q).box.x2
    rw [e2, c_neg_5e8]
    refine EReal.coe_lt_coe_iff.mpr ?_
    have : (0 : ℝ) ≤ ((X.col b q).class.val : ℝ) := Nat.cast_nonneg _
    linarith

end Cert.KernelIdeal.Nms
-- ==== Proof.Ker.Feats.lean ====
/-
  The columns the first kernel reads, of the numbers the kernel is given.
-/
module

public import proofs.«01_k».proof.Proof.Ker.Blocks
public import proofs.«01_k».proof.Proof.Raw
public import proofs.«01_k».proof.Proof.Ker.End
public import Idealize.ShloMosaic.Lib.StableHlo.ReadAt
public import Idealize.ShloMosaic.Lib.StableHlo.RunClose

@[expose] public section

set_option maxRecDepth 16384

noncomputable section

namespace Cert.KernelIdeal.Nms

open Cert.KernelIdeal Cert.KernelIdeal.Gen
open Idealize.ShloMosaic Idealize.ShloMosaic.TcCoe Idealize.ShloMosaic.StableHlo
open Idealize.ShloMosaic.Pointwise

variable (V : Valuation τ sig (Elt Ideal))

/-- The numbers the kernel is given. -/
abbrev given : Given := V (Proc.devRef .tc main_arg0)

/-- The operations up to the pieces. -/
abbrev piecesOps : List (HloOp τ sig (Elt Ideal)) := hostOps0.take 6
/-- Joining the pieces. -/
abbrev joinOps : List (HloOp τ sig (Elt Ideal)) := hostOps0.drop 6

/-- The host operations before the first kernel, cut in pieces. -/
theorem cut_ops : (hostOps0 : List (HloOp τ sig (Elt Ideal))) = piecesOps ++ joinOps := rfl

/-- The joined array as its four pieces. -/
theorem join_v5 : after joinOps V (Proc.devRef .tc main_v5) = concatenate S8x20000x88 2 [⟨S8x20000x80, (V (Proc.devRef .tc main_v1) : S8x20000x80.Idx → EReal)⟩,
    ⟨S8x20000x1, (V (Proc.devRef .tc main_v2) : S8x20000x1.Idx → EReal)⟩, ⟨S8x20000x4, (V (Proc.devRef .tc main_v3) : S8x20000x4.Idx → EReal)⟩,
    ⟨S8x20000x3, (V (Proc.devRef .tc main_v4) : S8x20000x3.Idx → EReal)⟩] concatenates_S8x20000x80_S8x20000x1_S8x20000x4_S8x20000x3_S8x20000x88_d2 := by
  simp only [joinOps, hostOps0, List.drop_succ_cons, List.drop_zero]
  after_results
  rfl

variable (b : Fin 8) (n : Fin 20000)

/-- The first piece: the class scores. -/
theorem piece_v1 (k : Fin 80) : (after piecesOps V (Proc.devRef .tc main_v1) : S8x20000x80.Idx → EReal) (ix3 b n k) = given V (ix4 0 b n ⟨5 + k.val, by omega⟩) := by
  simp only [piecesOps, hostOps0, List.take_succ_cons, List.take_zero]
  after_reads_simp
  pointwise
/-- The second piece: the objectness. -/
theorem piece_v2 (k : Fin 1) : (after piecesOps V (Proc.devRef .tc main_v2) : S8x20000x1.Idx → EReal) (ix3 b n k) = given V (ix4 0 b n 4) := by
  obtain rfl : k = 0 := Subsingleton.elim _ _
  simp only [piecesOps, hostOps0, List.take_succ_cons, List.take_zero]
  after_reads_simp
  pointwise
/-- The third piece: the centre and the size. -/
theorem piece_v3 (k : Fin 4) : (after piecesOps V (Proc.devRef .tc main_v3) : S8x20000x4.Idx → EReal) (ix3 b n k) = given V (ix4 0 b n ⟨k.val, by omega⟩) := by
  simp only [piecesOps, hostOps0, List.take_succ_cons, List.take_zero]
  after_reads_simp
  pointwise
/-- The fourth piece: zeros. -/
theorem piece_v4 (k : Fin 3) : (show EReal from after piecesOps V (Proc.devRef .tc main_v4) (ix3 b n k)) = 0 := by
  simp only [piecesOps, hostOps0, List.take_succ_cons, List.take_zero]
  after_reads_simp
  pointwise

/-- The joined array, number by number. -/
theorem feats_v5 (ch : Fin 88) : (after hostOps0 V (Proc.devRef .tc main_v5) : S8x20000x88.Idx → EReal) (ix3 b n ch) = (given V).col b n ch := by
  rw [cut_ops, after_append, join_v5]
  have hch := ch.isLt
  pointwise
  unfold Given.col
  by_cases h1 : ch.val < 80
  · rw [dif_pos h1, dif_pos h1]
    exact piece_v1 V b n _
  · rw [dif_neg h1, dif_neg h1]
    by_cases h2 : ch.val = 80
    · rw [dif_pos (by omega), if_pos h2]
      exact piece_v2 V b n _
    · rw [dif_neg (by omega), if_neg h2]
      by_cases h3 : ch.val < 85
      · rw [dif_pos (by omega), dif_pos h3]
        exact (piece_v3 V b n _).trans (congrArg (fun z => given V (ix4 0 b n z)) (Fin.ext (by simp only; omega)))
      · rw [dif_neg (by omega), dif_neg h3]
        exact piece_v4 V b n _

/-- The padding word is zero. -/
theorem feats_c : (after hostOps0 V (Proc.devRef .tc main_c) : IVec S_ 32) ix0 = 0#32 := by
  simp only [hostOps0]
  after_results
  rfl

/-- The padded array, as one operation. -/
theorem feats_v6_eq : after hostOps0_1 V (Proc.devRef .tc main_v6) = pad S8x20480x88 ![0, 0, 0] ![0, 480, 0] ![0, 0, 0] (V (Proc.devRef .tc main_v5) : FVec Ideal S8x20000x88 .f32)
    (sitofp .f32 (V (Proc.devRef .tc main_c) : IVec S_ 32) : FVec Ideal S_ .f32) pads_S8x20000x88_S8x20480x88_000_04800_000 h_S_ := by
  simp only [hostOps0_1]
  after_results_entrywise [cast_eq]

/-- The padded array at a place: its box's number, or zero. -/
theorem feats_v6 (b : Fin 8) (n : Fin 20480) (ch : Fin 88) (g : S8x20000x88.Idx → EReal) (hg : V (Proc.devRef .tc main_v5) = g) (hc : (V (Proc.devRef .tc main_c) : IVec S_ 32) ix0 = 0#32) : (after hostOps0_1 V (Proc.devRef .tc main_v6) : S8x20480x88.Idx → EReal) (ix3 b n ch) =
    if h : n.val < 20000 then g (ix3 b ⟨n.val, h⟩ ch) else 0 := by
  rw [feats_v6_eq, hg]
  pointwise
  have hb := b.isLt
  have hch := ch.isLt
  by_cases h : n.val < 20000
  · rw [dif_pos h, dif_pos fun a => ?_]
    match a with
    | ⟨0, _⟩ => show (0 : ℕ) ≤ b.val ∧ (b.val - 0) % (0 + 1) = 0 ∧ (b.val - 0) / (0 + 1) < 8; omega
    | ⟨1, _⟩ => show (0 : ℕ) ≤ n.val ∧ (n.val - 0) % (0 + 1) = 0 ∧ (n.val - 0) / (0 + 1) < 20000; omega
    | ⟨2, _⟩ => show (0 : ℕ) ≤ ch.val ∧ (ch.val - 0) % (0 + 1) = 0 ∧ (ch.val - 0) / (0 + 1) < 88; omega
  · rw [dif_neg h, dif_neg fun q => ?_]
    · have e : Shape.Idx.first h_S_ = (ix0 : S_.Idx) := funext fun a => a.elim0
      rw [e, hc]
      show (((0 : ℤ) : ℝ) : EReal) = 0
      simp
    · have h1 : (n.val - 0) / (0 + 1) < 20000 := (q 1).2.2
      omega

/-- The first kernel's operand at a place. -/
theorem feats_v8 (b : Fin 8) (r : Fin 160) (l : Fin 128) (ch : Fin 88) : (after hostOps0_2 V (Proc.devRef .tc main_v8) : S8x160x88x128.Idx → EReal) (ix4 b r ch l) =
    (V (Proc.devRef .tc main_v6) : S8x20480x88.Idx → EReal) (ix3 b ⟨128 * r.val + l.val, by omega⟩ ch) := by
  simp only [hostOps0_2]
  after_reads_simp
  pointwise
  exact congrArg (fun z => (V (Proc.devRef .tc main_v6) : S8x20480x88.Idx → EReal) (ix3 b z ch)) (Fin.ext (by simp only; omega))

variable (m : (ℓ : Loc nD τ sig) → Buf (Elt Ideal) ℓ) (c : Dev nD)

/-- The columns of a point's image: a given box's, or past the boxes zeros. -/
theorem cols_eq (t : Fin (cfg1 (F := Ideal)).N) (p : P) : cols' (V3 m) c t p =
    fun ch => if h : num p < 20000 then (given (V0 m c)).col (img t) ⟨num p, h⟩ ch else 0 := by
  funext ch
  have e : ∀ i : S8x20000x88.Idx, i = ix3 (i 0) (i 1) (i 2) := fun i => by funext a; match a with | ⟨0, _⟩ => rfl | ⟨1, _⟩ => rfl | ⟨2, _⟩ => rfl
  refine (feats_v8 (V2 m c) (img t) p.1 p.2 ch).trans ?_
  refine (feats_v6 (V1 m c) (img t) _ ch (fun i => (given (V0 m c)).col (i 0) (i 1) (i 2)) ?_ (feats_c (V0 m c))).trans ?_
  · funext i
    rw [e i]
    exact feats_v5 (V0 m c) _ _ _
  · have hn : 128 * p.1.val + p.2.val = num p := by unfold num; omega
    by_cases h : num p < 20000
    · rw [dif_pos h, dif_pos (hn.trans_lt h)]
      exact congrArg (fun z => (given (V0 m c)).col (img t) z ch) (Fin.ext hn)
    · rw [dif_neg h, dif_neg (fun q => h (hn ▸ q))]

end Cert.KernelIdeal.Nms
-- ==== Proof.Ker.Out.lean ====
/-
  Where the second kernel's blocks end up in the program's result, over extended reals.
-/
module

public import proofs.«01_k».proof.Proof.Ker.Feats
public import proofs.«01_k».proof.Proof.Ker.Frame
public import proofs.«01_k».proof.Proof.Sim

@[expose] public section

set_option maxRecDepth 16384

noncomputable section

namespace Cert.KernelIdeal.Nms

open Cert.KernelIdeal Cert.KernelIdeal.Gen
open Idealize.ShloMosaic Idealize.ShloMosaic.TcCoe Idealize.ShloMosaic.StableHlo
open Idealize.ShloMosaic.Pointwise

variable (m : (ℓ : Loc nD τ sig) → Buf (Elt Ideal) ℓ) (c : Dev nD)

/-- Every image's block. -/
def outArr : Vec Ideal S8x8x1024 .f32 := fun i => outOf (insAt (W4 m) c (⟨(i 0).val, (i 0).isLt⟩ : Fin (cfg1 (F := Ideal)).N)) (ix3 0 (i 1) (i 2))

/-- The second kernel's result is, image by image, the block it writes. -/
theorem outArr_at (t : Fin (cfg1 (F := Ideal)).N) (y : S1x8x1024.Idx) (i : S8x8x1024.Idx) (h0 : (i 0).val = t.val) (h1 : (i 1).val = (y 1).val)
    (h2 : (i 2).val = (y 2).val) : outOf (insAt (W4 m) c t) y = outArr m c i := by
  have e : t = ⟨(i 0).val, (i 0).isLt⟩ := Fin.ext h0.symm
  subst e
  refine congrArg (outOf _) (funext fun a => ?_)
  match a with
  | ⟨0, _⟩ => exact Subsingleton.elim (α := Fin 1) _ _
  | ⟨1, _⟩ => exact Fin.ext h1.symm
  | ⟨2, _⟩ => exact Fin.ext h2.symm

/-- The second kernel's result at the end of its run. -/
theorem arr_out : (dat1 (W4 m) c).arrAt 11 (cfg1 (F := Ideal)).N = outArr m c := by
  refine (dat1 (W4 m) c).arrAt_eq_of_covers 11 _ (by decide +kernel) fun t hf y => ?_
  blk_simp
  rw [after1_11]
  refine outArr_at m c t y _ ?_ ?_ ?_ <;> (blk_simp [idx1_11 t] <;> try omega)

/-- The buffer that the last host operations read holds the second kernel's result. -/
theorem W5_v10 : W5 m c (Proc.devRef .tc main_v10) = outArr m c :=
  (Pipeline.afterRegion_arr (dat1 (W4 m) c) (W4 m c) (Pipeline.LaunchFacts.toP (nD := nD) (τ := τ) (Val := Elt Ideal) (launch1 (F := Ideal))).win.arr_inj 11).trans (arr_out m c)

/-- The block written is the accumulated result. -/
theorem pay3_apply (v : FVec Ideal S8x1024 .f32) (f : Fin 8) (l : Fin 1024) : k1_pay3 (F := Ideal) v (ix3 0 f l) = v (ix2 f l) := by
  pointwise [k1_pay3]

/-- The program's result: the first six rows and 1000 columns of each block, transposed. -/
theorem cut_v12 (V : Valuation τ sig (Elt Ideal)) (b : Fin 8) (i : Fin 1000) (f : Fin 6) : (after hostOps2 V (Proc.devRef .tc main_v12) : S8x1000x6.Idx → EReal) (ix3 b i f) =
    (V (Proc.devRef .tc main_v10) : S8x8x1024.Idx → EReal) (ix3 b ⟨f.val, by omega⟩ ⟨i.val, by omega⟩) := by
  simp only [hostOps2]
  after_reads_simp
  pointwise

/-- The program's result. -/
theorem W6_v12 (b : Fin 8) (i : Fin 1000) (f : Fin 6) : (W6 m c (Proc.devRef .tc main_v12) : S8x1000x6.Idx → EReal) (ix3 b i f) =
    outOf (insAt (W4 m) c (⟨b.val, b.isLt⟩ : Fin (cfg1 (F := Ideal)).N)) (ix3 0 ⟨f.val, by omega⟩ ⟨i.val, by omega⟩) := by
  refine (cut_v12 (W5 m c) b i f).trans ?_
  rw [W5_v10]
  rfl

/-- It is read from where the loop ends. -/
theorem out_of_run (b : Fin 8) : ∃ (M : ℕ) (σ : St Ideal), Runs (insAt (W4 m) c (⟨b.val, b.isLt⟩ : Fin (cfg1 (F := Ideal)).N)) M
      (start (insAt (W4 m) c (⟨b.val, b.isLt⟩ : Fin (cfg1 (F := Ideal)).N)) fun _ => Scalar.ofBits (F := Ideal) .f32 0x00000000#32) σ
    ∧ ∀ (i : Fin 1000) (f : Fin 6), (W6 m c (Proc.devRef .tc main_v12) : S8x1000x6.Idx → EReal) (ix3 b i f) = σ.acc (ix2 ⟨f.val, by omega⟩ ⟨i.val, by omega⟩) := by
  obtain ⟨M, σ, hr, ho⟩ := (ends m c (⟨b.val, b.isLt⟩ : Fin (cfg1 (F := Ideal)).N)).out
  refine ⟨M, σ, hr, fun i f => ?_⟩
  rw [W6_v12, ho]
  exact pay3_apply _ _ _

end Cert.KernelIdeal.Nms
-- ==== Proof.Ref.Trip.lean ====
/-
  One trip of the reference's loop: the carried buffers after the body, as terms of the carried buffers before it.
-/
module

public import proofs.«01_k».proof.Proof.Ref.Run

@[expose] public section

-- a long stretch's `::` list and the decided enumerations over the program's references recurse past the default depth
set_option maxRecDepth 1600

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

/-! ## One trip's values -/

set_option maxRecDepth 8192 in
/-- `main_while0b_call2_v0`'s composed term of the carried buffers (named: it is used 2 times). -/
def res_main_while0b_call2_v0 (V0 : Valuation τ sig (Elt F)) : (Proc.devRef .tc main_while0b_call2_v0 : DevRef τ sig).ty.Contents (Elt F) :=
  iotaInDim S8x20000 32 1

set_option maxRecDepth 8192 in
/-- `main_while0b_call2_cst`'s composed term of the carried buffers (named: it is used 2 times). -/
def res_main_while0b_call2_cst (V0 : Valuation τ sig (Elt F)) : (Proc.devRef .tc main_while0b_call2_cst : DevRef τ sig).ty.Contents (Elt F) :=
  constant S_ .f32 0xFF800000#32

set_option maxRecDepth 8192 in
/-- `main_while0b_call2_c`'s composed term of the carried buffers (named: it is used 2 times). -/
def res_main_while0b_call2_c (V0 : Valuation τ sig (Elt F)) : (Proc.devRef .tc main_while0b_call2_c : DevRef τ sig).ty.Contents (Elt F) :=
  constantI S_ 32 0#32

set_option maxRecDepth 8192 in
/-- `main_while0b_v87`'s composed term of the carried buffers (named: it is used 10 times). -/
def res_main_while0b_v87 (V0 : Valuation τ sig (Elt F)) : (Proc.devRef .tc main_while0b_v87 : DevRef τ sig).ty.Contents (Elt F) :=
  (fun j => (Host.argReduce reducer_argmax_f32_i32 (V0 (Proc.devRef .tc main_v34_4)) (res_main_while0b_call2_v0 V0) (res_main_while0b_call2_cst V0) (res_main_while0b_call2_c V0) reducesTo_S8x20000_S8_d1 h_S_ j).2)

set_option maxRecDepth 8192 in
/-- `main_while0b_v103`'s composed term of the carried buffers (named: it is used 2 times). -/
def res_main_while0b_v103 (V0 : Valuation τ sig (Elt F)) : (Proc.devRef .tc main_while0b_v103 : DevRef τ sig).ty.Contents (Elt F) :=
  cmpf .ogt (Host.gather gather_S8x20000_S8x2_S8_n_01_n_n_01_1_11 (V0 (Proc.devRef .tc main_v34_4)) (concatenate S8x2 1 [⟨S8x1, (broadcastInDim S8x1 ![0] bcast_S8_S8x1_0 (select (cmpi .slt (V0 (Proc.devRef .tc main_v34_0)) (broadcastInDim S8 ![] bcast_S_S8 (constantI S_ 32 0#32))) (addi (V0 (Proc.devRef .tc main_v34_0)) (broadcastInDim S8 ![] bcast_S_S8 (constantI S_ 32 8#32))) (V0 (Proc.devRef .tc main_v34_0))))⟩, ⟨S8x1, (broadcastInDim S8x1 ![0] bcast_S8_S8x1_0 (select (cmpi .slt (res_main_while0b_v87 V0) (broadcastInDim S8 ![] bcast_S_S8 (constantI S_ 32 0#32))) (addi (res_main_while0b_v87 V0) (broadcastInDim S8 ![] bcast_S_S8 (constantI S_ 32 20000#32))) (res_main_while0b_v87 V0)))⟩] concatenates_S8x1_S8x1_S8x2_d1)) (broadcastInDim S8 ![] bcast_S_S8 (constant S_ .f32 0x00000000#32))

set_option maxRecDepth 8192 in
/-- `main_while0b_v117`'s composed term of the carried buffers (named: it is used 6 times). -/
def res_main_while0b_v117 (V0 : Valuation τ sig (Elt F)) : (Proc.devRef .tc main_while0b_v117 : DevRef τ sig).ty.Contents (Elt F) :=
  Host.gather gather_S8x20000x4_S8x2_S8x4_1_01_n_n_01_1_114 (V0 (Proc.devRef .tc main_v34_1)) (concatenate S8x2 1 [⟨S8x1, (broadcastInDim S8x1 ![0] bcast_S8_S8x1_0 (select (cmpi .slt (V0 (Proc.devRef .tc main_v34_0)) (broadcastInDim S8 ![] bcast_S_S8 (constantI S_ 32 0#32))) (addi (V0 (Proc.devRef .tc main_v34_0)) (broadcastInDim S8 ![] bcast_S_S8 (constantI S_ 32 8#32))) (V0 (Proc.devRef .tc main_v34_0))))⟩, ⟨S8x1, (broadcastInDim S8x1 ![0] bcast_S8_S8x1_0 (select (cmpi .slt (res_main_while0b_v87 V0) (broadcastInDim S8 ![] bcast_S_S8 (constantI S_ 32 0#32))) (addi (res_main_while0b_v87 V0) (broadcastInDim S8 ![] bcast_S_S8 (constantI S_ 32 20000#32))) (res_main_while0b_v87 V0)))⟩] concatenates_S8x1_S8x1_S8x2_d1)

set_option maxRecDepth 8192 in
/-- `main_while0b_v129`'s composed term of the carried buffers (named: it is used 2 times). -/
def res_main_while0b_v129 (V0 : Valuation τ sig (Elt F)) : (Proc.devRef .tc main_while0b_v129 : DevRef τ sig).ty.Contents (Elt F) :=
  maximumf (broadcastInDim S8x20000x2 ![] bcast_S_S8x20000x2 (id (constant S_ .f32 0x00000000#32))) (subf (minimumf (broadcastInDim S8x20000x2 ![0, 1, 2] bcast_S8x1x2_S8x20000x2_0_1_2 (broadcastInDim S8x1x2 ![0, 2] bcast_S8x2_S8x1x2_0_2 (extractStridedSlice S8x2 ![0, 2] (res_main_while0b_v117 V0) slices_S8x4_S8x2_0_2))) (extractStridedSlice S8x20000x2 ![0, 0, 2] (V0 (Proc.devRef .tc main_v34_1)) slices_S8x20000x4_S8x20000x2_0_0_2)) (maximumf (broadcastInDim S8x20000x2 ![0, 1, 2] bcast_S8x1x2_S8x20000x2_0_1_2 (broadcastInDim S8x1x2 ![0, 2] bcast_S8x2_S8x1x2_0_2 (extractStridedSlice S8x2 ![0, 0] (res_main_while0b_v117 V0) slices_S8x4_S8x2_0_0))) (extractStridedSlice S8x20000x2 ![0, 0, 0] (V0 (Proc.devRef .tc main_v34_1)) slices_S8x20000x4_S8x20000x2_0_0_0)))

set_option maxRecDepth 8192 in
/-- `main_while0b_v134`'s composed term of the carried buffers (named: it is used 2 times). -/
def res_main_while0b_v134 (V0 : Valuation τ sig (Elt F)) : (Proc.devRef .tc main_while0b_v134 : DevRef τ sig).ty.Contents (Elt F) :=
  mulf (shapeCast S8x20000 (extractStridedSlice S8x20000x1 ![0, 0, 0] (res_main_while0b_v129 V0) slices_S8x20000x2_S8x20000x1_0_0_0) shapeCasts_S8x20000x1_S8x20000) (shapeCast S8x20000 (extractStridedSlice S8x20000x1 ![0, 0, 1] (res_main_while0b_v129 V0) slices_S8x20000x2_S8x20000x1_0_0_1) shapeCasts_S8x20000x1_S8x20000)

/-- The device's buffer contents before the body's first window. -/
def val0 (V0 : Valuation τ sig (Elt F)) : Valuation τ sig (Elt F) := V0
theorem val0_main_v34_3 (V0 : Valuation τ sig (Elt F)) : val0 V0 (no_index (Proc.devRef .tc main_v34_3)) = V0 (Proc.devRef .tc main_v34_3) := rfl
theorem val0_main_v34_4 (V0 : Valuation τ sig (Elt F)) : val0 V0 (no_index (Proc.devRef .tc main_v34_4)) = V0 (Proc.devRef .tc main_v34_4) := rfl
theorem val0_main_v34_0 (V0 : Valuation τ sig (Elt F)) : val0 V0 (no_index (Proc.devRef .tc main_v34_0)) = V0 (Proc.devRef .tc main_v34_0) := rfl
theorem val0_main_v34_1 (V0 : Valuation τ sig (Elt F)) : val0 V0 (no_index (Proc.devRef .tc main_v34_1)) = V0 (Proc.devRef .tc main_v34_1) := rfl
theorem val0_main_v34_5 (V0 : Valuation τ sig (Elt F)) : val0 V0 (no_index (Proc.devRef .tc main_v34_5)) = V0 (Proc.devRef .tc main_v34_5) := rfl
theorem val0_main_v34_6 (V0 : Valuation τ sig (Elt F)) : val0 V0 (no_index (Proc.devRef .tc main_v34_6)) = V0 (Proc.devRef .tc main_v34_6) := rfl
theorem val0_main_v34_2 (V0 : Valuation τ sig (Elt F)) : val0 V0 (no_index (Proc.devRef .tc main_v34_2)) = V0 (Proc.devRef .tc main_v34_2) := rfl

/-- The device's buffer contents after the body's first 1 window. -/
def val1 (V0 : Valuation τ sig (Elt F)) : Valuation τ sig (Elt F) := after trip_w0 (val0 V0)
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v34_3 (V0 : Valuation τ sig (Elt F)) : val1 V0 (no_index (Proc.devRef .tc main_v34_3)) = V0 (Proc.devRef .tc main_v34_3) :=
  (val1_keep V0 main_v34_3 (by decide)).trans (val0_main_v34_3 V0)
theorem val1_main_v34_4 (V0 : Valuation τ sig (Elt F)) : val1 V0 (no_index (Proc.devRef .tc main_v34_4)) = V0 (Proc.devRef .tc main_v34_4) :=
  (val1_keep V0 main_v34_4 (by decide)).trans (val0_main_v34_4 V0)
theorem val1_main_v34_0 (V0 : Valuation τ sig (Elt F)) : val1 V0 (no_index (Proc.devRef .tc main_v34_0)) = V0 (Proc.devRef .tc main_v34_0) :=
  (val1_keep V0 main_v34_0 (by decide)).trans (val0_main_v34_0 V0)
theorem val1_main_v34_1 (V0 : Valuation τ sig (Elt F)) : val1 V0 (no_index (Proc.devRef .tc main_v34_1)) = V0 (Proc.devRef .tc main_v34_1) :=
  (val1_keep V0 main_v34_1 (by decide)).trans (val0_main_v34_1 V0)
theorem val1_main_v34_5 (V0 : Valuation τ sig (Elt F)) : val1 V0 (no_index (Proc.devRef .tc main_v34_5)) = V0 (Proc.devRef .tc main_v34_5) :=
  (val1_keep V0 main_v34_5 (by decide)).trans (val0_main_v34_5 V0)
theorem val1_main_v34_6 (V0 : Valuation τ sig (Elt F)) : val1 V0 (no_index (Proc.devRef .tc main_v34_6)) = V0 (Proc.devRef .tc main_v34_6) :=
  (val1_keep V0 main_v34_6 (by decide)).trans (val0_main_v34_6 V0)
theorem val1_main_v34_2 (V0 : Valuation τ sig (Elt F)) : val1 V0 (no_index (Proc.devRef .tc main_v34_2)) = V0 (Proc.devRef .tc main_v34_2) :=
  (val1_keep V0 main_v34_2 (by decide)).trans (val0_main_v34_2 V0)
set_option maxRecDepth 8192 in
theorem val1_main_while0b_v86 (V0 : Valuation τ sig (Elt F)) : val1 V0 (no_index (Proc.devRef .tc main_while0b_v86)) = addi (V0 (Proc.devRef .tc main_v34_3)) (constantI S_ 32 1#32) := by
  unfold val1
  simp only [trip_w0]
  after_results_entrywise [val0_main_v34_3, cast_eq]

/-- The device's buffer contents after the body's first 2 windows. -/
def val2 (V0 : Valuation τ sig (Elt F)) : Valuation τ sig (Elt F) := after trip_w1 (val1 V0)
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v34_3 (V0 : Valuation τ sig (Elt F)) : val2 V0 (no_index (Proc.devRef .tc main_v34_3)) = V0 (Proc.devRef .tc main_v34_3) :=
  (val2_keep V0 main_v34_3 (by decide)).trans (val1_main_v34_3 V0)
theorem val2_main_v34_4 (V0 : Valuation τ sig (Elt F)) : val2 V0 (no_index (Proc.devRef .tc main_v34_4)) = V0 (Proc.devRef .tc main_v34_4) :=
  (val2_keep V0 main_v34_4 (by decide)).trans (val1_main_v34_4 V0)
theorem val2_main_v34_0 (V0 : Valuation τ sig (Elt F)) : val2 V0 (no_index (Proc.devRef .tc main_v34_0)) = V0 (Proc.devRef .tc main_v34_0) :=
  (val2_keep V0 main_v34_0 (by decide)).trans (val1_main_v34_0 V0)
theorem val2_main_v34_1 (V0 : Valuation τ sig (Elt F)) : val2 V0 (no_index (Proc.devRef .tc main_v34_1)) = V0 (Proc.devRef .tc main_v34_1) :=
  (val2_keep V0 main_v34_1 (by decide)).trans (val1_main_v34_1 V0)
theorem val2_main_v34_5 (V0 : Valuation τ sig (Elt F)) : val2 V0 (no_index (Proc.devRef .tc main_v34_5)) = V0 (Proc.devRef .tc main_v34_5) :=
  (val2_keep V0 main_v34_5 (by decide)).trans (val1_main_v34_5 V0)
theorem val2_main_v34_6 (V0 : Valuation τ sig (Elt F)) : val2 V0 (no_index (Proc.devRef .tc main_v34_6)) = V0 (Proc.devRef .tc main_v34_6) :=
  (val2_keep V0 main_v34_6 (by decide)).trans (val1_main_v34_6 V0)
theorem val2_main_v34_2 (V0 : Valuation τ sig (Elt F)) : val2 V0 (no_index (Proc.devRef .tc main_v34_2)) = V0 (Proc.devRef .tc main_v34_2) :=
  (val2_keep V0 main_v34_2 (by decide)).trans (val1_main_v34_2 V0)
theorem val2_main_while0b_v86 (V0 : Valuation τ sig (Elt F)) : val2 V0 (no_index (Proc.devRef .tc main_while0b_v86)) = addi (V0 (Proc.devRef .tc main_v34_3)) (constantI S_ 32 1#32) :=
  (val2_keep V0 main_while0b_v86 (by decide)).trans (val1_main_while0b_v86 V0)
set_option maxRecDepth 8192 in
theorem val2_main_while0b_v87 (V0 : Valuation τ sig (Elt F)) : val2 V0 (no_index (Proc.devRef .tc main_while0b_v87)) = res_main_while0b_v87 V0 := by
  unfold val2
  simp only [trip_w1]
  after_results_entrywise [val1_main_v34_4, res_main_while0b_call2_v0, res_main_while0b_call2_cst, res_main_while0b_call2_c, res_main_while0b_v87, cast_eq]

/-- The device's buffer contents after the body's first 3 windows. -/
def val3 (V0 : Valuation τ sig (Elt F)) : Valuation τ sig (Elt F) := after trip_w2 (val2 V0)
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v34_3 (V0 : Valuation τ sig (Elt F)) : val3 V0 (no_index (Proc.devRef .tc main_v34_3)) = V0 (Proc.devRef .tc main_v34_3) :=
  (val3_keep V0 main_v34_3 (by decide)).trans (val2_main_v34_3 V0)
theorem val3_main_v34_4 (V0 : Valuation τ sig (Elt F)) : val3 V0 (no_index (Proc.devRef .tc main_v34_4)) = V0 (Proc.devRef .tc main_v34_4) :=
  (val3_keep V0 main_v34_4 (by decide)).trans (val2_main_v34_4 V0)
theorem val3_main_v34_0 (V0 : Valuation τ sig (Elt F)) : val3 V0 (no_index (Proc.devRef .tc main_v34_0)) = V0 (Proc.devRef .tc main_v34_0) :=
  (val3_keep V0 main_v34_0 (by decide)).trans (val2_main_v34_0 V0)
theorem val3_main_v34_1 (V0 : Valuation τ sig (Elt F)) : val3 V0 (no_index (Proc.devRef .tc main_v34_1)) = V0 (Proc.devRef .tc main_v34_1) :=
  (val3_keep V0 main_v34_1 (by decide)).trans (val2_main_v34_1 V0)
theorem val3_main_v34_5 (V0 : Valuation τ sig (Elt F)) : val3 V0 (no_index (Proc.devRef .tc main_v34_5)) = V0 (Proc.devRef .tc main_v34_5) :=
  (val3_keep V0 main_v34_5 (by decide)).trans (val2_main_v34_5 V0)
theorem val3_main_v34_6 (V0 : Valuation τ sig (Elt F)) : val3 V0 (no_index (Proc.devRef .tc main_v34_6)) = V0 (Proc.devRef .tc main_v34_6) :=
  (val3_keep V0 main_v34_6 (by decide)).trans (val2_main_v34_6 V0)
theorem val3_main_v34_2 (V0 : Valuation τ sig (Elt F)) : val3 V0 (no_index (Proc.devRef .tc main_v34_2)) = V0 (Proc.devRef .tc main_v34_2) :=
  (val3_keep V0 main_v34_2 (by decide)).trans (val2_main_v34_2 V0)
theorem val3_main_while0b_v86 (V0 : Valuation τ sig (Elt F)) : val3 V0 (no_index (Proc.devRef .tc main_while0b_v86)) = addi (V0 (Proc.devRef .tc main_v34_3)) (constantI S_ 32 1#32) :=
  (val3_keep V0 main_while0b_v86 (by decide)).trans (val2_main_while0b_v86 V0)
theorem val3_main_while0b_v87 (V0 : Valuation τ sig (Elt F)) : val3 V0 (no_index (Proc.devRef .tc main_while0b_v87)) = res_main_while0b_v87 V0 :=
  (val3_keep V0 main_while0b_v87 (by decide)).trans (val2_main_while0b_v87 V0)
set_option maxRecDepth 8192 in
set_option maxHeartbeats 2000000 in
theorem val3_main_while0b_v103 (V0 : Valuation τ sig (Elt F)) : val3 V0 (no_index (Proc.devRef .tc main_while0b_v103)) = res_main_while0b_v103 V0 := by
  unfold val3
  simp only [trip_w2]
  after_results_entrywise [val2_main_while0b_v87, val2_main_v34_0, val2_main_v34_4, res_main_while0b_v103, cast_eq]
set_option maxRecDepth 8192 in
set_option maxHeartbeats 2000000 in
theorem val3_main_while0b_v105 (V0 : Valuation τ sig (Elt F)) : val3 V0 (no_index (Proc.devRef .tc main_while0b_v105)) = cmpi .slt (V0 (Proc.devRef .tc main_v34_0)) (broadcastInDim S8 ![] bcast_S_S8 (constantI S_ 32 0#32)) := by
  unfold val3
  simp only [trip_w2]
  after_results_entrywise [val2_main_v34_0, cast_eq]

/-- The device's buffer contents after the body's first 4 windows. -/
def val4 (V0 : Valuation τ sig (Elt F)) : Valuation τ sig (Elt F) := after trip_w3 (val3 V0)
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v34_3 (V0 : Valuation τ sig (Elt F)) : val4 V0 (no_index (Proc.devRef .tc main_v34_3)) = V0 (Proc.devRef .tc main_v34_3) :=
  (val4_keep V0 main_v34_3 (by decide)).trans (val3_main_v34_3 V0)
theorem val4_main_v34_4 (V0 : Valuation τ sig (Elt F)) : val4 V0 (no_index (Proc.devRef .tc main_v34_4)) = V0 (Proc.devRef .tc main_v34_4) :=
  (val4_keep V0 main_v34_4 (by decide)).trans (val3_main_v34_4 V0)
theorem val4_main_v34_0 (V0 : Valuation τ sig (Elt F)) : val4 V0 (no_index (Proc.devRef .tc main_v34_0)) = V0 (Proc.devRef .tc main_v34_0) :=
  (val4_keep V0 main_v34_0 (by decide)).trans (val3_main_v34_0 V0)
theorem val4_main_v34_1 (V0 : Valuation τ sig (Elt F)) : val4 V0 (no_index (Proc.devRef .tc main_v34_1)) = V0 (Proc.devRef .tc main_v34_1) :=
  (val4_keep V0 main_v34_1 (by decide)).trans (val3_main_v34_1 V0)
theorem val4_main_v34_5 (V0 : Valuation τ sig (Elt F)) : val4 V0 (no_index (Proc.devRef .tc main_v34_5)) = V0 (Proc.devRef .tc main_v34_5) :=
  (val4_keep V0 main_v34_5 (by decide)).trans (val3_main_v34_5 V0)
theorem val4_main_v34_6 (V0 : Valuation τ sig (Elt F)) : val4 V0 (no_index (Proc.devRef .tc main_v34_6)) = V0 (Proc.devRef .tc main_v34_6) :=
  (val4_keep V0 main_v34_6 (by decide)).trans (val3_main_v34_6 V0)
theorem val4_main_v34_2 (V0 : Valuation τ sig (Elt F)) : val4 V0 (no_index (Proc.devRef .tc main_v34_2)) = V0 (Proc.devRef .tc main_v34_2) :=
  (val4_keep V0 main_v34_2 (by decide)).trans (val3_main_v34_2 V0)
theorem val4_main_while0b_v86 (V0 : Valuation τ sig (Elt F)) : val4 V0 (no_index (Proc.devRef .tc main_while0b_v86)) = addi (V0 (Proc.devRef .tc main_v34_3)) (constantI S_ 32 1#32) :=
  (val4_keep V0 main_while0b_v86 (by decide)).trans (val3_main_while0b_v86 V0)
theorem val4_main_while0b_v87 (V0 : Valuation τ sig (Elt F)) : val4 V0 (no_index (Proc.devRef .tc main_while0b_v87)) = res_main_while0b_v87 V0 :=
  (val4_keep V0 main_while0b_v87 (by decide)).trans (val3_main_while0b_v87 V0)
theorem val4_main_while0b_v103 (V0 : Valuation τ sig (Elt F)) : val4 V0 (no_index (Proc.devRef .tc main_while0b_v103)) = res_main_while0b_v103 V0 :=
  (val4_keep V0 main_while0b_v103 (by decide)).trans (val3_main_while0b_v103 V0)
set_option maxRecDepth 8192 in
set_option maxHeartbeats 2000000 in
theorem val4_main_while0b_v117 (V0 : Valuation τ sig (Elt F)) : val4 V0 (no_index (Proc.devRef .tc main_while0b_v117)) = res_main_while0b_v117 V0 := by
  unfold val4
  simp only [trip_w3]
  after_results_entrywise [val3_main_while0b_v87, val3_main_v34_0, val3_main_while0b_v105, val3_main_v34_1, res_main_while0b_v117, cast_eq]
set_option maxRecDepth 8192 in
set_option maxHeartbeats 2000000 in
theorem val4_main_while0b_v122 (V0 : Valuation τ sig (Elt F)) : val4 V0 (no_index (Proc.devRef .tc main_while0b_v122)) = maximumf (broadcastInDim S8x20000x2 ![0, 1, 2] bcast_S8x1x2_S8x20000x2_0_1_2 (broadcastInDim S8x1x2 ![0, 2] bcast_S8x2_S8x1x2_0_2 (extractStridedSlice S8x2 ![0, 0] (res_main_while0b_v117 V0) slices_S8x4_S8x2_0_0))) (extractStridedSlice S8x20000x2 ![0, 0, 0] (V0 (Proc.devRef .tc main_v34_1)) slices_S8x20000x4_S8x20000x2_0_0_0) := by
  unfold val4
  simp only [trip_w3]
  after_results_entrywise [val3_main_v34_1, val3_main_while0b_v87, val3_main_v34_0, val3_main_while0b_v105, res_main_while0b_v117, cast_eq]
set_option maxRecDepth 8192 in
set_option maxHeartbeats 2000000 in
theorem val4_main_while0b_v125 (V0 : Valuation τ sig (Elt F)) : val4 V0 (no_index (Proc.devRef .tc main_while0b_v125)) = extractStridedSlice S8x20000x2 ![0, 0, 2] (V0 (Proc.devRef .tc main_v34_1)) slices_S8x20000x4_S8x20000x2_0_0_2 := by
  unfold val4
  simp only [trip_w3]
  after_results_entrywise [val3_main_v34_1, cast_eq]
set_option maxRecDepth 8192 in
set_option maxHeartbeats 2000000 in
theorem val4_main_while0b_v126 (V0 : Valuation τ sig (Elt F)) : val4 V0 (no_index (Proc.devRef .tc main_while0b_v126)) = broadcastInDim S8x20000x2 ![0, 1, 2] bcast_S8x1x2_S8x20000x2_0_1_2 (broadcastInDim S8x1x2 ![0, 2] bcast_S8x2_S8x1x2_0_2 (extractStridedSlice S8x2 ![0, 2] (res_main_while0b_v117 V0) slices_S8x4_S8x2_0_2)) := by
  unfold val4
  simp only [trip_w3]
  after_results_entrywise [val3_main_while0b_v87, val3_main_v34_0, val3_main_while0b_v105, val3_main_v34_1, res_main_while0b_v117, cast_eq]

/-- The device's buffer contents after the body's first 5 windows. -/
def val5 (V0 : Valuation τ sig (Elt F)) : Valuation τ sig (Elt F) := after trip_w4 (val4 V0)
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v34_3 (V0 : Valuation τ sig (Elt F)) : val5 V0 (no_index (Proc.devRef .tc main_v34_3)) = V0 (Proc.devRef .tc main_v34_3) :=
  (val5_keep V0 main_v34_3 (by decide)).trans (val4_main_v34_3 V0)
theorem val5_main_v34_4 (V0 : Valuation τ sig (Elt F)) : val5 V0 (no_index (Proc.devRef .tc main_v34_4)) = V0 (Proc.devRef .tc main_v34_4) :=
  (val5_keep V0 main_v34_4 (by decide)).trans (val4_main_v34_4 V0)
theorem val5_main_v34_0 (V0 : Valuation τ sig (Elt F)) : val5 V0 (no_index (Proc.devRef .tc main_v34_0)) = V0 (Proc.devRef .tc main_v34_0) :=
  (val5_keep V0 main_v34_0 (by decide)).trans (val4_main_v34_0 V0)
theorem val5_main_v34_1 (V0 : Valuation τ sig (Elt F)) : val5 V0 (no_index (Proc.devRef .tc main_v34_1)) = V0 (Proc.devRef .tc main_v34_1) :=
  (val5_keep V0 main_v34_1 (by decide)).trans (val4_main_v34_1 V0)
theorem val5_main_v34_5 (V0 : Valuation τ sig (Elt F)) : val5 V0 (no_index (Proc.devRef .tc main_v34_5)) = V0 (Proc.devRef .tc main_v34_5) :=
  (val5_keep V0 main_v34_5 (by decide)).trans (val4_main_v34_5 V0)
theorem val5_main_v34_6 (V0 : Valuation τ sig (Elt F)) : val5 V0 (no_index (Proc.devRef .tc main_v34_6)) = V0 (Proc.devRef .tc main_v34_6) :=
  (val5_keep V0 main_v34_6 (by decide)).trans (val4_main_v34_6 V0)
theorem val5_main_v34_2 (V0 : Valuation τ sig (Elt F)) : val5 V0 (no_index (Proc.devRef .tc main_v34_2)) = V0 (Proc.devRef .tc main_v34_2) :=
  (val5_keep V0 main_v34_2 (by decide)).trans (val4_main_v34_2 V0)
theorem val5_main_while0b_v86 (V0 : Valuation τ sig (Elt F)) : val5 V0 (no_index (Proc.devRef .tc main_while0b_v86)) = addi (V0 (Proc.devRef .tc main_v34_3)) (constantI S_ 32 1#32) :=
  (val5_keep V0 main_while0b_v86 (by decide)).trans (val4_main_while0b_v86 V0)
theorem val5_main_while0b_v87 (V0 : Valuation τ sig (Elt F)) : val5 V0 (no_index (Proc.devRef .tc main_while0b_v87)) = res_main_while0b_v87 V0 :=
  (val5_keep V0 main_while0b_v87 (by decide)).trans (val4_main_while0b_v87 V0)
theorem val5_main_while0b_v103 (V0 : Valuation τ sig (Elt F)) : val5 V0 (no_index (Proc.devRef .tc main_while0b_v103)) = res_main_while0b_v103 V0 :=
  (val5_keep V0 main_while0b_v103 (by decide)).trans (val4_main_while0b_v103 V0)
theorem val5_main_while0b_v117 (V0 : Valuation τ sig (Elt F)) : val5 V0 (no_index (Proc.devRef .tc main_while0b_v117)) = res_main_while0b_v117 V0 :=
  (val5_keep V0 main_while0b_v117 (by decide)).trans (val4_main_while0b_v117 V0)
set_option maxRecDepth 8192 in
theorem val5_main_while0b_v128 (V0 : Valuation τ sig (Elt F)) : val5 V0 (no_index (Proc.devRef .tc main_while0b_v128)) = subf (minimumf (broadcastInDim S8x20000x2 ![0, 1, 2] bcast_S8x1x2_S8x20000x2_0_1_2 (broadcastInDim S8x1x2 ![0, 2] bcast_S8x2_S8x1x2_0_2 (extractStridedSlice S8x2 ![0, 2] (res_main_while0b_v117 V0) slices_S8x4_S8x2_0_2))) (extractStridedSlice S8x20000x2 ![0, 0, 2] (V0 (Proc.devRef .tc main_v34_1)) slices_S8x20000x4_S8x20000x2_0_0_2)) (maximumf (broadcastInDim S8x20000x2 ![0, 1, 2] bcast_S8x1x2_S8x20000x2_0_1_2 (broadcastInDim S8x1x2 ![0, 2] bcast_S8x2_S8x1x2_0_2 (extractStridedSlice S8x2 ![0, 0] (res_main_while0b_v117 V0) slices_S8x4_S8x2_0_0))) (extractStridedSlice S8x20000x2 ![0, 0, 0] (V0 (Proc.devRef .tc main_v34_1)) slices_S8x20000x4_S8x20000x2_0_0_0)) := by
  unfold val5
  simp only [trip_w4]
  after_results_entrywise [val4_main_while0b_v122, val4_main_while0b_v125, val4_main_while0b_v126, cast_eq]
set_option maxRecDepth 8192 in
theorem val5_main_while0b_cst_38 (V0 : Valuation τ sig (Elt F)) : val5 V0 (no_index (Proc.devRef .tc main_while0b_cst_38)) = constant S_ .f32 0x00000000#32 := by
  unfold val5
  simp only [trip_w4]
  after_results_entrywise [cast_eq]

/-- The device's buffer contents after the body's first 6 windows. -/
def val6 (V0 : Valuation τ sig (Elt F)) : Valuation τ sig (Elt F) := after trip_w5 (val5 V0)
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v34_3 (V0 : Valuation τ sig (Elt F)) : val6 V0 (no_index (Proc.devRef .tc main_v34_3)) = V0 (Proc.devRef .tc main_v34_3) :=
  (val6_keep V0 main_v34_3 (by decide)).trans (val5_main_v34_3 V0)
theorem val6_main_v34_4 (V0 : Valuation τ sig (Elt F)) : val6 V0 (no_index (Proc.devRef .tc main_v34_4)) = V0 (Proc.devRef .tc main_v34_4) :=
  (val6_keep V0 main_v34_4 (by decide)).trans (val5_main_v34_4 V0)
theorem val6_main_v34_0 (V0 : Valuation τ sig (Elt F)) : val6 V0 (no_index (Proc.devRef .tc main_v34_0)) = V0 (Proc.devRef .tc main_v34_0) :=
  (val6_keep V0 main_v34_0 (by decide)).trans (val5_main_v34_0 V0)
theorem val6_main_v34_1 (V0 : Valuation τ sig (Elt F)) : val6 V0 (no_index (Proc.devRef .tc main_v34_1)) = V0 (Proc.devRef .tc main_v34_1) :=
  (val6_keep V0 main_v34_1 (by decide)).trans (val5_main_v34_1 V0)
theorem val6_main_v34_5 (V0 : Valuation τ sig (Elt F)) : val6 V0 (no_index (Proc.devRef .tc main_v34_5)) = V0 (Proc.devRef .tc main_v34_5) :=
  (val6_keep V0 main_v34_5 (by decide)).trans (val5_main_v34_5 V0)
theorem val6_main_v34_6 (V0 : Valuation τ sig (Elt F)) : val6 V0 (no_index (Proc.devRef .tc main_v34_6)) = V0 (Proc.devRef .tc main_v34_6) :=
  (val6_keep V0 main_v34_6 (by decide)).trans (val5_main_v34_6 V0)
theorem val6_main_v34_2 (V0 : Valuation τ sig (Elt F)) : val6 V0 (no_index (Proc.devRef .tc main_v34_2)) = V0 (Proc.devRef .tc main_v34_2) :=
  (val6_keep V0 main_v34_2 (by decide)).trans (val5_main_v34_2 V0)
theorem val6_main_while0b_v86 (V0 : Valuation τ sig (Elt F)) : val6 V0 (no_index (Proc.devRef .tc main_while0b_v86)) = addi (V0 (Proc.devRef .tc main_v34_3)) (constantI S_ 32 1#32) :=
  (val6_keep V0 main_while0b_v86 (by decide)).trans (val5_main_while0b_v86 V0)
theorem val6_main_while0b_v87 (V0 : Valuation τ sig (Elt F)) : val6 V0 (no_index (Proc.devRef .tc main_while0b_v87)) = res_main_while0b_v87 V0 :=
  (val6_keep V0 main_while0b_v87 (by decide)).trans (val5_main_while0b_v87 V0)
theorem val6_main_while0b_v103 (V0 : Valuation τ sig (Elt F)) : val6 V0 (no_index (Proc.devRef .tc main_while0b_v103)) = res_main_while0b_v103 V0 :=
  (val6_keep V0 main_while0b_v103 (by decide)).trans (val5_main_while0b_v103 V0)
theorem val6_main_while0b_v117 (V0 : Valuation τ sig (Elt F)) : val6 V0 (no_index (Proc.devRef .tc main_while0b_v117)) = res_main_while0b_v117 V0 :=
  (val6_keep V0 main_while0b_v117 (by decide)).trans (val5_main_while0b_v117 V0)
set_option maxRecDepth 8192 in
theorem val6_main_while0b_v129 (V0 : Valuation τ sig (Elt F)) : val6 V0 (no_index (Proc.devRef .tc main_while0b_v129)) = res_main_while0b_v129 V0 := by
  unfold val6
  simp only [trip_w5]
  after_results_entrywise [val5_main_while0b_v128, val5_main_while0b_cst_38, res_main_while0b_v129, cast_eq]

/-- The device's buffer contents after the body's first 7 windows. -/
def val7 (V0 : Valuation τ sig (Elt F)) : Valuation τ sig (Elt F) := after trip_w6 (val6 V0)
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v34_3 (V0 : Valuation τ sig (Elt F)) : val7 V0 (no_index (Proc.devRef .tc main_v34_3)) = V0 (Proc.devRef .tc main_v34_3) :=
  (val7_keep V0 main_v34_3 (by decide)).trans (val6_main_v34_3 V0)
theorem val7_main_v34_4 (V0 : Valuation τ sig (Elt F)) : val7 V0 (no_index (Proc.devRef .tc main_v34_4)) = V0 (Proc.devRef .tc main_v34_4) :=
  (val7_keep V0 main_v34_4 (by decide)).trans (val6_main_v34_4 V0)
theorem val7_main_v34_0 (V0 : Valuation τ sig (Elt F)) : val7 V0 (no_index (Proc.devRef .tc main_v34_0)) = V0 (Proc.devRef .tc main_v34_0) :=
  (val7_keep V0 main_v34_0 (by decide)).trans (val6_main_v34_0 V0)
theorem val7_main_v34_1 (V0 : Valuation τ sig (Elt F)) : val7 V0 (no_index (Proc.devRef .tc main_v34_1)) = V0 (Proc.devRef .tc main_v34_1) :=
  (val7_keep V0 main_v34_1 (by decide)).trans (val6_main_v34_1 V0)
theorem val7_main_v34_5 (V0 : Valuation τ sig (Elt F)) : val7 V0 (no_index (Proc.devRef .tc main_v34_5)) = V0 (Proc.devRef .tc main_v34_5) :=
  (val7_keep V0 main_v34_5 (by decide)).trans (val6_main_v34_5 V0)
theorem val7_main_v34_6 (V0 : Valuation τ sig (Elt F)) : val7 V0 (no_index (Proc.devRef .tc main_v34_6)) = V0 (Proc.devRef .tc main_v34_6) :=
  (val7_keep V0 main_v34_6 (by decide)).trans (val6_main_v34_6 V0)
theorem val7_main_v34_2 (V0 : Valuation τ sig (Elt F)) : val7 V0 (no_index (Proc.devRef .tc main_v34_2)) = V0 (Proc.devRef .tc main_v34_2) :=
  (val7_keep V0 main_v34_2 (by decide)).trans (val6_main_v34_2 V0)
theorem val7_main_while0b_v86 (V0 : Valuation τ sig (Elt F)) : val7 V0 (no_index (Proc.devRef .tc main_while0b_v86)) = addi (V0 (Proc.devRef .tc main_v34_3)) (constantI S_ 32 1#32) :=
  (val7_keep V0 main_while0b_v86 (by decide)).trans (val6_main_while0b_v86 V0)
theorem val7_main_while0b_v87 (V0 : Valuation τ sig (Elt F)) : val7 V0 (no_index (Proc.devRef .tc main_while0b_v87)) = res_main_while0b_v87 V0 :=
  (val7_keep V0 main_while0b_v87 (by decide)).trans (val6_main_while0b_v87 V0)
theorem val7_main_while0b_v103 (V0 : Valuation τ sig (Elt F)) : val7 V0 (no_index (Proc.devRef .tc main_while0b_v103)) = res_main_while0b_v103 V0 :=
  (val7_keep V0 main_while0b_v103 (by decide)).trans (val6_main_while0b_v103 V0)
set_option maxRecDepth 8192 in
set_option maxHeartbeats 2000000 in
theorem val7_main_while0b_v134 (V0 : Valuation τ sig (Elt F)) : val7 V0 (no_index (Proc.devRef .tc main_while0b_v134)) = res_main_while0b_v134 V0 := by
  unfold val7
  simp only [trip_w6]
  after_results_entrywise [val6_main_while0b_v129, res_main_while0b_v134, cast_eq]
set_option maxRecDepth 8192 in
set_option maxHeartbeats 2000000 in
theorem val7_main_while0b_v145 (V0 : Valuation τ sig (Elt F)) : val7 V0 (no_index (Proc.devRef .tc main_while0b_v145)) = mulf (subf (shapeCast S8 (extractStridedSlice S8x1 ![0, 2] (res_main_while0b_v117 V0) slices_S8x4_S8x1_0_2) shapeCasts_S8x1_S8) (shapeCast S8 (extractStridedSlice S8x1 ![0, 0] (res_main_while0b_v117 V0) slices_S8x4_S8x1_0_0) shapeCasts_S8x1_S8)) (subf (shapeCast S8 (extractStridedSlice S8x1 ![0, 3] (res_main_while0b_v117 V0) slices_S8x4_S8x1_0_3) shapeCasts_S8x1_S8) (shapeCast S8 (extractStridedSlice S8x1 ![0, 1] (res_main_while0b_v117 V0) slices_S8x4_S8x1_0_1) shapeCasts_S8x1_S8)) := by
  unfold val7
  simp only [trip_w6]
  after_results_entrywise [val6_main_while0b_v117, cast_eq]
set_option maxRecDepth 8192 in
set_option maxHeartbeats 2000000 in
theorem val7_main_while0b_v150 (V0 : Valuation τ sig (Elt F)) : val7 V0 (no_index (Proc.devRef .tc main_while0b_v150)) = subf (shapeCast S8x20000 (extractStridedSlice S8x20000x1 ![0, 0, 2] (V0 (Proc.devRef .tc main_v34_1)) slices_S8x20000x4_S8x20000x1_0_0_2) shapeCasts_S8x20000x1_S8x20000) (shapeCast S8x20000 (extractStridedSlice S8x20000x1 ![0, 0, 0] (V0 (Proc.devRef .tc main_v34_1)) slices_S8x20000x4_S8x20000x1_0_0_0) shapeCasts_S8x20000x1_S8x20000) := by
  unfold val7
  simp only [trip_w6]
  after_results_entrywise [val6_main_v34_1, cast_eq]
set_option maxRecDepth 8192 in
set_option maxHeartbeats 2000000 in
theorem val7_main_while0b_v152 (V0 : Valuation τ sig (Elt F)) : val7 V0 (no_index (Proc.devRef .tc main_while0b_v152)) = shapeCast S8x20000 (extractStridedSlice S8x20000x1 ![0, 0, 3] (V0 (Proc.devRef .tc main_v34_1)) slices_S8x20000x4_S8x20000x1_0_0_3) shapeCasts_S8x20000x1_S8x20000 := by
  unfold val7
  simp only [trip_w6]
  after_results_entrywise [val6_main_v34_1, cast_eq]
set_option maxRecDepth 8192 in
set_option maxHeartbeats 2000000 in
theorem val7_main_while0b_v153 (V0 : Valuation τ sig (Elt F)) : val7 V0 (no_index (Proc.devRef .tc main_while0b_v153)) = extractStridedSlice S8x20000x1 ![0, 0, 1] (V0 (Proc.devRef .tc main_v34_1)) slices_S8x20000x4_S8x20000x1_0_0_1 := by
  unfold val7
  simp only [trip_w6]
  after_results_entrywise [val6_main_v34_1, cast_eq]

/-- The device's buffer contents after the body's first 8 windows. -/
def val8 (V0 : Valuation τ sig (Elt F)) : Valuation τ sig (Elt F) := after trip_w7 (val7 V0)
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v34_3 (V0 : Valuation τ sig (Elt F)) : val8 V0 (no_index (Proc.devRef .tc main_v34_3)) = V0 (Proc.devRef .tc main_v34_3) :=
  (val8_keep V0 main_v34_3 (by decide)).trans (val7_main_v34_3 V0)
theorem val8_main_v34_4 (V0 : Valuation τ sig (Elt F)) : val8 V0 (no_index (Proc.devRef .tc main_v34_4)) = V0 (Proc.devRef .tc main_v34_4) :=
  (val8_keep V0 main_v34_4 (by decide)).trans (val7_main_v34_4 V0)
theorem val8_main_v34_0 (V0 : Valuation τ sig (Elt F)) : val8 V0 (no_index (Proc.devRef .tc main_v34_0)) = V0 (Proc.devRef .tc main_v34_0) :=
  (val8_keep V0 main_v34_0 (by decide)).trans (val7_main_v34_0 V0)
theorem val8_main_v34_1 (V0 : Valuation τ sig (Elt F)) : val8 V0 (no_index (Proc.devRef .tc main_v34_1)) = V0 (Proc.devRef .tc main_v34_1) :=
  (val8_keep V0 main_v34_1 (by decide)).trans (val7_main_v34_1 V0)
theorem val8_main_v34_5 (V0 : Valuation τ sig (Elt F)) : val8 V0 (no_index (Proc.devRef .tc main_v34_5)) = V0 (Proc.devRef .tc main_v34_5) :=
  (val8_keep V0 main_v34_5 (by decide)).trans (val7_main_v34_5 V0)
theorem val8_main_v34_6 (V0 : Valuation τ sig (Elt F)) : val8 V0 (no_index (Proc.devRef .tc main_v34_6)) = V0 (Proc.devRef .tc main_v34_6) :=
  (val8_keep V0 main_v34_6 (by decide)).trans (val7_main_v34_6 V0)
theorem val8_main_v34_2 (V0 : Valuation τ sig (Elt F)) : val8 V0 (no_index (Proc.devRef .tc main_v34_2)) = V0 (Proc.devRef .tc main_v34_2) :=
  (val8_keep V0 main_v34_2 (by decide)).trans (val7_main_v34_2 V0)
theorem val8_main_while0b_v86 (V0 : Valuation τ sig (Elt F)) : val8 V0 (no_index (Proc.devRef .tc main_while0b_v86)) = addi (V0 (Proc.devRef .tc main_v34_3)) (constantI S_ 32 1#32) :=
  (val8_keep V0 main_while0b_v86 (by decide)).trans (val7_main_while0b_v86 V0)
theorem val8_main_while0b_v87 (V0 : Valuation τ sig (Elt F)) : val8 V0 (no_index (Proc.devRef .tc main_while0b_v87)) = res_main_while0b_v87 V0 :=
  (val8_keep V0 main_while0b_v87 (by decide)).trans (val7_main_while0b_v87 V0)
theorem val8_main_while0b_v103 (V0 : Valuation τ sig (Elt F)) : val8 V0 (no_index (Proc.devRef .tc main_while0b_v103)) = res_main_while0b_v103 V0 :=
  (val8_keep V0 main_while0b_v103 (by decide)).trans (val7_main_while0b_v103 V0)
set_option maxRecDepth 8192 in
set_option maxHeartbeats 1500000 in
theorem val8_main_while0b_v165 (V0 : Valuation τ sig (Elt F)) : val8 V0 (no_index (Proc.devRef .tc main_while0b_v165)) = cmpf .ogt (Host.divf (res_main_while0b_v134 V0) (addf (subf (addf (broadcastInDim S8x20000 ![0, 1] bcast_S8x1_S8x20000_0_1 (broadcastInDim S8x1 ![0] bcast_S8_S8x1_0 (mulf (subf (shapeCast S8 (extractStridedSlice S8x1 ![0, 2] (res_main_while0b_v117 V0) slices_S8x4_S8x1_0_2) shapeCasts_S8x1_S8) (shapeCast S8 (extractStridedSlice S8x1 ![0, 0] (res_main_while0b_v117 V0) slices_S8x4_S8x1_0_0) shapeCasts_S8x1_S8)) (subf (shapeCast S8 (extractStridedSlice S8x1 ![0, 3] (res_main_while0b_v117 V0) slices_S8x4_S8x1_0_3) shapeCasts_S8x1_S8) (shapeCast S8 (extractStridedSlice S8x1 ![0, 1] (res_main_while0b_v117 V0) slices_S8x4_S8x1_0_1) shapeCasts_S8x1_S8))))) (mulf (subf (shapeCast S8x20000 (extractStridedSlice S8x20000x1 ![0, 0, 2] (V0 (Proc.devRef .tc main_v34_1)) slices_S8x20000x4_S8x20000x1_0_0_2) shapeCasts_S8x20000x1_S8x20000) (shapeCast S8x20000 (extractStridedSlice S8x20000x1 ![0, 0, 0] (V0 (Proc.devRef .tc main_v34_1)) slices_S8x20000x4_S8x20000x1_0_0_0) shapeCasts_S8x20000x1_S8x20000)) (subf (shapeCast S8x20000 (extractStridedSlice S8x20000x1 ![0, 0, 3] (V0 (Proc.devRef .tc main_v34_1)) slices_S8x20000x4_S8x20000x1_0_0_3) shapeCasts_S8x20000x1_S8x20000) (shapeCast S8x20000 (extractStridedSlice S8x20000x1 ![0, 0, 1] (V0 (Proc.devRef .tc main_v34_1)) slices_S8x20000x4_S8x20000x1_0_0_1) shapeCasts_S8x20000x1_S8x20000)))) (res_main_while0b_v134 V0)) (broadcastInDim S8x20000 ![] bcast_S_S8x20000 (constant S_ .f32 0x3089705F#32)))) (broadcastInDim S8x20000 ![] bcast_S_S8x20000 (constant S_ .f32 0x3EE66666#32)) := by
  unfold val8
  simp only [trip_w7]
  after_results_entrywise [val7_main_while0b_v153, val7_main_while0b_v152, val7_main_while0b_v150, val7_main_while0b_v145, val7_main_while0b_v134, cast_eq]
set_option maxRecDepth 8192 in
set_option maxHeartbeats 1500000 in
theorem val8_main_while0b_cst_41 (V0 : Valuation τ sig (Elt F)) : val8 V0 (no_index (Proc.devRef .tc main_while0b_cst_41)) = constant S_ .f32 0xBF800000#32 := by
  unfold val8
  simp only [trip_w7]
  after_results_entrywise [cast_eq]

/-- The device's buffer contents after the body's first 9 windows. -/
def val9 (V0 : Valuation τ sig (Elt F)) : Valuation τ sig (Elt F) := after trip_w8 (val8 V0)
/-- A buffer that window `trip_w8` does not write keeps its contents through it. -/
theorem val9_keep (V0 : Valuation τ sig (Elt F)) (r : Ref sig .tc) (h : r ∉ trip_w8_W) :
    val9 V0 (Proc.devRef .tc r) = val8 V0 (Proc.devRef .tc r) :=
  after_of_writes_sub trip_w8 _ trip_w8_writes h
theorem val9_main_v34_3 (V0 : Valuation τ sig (Elt F)) : val9 V0 (no_index (Proc.devRef .tc main_v34_3)) = V0 (Proc.devRef .tc main_v34_3) :=
  (val9_keep V0 main_v34_3 (by decide)).trans (val8_main_v34_3 V0)
theorem val9_main_v34_4 (V0 : Valuation τ sig (Elt F)) : val9 V0 (no_index (Proc.devRef .tc main_v34_4)) = V0 (Proc.devRef .tc main_v34_4) :=
  (val9_keep V0 main_v34_4 (by decide)).trans (val8_main_v34_4 V0)
theorem val9_main_v34_0 (V0 : Valuation τ sig (Elt F)) : val9 V0 (no_index (Proc.devRef .tc main_v34_0)) = V0 (Proc.devRef .tc main_v34_0) :=
  (val9_keep V0 main_v34_0 (by decide)).trans (val8_main_v34_0 V0)
theorem val9_main_v34_1 (V0 : Valuation τ sig (Elt F)) : val9 V0 (no_index (Proc.devRef .tc main_v34_1)) = V0 (Proc.devRef .tc main_v34_1) :=
  (val9_keep V0 main_v34_1 (by decide)).trans (val8_main_v34_1 V0)
theorem val9_main_v34_5 (V0 : Valuation τ sig (Elt F)) : val9 V0 (no_index (Proc.devRef .tc main_v34_5)) = V0 (Proc.devRef .tc main_v34_5) :=
  (val9_keep V0 main_v34_5 (by decide)).trans (val8_main_v34_5 V0)
theorem val9_main_v34_6 (V0 : Valuation τ sig (Elt F)) : val9 V0 (no_index (Proc.devRef .tc main_v34_6)) = V0 (Proc.devRef .tc main_v34_6) :=
  (val9_keep V0 main_v34_6 (by decide)).trans (val8_main_v34_6 V0)
theorem val9_main_v34_2 (V0 : Valuation τ sig (Elt F)) : val9 V0 (no_index (Proc.devRef .tc main_v34_2)) = V0 (Proc.devRef .tc main_v34_2) :=
  (val9_keep V0 main_v34_2 (by decide)).trans (val8_main_v34_2 V0)
theorem val9_main_while0b_v86 (V0 : Valuation τ sig (Elt F)) : val9 V0 (no_index (Proc.devRef .tc main_while0b_v86)) = addi (V0 (Proc.devRef .tc main_v34_3)) (constantI S_ 32 1#32) :=
  (val9_keep V0 main_while0b_v86 (by decide)).trans (val8_main_while0b_v86 V0)
theorem val9_main_while0b_v87 (V0 : Valuation τ sig (Elt F)) : val9 V0 (no_index (Proc.devRef .tc main_while0b_v87)) = res_main_while0b_v87 V0 :=
  (val9_keep V0 main_while0b_v87 (by decide)).trans (val8_main_while0b_v87 V0)
theorem val9_main_while0b_v103 (V0 : Valuation τ sig (Elt F)) : val9 V0 (no_index (Proc.devRef .tc main_while0b_v103)) = res_main_while0b_v103 V0 :=
  (val9_keep V0 main_while0b_v103 (by decide)).trans (val8_main_while0b_v103 V0)
set_option maxRecDepth 8192 in
theorem val9_main_while0b_v166 (V0 : Valuation τ sig (Elt F)) : val9 V0 (no_index (Proc.devRef .tc main_while0b_v166)) = select (cmpf .ogt (Host.divf (res_main_while0b_v134 V0) (addf (subf (addf (broadcastInDim S8x20000 ![0, 1] bcast_S8x1_S8x20000_0_1 (broadcastInDim S8x1 ![0] bcast_S8_S8x1_0 (mulf (subf (shapeCast S8 (extractStridedSlice S8x1 ![0, 2] (res_main_while0b_v117 V0) slices_S8x4_S8x1_0_2) shapeCasts_S8x1_S8) (shapeCast S8 (extractStridedSlice S8x1 ![0, 0] (res_main_while0b_v117 V0) slices_S8x4_S8x1_0_0) shapeCasts_S8x1_S8)) (subf (shapeCast S8 (extractStridedSlice S8x1 ![0, 3] (res_main_while0b_v117 V0) slices_S8x4_S8x1_0_3) shapeCasts_S8x1_S8) (shapeCast S8 (extractStridedSlice S8x1 ![0, 1] (res_main_while0b_v117 V0) slices_S8x4_S8x1_0_1) shapeCasts_S8x1_S8))))) (mulf (subf (shapeCast S8x20000 (extractStridedSlice S8x20000x1 ![0, 0, 2] (V0 (Proc.devRef .tc main_v34_1)) slices_S8x20000x4_S8x20000x1_0_0_2) shapeCasts_S8x20000x1_S8x20000) (shapeCast S8x20000 (extractStridedSlice S8x20000x1 ![0, 0, 0] (V0 (Proc.devRef .tc main_v34_1)) slices_S8x20000x4_S8x20000x1_0_0_0) shapeCasts_S8x20000x1_S8x20000)) (subf (shapeCast S8x20000 (extractStridedSlice S8x20000x1 ![0, 0, 3] (V0 (Proc.devRef .tc main_v34_1)) slices_S8x20000x4_S8x20000x1_0_0_3) shapeCasts_S8x20000x1_S8x20000) (shapeCast S8x20000 (extractStridedSlice S8x20000x1 ![0, 0, 1] (V0 (Proc.devRef .tc main_v34_1)) slices_S8x20000x4_S8x20000x1_0_0_1) shapeCasts_S8x20000x1_S8x20000)))) (res_main_while0b_v134 V0)) (broadcastInDim S8x20000 ![] bcast_S_S8x20000 (constant S_ .f32 0x3089705F#32)))) (broadcastInDim S8x20000 ![] bcast_S_S8x20000 (constant S_ .f32 0x3EE66666#32))) (broadcastInDim S8x20000 ![] bcast_S_S8x20000 (id (constant S_ .f32 0xBF800000#32))) (V0 (Proc.devRef .tc main_v34_4)) := by
  unfold val9
  simp only [trip_w8]
  after_results_entrywise [val8_main_v34_4, val8_main_while0b_cst_41, val8_main_while0b_v165, cast_eq]

/-- The device's buffer contents after the body's first 10 windows. -/
def val10 (V0 : Valuation τ sig (Elt F)) : Valuation τ sig (Elt F) := after trip_w9 (val9 V0)
/-- A buffer that window `trip_w9` does not write keeps its contents through it. -/
theorem val10_keep (V0 : Valuation τ sig (Elt F)) (r : Ref sig .tc) (h : r ∉ trip_w9_W) :
    val10 V0 (Proc.devRef .tc r) = val9 V0 (Proc.devRef .tc r) :=
  after_of_writes_sub trip_w9 _ trip_w9_writes h
theorem val10_main_v34_3 (V0 : Valuation τ sig (Elt F)) : val10 V0 (no_index (Proc.devRef .tc main_v34_3)) = V0 (Proc.devRef .tc main_v34_3) :=
  (val10_keep V0 main_v34_3 (by decide)).trans (val9_main_v34_3 V0)
theorem val10_main_v34_4 (V0 : Valuation τ sig (Elt F)) : val10 V0 (no_index (Proc.devRef .tc main_v34_4)) = V0 (Proc.devRef .tc main_v34_4) :=
  (val10_keep V0 main_v34_4 (by decide)).trans (val9_main_v34_4 V0)
theorem val10_main_v34_0 (V0 : Valuation τ sig (Elt F)) : val10 V0 (no_index (Proc.devRef .tc main_v34_0)) = V0 (Proc.devRef .tc main_v34_0) :=
  (val10_keep V0 main_v34_0 (by decide)).trans (val9_main_v34_0 V0)
theorem val10_main_v34_1 (V0 : Valuation τ sig (Elt F)) : val10 V0 (no_index (Proc.devRef .tc main_v34_1)) = V0 (Proc.devRef .tc main_v34_1) :=
  (val10_keep V0 main_v34_1 (by decide)).trans (val9_main_v34_1 V0)
theorem val10_main_v34_5 (V0 : Valuation τ sig (Elt F)) : val10 V0 (no_index (Proc.devRef .tc main_v34_5)) = V0 (Proc.devRef .tc main_v34_5) :=
  (val10_keep V0 main_v34_5 (by decide)).trans (val9_main_v34_5 V0)
theorem val10_main_v34_6 (V0 : Valuation τ sig (Elt F)) : val10 V0 (no_index (Proc.devRef .tc main_v34_6)) = V0 (Proc.devRef .tc main_v34_6) :=
  (val10_keep V0 main_v34_6 (by decide)).trans (val9_main_v34_6 V0)
theorem val10_main_v34_2 (V0 : Valuation τ sig (Elt F)) : val10 V0 (no_index (Proc.devRef .tc main_v34_2)) = V0 (Proc.devRef .tc main_v34_2) :=
  (val10_keep V0 main_v34_2 (by decide)).trans (val9_main_v34_2 V0)
theorem val10_main_while0b_v86 (V0 : Valuation τ sig (Elt F)) : val10 V0 (no_index (Proc.devRef .tc main_while0b_v86)) = addi (V0 (Proc.devRef .tc main_v34_3)) (constantI S_ 32 1#32) :=
  (val10_keep V0 main_while0b_v86 (by decide)).trans (val9_main_while0b_v86 V0)
theorem val10_main_while0b_v87 (V0 : Valuation τ sig (Elt F)) : val10 V0 (no_index (Proc.devRef .tc main_while0b_v87)) = res_main_while0b_v87 V0 :=
  (val10_keep V0 main_while0b_v87 (by decide)).trans (val9_main_while0b_v87 V0)
theorem val10_main_while0b_v103 (V0 : Valuation τ sig (Elt F)) : val10 V0 (no_index (Proc.devRef .tc main_while0b_v103)) = res_main_while0b_v103 V0 :=
  (val10_keep V0 main_while0b_v103 (by decide)).trans (val9_main_while0b_v103 V0)
set_option maxRecDepth 8192 in
set_option maxHeartbeats 2000000 in
theorem val10_main_while0b_v181 (V0 : Valuation τ sig (Elt F)) : val10 V0 (no_index (Proc.devRef .tc main_while0b_v181)) = Host.scatter scatter_S8x20000_S8x2_S8_n_01_01_1 (fun _ b => b) (select (cmpf .ogt (Host.divf (res_main_while0b_v134 V0) (addf (subf (addf (broadcastInDim S8x20000 ![0, 1] bcast_S8x1_S8x20000_0_1 (broadcastInDim S8x1 ![0] bcast_S8_S8x1_0 (mulf (subf (shapeCast S8 (extractStridedSlice S8x1 ![0, 2] (res_main_while0b_v117 V0) slices_S8x4_S8x1_0_2) shapeCasts_S8x1_S8) (shapeCast S8 (extractStridedSlice S8x1 ![0, 0] (res_main_while0b_v117 V0) slices_S8x4_S8x1_0_0) shapeCasts_S8x1_S8)) (subf (shapeCast S8 (extractStridedSlice S8x1 ![0, 3] (res_main_while0b_v117 V0) slices_S8x4_S8x1_0_3) shapeCasts_S8x1_S8) (shapeCast S8 (extractStridedSlice S8x1 ![0, 1] (res_main_while0b_v117 V0) slices_S8x4_S8x1_0_1) shapeCasts_S8x1_S8))))) (mulf (subf (shapeCast S8x20000 (extractStridedSlice S8x20000x1 ![0, 0, 2] (V0 (Proc.devRef .tc main_v34_1)) slices_S8x20000x4_S8x20000x1_0_0_2) shapeCasts_S8x20000x1_S8x20000) (shapeCast S8x20000 (extractStridedSlice S8x20000x1 ![0, 0, 0] (V0 (Proc.devRef .tc main_v34_1)) slices_S8x20000x4_S8x20000x1_0_0_0) shapeCasts_S8x20000x1_S8x20000)) (subf (shapeCast S8x20000 (extractStridedSlice S8x20000x1 ![0, 0, 3] (V0 (Proc.devRef .tc main_v34_1)) slices_S8x20000x4_S8x20000x1_0_0_3) shapeCasts_S8x20000x1_S8x20000) (shapeCast S8x20000 (extractStridedSlice S8x20000x1 ![0, 0, 1] (V0 (Proc.devRef .tc main_v34_1)) slices_S8x20000x4_S8x20000x1_0_0_1) shapeCasts_S8x20000x1_S8x20000)))) (res_main_while0b_v134 V0)) (broadcastInDim S8x20000 ![] bcast_S_S8x20000 (constant S_ .f32 0x3089705F#32)))) (broadcastInDim S8x20000 ![] bcast_S_S8x20000 (constant S_ .f32 0x3EE66666#32))) (broadcastInDim S8x20000 ![] bcast_S_S8x20000 (id (constant S_ .f32 0xBF800000#32))) (V0 (Proc.devRef .tc main_v34_4))) (concatenate S8x2 1 [⟨S8x1, (broadcastInDim S8x1 ![0] bcast_S8_S8x1_0 (select (cmpi .slt (V0 (Proc.devRef .tc main_v34_0)) (broadcastInDim S8 ![] bcast_S_S8 (constantI S_ 32 0#32))) (addi (V0 (Proc.devRef .tc main_v34_0)) (broadcastInDim S8 ![] bcast_S_S8 (constantI S_ 32 8#32))) (V0 (Proc.devRef .tc main_v34_0))))⟩, ⟨S8x1, (broadcastInDim S8x1 ![0] bcast_S8_S8x1_0 (select (cmpi .slt (res_main_while0b_v87 V0) (broadcastInDim S8 ![] bcast_S_S8 (constantI S_ 32 0#32))) (addi (res_main_while0b_v87 V0) (broadcastInDim S8 ![] bcast_S_S8 (constantI S_ 32 20000#32))) (res_main_while0b_v87 V0)))⟩] concatenates_S8x1_S8x1_S8x2_d1) (broadcastInDim S8 ![] bcast_S_S8 (constant S_ .f32 0xBF800000#32)) := by
  unfold val10
  simp only [trip_w9]
  after_results_entrywise [val9_main_while0b_v87, val9_main_v34_0, val9_main_while0b_v166, cast_eq]
set_option maxRecDepth 8192 in
set_option maxHeartbeats 2000000 in
theorem val10_main_while0b_v182 (V0 : Valuation τ sig (Elt F)) : val10 V0 (no_index (Proc.devRef .tc main_while0b_v182)) = broadcastInDim S8x1 ![0] bcast_S8_S8x1_0 (res_main_while0b_v103 V0) := by
  unfold val10
  simp only [trip_w9]
  after_results_entrywise [val9_main_while0b_v103, cast_eq]

/-- The device's buffer contents after the body's first 11 windows. -/
def val11 (V0 : Valuation τ sig (Elt F)) : Valuation τ sig (Elt F) := after trip_w10 (val10 V0)
/-- A buffer that window `trip_w10` does not write keeps its contents through it. -/
theorem val11_keep (V0 : Valuation τ sig (Elt F)) (r : Ref sig .tc) (h : r ∉ trip_w10_W) :
    val11 V0 (Proc.devRef .tc r) = val10 V0 (Proc.devRef .tc r) :=
  after_of_writes_sub trip_w10 _ trip_w10_writes h
theorem val11_main_v34_3 (V0 : Valuation τ sig (Elt F)) : val11 V0 (no_index (Proc.devRef .tc main_v34_3)) = V0 (Proc.devRef .tc main_v34_3) :=
  (val11_keep V0 main_v34_3 (by decide)).trans (val10_main_v34_3 V0)
theorem val11_main_v34_4 (V0 : Valuation τ sig (Elt F)) : val11 V0 (no_index (Proc.devRef .tc main_v34_4)) = V0 (Proc.devRef .tc main_v34_4) :=
  (val11_keep V0 main_v34_4 (by decide)).trans (val10_main_v34_4 V0)
theorem val11_main_v34_0 (V0 : Valuation τ sig (Elt F)) : val11 V0 (no_index (Proc.devRef .tc main_v34_0)) = V0 (Proc.devRef .tc main_v34_0) :=
  (val11_keep V0 main_v34_0 (by decide)).trans (val10_main_v34_0 V0)
theorem val11_main_v34_1 (V0 : Valuation τ sig (Elt F)) : val11 V0 (no_index (Proc.devRef .tc main_v34_1)) = V0 (Proc.devRef .tc main_v34_1) :=
  (val11_keep V0 main_v34_1 (by decide)).trans (val10_main_v34_1 V0)
theorem val11_main_v34_5 (V0 : Valuation τ sig (Elt F)) : val11 V0 (no_index (Proc.devRef .tc main_v34_5)) = V0 (Proc.devRef .tc main_v34_5) :=
  (val11_keep V0 main_v34_5 (by decide)).trans (val10_main_v34_5 V0)
theorem val11_main_v34_6 (V0 : Valuation τ sig (Elt F)) : val11 V0 (no_index (Proc.devRef .tc main_v34_6)) = V0 (Proc.devRef .tc main_v34_6) :=
  (val11_keep V0 main_v34_6 (by decide)).trans (val10_main_v34_6 V0)
theorem val11_main_v34_2 (V0 : Valuation τ sig (Elt F)) : val11 V0 (no_index (Proc.devRef .tc main_v34_2)) = V0 (Proc.devRef .tc main_v34_2) :=
  (val11_keep V0 main_v34_2 (by decide)).trans (val10_main_v34_2 V0)
theorem val11_main_while0b_v86 (V0 : Valuation τ sig (Elt F)) : val11 V0 (no_index (Proc.devRef .tc main_while0b_v86)) = addi (V0 (Proc.devRef .tc main_v34_3)) (constantI S_ 32 1#32) :=
  (val11_keep V0 main_while0b_v86 (by decide)).trans (val10_main_while0b_v86 V0)
theorem val11_main_while0b_v87 (V0 : Valuation τ sig (Elt F)) : val11 V0 (no_index (Proc.devRef .tc main_while0b_v87)) = res_main_while0b_v87 V0 :=
  (val11_keep V0 main_while0b_v87 (by decide)).trans (val10_main_while0b_v87 V0)
theorem val11_main_while0b_v103 (V0 : Valuation τ sig (Elt F)) : val11 V0 (no_index (Proc.devRef .tc main_while0b_v103)) = res_main_while0b_v103 V0 :=
  (val11_keep V0 main_while0b_v103 (by decide)).trans (val10_main_while0b_v103 V0)
set_option maxRecDepth 8192 in
theorem val11_main_while0b_v183 (V0 : Valuation τ sig (Elt F)) : val11 V0 (no_index (Proc.devRef .tc main_while0b_v183)) = select (broadcastInDim S8x20000 ![0, 1] bcast_S8x1_S8x20000_0_1 (broadcastInDim S8x1 ![0] bcast_S8_S8x1_0 (res_main_while0b_v103 V0))) (Host.scatter scatter_S8x20000_S8x2_S8_n_01_01_1 (fun _ b => b) (select (cmpf .ogt (Host.divf (res_main_while0b_v134 V0) (addf (subf (addf (broadcastInDim S8x20000 ![0, 1] bcast_S8x1_S8x20000_0_1 (broadcastInDim S8x1 ![0] bcast_S8_S8x1_0 (mulf (subf (shapeCast S8 (extractStridedSlice S8x1 ![0, 2] (res_main_while0b_v117 V0) slices_S8x4_S8x1_0_2) shapeCasts_S8x1_S8) (shapeCast S8 (extractStridedSlice S8x1 ![0, 0] (res_main_while0b_v117 V0) slices_S8x4_S8x1_0_0) shapeCasts_S8x1_S8)) (subf (shapeCast S8 (extractStridedSlice S8x1 ![0, 3] (res_main_while0b_v117 V0) slices_S8x4_S8x1_0_3) shapeCasts_S8x1_S8) (shapeCast S8 (extractStridedSlice S8x1 ![0, 1] (res_main_while0b_v117 V0) slices_S8x4_S8x1_0_1) shapeCasts_S8x1_S8))))) (mulf (subf (shapeCast S8x20000 (extractStridedSlice S8x20000x1 ![0, 0, 2] (V0 (Proc.devRef .tc main_v34_1)) slices_S8x20000x4_S8x20000x1_0_0_2) shapeCasts_S8x20000x1_S8x20000) (shapeCast S8x20000 (extractStridedSlice S8x20000x1 ![0, 0, 0] (V0 (Proc.devRef .tc main_v34_1)) slices_S8x20000x4_S8x20000x1_0_0_0) shapeCasts_S8x20000x1_S8x20000)) (subf (shapeCast S8x20000 (extractStridedSlice S8x20000x1 ![0, 0, 3] (V0 (Proc.devRef .tc main_v34_1)) slices_S8x20000x4_S8x20000x1_0_0_3) shapeCasts_S8x20000x1_S8x20000) (shapeCast S8x20000 (extractStridedSlice S8x20000x1 ![0, 0, 1] (V0 (Proc.devRef .tc main_v34_1)) slices_S8x20000x4_S8x20000x1_0_0_1) shapeCasts_S8x20000x1_S8x20000)))) (res_main_while0b_v134 V0)) (broadcastInDim S8x20000 ![] bcast_S_S8x20000 (constant S_ .f32 0x3089705F#32)))) (broadcastInDim S8x20000 ![] bcast_S_S8x20000 (constant S_ .f32 0x3EE66666#32))) (broadcastInDim S8x20000 ![] bcast_S_S8x20000 (id (constant S_ .f32 0xBF800000#32))) (V0 (Proc.devRef .tc main_v34_4))) (concatenate S8x2 1 [⟨S8x1, (broadcastInDim S8x1 ![0] bcast_S8_S8x1_0 (select (cmpi .slt (V0 (Proc.devRef .tc main_v34_0)) (broadcastInDim S8 ![] bcast_S_S8 (constantI S_ 32 0#32))) (addi (V0 (Proc.devRef .tc main_v34_0)) (broadcastInDim S8 ![] bcast_S_S8 (constantI S_ 32 8#32))) (V0 (Proc.devRef .tc main_v34_0))))⟩, ⟨S8x1, (broadcastInDim S8x1 ![0] bcast_S8_S8x1_0 (select (cmpi .slt (res_main_while0b_v87 V0) (broadcastInDim S8 ![] bcast_S_S8 (constantI S_ 32 0#32))) (addi (res_main_while0b_v87 V0) (broadcastInDim S8 ![] bcast_S_S8 (constantI S_ 32 20000#32))) (res_main_while0b_v87 V0)))⟩] concatenates_S8x1_S8x1_S8x2_d1) (broadcastInDim S8 ![] bcast_S_S8 (constant S_ .f32 0xBF800000#32))) (V0 (Proc.devRef .tc main_v34_4)) := by
  unfold val11
  simp only [trip_w10]
  after_results_entrywise [val10_main_v34_4, val10_main_while0b_v181, val10_main_while0b_v182, cast_eq]

/-- The device's buffer contents after the body's first 12 windows. -/
def val12 (V0 : Valuation τ sig (Elt F)) : Valuation τ sig (Elt F) := after trip_w11 (val11 V0)
/-- A buffer that window `trip_w11` does not write keeps its contents through it. -/
theorem val12_keep (V0 : Valuation τ sig (Elt F)) (r : Ref sig .tc) (h : r ∉ trip_w11_W) :
    val12 V0 (Proc.devRef .tc r) = val11 V0 (Proc.devRef .tc r) :=
  after_of_writes_sub trip_w11 _ trip_w11_writes h
theorem val12_main_v34_3 (V0 : Valuation τ sig (Elt F)) : val12 V0 (no_index (Proc.devRef .tc main_v34_3)) = V0 (Proc.devRef .tc main_v34_3) :=
  (val12_keep V0 main_v34_3 (by decide)).trans (val11_main_v34_3 V0)
theorem val12_main_v34_4 (V0 : Valuation τ sig (Elt F)) : val12 V0 (no_index (Proc.devRef .tc main_v34_4)) = V0 (Proc.devRef .tc main_v34_4) :=
  (val12_keep V0 main_v34_4 (by decide)).trans (val11_main_v34_4 V0)
theorem val12_main_v34_0 (V0 : Valuation τ sig (Elt F)) : val12 V0 (no_index (Proc.devRef .tc main_v34_0)) = V0 (Proc.devRef .tc main_v34_0) :=
  (val12_keep V0 main_v34_0 (by decide)).trans (val11_main_v34_0 V0)
theorem val12_main_v34_1 (V0 : Valuation τ sig (Elt F)) : val12 V0 (no_index (Proc.devRef .tc main_v34_1)) = V0 (Proc.devRef .tc main_v34_1) :=
  (val12_keep V0 main_v34_1 (by decide)).trans (val11_main_v34_1 V0)
theorem val12_main_v34_5 (V0 : Valuation τ sig (Elt F)) : val12 V0 (no_index (Proc.devRef .tc main_v34_5)) = V0 (Proc.devRef .tc main_v34_5) :=
  (val12_keep V0 main_v34_5 (by decide)).trans (val11_main_v34_5 V0)
theorem val12_main_v34_6 (V0 : Valuation τ sig (Elt F)) : val12 V0 (no_index (Proc.devRef .tc main_v34_6)) = V0 (Proc.devRef .tc main_v34_6) :=
  (val12_keep V0 main_v34_6 (by decide)).trans (val11_main_v34_6 V0)
theorem val12_main_v34_2 (V0 : Valuation τ sig (Elt F)) : val12 V0 (no_index (Proc.devRef .tc main_v34_2)) = V0 (Proc.devRef .tc main_v34_2) :=
  (val12_keep V0 main_v34_2 (by decide)).trans (val11_main_v34_2 V0)
theorem val12_main_while0b_v86 (V0 : Valuation τ sig (Elt F)) : val12 V0 (no_index (Proc.devRef .tc main_while0b_v86)) = addi (V0 (Proc.devRef .tc main_v34_3)) (constantI S_ 32 1#32) :=
  (val12_keep V0 main_while0b_v86 (by decide)).trans (val11_main_while0b_v86 V0)
theorem val12_main_while0b_v183 (V0 : Valuation τ sig (Elt F)) : val12 V0 (no_index (Proc.devRef .tc main_while0b_v183)) = select (broadcastInDim S8x20000 ![0, 1] bcast_S8x1_S8x20000_0_1 (broadcastInDim S8x1 ![0] bcast_S8_S8x1_0 (res_main_while0b_v103 V0))) (Host.scatter scatter_S8x20000_S8x2_S8_n_01_01_1 (fun _ b => b) (select (cmpf .ogt (Host.divf (res_main_while0b_v134 V0) (addf (subf (addf (broadcastInDim S8x20000 ![0, 1] bcast_S8x1_S8x20000_0_1 (broadcastInDim S8x1 ![0] bcast_S8_S8x1_0 (mulf (subf (shapeCast S8 (extractStridedSlice S8x1 ![0, 2] (res_main_while0b_v117 V0) slices_S8x4_S8x1_0_2) shapeCasts_S8x1_S8) (shapeCast S8 (extractStridedSlice S8x1 ![0, 0] (res_main_while0b_v117 V0) slices_S8x4_S8x1_0_0) shapeCasts_S8x1_S8)) (subf (shapeCast S8 (extractStridedSlice S8x1 ![0, 3] (res_main_while0b_v117 V0) slices_S8x4_S8x1_0_3) shapeCasts_S8x1_S8) (shapeCast S8 (extractStridedSlice S8x1 ![0, 1] (res_main_while0b_v117 V0) slices_S8x4_S8x1_0_1) shapeCasts_S8x1_S8))))) (mulf (subf (shapeCast S8x20000 (extractStridedSlice S8x20000x1 ![0, 0, 2] (V0 (Proc.devRef .tc main_v34_1)) slices_S8x20000x4_S8x20000x1_0_0_2) shapeCasts_S8x20000x1_S8x20000) (shapeCast S8x20000 (extractStridedSlice S8x20000x1 ![0, 0, 0] (V0 (Proc.devRef .tc main_v34_1)) slices_S8x20000x4_S8x20000x1_0_0_0) shapeCasts_S8x20000x1_S8x20000)) (subf (shapeCast S8x20000 (extractStridedSlice S8x20000x1 ![0, 0, 3] (V0 (Proc.devRef .tc main_v34_1)) slices_S8x20000x4_S8x20000x1_0_0_3) shapeCasts_S8x20000x1_S8x20000) (shapeCast S8x20000 (extractStridedSlice S8x20000x1 ![0, 0, 1] (V0 (Proc.devRef .tc main_v34_1)) slices_S8x20000x4_S8x20000x1_0_0_1) shapeCasts_S8x20000x1_S8x20000)))) (res_main_while0b_v134 V0)) (broadcastInDim S8x20000 ![] bcast_S_S8x20000 (constant S_ .f32 0x3089705F#32)))) (broadcastInDim S8x20000 ![] bcast_S_S8x20000 (constant S_ .f32 0x3EE66666#32))) (broadcastInDim S8x20000 ![] bcast_S_S8x20000 (id (constant S_ .f32 0xBF800000#32))) (V0 (Proc.devRef .tc main_v34_4))) (concatenate S8x2 1 [⟨S8x1, (broadcastInDim S8x1 ![0] bcast_S8_S8x1_0 (select (cmpi .slt (V0 (Proc.devRef .tc main_v34_0)) (broadcastInDim S8 ![] bcast_S_S8 (constantI S_ 32 0#32))) (addi (V0 (Proc.devRef .tc main_v34_0)) (broadcastInDim S8 ![] bcast_S_S8 (constantI S_ 32 8#32))) (V0 (Proc.devRef .tc main_v34_0))))⟩, ⟨S8x1, (broadcastInDim S8x1 ![0] bcast_S8_S8x1_0 (select (cmpi .slt (res_main_while0b_v87 V0) (broadcastInDim S8 ![] bcast_S_S8 (constantI S_ 32 0#32))) (addi (res_main_while0b_v87 V0) (broadcastInDim S8 ![] bcast_S_S8 (constantI S_ 32 20000#32))) (res_main_while0b_v87 V0)))⟩] concatenates_S8x1_S8x1_S8x2_d1) (broadcastInDim S8 ![] bcast_S_S8 (constant S_ .f32 0xBF800000#32))) (V0 (Proc.devRef .tc main_v34_4)) :=
  (val12_keep V0 main_while0b_v183 (by decide)).trans (val11_main_while0b_v183 V0)
set_option maxRecDepth 8192 in
set_option maxHeartbeats 1600000 in
theorem val12_main_while0b_v189 (V0 : Valuation τ sig (Elt F)) : val12 V0 (no_index (Proc.devRef .tc main_while0b_v189)) = Host.scatter scatter_S8x1000_S1_S8_0_1_1_0 (fun _ b => b) (V0 (Proc.devRef .tc main_v34_5)) (broadcastInDim S1 ![] bcast_S_S1 (id (select (cmpi .slt (V0 (Proc.devRef .tc main_v34_3)) (constantI S_ 32 0#32)) (addi (V0 (Proc.devRef .tc main_v34_3)) (constantI S_ 32 1000#32)) (V0 (Proc.devRef .tc main_v34_3))))) (res_main_while0b_v87 V0) := by
  unfold val12
  simp only [trip_w11]
  after_results_entrywise [val11_main_while0b_v87, val11_main_v34_3, val11_main_v34_5, cast_eq]
set_option maxRecDepth 8192 in
set_option maxHeartbeats 1600000 in
theorem val12_main_while0b_v195 (V0 : Valuation τ sig (Elt F)) : val12 V0 (no_index (Proc.devRef .tc main_while0b_v195)) = Host.scatter scatter_S8x1000_S1_S8_0_1_1_0 (fun _ b => b) (V0 (Proc.devRef .tc main_v34_6)) (broadcastInDim S1 ![] bcast_S_S1 (id (select (cmpi .slt (V0 (Proc.devRef .tc main_v34_3)) (constantI S_ 32 0#32)) (addi (V0 (Proc.devRef .tc main_v34_3)) (constantI S_ 32 1000#32)) (V0 (Proc.devRef .tc main_v34_3))))) (res_main_while0b_v103 V0) := by
  unfold val12
  simp only [trip_w11]
  after_results_entrywise [val11_main_while0b_v103, val11_main_v34_3, val11_main_v34_6, cast_eq]

set_option maxRecDepth 8192 in
/-- The body's stretches, from any contents: the trip's windows in order, then `while0Ops0_8`'s step. -/
theorem trip_windows (V0 : Valuation τ sig (Elt F)) : after while0Ops0_8 (after while0Ops0_7 (after while0Ops0_6 (after while0Ops0_5 (after while0Ops0_4 (after while0Ops0_3 (after while0Ops0_2 (after while0Ops0_1 (after while0Ops0 (V0))))))))) = after while0Ops0_8_step (val12 V0) := by
  simp only [while0Ops0_cut, while0Ops0_1_cut, while0Ops0_2_cut, while0Ops0_3_cut, while0Ops0_4_cut, while0Ops0_5_cut, while0Ops0_6_cut, while0Ops0_7_cut, while0Ops0_8_cut, after_append]
  rfl

set_option maxRecDepth 8192 in
set_option maxHeartbeats 2000000 in
/-- `main_v34_0` after one trip's body, from any contents. -/
theorem trip_main_v34_0 (V0 : Valuation τ sig (Elt F)) : afterL bodyI V0 (no_index (Proc.devRef .tc main_v34_0)) = V0 (Proc.devRef .tc main_v34_0) := by
  simp only [bodyI, afterL_cons, afterL_nil, trip_windows]
  after_results
  all_goals (try simp only [val12_main_while0b_v86, val12_main_while0b_v183, val12_main_while0b_v189, val12_main_while0b_v195, val12_main_v34_0, val12_main_v34_1, val12_main_v34_2, val12_main_v34_3, val12_main_v34_4, val12_main_v34_5, val12_main_v34_6]) <;> rfl
set_option maxRecDepth 8192 in
set_option maxHeartbeats 2000000 in
/-- `main_v34_1` after one trip's body, from any contents. -/
theorem trip_main_v34_1 (V0 : Valuation τ sig (Elt F)) : afterL bodyI V0 (no_index (Proc.devRef .tc main_v34_1)) = V0 (Proc.devRef .tc main_v34_1) := by
  simp only [bodyI, afterL_cons, afterL_nil, trip_windows]
  after_results
  all_goals (try simp only [val12_main_while0b_v86, val12_main_while0b_v183, val12_main_while0b_v189, val12_main_while0b_v195, val12_main_v34_0, val12_main_v34_1, val12_main_v34_2, val12_main_v34_3, val12_main_v34_4, val12_main_v34_5, val12_main_v34_6]) <;> rfl
set_option maxRecDepth 8192 in
set_option maxHeartbeats 2000000 in
/-- `main_v34_2` after one trip's body, from any contents. -/
theorem trip_main_v34_2 (V0 : Valuation τ sig (Elt F)) : afterL bodyI V0 (no_index (Proc.devRef .tc main_v34_2)) = id (addi (V0 (Proc.devRef .tc main_v34_2)) (constantI S_ 32 1#32)) := by
  simp only [bodyI, afterL_cons, afterL_nil, trip_windows]
  after_results
  all_goals (try simp only [val12_main_while0b_v86, val12_main_while0b_v183, val12_main_while0b_v189, val12_main_while0b_v195, val12_main_v34_0, val12_main_v34_1, val12_main_v34_2, val12_main_v34_3, val12_main_v34_4, val12_main_v34_5, val12_main_v34_6]) <;> rfl
set_option maxRecDepth 8192 in
set_option maxHeartbeats 2000000 in
/-- `main_v34_3` after one trip's body, from any contents. -/
theorem trip_main_v34_3 (V0 : Valuation τ sig (Elt F)) : afterL bodyI V0 (no_index (Proc.devRef .tc main_v34_3)) = id (addi (V0 (Proc.devRef .tc main_v34_3)) (constantI S_ 32 1#32)) := by
  simp only [bodyI, afterL_cons, afterL_nil, trip_windows]
  after_results
  all_goals (try simp only [val12_main_while0b_v86, val12_main_while0b_v183, val12_main_while0b_v189, val12_main_while0b_v195, val12_main_v34_0, val12_main_v34_1, val12_main_v34_2, val12_main_v34_3, val12_main_v34_4, val12_main_v34_5, val12_main_v34_6]) <;> rfl
set_option maxRecDepth 8192 in
set_option maxHeartbeats 2000000 in
/-- `main_v34_4` after one trip's body, from any contents. -/
theorem trip_main_v34_4 (V0 : Valuation τ sig (Elt F)) : afterL bodyI V0 (no_index (Proc.devRef .tc main_v34_4)) = id (select (broadcastInDim S8x20000 ![0, 1] bcast_S8x1_S8x20000_0_1 (broadcastInDim S8x1 ![0] bcast_S8_S8x1_0 (res_main_while0b_v103 V0))) (Host.scatter scatter_S8x20000_S8x2_S8_n_01_01_1 (fun _ b => b) (select (cmpf .ogt (Host.divf (res_main_while0b_v134 V0) (addf (subf (addf (broadcastInDim S8x20000 ![0, 1] bcast_S8x1_S8x20000_0_1 (broadcastInDim S8x1 ![0] bcast_S8_S8x1_0 (mulf (subf (shapeCast S8 (extractStridedSlice S8x1 ![0, 2] (res_main_while0b_v117 V0) slices_S8x4_S8x1_0_2) shapeCasts_S8x1_S8) (shapeCast S8 (extractStridedSlice S8x1 ![0, 0] (res_main_while0b_v117 V0) slices_S8x4_S8x1_0_0) shapeCasts_S8x1_S8)) (subf (shapeCast S8 (extractStridedSlice S8x1 ![0, 3] (res_main_while0b_v117 V0) slices_S8x4_S8x1_0_3) shapeCasts_S8x1_S8) (shapeCast S8 (extractStridedSlice S8x1 ![0, 1] (res_main_while0b_v117 V0) slices_S8x4_S8x1_0_1) shapeCasts_S8x1_S8))))) (mulf (subf (shapeCast S8x20000 (extractStridedSlice S8x20000x1 ![0, 0, 2] (V0 (Proc.devRef .tc main_v34_1)) slices_S8x20000x4_S8x20000x1_0_0_2) shapeCasts_S8x20000x1_S8x20000) (shapeCast S8x20000 (extractStridedSlice S8x20000x1 ![0, 0, 0] (V0 (Proc.devRef .tc main_v34_1)) slices_S8x20000x4_S8x20000x1_0_0_0) shapeCasts_S8x20000x1_S8x20000)) (subf (shapeCast S8x20000 (extractStridedSlice S8x20000x1 ![0, 0, 3] (V0 (Proc.devRef .tc main_v34_1)) slices_S8x20000x4_S8x20000x1_0_0_3) shapeCasts_S8x20000x1_S8x20000) (shapeCast S8x20000 (extractStridedSlice S8x20000x1 ![0, 0, 1] (V0 (Proc.devRef .tc main_v34_1)) slices_S8x20000x4_S8x20000x1_0_0_1) shapeCasts_S8x20000x1_S8x20000)))) (res_main_while0b_v134 V0)) (broadcastInDim S8x20000 ![] bcast_S_S8x20000 (constant S_ .f32 0x3089705F#32)))) (broadcastInDim S8x20000 ![] bcast_S_S8x20000 (constant S_ .f32 0x3EE66666#32))) (broadcastInDim S8x20000 ![] bcast_S_S8x20000 (id (constant S_ .f32 0xBF800000#32))) (V0 (Proc.devRef .tc main_v34_4))) (concatenate S8x2 1 [⟨S8x1, (broadcastInDim S8x1 ![0] bcast_S8_S8x1_0 (select (cmpi .slt (V0 (Proc.devRef .tc main_v34_0)) (broadcastInDim S8 ![] bcast_S_S8 (constantI S_ 32 0#32))) (addi (V0 (Proc.devRef .tc main_v34_0)) (broadcastInDim S8 ![] bcast_S_S8 (constantI S_ 32 8#32))) (V0 (Proc.devRef .tc main_v34_0))))⟩, ⟨S8x1, (broadcastInDim S8x1 ![0] bcast_S8_S8x1_0 (select (cmpi .slt (res_main_while0b_v87 V0) (broadcastInDim S8 ![] bcast_S_S8 (constantI S_ 32 0#32))) (addi (res_main_while0b_v87 V0) (broadcastInDim S8 ![] bcast_S_S8 (constantI S_ 32 20000#32))) (res_main_while0b_v87 V0)))⟩] concatenates_S8x1_S8x1_S8x2_d1) (broadcastInDim S8 ![] bcast_S_S8 (constant S_ .f32 0xBF800000#32))) (V0 (Proc.devRef .tc main_v34_4))) := by
  simp only [bodyI, afterL_cons, afterL_nil, trip_windows]
  after_results
  all_goals (try simp only [val12_main_while0b_v86, val12_main_while0b_v183, val12_main_while0b_v189, val12_main_while0b_v195, val12_main_v34_0, val12_main_v34_1, val12_main_v34_2, val12_main_v34_3, val12_main_v34_4, val12_main_v34_5, val12_main_v34_6]) <;> rfl
set_option maxRecDepth 8192 in
set_option maxHeartbeats 2000000 in
/-- `main_v34_5` after one trip's body, from any contents. -/
theorem trip_main_v34_5 (V0 : Valuation τ sig (Elt F)) : afterL bodyI V0 (no_index (Proc.devRef .tc main_v34_5)) = id (Host.scatter scatter_S8x1000_S1_S8_0_1_1_0 (fun _ b => b) (V0 (Proc.devRef .tc main_v34_5)) (broadcastInDim S1 ![] bcast_S_S1 (id (select (cmpi .slt (V0 (Proc.devRef .tc main_v34_3)) (constantI S_ 32 0#32)) (addi (V0 (Proc.devRef .tc main_v34_3)) (constantI S_ 32 1000#32)) (V0 (Proc.devRef .tc main_v34_3))))) (res_main_while0b_v87 V0)) := by
  simp only [bodyI, afterL_cons, afterL_nil, trip_windows]
  after_results
  all_goals (try simp only [val12_main_while0b_v86, val12_main_while0b_v183, val12_main_while0b_v189, val12_main_while0b_v195, val12_main_v34_0, val12_main_v34_1, val12_main_v34_2, val12_main_v34_3, val12_main_v34_4, val12_main_v34_5, val12_main_v34_6]) <;> rfl
set_option maxRecDepth 8192 in
set_option maxHeartbeats 2000000 in
/-- `main_v34_6` after one trip's body, from any contents. -/
theorem trip_main_v34_6 (V0 : Valuation τ sig (Elt F)) : afterL bodyI V0 (no_index (Proc.devRef .tc main_v34_6)) = id (Host.scatter scatter_S8x1000_S1_S8_0_1_1_0 (fun _ b => b) (V0 (Proc.devRef .tc main_v34_6)) (broadcastInDim S1 ![] bcast_S_S1 (id (select (cmpi .slt (V0 (Proc.devRef .tc main_v34_3)) (constantI S_ 32 0#32)) (addi (V0 (Proc.devRef .tc main_v34_3)) (constantI S_ 32 1000#32)) (V0 (Proc.devRef .tc main_v34_3))))) (res_main_while0b_v103 V0)) := by
  simp only [bodyI, afterL_cons, afterL_nil, trip_windows]
  after_results
  all_goals (try simp only [val12_main_while0b_v86, val12_main_while0b_v183, val12_main_while0b_v189, val12_main_while0b_v195, val12_main_v34_0, val12_main_v34_1, val12_main_v34_2, val12_main_v34_3, val12_main_v34_4, val12_main_v34_5, val12_main_v34_6]) <;> rfl

/-- The loop's carried buffers. -/
abbrev carriedRefs : List (Ref sig .tc) := [main_v34_0, main_v34_1, main_v34_2, main_v34_3, main_v34_4, main_v34_5, main_v34_6]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_call2_v0_congr {V0 V0' : Valuation τ sig (Elt F)} (h : Agree V0 V0') : res_main_while0b_call2_v0 V0 = res_main_while0b_call2_v0 V0' := by
  unfold res_main_while0b_call2_v0
  rfl
set_option maxRecDepth 8192 in
theorem res_main_while0b_call2_cst_congr {V0 V0' : Valuation τ sig (Elt F)} (h : Agree V0 V0') : res_main_while0b_call2_cst V0 = res_main_while0b_call2_cst V0' := by
  unfold res_main_while0b_call2_cst
  rfl
set_option maxRecDepth 8192 in
theorem res_main_while0b_call2_c_congr {V0 V0' : Valuation τ sig (Elt F)} (h : Agree V0 V0') : res_main_while0b_call2_c V0 = res_main_while0b_call2_c V0' := by
  unfold res_main_while0b_call2_c
  rfl
set_option maxRecDepth 8192 in
theorem res_main_while0b_v87_congr {V0 V0' : Valuation τ sig (Elt F)} (h : Agree V0 V0') : res_main_while0b_v87 V0 = res_main_while0b_v87 V0' := by
  unfold res_main_while0b_v87
  rw [res_main_while0b_call2_v0_congr h, res_main_while0b_call2_cst_congr h, res_main_while0b_call2_c_congr h, h main_v34_4 (by decide)]
set_option maxRecDepth 8192 in
theorem res_main_while0b_v103_congr {V0 V0' : Valuation τ sig (Elt F)} (h : Agree V0 V0') : res_main_while0b_v103 V0 = res_main_while0b_v103 V0' := by
  unfold res_main_while0b_v103
  rw [res_main_while0b_v87_congr h, h main_v34_4 (by decide), h main_v34_0 (by decide)]
set_option maxRecDepth 8192 in
theorem res_main_while0b_v117_congr {V0 V0' : Valuation τ sig (Elt F)} (h : Agree V0 V0') : res_main_while0b_v117 V0 = res_main_while0b_v117 V0' := by
  unfold res_main_while0b_v117
  rw [res_main_while0b_v87_congr h, h main_v34_1 (by decide), h main_v34_0 (by decide)]
set_option maxRecDepth 8192 in
theorem res_main_while0b_v129_congr {V0 V0' : Valuation τ sig (Elt F)} (h : Agree V0 V0') : res_main_while0b_v129 V0 = res_main_while0b_v129 V0' := by
  unfold res_main_while0b_v129
  rw [res_main_while0b_v117_congr h, h main_v34_1 (by decide)]
set_option maxRecDepth 8192 in
theorem res_main_while0b_v134_congr {V0 V0' : Valuation τ sig (Elt F)} (h : Agree V0 V0') : res_main_while0b_v134 V0 = res_main_while0b_v134 V0' := by
  unfold res_main_while0b_v134
  rw [res_main_while0b_v129_congr h]

set_option maxRecDepth 8192 in
/-- `main_v34_2` after one trip, of the contents before it. -/
def step_main_v34_2 (V0 : Valuation τ sig (Elt F)) : (Proc.devRef .tc main_v34_2 : DevRef τ sig).ty.Contents (Elt F) :=
  id (addi (V0 (Proc.devRef .tc main_v34_2)) (constantI S_ 32 1#32))
set_option maxRecDepth 8192 in
theorem step_main_v34_2_congr {V0 V0' : Valuation τ sig (Elt F)} (h : Agree V0 V0') : step_main_v34_2 V0 = step_main_v34_2 V0' := by
  unfold step_main_v34_2
  rw [h main_v34_2 (by decide)]
set_option maxRecDepth 8192 in
/-- `main_v34_3` after one trip, of the contents before it. -/
def step_main_v34_3 (V0 : Valuation τ sig (Elt F)) : (Proc.devRef .tc main_v34_3 : DevRef τ sig).ty.Contents (Elt F) :=
  id (addi (V0 (Proc.devRef .tc main_v34_3)) (constantI S_ 32 1#32))
set_option maxRecDepth 8192 in
theorem step_main_v34_3_congr {V0 V0' : Valuation τ sig (Elt F)} (h : Agree V0 V0') : step_main_v34_3 V0 = step_main_v34_3 V0' := by
  unfold step_main_v34_3
  rw [h main_v34_3 (by decide)]
set_option maxRecDepth 8192 in
/-- `main_v34_4` after one trip, of the contents before it. -/
def step_main_v34_4 (V0 : Valuation τ sig (Elt F)) : (Proc.devRef .tc main_v34_4 : DevRef τ sig).ty.Contents (Elt F) :=
  id (select (broadcastInDim S8x20000 ![0, 1] bcast_S8x1_S8x20000_0_1 (broadcastInDim S8x1 ![0] bcast_S8_S8x1_0 (res_main_while0b_v103 V0))) (Host.scatter scatter_S8x20000_S8x2_S8_n_01_01_1 (fun _ b => b) (select (cmpf .ogt (Host.divf (res_main_while0b_v134 V0) (addf (subf (addf (broadcastInDim S8x20000 ![0, 1] bcast_S8x1_S8x20000_0_1 (broadcastInDim S8x1 ![0] bcast_S8_S8x1_0 (mulf (subf (shapeCast S8 (extractStridedSlice S8x1 ![0, 2] (res_main_while0b_v117 V0) slices_S8x4_S8x1_0_2) shapeCasts_S8x1_S8) (shapeCast S8 (extractStridedSlice S8x1 ![0, 0] (res_main_while0b_v117 V0) slices_S8x4_S8x1_0_0) shapeCasts_S8x1_S8)) (subf (shapeCast S8 (extractStridedSlice S8x1 ![0, 3] (res_main_while0b_v117 V0) slices_S8x4_S8x1_0_3) shapeCasts_S8x1_S8) (shapeCast S8 (extractStridedSlice S8x1 ![0, 1] (res_main_while0b_v117 V0) slices_S8x4_S8x1_0_1) shapeCasts_S8x1_S8))))) (mulf (subf (shapeCast S8x20000 (extractStridedSlice S8x20000x1 ![0, 0, 2] (V0 (Proc.devRef .tc main_v34_1)) slices_S8x20000x4_S8x20000x1_0_0_2) shapeCasts_S8x20000x1_S8x20000) (shapeCast S8x20000 (extractStridedSlice S8x20000x1 ![0, 0, 0] (V0 (Proc.devRef .tc main_v34_1)) slices_S8x20000x4_S8x20000x1_0_0_0) shapeCasts_S8x20000x1_S8x20000)) (subf (shapeCast S8x20000 (extractStridedSlice S8x20000x1 ![0, 0, 3] (V0 (Proc.devRef .tc main_v34_1)) slices_S8x20000x4_S8x20000x1_0_0_3) shapeCasts_S8x20000x1_S8x20000) (shapeCast S8x20000 (extractStridedSlice S8x20000x1 ![0, 0, 1] (V0 (Proc.devRef .tc main_v34_1)) slices_S8x20000x4_S8x20000x1_0_0_1) shapeCasts_S8x20000x1_S8x20000)))) (res_main_while0b_v134 V0)) (broadcastInDim S8x20000 ![] bcast_S_S8x20000 (constant S_ .f32 0x3089705F#32)))) (broadcastInDim S8x20000 ![] bcast_S_S8x20000 (constant S_ .f32 0x3EE66666#32))) (broadcastInDim S8x20000 ![] bcast_S_S8x20000 (id (constant S_ .f32 0xBF800000#32))) (V0 (Proc.devRef .tc main_v34_4))) (concatenate S8x2 1 [⟨S8x1, (broadcastInDim S8x1 ![0] bcast_S8_S8x1_0 (select (cmpi .slt (V0 (Proc.devRef .tc main_v34_0)) (broadcastInDim S8 ![] bcast_S_S8 (constantI S_ 32 0#32))) (addi (V0 (Proc.devRef .tc main_v34_0)) (broadcastInDim S8 ![] bcast_S_S8 (constantI S_ 32 8#32))) (V0 (Proc.devRef .tc main_v34_0))))⟩, ⟨S8x1, (broadcastInDim S8x1 ![0] bcast_S8_S8x1_0 (select (cmpi .slt (res_main_while0b_v87 V0) (broadcastInDim S8 ![] bcast_S_S8 (constantI S_ 32 0#32))) (addi (res_main_while0b_v87 V0) (broadcastInDim S8 ![] bcast_S_S8 (constantI S_ 32 20000#32))) (res_main_while0b_v87 V0)))⟩] concatenates_S8x1_S8x1_S8x2_d1) (broadcastInDim S8 ![] bcast_S_S8 (constant S_ .f32 0xBF800000#32))) (V0 (Proc.devRef .tc main_v34_4)))
set_option maxRecDepth 8192 in
theorem step_main_v34_4_congr {V0 V0' : Valuation τ sig (Elt F)} (h : Agree V0 V0') : step_main_v34_4 V0 = step_main_v34_4 V0' := by
  unfold step_main_v34_4
  rw [res_main_while0b_v103_congr h, res_main_while0b_v134_congr h, res_main_while0b_v117_congr h, res_main_while0b_v87_congr h, h main_v34_1 (by decide), h main_v34_4 (by decide), h main_v34_0 (by decide)]
set_option maxRecDepth 8192 in
/-- `main_v34_5` after one trip, of the contents before it. -/
def step_main_v34_5 (V0 : Valuation τ sig (Elt F)) : (Proc.devRef .tc main_v34_5 : DevRef τ sig).ty.Contents (Elt F) :=
  id (Host.scatter scatter_S8x1000_S1_S8_0_1_1_0 (fun _ b => b) (V0 (Proc.devRef .tc main_v34_5)) (broadcastInDim S1 ![] bcast_S_S1 (id (select (cmpi .slt (V0 (Proc.devRef .tc main_v34_3)) (constantI S_ 32 0#32)) (addi (V0 (Proc.devRef .tc main_v34_3)) (constantI S_ 32 1000#32)) (V0 (Proc.devRef .tc main_v34_3))))) (res_main_while0b_v87 V0))
set_option maxRecDepth 8192 in
theorem step_main_v34_5_congr {V0 V0' : Valuation τ sig (Elt F)} (h : Agree V0 V0') : step_main_v34_5 V0 = step_main_v34_5 V0' := by
  unfold step_main_v34_5
  rw [res_main_while0b_v87_congr h, h main_v34_5 (by decide), h main_v34_3 (by decide)]
set_option maxRecDepth 8192 in
/-- `main_v34_6` after one trip, of the contents before it. -/
def step_main_v34_6 (V0 : Valuation τ sig (Elt F)) : (Proc.devRef .tc main_v34_6 : DevRef τ sig).ty.Contents (Elt F) :=
  id (Host.scatter scatter_S8x1000_S1_S8_0_1_1_0 (fun _ b => b) (V0 (Proc.devRef .tc main_v34_6)) (broadcastInDim S1 ![] bcast_S_S1 (id (select (cmpi .slt (V0 (Proc.devRef .tc main_v34_3)) (constantI S_ 32 0#32)) (addi (V0 (Proc.devRef .tc main_v34_3)) (constantI S_ 32 1000#32)) (V0 (Proc.devRef .tc main_v34_3))))) (res_main_while0b_v103 V0))
set_option maxRecDepth 8192 in
theorem step_main_v34_6_congr {V0 V0' : Valuation τ sig (Elt F)} (h : Agree V0 V0') : step_main_v34_6 V0 = step_main_v34_6 V0' := by
  unfold step_main_v34_6
  rw [res_main_while0b_v103_congr h, h main_v34_6 (by decide), h main_v34_3 (by decide)]

/-- ONE TRIP on the carried buffers: the buffers the body writes step, everything else is as it was. -/
def STEP (V0 : Valuation τ sig (Elt F)) : Valuation τ sig (Elt F) :=
  Function.update (Function.update (Function.update (Function.update (Function.update (V0) (Proc.devRef .tc main_v34_2) (step_main_v34_2 V0)) (Proc.devRef .tc main_v34_3) (step_main_v34_3 V0)) (Proc.devRef .tc main_v34_4) (step_main_v34_4 V0)) (Proc.devRef .tc main_v34_5) (step_main_v34_5 V0)) (Proc.devRef .tc main_v34_6) (step_main_v34_6 V0)

theorem STEP_main_v34_0 (V0 : Valuation τ sig (Elt F)) : STEP V0 (Proc.devRef .tc main_v34_0) = V0 (Proc.devRef .tc main_v34_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v34_1 (V0 : Valuation τ sig (Elt F)) : STEP V0 (Proc.devRef .tc main_v34_1) = V0 (Proc.devRef .tc main_v34_1) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v34_2 (V0 : Valuation τ sig (Elt F)) : STEP V0 (Proc.devRef .tc main_v34_2) = step_main_v34_2 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v34_3 (V0 : Valuation τ sig (Elt F)) : STEP V0 (Proc.devRef .tc main_v34_3) = step_main_v34_3 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v34_4 (V0 : Valuation τ sig (Elt F)) : STEP V0 (Proc.devRef .tc main_v34_4) = step_main_v34_4 V0 := by
  unfold STEP; rw [Function.update_of_ne (devRef_ne_of_ne (by decide))]; rw [Function.update_of_ne (devRef_ne_of_ne (by decide))]; rw [Function.update_self]
theorem STEP_main_v34_5 (V0 : Valuation τ sig (Elt F)) : STEP V0 (Proc.devRef .tc main_v34_5) = step_main_v34_5 V0 := by
  unfold STEP; rw [Function.update_of_ne (devRef_ne_of_ne (by decide))]; rw [Function.update_self]
theorem STEP_main_v34_6 (V0 : Valuation τ sig (Elt F)) : STEP V0 (Proc.devRef .tc main_v34_6) = step_main_v34_6 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v34_0 (after condOps X)).trans ((hc main_v34_0 (by decide)).trans (STEP_main_v34_0 X).symm)
  · exact (trip_main_v34_1 (after condOps X)).trans ((hc main_v34_1 (by decide)).trans (STEP_main_v34_1 X).symm)
  · exact (trip_main_v34_2 (after condOps X)).trans ((step_main_v34_2_congr hc).trans (STEP_main_v34_2 X).symm)
  · exact (trip_main_v34_3 (after condOps X)).trans ((step_main_v34_3_congr hc).trans (STEP_main_v34_3 X).symm)
  · exact (trip_main_v34_4 (after condOps X)).trans ((step_main_v34_4_congr hc).trans (STEP_main_v34_4 X).symm)
  · exact (trip_main_v34_5 (after condOps X)).trans ((step_main_v34_5_congr hc).trans (STEP_main_v34_5 X).symm)
  · exact (trip_main_v34_6 (after condOps X)).trans ((step_main_v34_6_congr hc).trans (STEP_main_v34_6 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v34_0, STEP_main_v34_0]; exact h main_v34_0 (by decide)
  · rw [STEP_main_v34_1, STEP_main_v34_1]; exact h main_v34_1 (by decide)
  · rw [STEP_main_v34_2, STEP_main_v34_2]; exact step_main_v34_2_congr h
  · rw [STEP_main_v34_3, STEP_main_v34_3]; exact step_main_v34_3_congr h
  · rw [STEP_main_v34_4, STEP_main_v34_4]; exact step_main_v34_4_congr h
  · rw [STEP_main_v34_5, STEP_main_v34_5]; exact step_main_v34_5_congr h
  · rw [STEP_main_v34_6, STEP_main_v34_6]; exact step_main_v34_6_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

end Cert.ReferenceIdeal.Value

end
-- ==== Proof.Ref.Pick.lean ====
/-
  The gathers, the scatters and the argmax of the reference, read at an element.
-/
module

public import proofs.«01_k».proof.Proof.Ref.Trip
public import Idealize.ShloMosaic.Lib.Pointwise
public import Idealize.ShloMosaic.Lib.Routing.OpsSet
public import Idealize.ShloMosaic.Lib.Routing.OpsOne
public import Idealize.ShloMosaic.Lib.Routing.OpsPair

@[expose] public section

set_option maxRecDepth 16384

namespace Cert.ReferenceIdeal.Nms

open Idealize.ShloMosaic Idealize.ShloMosaic.Routing
open Idealize.ShloMosaic.Pointwise Cert.ReferenceIdeal.Gen

variable [Facts]

/-- A gather at a result index is the operand at any index whose coordinates are the start, the batching and the offset coordinates summed. -/
theorem gather_at {α : Type} {s si t : Shape} {w : ℕ} (d : GatherDims s si t) (x : s.Idx → α) (idx : IVec si w) (j : t.Idx) (i : s.Idx)
    (h : ∀ a, d.start j idx a + d.batchCoord j a + d.offCoord j a = (i a).val) : Host.gather d x idx j = x i := by
  unfold Host.gather
  exact congrArg x (funext fun a => Fin.ext (h a))

/-- A word holding a small natural reads as it, signed. -/
theorem small_toInt {n : ℕ} (h : n < 2 ^ 31) : (BitVec.ofNat 32 n).toInt = n := StableHlo.Predicate.toInt_ofNat_small _ h

/-- One score per image: row `b`, column `n`. -/
theorem gather_score {α : Type} (x : S8x20000.Idx → α) (idx : IVec S8x2 32) (b : Fin 8) (n : Fin 20000)
    (h0 : idx (ix2 b 0) = BitVec.ofNat 32 b.val) (h1 : idx (ix2 b 1) = BitVec.ofNat 32 n.val) :
    Host.gather gather_S8x20000_S8x2_S8_n_01_n_n_01_1_11 x idx (ix1 b) = x (ix2 b n) := by
  have hb := b.isLt
  have hn := n.isLt
  refine gather_at _ x idx _ _ fun a => ?_
  match a with
  | ⟨0, _⟩ =>
    have e : (gather_S8x20000_S8x2_S8_n_01_n_n_01_1_11).siIdx (ix1 b) ⟨0, by decide⟩ = ix2 b 0 := by
      funext q; match q with | ⟨0, _⟩ => rfl | ⟨1, _⟩ => rfl
    show min (idx ((gather_S8x20000_S8x2_S8_n_01_n_n_01_1_11).siIdx (ix1 b) ⟨0, _⟩)).toInt.toNat (8 - 1) + 0 + 0 = b.val
    rw [e, h0, small_toInt (by omega)]; omega
  | ⟨1, _⟩ =>
    have e : (gather_S8x20000_S8x2_S8_n_01_n_n_01_1_11).siIdx (ix1 b) ⟨1, by decide⟩ = ix2 b 1 := by
      funext q; match q with | ⟨0, _⟩ => rfl | ⟨1, _⟩ => rfl
    show min (idx ((gather_S8x20000_S8x2_S8_n_01_n_n_01_1_11).siIdx (ix1 b) ⟨1, _⟩)).toInt.toNat (20000 - 1) + 0 + 0 = n.val
    rw [e, h1, small_toInt (by omega)]; omega

/-- One box per image: row `b`, box `n`. -/
theorem gather_box {α : Type} (x : S8x20000x4.Idx → α) (idx : IVec S8x2 32) (b : Fin 8) (n : Fin 20000) (k : Fin 4)
    (h0 : idx (ix2 b 0) = BitVec.ofNat 32 b.val) (h1 : idx (ix2 b 1) = BitVec.ofNat 32 n.val) :
    Host.gather gather_S8x20000x4_S8x2_S8x4_1_01_n_n_01_1_114 x idx (ix2 b k) = x (ix3 b n k) := by
  have hb := b.isLt
  have hn := n.isLt
  refine gather_at _ x idx _ _ fun a => ?_
  match a with
  | ⟨0, _⟩ =>
    have e : (gather_S8x20000x4_S8x2_S8x4_1_01_n_n_01_1_114).siIdx (ix2 b k) ⟨0, by decide⟩ = ix2 b 0 := by
      funext q; match q with | ⟨0, _⟩ => rfl | ⟨1, _⟩ => rfl
    show min (idx ((gather_S8x20000x4_S8x2_S8x4_1_01_n_n_01_1_114).siIdx (ix2 b k) ⟨0, _⟩)).toInt.toNat (8 - 1) + 0 + 0 = b.val
    rw [e, h0, small_toInt (by omega)]; omega
  | ⟨1, _⟩ =>
    have e : (gather_S8x20000x4_S8x2_S8x4_1_01_n_n_01_1_114).siIdx (ix2 b k) ⟨1, by decide⟩ = ix2 b 1 := by
      funext q; match q with | ⟨0, _⟩ => rfl | ⟨1, _⟩ => rfl
    show min (idx ((gather_S8x20000x4_S8x2_S8x4_1_01_n_n_01_1_114).siIdx (ix2 b k) ⟨1, _⟩)).toInt.toNat (20000 - 1) + 0 + 0 = n.val
    rw [e, h1, small_toInt (by omega)]; omega
  | ⟨2, _⟩ =>
    show 0 + 0 + k.val = k.val
    omega

/-- The kept scores: row `b`, column `n`. -/
theorem gather_scores {α : Type} (x : S8x20000.Idx → α) (idx : IVec S8x1000x2 32) (b : Fin 8) (i : Fin 1000) (n : Fin 20000)
    (h0 : idx (ix3 b i 0) = BitVec.ofNat 32 b.val) (h1 : idx (ix3 b i 1) = BitVec.ofNat 32 n.val) :
    Host.gather gather_S8x20000_S8x1000x2_S8x1000_n_01_n_n_01_2_11 x idx (ix2 b i) = x (ix2 b n) := by
  have hb := b.isLt
  have hn := n.isLt
  refine gather_at _ x idx _ _ fun a => ?_
  match a with
  | ⟨0, _⟩ =>
    have e : (gather_S8x20000_S8x1000x2_S8x1000_n_01_n_n_01_2_11).siIdx (ix2 b i) ⟨0, by decide⟩ = ix3 b i 0 := by
      funext q; match q with | ⟨0, _⟩ => rfl | ⟨1, _⟩ => rfl | ⟨2, _⟩ => rfl
    show min (idx ((gather_S8x20000_S8x1000x2_S8x1000_n_01_n_n_01_2_11).siIdx (ix2 b i) ⟨0, _⟩)).toInt.toNat (8 - 1) + 0 + 0 = b.val
    rw [e, h0, small_toInt (by omega)]; omega
  | ⟨1, _⟩ =>
    have e : (gather_S8x20000_S8x1000x2_S8x1000_n_01_n_n_01_2_11).siIdx (ix2 b i) ⟨1, by decide⟩ = ix3 b i 1 := by
      funext q; match q with | ⟨0, _⟩ => rfl | ⟨1, _⟩ => rfl | ⟨2, _⟩ => rfl
    show min (idx ((gather_S8x20000_S8x1000x2_S8x1000_n_01_n_n_01_2_11).siIdx (ix2 b i) ⟨1, _⟩)).toInt.toNat (20000 - 1) + 0 + 0 = n.val
    rw [e, h1, small_toInt (by omega)]; omega

/-- The kept boxes: row `b`, box `n`. -/
theorem gather_boxes {α : Type} (x : S8x20000x4.Idx → α) (idx : IVec S8x1000x2 32) (b : Fin 8) (i : Fin 1000) (n : Fin 20000) (k : Fin 4)
    (h0 : idx (ix3 b i 0) = BitVec.ofNat 32 b.val) (h1 : idx (ix3 b i 1) = BitVec.ofNat 32 n.val) :
    Host.gather gather_S8x20000x4_S8x1000x2_S8x1000x4_2_01_n_n_01_2_114 x idx (ix3 b i k) = x (ix3 b n k) := by
  have hb := b.isLt
  have hn := n.isLt
  refine gather_at _ x idx _ _ fun a => ?_
  match a with
  | ⟨0, _⟩ =>
    have e : (gather_S8x20000x4_S8x1000x2_S8x1000x4_2_01_n_n_01_2_114).siIdx (ix3 b i k) ⟨0, by decide⟩ = ix3 b i 0 := by
      funext q; match q with | ⟨0, _⟩ => rfl | ⟨1, _⟩ => rfl | ⟨2, _⟩ => rfl
    show min (idx ((gather_S8x20000x4_S8x1000x2_S8x1000x4_2_01_n_n_01_2_114).siIdx (ix3 b i k) ⟨0, _⟩)).toInt.toNat (8 - 1) + 0 + 0 = b.val
    rw [e, h0, small_toInt (by omega)]; omega
  | ⟨1, _⟩ =>
    have e : (gather_S8x20000x4_S8x1000x2_S8x1000x4_2_01_n_n_01_2_114).siIdx (ix3 b i k) ⟨1, by decide⟩ = ix3 b i 1 := by
      funext q; match q with | ⟨0, _⟩ => rfl | ⟨1, _⟩ => rfl | ⟨2, _⟩ => rfl
    show min (idx ((gather_S8x20000x4_S8x1000x2_S8x1000x4_2_01_n_n_01_2_114).siIdx (ix3 b i k) ⟨1, _⟩)).toInt.toNat (20000 - 1) + 0 + 0 = n.val
    rw [e, h1, small_toInt (by omega)]; omega
  | ⟨2, _⟩ =>
    show 0 + 0 + k.val = k.val
    omega

/-- Setting one column of a table: that column is the update, the rest the table. -/
theorem scatter_column {α : Type} (x : S8x1000.Idx → α) (idx : IVec S1 32) (u : S8.Idx → α) (k : Fin 1000)
    (hk : idx (ix1 0) = BitVec.ofNat 32 k.val) (b : Fin 8) (i : Fin 1000) :
    Host.scatter scatter_S8x1000_S1_S8_0_1_1_0 (fun _ v => v) x idx u (ix2 b i) = if i = k then u (ix1 b) else x (ix2 b i) := by
  have hkl := k.isLt
  have lands : ∀ w : Fin 8, (scatter_S8x1000_S1_S8_0_1_1_0).resultIdx? (ix1 w) idx = some (ix2 b i) ↔ w = b ∧ i = k := fun w =>
    lands_col (scatter_S8x1000_S1_S8_0_1_1_0) rfl rfl idx k ((congrArg BitVec.toInt hk).trans (small_toInt (by omega))) w b i
  have eta : ∀ j : S8.Idx, j = ix1 (j 0) := fun j => by funext a; match a with | ⟨0, _⟩ => rfl
  by_cases h : i = k
  · rw [if_pos h]
    refine scatter_set_hit _ x idx u _ _ (fun j hj => ?_) (ix1 b) ((lands b).2 ⟨rfl, h⟩)
    rw [eta j] at hj ⊢
    rw [((lands _).1 hj).1]; rfl
  · rw [if_neg h]
    refine scatter_set_miss _ x idx u _ fun j hj => ?_
    rw [eta j] at hj
    exact h ((lands _).1 hj).2

/-- Setting one entry per row of the scores. -/
theorem scatter_score {α : Type} (x : S8x20000.Idx → α) (idx : IVec S8x2 32) (u : S8.Idx → α) (n : Fin 8 → Fin 20000)
    (h0 : ∀ b, idx (ix2 b 0) = BitVec.ofNat 32 b.val) (h1 : ∀ b, idx (ix2 b 1) = BitVec.ofNat 32 (n b).val) (b : Fin 8) (q : Fin 20000) :
    Host.scatter scatter_S8x20000_S8x2_S8_n_01_01_1 (fun _ v => v) x idx u (ix2 b q) = if q = n b then u (ix1 b) else x (ix2 b q) := by
  have eta : ∀ j : S8.Idx, j = ix1 (j 0) := fun j => by funext a; match a with | ⟨0, _⟩ => rfl
  have lands : ∀ w : Fin 8, (scatter_S8x20000_S8x2_S8_n_01_01_1).resultIdx? (ix1 w) idx = some (ix2 b q) ↔ w = b ∧ q = n w := fun w => by
    have hw := w.isLt
    have hn := (n w).isLt
    have e0 : (scatter_S8x20000_S8x2_S8_n_01_01_1).siIdx (ix1 w) ⟨0, by decide⟩ = ix2 w 0 := by
      funext q; match q with | ⟨0, _⟩ => rfl | ⟨1, _⟩ => rfl
    have e1 : (scatter_S8x20000_S8x2_S8_n_01_01_1).siIdx (ix1 w) ⟨1, by decide⟩ = ix2 w 1 := by
      funext q; match q with | ⟨0, _⟩ => rfl | ⟨1, _⟩ => rfl
    have s0 : (scatter_S8x20000_S8x2_S8_n_01_01_1).start (ix1 w) idx 0 = (w.val : Int) := by
      show (idx ((scatter_S8x20000_S8x2_S8_n_01_01_1).siIdx (ix1 w) ⟨0, _⟩)).toInt = _
      rw [e0, h0, small_toInt (by omega)]
    have s1 : (scatter_S8x20000_S8x2_S8_n_01_01_1).start (ix1 w) idx 1 = ((n w).val : Int) := by
      show (idx ((scatter_S8x20000_S8x2_S8_n_01_01_1).siIdx (ix1 w) ⟨1, _⟩)).toInt = _
      rw [e1, h1, small_toInt (by omega)]
    have w0 : (scatter_S8x20000_S8x2_S8_n_01_01_1).window (ix1 w) 0 = 0 := rfl
    have w1 : (scatter_S8x20000_S8x2_S8_n_01_01_1).window (ix1 w) 1 = 0 := rfl
    have r := resultIdx?_ix2 (scatter_S8x20000_S8x2_S8_n_01_01_1) (ix1 w) idx b q
    rw [s0, s1, w0, w1] at r
    refine r.trans ?_
    rw [Fin.ext_iff, Fin.ext_iff]
    omega
  by_cases h : q = n b
  · rw [if_pos h]
    refine scatter_set_hit _ x idx u _ _ (fun j hj => ?_) (ix1 b) ((lands b).2 ⟨rfl, h⟩)
    rw [eta j] at hj ⊢
    rw [((lands _).1 hj).1]; rfl
  · rw [if_neg h]
    refine scatter_set_miss _ x idx u _ fun j hj => ?_
    rw [eta j] at hj
    obtain ⟨e, e'⟩ := (lands _).1 hj
    exact h (by rw [e', e])

/-! ## The argmax -/

/-- `r` beats `p`: a greater value, or the same value at no later an index. -/
def Beats (r p : EReal × BitVec 32) : Prop := p.1 < r.1 ∨ (p.1 = r.1 ∧ r.2.toInt ≤ p.2.toInt)

/-- A pair beats itself, in this sense. -/
theorem Beats.refl (p : EReal × BitVec 32) : Beats p p := Or.inr ⟨rfl, le_rfl⟩

/-- What beats a pair beats what that pair beats. -/
theorem Beats.trans {r p q : EReal × BitVec 32} (h : Beats r p) (h' : Beats p q) : Beats r q := by
  rcases h with h | ⟨h, e⟩ <;> rcases h' with h' | ⟨h', e'⟩
  · exact Or.inl (h'.trans h)
  · exact Or.inl (h' ▸ h)
  · exact Or.inl (h ▸ h')
  · exact Or.inr ⟨h'.trans h, e.trans e'⟩

/-- The reducer of two pairs is the one that beats the other. -/
theorem reducer_beats (a b : EReal × BitVec 32) :
    (reducer_argmax_f32_i32 (F := Ideal) a b = a ∧ Beats a b) ∨ (reducer_argmax_f32_i32 (F := Ideal) a b = b ∧ Beats b a) := by
  obtain ⟨x, i⟩ := a
  obtain ⟨y, j⟩ := b
  have e : reducer_argmax_f32_i32 (F := Ideal) (x, i) (y, j) = (if y < x then x else y, if y < x ∨ (x = y ∧ i.toInt < j.toInt) then i else j) := by
    have hs : IntOp.cmpi .slt i j = BitVec.ofBool (decide (i.toInt < j.toInt)) := by
      simp [IntOp.cmpi, BitVec.slt]
    unfold reducer_argmax_f32_i32
    simp only [hs]
    by_cases h1 : y < x <;> by_cases h2 : x = y <;> by_cases h3 : i.toInt < j.toInt <;>
      simp [h1, h2, h3, FloatOps.cmpf, Ideal.cmp, IntOp.ori, IntOp.andi, Scalar.select]
  rw [e]
  rcases lt_trichotomy x y with h | h | h
  · right
    refine ⟨?_, Or.inl h⟩
    rw [if_neg (not_lt.2 h.le), if_neg (fun q => q.elim (fun q => absurd h (not_lt.2 q.le)) fun q => absurd q.1 h.ne)]
  · subst h
    by_cases hij : i.toInt < j.toInt
    · left
      refine ⟨?_, Or.inr ⟨rfl, hij.le⟩⟩
      rw [if_neg (lt_irrefl _), if_pos (Or.inr ⟨rfl, hij⟩)]
    · right
      refine ⟨?_, Or.inr ⟨rfl, not_lt.1 hij⟩⟩
      rw [if_neg (lt_irrefl _), if_neg (fun q => q.elim (lt_irrefl _) fun q => hij q.2)]
  · left
    refine ⟨?_, Or.inl h⟩
    rw [if_pos h, if_pos (Or.inl h)]

/-- Reducing a list of pairs from a first one gives one of them that beats them all. -/
theorem fold_beats (L : List (EReal × BitVec 32)) : ∀ i0 : EReal × BitVec 32,
    (L.foldl (reducer_argmax_f32_i32 (F := Ideal)) i0 = i0 ∨ L.foldl (reducer_argmax_f32_i32 (F := Ideal)) i0 ∈ L)
      ∧ Beats (L.foldl (reducer_argmax_f32_i32 (F := Ideal)) i0) i0 ∧ ∀ p ∈ L, Beats (L.foldl (reducer_argmax_f32_i32 (F := Ideal)) i0) p := by
  induction L with
  | nil => exact fun i0 => ⟨Or.inl rfl, Beats.refl _, fun p hp => nomatch hp⟩
  | cons a L ih =>
    intro i0
    rw [List.foldl_cons]
    obtain ⟨h1, h2, h3⟩ := ih (reducer_argmax_f32_i32 (F := Ideal) i0 a)
    rcases reducer_beats i0 a with ⟨e, h⟩ | ⟨e, h⟩ <;> rw [e] at h1 h2 h3 ⊢
    · refine ⟨h1.imp id (List.mem_cons_of_mem _), h2, fun p hp => ?_⟩
      rcases List.mem_cons.1 hp with rfl | hp
      · exact h2.trans h
      · exact h3 p hp
    · refine ⟨Or.inr (h1.elim (fun h => List.mem_cons.2 (Or.inl h)) (List.mem_cons_of_mem _)), h2.trans h, fun p hp => ?_⟩
      rcases List.mem_cons.1 hp with rfl | hp
      · exact h2
      · exact h3 p hp

/-- The argmax down a fiber whose entries are `(g n, n)` for `n` below `N`, from (least, 0): the first greatest entry. -/
theorem argmax_spec {s t u : Shape} {axes : List (Fin s.rank)} {N : ℕ} (hN : N < 2 ^ 31) (hN0 : 0 < N)
    (x : FVec Ideal s .f32) (y : s.Idx → BitVec 32) (ix : u.Idx → Ideal .f32) (iy : u.Idx → BitVec 32) (h : s.ReducesTo axes t) (hu : 0 < u.numel) (j : t.Idx)
    (hx : ∀ i, ix i = (⊥ : EReal)) (hy : ∀ i, iy i = 0#32) (at_ : Fin N → s.Idx)
    (hd : ∀ i, h.drop i = j ↔ ∃ n, i = at_ n) (hv : ∀ n, y (at_ n) = BitVec.ofNat 32 n.val) :
    ∃ n : Fin N, (Host.argReduce (reducer_argmax_f32_i32 (F := Ideal)) x y ix iy h hu j) = (x (at_ n), BitVec.ofNat 32 n.val)
      ∧ (∀ q : Fin N, (x (at_ q) : EReal) ≤ x (at_ n)) ∧ ∀ q : Fin N, q < n → (x (at_ q) : EReal) < x (at_ n) := by
  rw [Ideal.argReduce_eq_reduce2, Host.reduce2_eq_foldl_fiber]
  obtain ⟨h1, h2, h3⟩ := fold_beats (Host.argReduceFiber x y h j) (ix (Shape.Idx.first hu), iy (Shape.Idx.first hu))
  have mem : ∀ n : Fin N, (x (at_ n), BitVec.ofNat 32 n.val) ∈ Host.argReduceFiber x y h j := fun n => by
    unfold Host.argReduceFiber
    refine List.mem_map.2 ⟨s.rowMajor (at_ n), List.mem_filter.2 ⟨List.mem_finRange _, decide_eq_true ?_⟩, ?_⟩
    · rw [Equiv.symm_apply_apply]; exact (hd _).2 ⟨n, rfl⟩
    · rw [Equiv.symm_apply_apply, hv]
  have of : ∀ p ∈ Host.argReduceFiber x y h j, ∃ n : Fin N, p = (x (at_ n), BitVec.ofNat 32 n.val) := fun p hp => by
    unfold Host.argReduceFiber at hp
    obtain ⟨k, hk, rfl⟩ := List.mem_map.1 hp
    obtain ⟨n, hn⟩ := (hd _).1 (of_decide_eq_true (List.mem_filter.1 hk).2)
    exact ⟨n, by rw [hn, hv]⟩
  generalize (Host.argReduceFiber x y h j).foldl (reducer_argmax_f32_i32 (F := Ideal)) (ix (Shape.Idx.first hu), iy (Shape.Idx.first hu)) = r at h1 h2 h3
  have main : ∃ n : Fin N, r = (x (at_ n), BitVec.ofNat 32 n.val) := by
    rcases h1 with h1 | h1
    · refine ⟨⟨0, hN0⟩, ?_⟩
      have hb := h3 _ (mem ⟨0, hN0⟩)
      rw [h1, hx, hy] at hb ⊢
      rcases hb with hb | ⟨hb, _⟩
      · exact absurd hb not_lt_bot
      · exact Prod.ext hb.symm rfl
    · exact of r h1
  obtain ⟨n, rfl⟩ := main
  refine ⟨n, rfl, fun q => ?_, fun q hq => ?_⟩
  · rcases h3 _ (mem q) with hb | ⟨hb, _⟩
    · exact hb.le
    · exact le_of_eq hb
  · rcases h3 _ (mem q) with hb | ⟨_, hb⟩
    · exact hb
    · have hq' : q.val < n.val := hq
      have := n.isLt
      simp only at hb
      rw [small_toInt (by omega), small_toInt (by omega)] at hb
      omega

end Cert.ReferenceIdeal.Nms
-- ==== Proof.Ref.Step.lean ====
/-
  One step of the reference's loop, read at an element, over extended reals.
-/
module

public import proofs.«01_k».proof.Proof.Ref.Pick
public import proofs.«01_k».proof.Proof.Ker.Trip

@[expose] public section

set_option maxRecDepth 16384

noncomputable section

namespace Cert.ReferenceIdeal.Nms

open Cert.ReferenceIdeal Cert.ReferenceIdeal.Gen Cert.ReferenceIdeal.Value
open Idealize.ShloMosaic Idealize.ShloMosaic.TcCoe
open Idealize.ShloMosaic.Pointwise
open Cert.KernelIdeal.Nms (Box Over c_bot)

/-- The carried buffers' contents. -/
abbrev Vl := Valuation τ sig (Elt Ideal)

/-- The scores. -/
abbrev S (V : Vl) : S8x20000.Idx → EReal := V (Proc.devRef .tc main_v34_4)
/-- The boxes, moved apart by class. -/
abbrev B (V : Vl) : S8x20000x4.Idx → EReal := V (Proc.devRef .tc main_v34_1)
/-- The images' numbers. -/
abbrev Im (V : Vl) : IVec S8 32 := V (Proc.devRef .tc main_v34_0)
/-- The iteration's number. -/
abbrev It (V : Vl) : IVec S_ 32 := V (Proc.devRef .tc main_v34_3)
/-- The chosen boxes. -/
abbrev Ch (V : Vl) : IVec S8x1000 32 := V (Proc.devRef .tc main_v34_5)
/-- Which iterations chose a box. -/
abbrev Kp (V : Vl) : IVec S8x1000 1 := V (Proc.devRef .tc main_v34_6)

/-- The first greatest score of image `b`. -/
theorem best (V : Vl) (b : Fin 8) : ∃ n : Fin 20000, res_main_while0b_v87 V (ix1 b) = BitVec.ofNat 32 n.val
    ∧ (∀ q, S V (ix2 b q) ≤ S V (ix2 b n)) ∧ ∀ q, q < n → S V (ix2 b q) < S V (ix2 b n) := by
  obtain ⟨n, h1, h2, h3⟩ := argmax_spec (N := 20000) (by norm_num) (by norm_num) (S V) (res_main_while0b_call2_v0 V) (res_main_while0b_call2_cst V)
    (res_main_while0b_call2_c V) reducesTo_S8x20000_S8_d1 h_S_ (ix1 b) (fun i => c_bot)
    (fun i => rfl) (fun n => ix2 b n)
    (fun i => ⟨fun h => ⟨i 1, by
        have h0 : i 0 = b := congrFun h 0
        funext a; match a with | ⟨0, _⟩ => exact h0 | ⟨1, _⟩ => rfl⟩, fun ⟨n, h⟩ => by subst h; funext a; match a with | ⟨0, _⟩ => rfl⟩)
    (fun n => rfl)
  exact ⟨n, congrArg Prod.snd h1, h2, h3⟩

section At

variable {V : Vl} {n : Fin 8 → Fin 20000} (hI : ∀ b : Fin 8, Im V (ix1 b) = BitVec.ofNat 32 b.val)
  (hn : ∀ b, res_main_while0b_v87 V (ix1 b) = BitVec.ofNat 32 (n b).val)

/-- A word counted from the end when negative: a natural below 2^31 stays. -/
theorem wrap {x y : BitVec 32} {k : ℕ} (hx : x = BitVec.ofNat 32 k) (h : k < 2 ^ 31) : Scalar.select (IntOp.cmpi .slt x 0#32) y x = BitVec.ofNat 32 k := by
  subst hx
  have : ¬ (BitVec.ofNat 32 k).toInt < 0 := by rw [small_toInt h]; omega
  simp [IntOp.cmpi, BitVec.slt, this, Scalar.select]

include hI hn in
/-- Whether the best score is above zero. -/
theorem kept_at (b : Fin 8) : res_main_while0b_v103 V (ix1 b) = BitVec.ofBool (decide (0 < S V (ix2 b (n b)))) := by
  have hb := b.isLt
  have hnb := (n b).isLt
  unfold res_main_while0b_v103
  show FloatOps.cmpf (F := Ideal) .ogt (Host.gather gather_S8x20000_S8x2_S8_n_01_n_n_01_1_11 _ _ (ix1 b)) _ = _
  rw [gather_score _ _ b (n b)]
  · pointwise
  · pointwise
    exact wrap (hI b) (by omega)
  · pointwise
    exact wrap (hn b) (by omega)

include hI hn in
/-- The best box's numbers. -/
theorem bestBox_at (b : Fin 8) (k : Fin 4) : res_main_while0b_v117 V (ix2 b k) = B V (ix3 b (n b) k) := by
  have hb := b.isLt
  have hnb := (n b).isLt
  unfold res_main_while0b_v117
  rw [gather_box _ _ b (n b)]
  · pointwise
    exact wrap (hI b) (by omega)
  · pointwise
    exact wrap (hn b) (by omega)

/-- Box `q` of image `b`, with its area. -/
def boxOf (V : Vl) (b : Fin 8) (q : Fin 20000) : Box :=
  ⟨B V (ix3 b q 0), B V (ix3 b q 1), B V (ix3 b q 2), B V (ix3 b q 3), (B V (ix3 b q 2) - B V (ix3 b q 0)) * (B V (ix3 b q 3) - B V (ix3 b q 1))⟩

include hI hn in
/-- What the best box and box `q` share. -/
theorem inter_at (b : Fin 8) (q : Fin 20000) : res_main_while0b_v134 V (ix2 b q) = Cert.KernelIdeal.Nms.inter (boxOf V b (n b)) (boxOf V b q) := by
  unfold res_main_while0b_v134
  pointwise [res_main_while0b_v129, id_eq]
  rw [bestBox_at hI hn, bestBox_at hI hn, bestBox_at hI hn, bestBox_at hI hn]
  exact congrArg₂ (fun x y : EReal => x * y) (max_comm _ _) (max_comm _ _)

/-- Two nested choices of one value, under a third. -/
theorem sel {P Q R R' : Prop} [Decidable P] [Decidable Q] [Decidable R] [Decidable R'] (h : R ↔ R') (a x : EReal) :
    Scalar.select (BitVec.ofBool (decide P)) (if Q then a else if R then a else x) x = if P then (if Q ∨ R' then a else x) else x := by
  by_cases h1 : P <;> by_cases h2 : Q <;> by_cases h3 : R <;> simp [h1, h2, h3, ← h, Scalar.select]

open Classical in
include hI hn in
/-- The scores after one iteration. -/
theorem step_S (b : Fin 8) (q : Fin 20000) : (step_main_v34_4 V : S8x20000.Idx → EReal) (ix2 b q)
    = if 0 < S V (ix2 b (n b)) then (if q = n b ∨ Over (boxOf V b (n b)) (boxOf V b q) then Ideal.ofBits .f32 0xBF800000#32 else S V (ix2 b q)) else S V (ix2 b q) := by
  have hn' := fun b => (n b).isLt
  unfold step_main_v34_4
  rw [id_eq]
  show Scalar.select (broadcastInDim S8x20000 ![0, 1] bcast_S8x1_S8x20000_0_1 (broadcastInDim S8x1 ![0] bcast_S8_S8x1_0 (res_main_while0b_v103 V)) (ix2 b q)) (Host.scatter scatter_S8x20000_S8x2_S8_n_01_01_1 (fun _ b => b) _ _ _ (ix2 b q)) _ = _
  rw [scatter_score _ _ _ n]
  · pointwise
    rw [kept_at hI hn, inter_at hI hn, bestBox_at hI hn, bestBox_at hI hn, bestBox_at hI hn, bestBox_at hI hn]
    rw [id_eq]
    refine (sel (R' := Over (boxOf V b (n b)) (boxOf V b q)) ?_ _ _).trans rfl
    exact Iff.rfl
  · intro b
    have := b.isLt
    pointwise
    exact wrap (hI b) (by omega)
  · intro b
    have := hn' b
    pointwise
    exact wrap (hn b) (by omega)

include hn in
/-- The chosen boxes after one iteration. -/
theorem step_Ch (i : Fin 1000) (hi : It V ix0 = BitVec.ofNat 32 i.val) (b : Fin 8) (i' : Fin 1000) :
    (step_main_v34_5 V : IVec S8x1000 32) (ix2 b i') = if i' = i then BitVec.ofNat 32 (n b).val else Ch V (ix2 b i') := by
  have := i.isLt
  unfold step_main_v34_5
  rw [id_eq]
  refine (scatter_column (Ch V) _ (res_main_while0b_v87 V) i ?_ b i').trans ?_
  · pointwise
    rw [id_eq]
    exact wrap hi (by omega)
  · rw [hn]

include hI hn in
/-- Which iterations chose a box, after one iteration. -/
theorem step_Kp (i : Fin 1000) (hi : It V ix0 = BitVec.ofNat 32 i.val) (b : Fin 8) (i' : Fin 1000) :
    (step_main_v34_6 V : IVec S8x1000 1) (ix2 b i') = if i' = i then BitVec.ofBool (decide (0 < S V (ix2 b (n b)))) else Kp V (ix2 b i') := by
  have := i.isLt
  unfold step_main_v34_6
  rw [id_eq]
  refine (scatter_column (Kp V) _ (res_main_while0b_v103 V) i ?_ b i').trans ?_
  · pointwise
    rw [id_eq]
    exact wrap hi (by omega)
  · rw [kept_at hI hn]

/-- The iteration's number goes up by one. -/
theorem step_It (k : ℕ) (h : It V ix0 = BitVec.ofNat 32 k) : (step_main_v34_3 V : IVec S_ 32) ix0 = BitVec.ofNat 32 (k + 1) := by
  unfold step_main_v34_3
  show IntOp.addi (It V ix0) 1#32 = _
  rw [h]
  simp [IntOp.addi, BitVec.ofNat_add]

end At

end Cert.ReferenceIdeal.Nms
-- ==== Proof.Ref.Entry.lean ====
/-
  What the reference's loop starts from, over extended reals.
-/
module

public import proofs.«01_k».proof.Proof.Ref.Step
public import proofs.«01_k».proof.Proof.Raw

@[expose] public section

set_option maxRecDepth 16384

noncomputable section

namespace Cert.ReferenceIdeal.Nms

open Cert.ReferenceIdeal Cert.ReferenceIdeal.Gen Cert.ReferenceIdeal.Value
open Idealize.ShloMosaic Idealize.ShloMosaic.TcCoe Idealize.ShloMosaic.StableHlo
open Idealize.ShloMosaic.Pointwise
open Cert.KernelIdeal.Nms (Box Over c_bot Given Col)

variable (V : Vl)

/-- The numbers the reference is given. -/
abbrev given : Given := V (Proc.devRef .tc main_arg0)

variable (b : Fin 8) (n : Fin 20000)

/-- Half a number, divided or multiplied. -/
theorem half (x : EReal) : Ideal.div x (Ideal.ofBits .f32 0x40000000#32) = x * Ideal.ofBits .f32 0x3F000000#32 := by
  have h2 : Ideal.ofBits .f32 0x40000000#32 = ((2 : ℝ) : EReal) := by simp [Ideal.ofBits, Ideal.ieee, ← EReal.coe_mul, ← EReal.coe_pow] <;> norm_num
  have h1 : Ideal.ofBits .f32 0x3F000000#32 = ((2⁻¹ : ℝ) : EReal) := by simp [Ideal.ofBits, Ideal.ieee, ← EReal.coe_mul, ← EReal.coe_pow] <;> norm_num
  rw [h1, h2, EReal.coe_inv]
  unfold Ideal.div
  rw [if_neg (by norm_num)]

/-- The boxes' corners, before the shift. -/
theorem pre_v11 (k : Fin 4) : (after hostOps0 V (Proc.devRef .tc main_v11) : S8x20000x4.Idx → EReal) (ix3 b n k) =
    if k.val = 0 then ((given V).col b n).ux1 else if k.val = 1 then ((given V).col b n).uy1 else if k.val = 2 then ((given V).col b n).ux2 else ((given V).col b n).uy2 := by
  simp only [hostOps0]
  after_reads_simp
  fin_cases k
  · pointwise; rw [half]; rfl
  · pointwise; rw [half]; rfl
  · pointwise; rw [half]; rfl
  · pointwise; rw [half]; rfl

/-- The greatest confidence over the classes. -/
theorem pre_v18 : (after hostOps0 V (Proc.devRef .tc main_v18) : S8x20000.Idx → EReal) (ix2 b n) = ((given V).col b n).conf := by
  simp only [hostOps0]
  after_reads_simp
  pointwise
  rw [c_bot]
  exact Finset.fold_congr fun x _ => congrArg (fun z : EReal => z * given V (ix4 0 b n 4)) ((given V).col_cls b n x).symm

/-- A class's confidence: its score times the objectness. -/
theorem pre_v17 (x : Fin 80) : (after hostOps0 V (Proc.devRef .tc main_v17) : S8x20000x80.Idx → EReal) (ix3 b n x) = ((given V).col b n) ⟨x.val, by omega⟩ * ((given V).col b n) 80 := by
  simp only [hostOps0]
  after_reads_simp
  pointwise
  rw [(given V).col_cls b n x]; rfl

/-- The objectness. -/
theorem pre_v13 : (after hostOps0 V (Proc.devRef .tc main_v13) : S8x20000.Idx → EReal) (ix2 b n) = ((given V).col b n) 80 := by
  simp only [hostOps0]
  after_reads_simp
  pointwise
  rfl

/-- The images' numbers. -/
theorem pre_v1 : (after hostOps0 V (Proc.devRef .tc main_v1) : IVec S8 32) (ix1 b) = BitVec.ofNat 32 b.val := by
  simp only [hostOps0]
  after_reads_simp
  rfl

/-! ## The class -/

/-- The class is the first greatest confidence. -/
theorem cls_of (f : Col) (k : Fin 80) (h2 : ∀ q : Fin 80, f ⟨q.val, by omega⟩ * f 80 ≤ f ⟨k.val, by omega⟩ * f 80)
    (h3 : ∀ q : Fin 80, q < k → f ⟨q.val, by omega⟩ * f 80 < f ⟨k.val, by omega⟩ * f 80) : f.cls = ((k.val : ℝ) : EReal) := by
  obtain ⟨c, hc, hc1, hc2⟩ := f.cls_spec
  have hk : f ⟨k.val, by omega⟩ * f 80 = f.conf :=
    (Cert.KernelIdeal.Nms.fold_max_eq (fun x : Fin 80 => f ⟨x.val, by omega⟩ * f 80) k h2).symm
  have e : c = k := by
    refine le_antisymm (hc2 k hk) (not_lt.1 fun hlt => ?_)
    have h := h3 c hlt
    rw [hc1, hk] at h
    exact lt_irrefl _ h
  rw [hc, e]

/-- The classes, as one reduction. -/
theorem pre1_v19_eq : after hostOps0_1 V (Proc.devRef .tc main_v19) = fun j => (Host.argReduce (reducer_argmax_f32_i32 (F := Ideal)) (V (Proc.devRef .tc main_v17))
    (iotaInDim S8x20000x80 32 2) (constant S_ .f32 0xFF800000#32) (constantI S_ 32 0#32) reducesTo_S8x20000x80_S8x20000_d2 h_S_ j).2 := by
  simp only [hostOps0_1]
  after_results_entrywise [cast_eq]

/-- The places along the last axis. -/
theorem drop3 (i : S8x20000x80.Idx) : reducesTo_S8x20000x80_S8x20000_d2.drop i = ix2 b n ↔ ∃ x : Fin 80, i = ix3 b n x :=
  ⟨fun h => ⟨i 2, by
    have h0 : i 0 = b := congrFun h 0
    have h1 : i 1 = n := congrFun h 1
    funext a; match a with | ⟨0, _⟩ => exact h0 | ⟨1, _⟩ => exact h1 | ⟨2, _⟩ => rfl⟩,
   fun ⟨x, h⟩ => by subst h; funext a; match a with | ⟨0, _⟩ => rfl | ⟨1, _⟩ => rfl⟩

/-- The class found is the first kernel's class. -/
theorem pre1_v19 (f : Col) (hf : ∀ x : Fin 80, (V (Proc.devRef .tc main_v17) : S8x20000x80.Idx → EReal) (ix3 b n x) = f ⟨x.val, by omega⟩ * f 80) :
    ∃ k : Fin 80, (after hostOps0_1 V (Proc.devRef .tc main_v19) : IVec S8x20000 32) (ix2 b n) = BitVec.ofNat 32 k.val ∧ f.cls = ((k.val : ℝ) : EReal) := by
  rw [pre1_v19_eq]
  generalize (V (Proc.devRef .tc main_v17) : S8x20000x80.Idx → EReal) = X at hf ⊢
  obtain ⟨k, h1, h2, h3⟩ := argmax_spec (N := 80) (by norm_num) (by norm_num) X (iotaInDim S8x20000x80 32 2) (constant S_ .f32 0xFF800000#32)
    (constantI S_ 32 0#32) reducesTo_S8x20000x80_S8x20000_d2 h_S_ (ix2 b n) (fun i => c_bot) (fun i => rfl) (fun x => ix3 b n x) (drop3 b n) (fun n => rfl)
  refine ⟨k, congrArg Prod.snd h1, cls_of f k (fun q => ?_) fun q hq => ?_⟩
  · have h := h2 q
    rw [hf, hf] at h
    exact h
  · have h := h3 q hq
    rw [hf, hf] at h
    exact h

/-- The class as a float. -/
theorem pre2_v20 (k : Fin 80) (hk : (V (Proc.devRef .tc main_v19) : IVec S8x20000 32) (ix2 b n) = BitVec.ofNat 32 k.val) :
    (after hostOps0_2 V (Proc.devRef .tc main_v20) : S8x20000.Idx → EReal) (ix2 b n) = ((k.val : ℝ) : EReal) := by
  have := k.isLt
  simp only [hostOps0_2]
  after_reads_simp
  show ((((V (Proc.devRef .tc main_v19) : IVec S8x20000 32) (ix2 b n)).toInt : ℝ) : EReal) = _
  rw [hk, small_toInt (by omega)]
  rfl

/-- The corners shifted by 4096 times the class. -/
theorem pre2_v30 (k : Fin 4) (c : ℕ) (hc : (V (Proc.devRef .tc main_v19) : IVec S8x20000 32) (ix2 b n) = BitVec.ofNat 32 c) (h : c < 80) :
    (after hostOps0_2 V (Proc.devRef .tc main_v30) : S8x20000x4.Idx → EReal) (ix3 b n k) =
      (show EReal from V (Proc.devRef .tc main_v11) (ix3 b n k)) + ((c : ℝ) : EReal) * Ideal.ofBits .f32 0x45800000#32 := by
  simp only [hostOps0_2]
  after_reads_simp
  pointwise
  rw [hc]
  show _ + ((((BitVec.ofNat 32 c).toInt : ℝ) : EReal)) * _ = _
  rw [small_toInt (by omega)]
  rfl

/-- Whether the objectness and the confidence are both above a quarter. -/
theorem pre2_v25 : (after hostOps0_2 V (Proc.devRef .tc main_v25) : IVec S8x20000 1) (ix2 b n) =
    IntOp.andi (BitVec.ofBool (decide (Ideal.ofBits .f32 0x3E800000#32 < (V (Proc.devRef .tc main_v13) : S8x20000.Idx → EReal) (ix2 b n))))
      (BitVec.ofBool (decide (Ideal.ofBits .f32 0x3E800000#32 < (V (Proc.devRef .tc main_v18) : S8x20000.Idx → EReal) (ix2 b n)))) := by
  simp only [hostOps0_2]
  after_reads_simp
  pointwise

/-- The score of no box. -/
theorem pre2_cst : (after hostOps0_2 V (Proc.devRef .tc main_cst_5) : S_.Idx → EReal) ix0 = Ideal.ofBits .f32 0xBF800000#32 := by
  simp only [hostOps0_2]
  after_reads_simp
  rfl

/-- The first scores, as one selection. -/
theorem pre3_v31_eq : after hostOps0_3 V (Proc.devRef .tc main_v31) = select (V (Proc.devRef .tc main_v25)) (V (Proc.devRef .tc main_v18))
    (broadcastInDim S8x20000 ![] bcast_S_S8x20000 (id (V (Proc.devRef .tc main_cst_5)))) := by
  simp only [hostOps0_3]
  after_results_entrywise [cast_eq]

/-- A first score: the confidence, or that of no box. -/
theorem pre3_v31 : (after hostOps0_3 V (Proc.devRef .tc main_v31) : S8x20000.Idx → EReal) (ix2 b n) =
    Scalar.select ((V (Proc.devRef .tc main_v25) : IVec S8x20000 1) (ix2 b n)) ((V (Proc.devRef .tc main_v18) : S8x20000.Idx → EReal) (ix2 b n))
      ((V (Proc.devRef .tc main_cst_5) : S_.Idx → EReal) ix0) := by
  rw [pre3_v31_eq, id_eq]
  pointwise

end Cert.ReferenceIdeal.Nms
-- ==== Proof.Ref.Iter.lean ====
/-
  The reference's loop, iteration by iteration, over extended reals: what each picks and what it leaves.
-/
module

public import proofs.«01_k».proof.Proof.Ref.Entry
public import proofs.«01_k».proof.Proof.Ref.Frame
public import proofs.«01_k».proof.Proof.Sim

@[expose] public section

set_option maxRecDepth 16384

noncomputable section

namespace Cert.ReferenceIdeal.Nms

open Cert.ReferenceIdeal Cert.ReferenceIdeal.Gen Cert.ReferenceIdeal.Value
open Idealize.ShloMosaic Idealize.ShloMosaic.TcCoe Idealize.ShloMosaic.StableHlo
open Idealize.ShloMosaic.Pointwise
open Cert.KernelIdeal.Nms (Box Over Img gone)

variable (V : Vl) (hI : ∀ b : Fin 8, Im V (ix1 b) = BitVec.ofNat 32 b.val) (h0 : It V ix0 = BitVec.ofNat 32 0)

/-- The contents before the `k`-th iteration. -/
abbrev R (k : ℕ) : Vl := STEP^[k] V

/-- One more trip. -/
theorem R_succ (k : ℕ) : R V (k + 1) = STEP (R V k) := Function.iterate_succ_apply' _ _ _

/-- What the `k`-th iteration picks in image `b`. -/
def pick (b : Fin 8) (k : ℕ) : Fin 20000 := (best (R V k) b).choose

/-- What a trip picks is the first greatest of the remaining scores. -/
theorem pick_spec (b : Fin 8) (k : ℕ) : res_main_while0b_v87 (R V k) (ix1 b) = BitVec.ofNat 32 (pick V b k).val
    ∧ (∀ q, S (R V k) (ix2 b q) ≤ S (R V k) (ix2 b (pick V b k))) ∧ ∀ q, q < pick V b k → S (R V k) (ix2 b q) < S (R V k) (ix2 b (pick V b k)) :=
  (best (R V k) b).choose_spec

/-- The images' numbers stay as they were. -/
theorem Im_R (k : ℕ) : Im (R V k) = Im V := by
  induction k with
  | zero => rfl
  | succ k ih => rw [R_succ]; exact (STEP_main_v34_0 _).trans ih

/-- The boxes stay as they were. -/
theorem B_R (k : ℕ) : B (R V k) = B V := by
  induction k with
  | zero => rfl
  | succ k ih => rw [R_succ]; exact (STEP_main_v34_1 _).trans ih

include h0 in
/-- The trip's number is the counter. -/
theorem It_R (k : ℕ) : It (R V k) ix0 = BitVec.ofNat 32 k := by
  induction k with
  | zero => exact h0
  | succ k ih => rw [R_succ]; exact (congrFun (STEP_main_v34_3 _) ix0).trans (step_It k ih)

/-- A box read in a trip is the box at the start. -/
theorem boxOf_R (k : ℕ) (b : Fin 8) (q : Fin 20000) : boxOf (R V k) b q = boxOf V b q := by
  unfold boxOf
  rw [B_R]

/-- A choice does not hang on how its question is decided. -/
theorem ite_any {α : Type} {p : Prop} (d d' : Decidable p) (x y : α) : @ite α p d x y = @ite α p d' x y := by
  rw [Subsingleton.elim d d']

/-- Image `b` as the loop starts from it, its classes given. -/
def imgOf (b : Fin 8) (cl : Fin 20000 → Fin 80) : Img := ⟨fun q => boxOf V b q, cl, fun q => S V (ix2 b q)⟩

include hI in
/-- The loop picks the first greatest score, again and again. -/
theorem ran (b : Fin 8) (cl : Fin 20000 → Fin 80) : (imgOf V b cl).Ran (fun k q => S (R V k) (ix2 b q)) (pick V b) where
  zero q := rfl
  best k := (pick_spec V b k).2.1
  first k := (pick_spec V b k).2.2
  step k q := by
    have h := step_S (V := R V k) (n := fun b => pick V b k) (fun b => by rw [Im_R]; exact hI b) (fun b => (pick_spec V b k).1) b q
    rw [boxOf_R, boxOf_R] at h
    show S (R V (k + 1)) (ix2 b q) = _
    rw [R_succ]
    refine (congrFun (STEP_main_v34_4 (R V k)) (ix2 b q)).trans (h.trans ?_)
    exact if_congr Iff.rfl (ite_any _ _ _ _) rfl

include h0 in
/-- The picks, recorded. -/
theorem Ch_R (b : Fin 8) (i : Fin 1000) (k : ℕ) (hk : k ≤ 1000) (hi : i.val < k) : Ch (R V k) (ix2 b i) = BitVec.ofNat 32 (pick V b i).val := by
  induction k, Nat.succ_le_of_lt hi using Nat.le_induction with
  | base =>
    rw [R_succ]
    refine (congrFun (STEP_main_v34_5 _) (ix2 b i)).trans ((step_Ch (n := fun b => pick V b i) (fun b => (pick_spec V b i).1) i (It_R V h0 i) b i).trans ?_)
    rw [if_pos rfl]
  | succ k hik ih =>
    have hik' : i.val + 1 ≤ k := hik
    rw [R_succ]
    refine (congrFun (STEP_main_v34_5 _) (ix2 b i)).trans
      ((step_Ch (n := fun b => pick V b k) (fun b => (pick_spec V b k).1) ⟨k, by omega⟩ (It_R V h0 k) b i).trans ?_)
    rw [if_neg fun e => by have := congrArg Fin.val e; simp only at this; omega]
    exact ih (by omega) (by omega)

include hI h0 in
/-- Which picks count, recorded. -/
theorem Kp_R (b : Fin 8) (i : Fin 1000) (k : ℕ) (hk : k ≤ 1000) (hi : i.val < k) :
    Kp (R V k) (ix2 b i) = BitVec.ofBool (decide (0 < S (R V i) (ix2 b (pick V b i)))) := by
  induction k, Nat.succ_le_of_lt hi using Nat.le_induction with
  | base =>
    rw [R_succ]
    refine (congrFun (STEP_main_v34_6 _) (ix2 b i)).trans ((step_Kp (n := fun b => pick V b i) (fun b => by rw [Im_R]; exact hI b)
      (fun b => (pick_spec V b i).1) i (It_R V h0 i) b i).trans ?_)
    rw [if_pos rfl]
  | succ k hik ih =>
    have hik' : i.val + 1 ≤ k := hik
    rw [R_succ]
    refine (congrFun (STEP_main_v34_6 _) (ix2 b i)).trans
      ((step_Kp (n := fun b => pick V b k) (fun b => by rw [Im_R]; exact hI b) (fun b => (pick_spec V b k).1) ⟨k, by omega⟩ (It_R V h0 k) b i).trans ?_)
    rw [if_neg fun e => by have := congrArg Fin.val e; simp only at this; omega]
    exact ih (by omega) (by omega)

end Cert.ReferenceIdeal.Nms
-- ==== Proof.Ref.Entry2.lean ====
/-
  What the reference's loop starts from, in the given numbers, over extended reals.
-/
module

public import proofs.«01_k».proof.Proof.Ref.Iter

@[expose] public section

set_option maxRecDepth 16384

noncomputable section

namespace Cert.ReferenceIdeal.Nms

open Cert.ReferenceIdeal Cert.ReferenceIdeal.Gen Cert.ReferenceIdeal.Value
open Idealize.ShloMosaic Idealize.ShloMosaic.TcCoe Idealize.ShloMosaic.StableHlo
open Idealize.ShloMosaic.Pointwise
open Cert.KernelIdeal.Nms (Box Over Img gone Given Col)

section Copies

variable (V : Vl)

theorem pre4_0 : after hostOps0_4 V (Proc.devRef .tc main_v34_0) = V (Proc.devRef .tc main_v1) := by
  simp only [hostOps0_4]; after_reads_simp; rfl
theorem pre4_1 : after hostOps0_4 V (Proc.devRef .tc main_v34_1) = V (Proc.devRef .tc main_v30) := by
  simp only [hostOps0_4]; after_reads_simp; rfl
theorem pre4_3 : (after hostOps0_4 V (Proc.devRef .tc main_v34_3) : IVec S_ 32) ix0 = BitVec.ofNat 32 0 := by
  simp only [hostOps0_4]; after_reads_simp; rfl
theorem pre4_4 : after hostOps0_4 V (Proc.devRef .tc main_v34_4) = V (Proc.devRef .tc main_v31) := by
  simp only [hostOps0_4]; after_reads_simp; rfl

end Copies

variable (m : (ℓ : Loc nD τ sig) → Buf (Elt Ideal) ℓ) (c : Dev nD)

/-- The contents at the launch. -/
abbrev L : Vl := launchContents m c
abbrev L1 : Vl := after hostOps0 (L m c)
abbrev L2 : Vl := after hostOps0_1 (L1 m c)
abbrev L3 : Vl := after hostOps0_2 (L2 m c)
abbrev L4 : Vl := after hostOps0_3 (L3 m c)
abbrev E : Vl := entryContents preI m c

theorem E_eq : E m c = after hostOps0_4 (L4 m c) := rfl

variable (b : Fin 8) (q : Fin 20000)

/-- Box `q` of image `b`. -/
abbrev colR : Col := (given (L m c)).col b q

theorem E_Im : Im (E m c) (ix1 b) = BitVec.ofNat 32 b.val := by
  show (after hostOps0_4 (L4 m c) (Proc.devRef .tc main_v34_0) : IVec S8 32) (ix1 b) = _
  rw [pre4_0, L4, after_of_writes_sub hostOps0_3 _ hostOps0_3_writes (by decide +kernel), L3, after_of_writes_sub hostOps0_2 _ hostOps0_2_writes (by decide +kernel),
    L2, after_of_writes_sub hostOps0_1 _ hostOps0_1_writes (by decide +kernel)]
  exact pre_v1 _ b

theorem E_It : It (E m c) ix0 = BitVec.ofNat 32 0 := pre4_3 _

theorem L2_v11 : L2 m c (Proc.devRef .tc main_v11) = L1 m c (Proc.devRef .tc main_v11) :=
  after_of_writes_sub hostOps0_1 _ hostOps0_1_writes (by decide +kernel)
theorem L2_v13 : L2 m c (Proc.devRef .tc main_v13) = L1 m c (Proc.devRef .tc main_v13) :=
  after_of_writes_sub hostOps0_1 _ hostOps0_1_writes (by decide +kernel)
theorem L2_v18 : L2 m c (Proc.devRef .tc main_v18) = L1 m c (Proc.devRef .tc main_v18) :=
  after_of_writes_sub hostOps0_1 _ hostOps0_1_writes (by decide +kernel)
theorem L3_v18 : L3 m c (Proc.devRef .tc main_v18) = L2 m c (Proc.devRef .tc main_v18) :=
  after_of_writes_sub hostOps0_2 _ hostOps0_2_writes (by decide +kernel)

/-- The class. -/
theorem L2_v19 : ∃ k : Fin 80, (L2 m c (Proc.devRef .tc main_v19) : IVec S8x20000 32) (ix2 b q) = BitVec.ofNat 32 k.val ∧ (colR m c b q).cls = ((k.val : ℝ) : EReal) :=
  pre1_v19 (L1 m c) b q (colR m c b q) fun x => pre_v17 (L m c) b q x

theorem E_S : S (E m c) (ix2 b q) = (colR m c b q).score := by
  show (after hostOps0_4 (L4 m c) (Proc.devRef .tc main_v34_4) : S8x20000.Idx → EReal) (ix2 b q) = _
  rw [pre4_4]
  refine (pre3_v31 (L3 m c) b q).trans ?_
  have a1 : (L3 m c (Proc.devRef .tc main_v25) : IVec S8x20000 1) (ix2 b q) = _ := pre2_v25 (L2 m c) b q
  have a2 : (L3 m c (Proc.devRef .tc main_cst_5) : S_.Idx → EReal) ix0 = _ := pre2_cst (L2 m c)
  have a3 : (L1 m c (Proc.devRef .tc main_v18) : S8x20000.Idx → EReal) (ix2 b q) = (colR m c b q).conf := pre_v18 (L m c) b q
  have a4 : (L1 m c (Proc.devRef .tc main_v13) : S8x20000.Idx → EReal) (ix2 b q) = (colR m c b q) 80 := pre_v13 (L m c) b q
  rw [L3_v18, a1, L2_v18, L2_v13, a2, a3, a4]
  unfold Col.score
  generalize (colR m c b q).conf = x
  generalize (colR m c b q) 80 = y
  by_cases h1 : Ideal.ofBits .f32 0x3E800000#32 < y <;> by_cases h2 : Ideal.ofBits .f32 0x3E800000#32 < x <;>
    simp [h1, h2, IntOp.andi, Scalar.select]

theorem E_B (k : Fin 4) : B (E m c) (ix3 b q k) =
    (if k.val = 0 then (colR m c b q).ux1 else if k.val = 1 then (colR m c b q).uy1 else if k.val = 2 then (colR m c b q).ux2 else (colR m c b q).uy2) + (colR m c b q).off := by
  obtain ⟨n, h1, h2⟩ := L2_v19 m c b q
  show (after hostOps0_4 (L4 m c) (Proc.devRef .tc main_v34_1) : S8x20000x4.Idx → EReal) (ix3 b q k) = _
  rw [pre4_1, L4, after_of_writes_sub hostOps0_3 _ hostOps0_3_writes (by decide +kernel)]
  refine (pre2_v30 (L2 m c) b q k n.val h1 n.isLt).trans ?_
  rw [L2_v11]
  unfold Col.off
  rw [h2]
  exact congrArg (fun x : EReal => x + _) (pre_v11 (L m c) b q k)

/-- What the loop leaves alone. -/
theorem E_v11 (k : Fin 4) : (E m c (Proc.devRef .tc main_v11) : S8x20000x4.Idx → EReal) (ix3 b q k) =
    if k.val = 0 then (colR m c b q).ux1 else if k.val = 1 then (colR m c b q).uy1 else if k.val = 2 then (colR m c b q).ux2 else (colR m c b q).uy2 := by
  rw [E_eq, after_of_writes_sub hostOps0_4 _ hostOps0_4_writes (by decide +kernel), L4, after_of_writes_sub hostOps0_3 _ hostOps0_3_writes (by decide +kernel),
    L3, after_of_writes_sub hostOps0_2 _ hostOps0_2_writes (by decide +kernel), L2_v11]
  exact pre_v11 (L m c) b q k

theorem E_v18 : (E m c (Proc.devRef .tc main_v18) : S8x20000.Idx → EReal) (ix2 b q) = (colR m c b q).conf := by
  rw [E_eq, after_of_writes_sub hostOps0_4 _ hostOps0_4_writes (by decide +kernel), L4, after_of_writes_sub hostOps0_3 _ hostOps0_3_writes (by decide +kernel),
    L3_v18, L2_v18]
  exact pre_v18 (L m c) b q

theorem E_v20 : (E m c (Proc.devRef .tc main_v20) : S8x20000.Idx → EReal) (ix2 b q) = (colR m c b q).cls := by
  obtain ⟨n, h1, h2⟩ := L2_v19 m c b q
  rw [E_eq, after_of_writes_sub hostOps0_4 _ hostOps0_4_writes (by decide +kernel), L4, after_of_writes_sub hostOps0_3 _ hostOps0_3_writes (by decide +kernel), h2]
  exact pre2_v20 (L2 m c) b q n h1

theorem E_v1 : (E m c (Proc.devRef .tc main_v1) : IVec S8 32) (ix1 b) = BitVec.ofNat 32 b.val := by
  rw [E_eq, after_of_writes_sub hostOps0_4 _ hostOps0_4_writes (by decide +kernel), L4, after_of_writes_sub hostOps0_3 _ hostOps0_3_writes (by decide +kernel),
    L3, after_of_writes_sub hostOps0_2 _ hostOps0_2_writes (by decide +kernel), L2, after_of_writes_sub hostOps0_1 _ hostOps0_1_writes (by decide +kernel)]
  exact pre_v1 _ b

end Cert.ReferenceIdeal.Nms
-- ==== Proof.Ref.Post.lean ====
/-
  What the reference makes of its loop's picks, over extended reals.
-/
module

public import proofs.«01_k».proof.Proof.Ref.Entry2

@[expose] public section

set_option maxRecDepth 16384

noncomputable section

namespace Cert.ReferenceIdeal.Nms

open Cert.ReferenceIdeal Cert.ReferenceIdeal.Gen Cert.ReferenceIdeal.Value
open Idealize.ShloMosaic Idealize.ShloMosaic.TcCoe Idealize.ShloMosaic.StableHlo
open Idealize.ShloMosaic.Pointwise
open Cert.KernelIdeal.Nms (Box Over Img gone Given Col)

variable (V : Vl)

/-- The stretch in four parts: the boxes gathered, the confidences, the classes, and the rows joined. -/
abbrev opsA : List (HloOp τ sig (Elt Ideal)) := (hostOps0_5 (F := Ideal)).take 20
abbrev opsB : List (HloOp τ sig (Elt Ideal)) := ((hostOps0_5 (F := Ideal)).drop 20).take 20
abbrev opsC : List (HloOp τ sig (Elt Ideal)) := ((hostOps0_5 (F := Ideal)).drop 40).take 20
abbrev endOps : List (HloOp τ sig (Elt Ideal)) := (hostOps0_5 (F := Ideal)).drop 60

/-- The last operations, cut in pieces. -/
theorem cut_rows : (hostOps0_5 (F := Ideal)) = opsA ++ (opsB ++ (opsC ++ endOps)) := rfl

/-- The images' numbers and the picks, counted from the end when negative, side by side. -/
abbrev pairs (w : IVec S8x1 32) (y : IVec S8x1000 32) : IVec S8x1000x2 32 :=
  concatenate S8x1000x2 2
    [⟨S8x1000x1, broadcastInDim S8x1000x1 ![0, 1] bcast_S8x1000_S8x1000x1_0_1 (broadcastInDim S8x1000 ![0, 1] bcast_S8x1_S8x1000_0_1
      (select (cmpi .slt w (broadcastInDim S8x1 ![] bcast_S_S8x1 (constantI S_ 32 0#32))) (addi w (broadcastInDim S8x1 ![] bcast_S_S8x1 (constantI S_ 32 8#32))) w))⟩,
     ⟨S8x1000x1, broadcastInDim S8x1000x1 ![0, 1] bcast_S8x1000_S8x1000x1_0_1
      (select (cmpi .slt y (broadcastInDim S8x1000 ![] bcast_S_S8x1000 (constantI S_ 32 0#32))) (addi y (broadcastInDim S8x1000 ![] bcast_S_S8x1000 (constantI S_ 32 20000#32))) y)⟩]
    concatenates_S8x1000x1_S8x1000x1_S8x1000x2_d2

theorem pairs_im {w : IVec S8x1 32} {b : Fin 8} (h : w (ix2 b 0) = BitVec.ofNat 32 b.val) (y : IVec S8x1000 32) (i : Fin 1000) :
    pairs w y (ix3 b i 0) = BitVec.ofNat 32 b.val := by
  have hb := b.isLt
  pointwise [pairs]
  exact wrap h (by omega)

theorem pairs_ch {y : IVec S8x1000 32} {b : Fin 8} {i : Fin 1000} {n : Fin 20000} (h : y (ix2 b i) = BitVec.ofNat 32 n.val) (w : IVec S8x1 32) :
    pairs w y (ix3 b i 1) = BitVec.ofNat 32 n.val := by
  have hn := n.isLt
  pointwise [pairs]
  exact wrap h (by omega)

theorem opsA_v35 (b : Fin 8) : (after opsA V (Proc.devRef .tc main_v35) : IVec S8x1 32) (ix2 b 0) = (V (Proc.devRef .tc main_v1) : IVec S8 32) (ix1 b) := by
  simp only [opsA, hostOps0_5, List.take_succ_cons, List.take_zero]
  after_reads_simp
  pointwise

theorem opsA_v50 : after opsA V (Proc.devRef .tc main_v50) = Host.gather gather_S8x20000x4_S8x1000x2_S8x1000x4_2_01_n_n_01_2_114 (V (Proc.devRef .tc main_v11))
    (pairs (broadcastInDim S8x1 ![0] bcast_S8_S8x1_0 (V (Proc.devRef .tc main_v1))) (Ch V)) := by
  simp only [opsA, hostOps0_5, List.take_succ_cons, List.take_zero]
  after_results_entrywise [cast_eq]

theorem opsB_v66 : after opsB V (Proc.devRef .tc main_v66) = broadcastInDim S8x1000x1 ![0, 1] bcast_S8x1000_S8x1000x1_0_1
    (Host.gather gather_S8x20000_S8x1000x2_S8x1000_n_01_n_n_01_2_11 (V (Proc.devRef .tc main_v18) : FVec Ideal S8x20000 .f32) (pairs (V (Proc.devRef .tc main_v35)) (Ch V))) := by
  simp only [opsB, hostOps0_5, List.drop_succ_cons, List.drop_zero, List.take_succ_cons, List.take_zero]
  after_results_entrywise [cast_eq]

theorem opsC_v82 : after opsC V (Proc.devRef .tc main_v82) = broadcastInDim S8x1000x1 ![0, 1] bcast_S8x1000_S8x1000x1_0_1
    (Host.gather gather_S8x20000_S8x1000x2_S8x1000_n_01_n_n_01_2_11 (V (Proc.devRef .tc main_v20) : FVec Ideal S8x20000 .f32) (pairs (V (Proc.devRef .tc main_v35)) (Ch V))) := by
  simp only [opsC, hostOps0_5, List.drop_succ_cons, List.drop_zero, List.take_succ_cons, List.take_zero]
  after_results_entrywise [cast_eq]

/-- What each part leaves alone. -/
theorem opsA_v18_keep : after opsA V (Proc.devRef .tc main_v18) = V (Proc.devRef .tc main_v18) := by
  simp only [opsA, hostOps0_5, List.take_succ_cons, List.take_zero]
  after_reads_simp
theorem opsA_v20_keep : after opsA V (Proc.devRef .tc main_v20) = V (Proc.devRef .tc main_v20) := by
  simp only [opsA, hostOps0_5, List.take_succ_cons, List.take_zero]
  after_reads_simp
theorem opsA_v34_5_keep : after opsA V (Proc.devRef .tc main_v34_5) = V (Proc.devRef .tc main_v34_5) := by
  simp only [opsA, hostOps0_5, List.take_succ_cons, List.take_zero]
  after_reads_simp
theorem opsA_v34_6_keep : after opsA V (Proc.devRef .tc main_v34_6) = V (Proc.devRef .tc main_v34_6) := by
  simp only [opsA, hostOps0_5, List.take_succ_cons, List.take_zero]
  after_reads_simp
theorem opsB_v20_keep : after opsB V (Proc.devRef .tc main_v20) = V (Proc.devRef .tc main_v20) := by
  simp only [opsB, hostOps0_5, List.drop_succ_cons, List.drop_zero, List.take_succ_cons, List.take_zero]
  after_reads_simp
theorem opsB_v34_5_keep : after opsB V (Proc.devRef .tc main_v34_5) = V (Proc.devRef .tc main_v34_5) := by
  simp only [opsB, hostOps0_5, List.drop_succ_cons, List.drop_zero, List.take_succ_cons, List.take_zero]
  after_reads_simp
theorem opsB_v34_6_keep : after opsB V (Proc.devRef .tc main_v34_6) = V (Proc.devRef .tc main_v34_6) := by
  simp only [opsB, hostOps0_5, List.drop_succ_cons, List.drop_zero, List.take_succ_cons, List.take_zero]
  after_reads_simp
theorem opsB_v35_keep : after opsB V (Proc.devRef .tc main_v35) = V (Proc.devRef .tc main_v35) := by
  simp only [opsB, hostOps0_5, List.drop_succ_cons, List.drop_zero, List.take_succ_cons, List.take_zero]
  after_reads_simp
theorem opsB_v50_keep : after opsB V (Proc.devRef .tc main_v50) = V (Proc.devRef .tc main_v50) := by
  simp only [opsB, hostOps0_5, List.drop_succ_cons, List.drop_zero, List.take_succ_cons, List.take_zero]
  after_reads_simp
theorem opsC_v34_6_keep : after opsC V (Proc.devRef .tc main_v34_6) = V (Proc.devRef .tc main_v34_6) := by
  simp only [opsC, hostOps0_5, List.drop_succ_cons, List.drop_zero, List.take_succ_cons, List.take_zero]
  after_reads_simp
theorem opsC_v50_keep : after opsC V (Proc.devRef .tc main_v50) = V (Proc.devRef .tc main_v50) := by
  simp only [opsC, hostOps0_5, List.drop_succ_cons, List.drop_zero, List.take_succ_cons, List.take_zero]
  after_reads_simp
theorem opsC_v66_keep : after opsC V (Proc.devRef .tc main_v66) = V (Proc.devRef .tc main_v66) := by
  simp only [opsC, hostOps0_5, List.drop_succ_cons, List.drop_zero, List.take_succ_cons, List.take_zero]
  after_reads_simp

theorem end_v83 : after endOps V (Proc.devRef .tc main_v83) = concatenate S8x1000x6 2 [⟨S8x1000x4, (V (Proc.devRef .tc main_v50) : FVec Ideal S8x1000x4 .f32)⟩,
    ⟨S8x1000x1, (V (Proc.devRef .tc main_v66) : FVec Ideal S8x1000x1 .f32)⟩, ⟨S8x1000x1, (V (Proc.devRef .tc main_v82) : FVec Ideal S8x1000x1 .f32)⟩]
    concatenates_S8x1000x4_S8x1000x1_S8x1000x1_S8x1000x6_d2 := by
  simp only [endOps, hostOps0_5, List.drop_succ_cons, List.drop_zero]
  after_results
  rfl

theorem end_v84 (b : Fin 8) (i : Fin 1000) : (after endOps V (Proc.devRef .tc main_v84) : IVec S8x1000x1 1) (ix3 b i 0) = Kp V (ix2 b i) := by
  simp only [endOps, hostOps0_5, List.drop_succ_cons, List.drop_zero]
  after_reads_simp
  pointwise

theorem end_cst : (after endOps V (Proc.devRef .tc main_cst_21) : S_.Idx → EReal) ix0 = (show EReal from 0) := by
  simp only [endOps, hostOps0_5, List.drop_succ_cons, List.drop_zero]
  after_reads_simp
  pointwise

theorem post_v85_eq : after hostOps0_6 V (Proc.devRef .tc main_v85) = select (broadcastInDim S8x1000x6 ![0, 1, 2] bcast_S8x1000x1_S8x1000x6_0_1_2 (V (Proc.devRef .tc main_v84)))
    (V (Proc.devRef .tc main_v83)) (broadcastInDim S8x1000x6 ![] bcast_S_S8x1000x6 (id (V (Proc.devRef .tc main_cst_21)))) := by
  simp only [hostOps0_6]
  after_results_entrywise [cast_eq]

theorem post_v85 (b : Fin 8) (i : Fin 1000) (f : Fin 6) : (after hostOps0_6 V (Proc.devRef .tc main_v85) : S8x1000x6.Idx → EReal) (ix3 b i f) =
    Scalar.select ((V (Proc.devRef .tc main_v84) : IVec S8x1000x1 1) (ix3 b i 0)) ((V (Proc.devRef .tc main_v83) : S8x1000x6.Idx → EReal) (ix3 b i f))
      ((V (Proc.devRef .tc main_cst_21) : S_.Idx → EReal) ix0) := by
  rw [post_v85_eq, id_eq]
  pointwise

/-! ## The result -/

section Rows

variable {b : Fin 8} {i : Fin 1000} {n : Fin 20000} (h1 : (V (Proc.devRef .tc main_v1) : IVec S8 32) (ix1 b) = BitVec.ofNat 32 b.val)
  (h5 : Ch V (ix2 b i) = BitVec.ofNat 32 n.val)

abbrev VA : Vl := after opsA V
abbrev VB : Vl := after opsB (VA V)
abbrev VC : Vl := after opsC (VB V)

theorem VB_Ch : Ch (VB V) = Ch V := (opsB_v34_5_keep _).trans (opsA_v34_5_keep V)

include h1 h5

/-- The picked box. -/
theorem row_box (k : Fin 4) : (VC V (Proc.devRef .tc main_v50) : S8x1000x4.Idx → EReal) (ix3 b i k) = (V (Proc.devRef .tc main_v11) : S8x20000x4.Idx → EReal) (ix3 b n k) := by
  refine (congrFun ((opsC_v50_keep _).trans ((opsB_v50_keep _).trans (opsA_v50 V))) (ix3 b i k)).trans ?_
  refine gather_boxes _ _ b i n k (pairs_im ?_ _ i) (pairs_ch h5 _)
  pointwise
  exact h1

/-- The picked confidence. -/
theorem row_conf : (VC V (Proc.devRef .tc main_v66) : S8x1000x1.Idx → EReal) (ix3 b i 0) = (V (Proc.devRef .tc main_v18) : S8x20000.Idx → EReal) (ix2 b n) := by
  refine (congrFun ((opsC_v66_keep _).trans (opsB_v66 (VA V))) (ix3 b i 0)).trans ?_
  pointwise
  refine (gather_scores _ _ b i n (pairs_im ((opsA_v35 V b).trans h1) _ i) (pairs_ch ?_ _)).trans (congrFun (opsA_v18_keep V) _)
  exact (congrFun (opsA_v34_5_keep V) _).trans h5

/-- The picked class. -/
theorem row_cls : (VC V (Proc.devRef .tc main_v82) : S8x1000x1.Idx → EReal) (ix3 b i 0) = (V (Proc.devRef .tc main_v20) : S8x20000.Idx → EReal) (ix2 b n) := by
  refine (congrFun (opsC_v82 (VB V)) (ix3 b i 0)).trans ?_
  pointwise
  refine (gather_scores _ _ b i n (pairs_im ((congrFun (opsB_v35_keep _) _).trans ((opsA_v35 V b).trans h1)) _ i) (pairs_ch ?_ _)).trans
    (congrFun ((opsB_v20_keep _).trans (opsA_v20_keep V)) _)
  exact (congrFun (VB_Ch V) _).trans h5

/-- A row of the result. -/
theorem row_at (f : Fin 6) : (afterL postI V (Proc.devRef .tc main_v85) : S8x1000x6.Idx → EReal) (ix3 b i f) =
    Scalar.select (Kp V (ix2 b i))
      (if h : f.val < 4 then (V (Proc.devRef .tc main_v11) : S8x20000x4.Idx → EReal) (ix3 b n ⟨f.val, h⟩) else if f.val = 4 then (V (Proc.devRef .tc main_v18) : S8x20000.Idx → EReal) (ix2 b n)
        else (V (Proc.devRef .tc main_v20) : S8x20000.Idx → EReal) (ix2 b n)) (show EReal from 0) := by
  simp only [postI, afterL_cons, afterL_nil]
  rw [post_v85, cut_rows, after_append, after_append, after_append, end_v84, end_v83, end_cst]
  have e1 := row_box V h1 h5
  have e2 := row_conf V h1 h5
  have e3 := row_cls V h1 h5
  have e4 : Kp (VC V) = Kp V := (opsC_v34_6_keep _).trans ((opsB_v34_6_keep _).trans (opsA_v34_6_keep V))
  rw [show Kp (after opsC (after opsB (after opsA V))) = Kp V from e4]
  change ∀ k, (after opsC (after opsB (after opsA V)) (Proc.devRef .tc main_v50) : FVec Ideal S8x1000x4 .f32) (ix3 b i k) = _ at e1
  change (after opsC (after opsB (after opsA V)) (Proc.devRef .tc main_v66) : FVec Ideal S8x1000x1 .f32) (ix3 b i 0) = _ at e2
  change (after opsC (after opsB (after opsA V)) (Proc.devRef .tc main_v82) : FVec Ideal S8x1000x1 .f32) (ix3 b i 0) = _ at e3
  generalize (after opsC (after opsB (after opsA V)) (Proc.devRef .tc main_v50) : FVec Ideal S8x1000x4 .f32) = x1 at *
  generalize (after opsC (after opsB (after opsA V)) (Proc.devRef .tc main_v66) : FVec Ideal S8x1000x1 .f32) = x2 at *
  generalize (after opsC (after opsB (after opsA V)) (Proc.devRef .tc main_v82) : FVec Ideal S8x1000x1 .f32) = x3 at *
  refine congrArg (fun z : EReal => Scalar.select (Kp V (ix2 b i)) z 0) ?_
  rw [← e2, ← e3]
  simp only [← e1]
  fin_cases f
  all_goals pointwise

end Rows

section Out

variable (m : (ℓ : Loc nD τ sig) → Buf (Elt Ideal) ℓ) (c : Dev nD)

/-- The contents when the loop ends. -/
abbrev X : Vl := after condOps (atK m 1000 c)

theorem X_keep {b : Ref sig .tc} (h : b ∉ loop_W) (h' : b ∉ condOps_W) : X m c (Proc.devRef .tc b) = E m c (Proc.devRef .tc b) :=
  (after_of_writes_sub condOps _ condOps_writes h').trans (atK_keep m h c 1000)

theorem X_carried {j : Ref sig .tc} (h : j ∈ carriedRefs) : X m c (Proc.devRef .tc j) = R (E m c) 1000 (Proc.devRef .tc j) :=
  (cond_keeps _ j h).trans (atK_agree m c 1000 j h)

/-- A box's row of the result. -/
def rowOf (g : Col) (f : Fin 6) : EReal :=
  if f.val = 0 then g.ux1 else if f.val = 1 then g.uy1 else if f.val = 2 then g.ux2 else if f.val = 3 then g.uy2 else if f.val = 4 then g.conf else g.cls

/-- The reference's result. -/
theorem out_at (b : Fin 8) (i : Fin 1000) (f : Fin 6) : (finalContents condOps preI bodyI postI 1000 m c (Proc.devRef .tc main_v85) : S8x1000x6.Idx → EReal) (ix3 b i f) =
    if 0 < S (R (E m c) i) (ix2 b (pick (E m c) b i)) then rowOf (colR m c b (pick (E m c) b i)) f else 0 := by
  have hIm := fun b => E_Im m c b
  have hIt := E_It m c
  have hCh : Ch (X m c) (ix2 b i) = BitVec.ofNat 32 (pick (E m c) b i).val := by
    rw [show Ch (X m c) = Ch (R (E m c) 1000) from X_carried m c (by decide +kernel)]
    exact Ch_R (E m c) hIt b i 1000 le_rfl i.isLt
  have hKp : Kp (X m c) (ix2 b i) = BitVec.ofBool (decide (0 < S (R (E m c) i) (ix2 b (pick (E m c) b i)))) := by
    rw [show Kp (X m c) = Kp (R (E m c) 1000) from X_carried m c (by decide +kernel)]
    exact Kp_R (E m c) hIm hIt b i 1000 le_rfl i.isLt
  have h1 : (X m c (Proc.devRef .tc main_v1) : IVec S8 32) (ix1 b) = BitVec.ofNat 32 b.val := by
    rw [X_keep m c (by decide +kernel) (by decide +kernel)]
    exact E_v1 m c b
  refine (row_at (X m c) h1 hCh f).trans ?_
  rw [hKp, X_keep m c (b := main_v11) (by decide +kernel) (by decide +kernel), X_keep m c (b := main_v18) (by decide +kernel) (by decide +kernel),
    X_keep m c (b := main_v20) (by decide +kernel) (by decide +kernel), E_v18, E_v20]
  generalize pick (E m c) b i = q
  by_cases hp : 0 < S (R (E m c) i) (ix2 b q)
  · rw [if_pos hp, decide_eq_true hp]
    fin_cases f
    · exact E_v11 m c b q 0
    · exact E_v11 m c b q 1
    · exact E_v11 m c b q 2
    · exact E_v11 m c b q 3
    · rfl
    · rfl
  · rw [if_neg hp, decide_eq_false hp]
    rfl

end Out

end Cert.ReferenceIdeal.Nms
-- ==== Proof.Value.lean ====
/-
  The two programs' results agree, over extended reals.
-/
module

public import proofs.«01_k».proof.Defs
public import proofs.«01_k».proof.Proof.Geom
public import proofs.«01_k».proof.Proof.Ker.Out
public import proofs.«01_k».proof.Proof.Ref.Post
public import Idealize.ShloMosaic.Lib.ReduceAll

@[expose] public section

set_option maxRecDepth 16384

noncomputable section

namespace Cert.Proof

open Idealize.ShloMosaic Idealize.ShloMosaic.TcCoe Idealize.ShloMosaic.StableHlo
open Idealize.ShloMosaic.Pointwise
open Cert.KernelIdeal.Nms (Given Col Box Img P num gone colOf insAt cols')

/-! ## The precondition -/

/-- The shapes of the precondition's operations fit. -/
theorem pre_facts : Cert.Pre_boxes_in_range.Facts := ⟨by decide, by decide, by decide, by decide, by decide⟩

section Pre

open Cert.Pre_boxes_in_range

/-- The comparison bits of the precondition, joined at one place, say that both numbers lie between the two bounds. -/
theorem ge_le {x y a b : EReal} (h : IntOp.andi (IntOp.andi (IntOp.andi
      (FloatOps.cmpf (F := Ideal) (φ := .f32) .oge x a) (FloatOps.cmpf (F := Ideal) (φ := .f32) .ole x b))
      (FloatOps.cmpf (F := Ideal) (φ := .f32) .oge y a)) (FloatOps.cmpf (F := Ideal) (φ := .f32) .ole y b) = 1#1) :
    (a ≤ x ∧ x ≤ b) ∧ a ≤ y ∧ y ≤ b := by
  have hb : ∀ u v w z : Bool, IntOp.andi (IntOp.andi (IntOp.andi (BitVec.ofBool u) (BitVec.ofBool v)) (BitVec.ofBool w)) (BitVec.ofBool z) = 1#1 →
      u = true ∧ v = true ∧ w = true ∧ z = true := by decide
  obtain ⟨h1, h2, h3, h4⟩ := hb (decide (a ≤ x)) (decide (x ≤ b)) (decide (a ≤ y)) (decide (y ≤ b)) h
  exact ⟨⟨of_decide_eq_true h1, of_decide_eq_true h2⟩, of_decide_eq_true h3, of_decide_eq_true h4⟩

/-- The first slice holds the centres along x. -/
theorem slice_0 (X : Given) (hs : S1x8x20000x85.Slices ![0, 0, 0, 0] S1x8x20000x1) (b : Fin 8) (n : Fin 20000) :
    extractStridedSlice S1x8x20000x1 ![0, 0, 0, 0] (X : FVec Ideal S1x8x20000x85 .f32) hs (ix4 0 b n 0) = X (ix4 0 b n 0) := by
  pointwise

/-- The second slice holds the widths along x. -/
theorem slice_2 (X : Given) (hs : S1x8x20000x85.Slices ![0, 0, 0, 2] S1x8x20000x1) (b : Fin 8) (n : Fin 20000) :
    extractStridedSlice S1x8x20000x1 ![0, 0, 0, 2] (X : FVec Ideal S1x8x20000x85 .f32) hs (ix4 0 b n 0) = X (ix4 0 b n 2) := by
  pointwise

/-- The precondition, read at every centre and width along x. -/
theorem in_range (X : Given) (h : @Cert.Pre_boxes_in_range.fn pre_facts Ideal _ X = fun _ => 1#1) : X.InRange := by
  intro b n k hk
  have h1 := congrFun h ix0
  unfold Cert.Pre_boxes_in_range.fn at h1
  haveI : Subsingleton S_.Idx := ⟨fun x y => funext fun a => a.elim0⟩
  have h2 := Host.reduce_andi_all _ _ _ _ ix0 h1 (ix4 0 b n 0)
  have h3 := ge_le h2
  beta_reduce at h3
  rw [slice_0, slice_2] at h3
  have e1 : Ideal.ofBits .f32 0x00000000#32 = ((0 : ℝ) : EReal) := by simp [Ideal.ofBits, Ideal.ieee, ← EReal.coe_mul, ← EReal.coe_pow] <;> norm_num
  have e2 : Ideal.ofBits .f32 0x45000000#32 = ((2048 : ℝ) : EReal) := by simp [Ideal.ofBits, Ideal.ieee, ← EReal.coe_mul, ← EReal.coe_pow] <;> norm_num
  rw [← e1, ← e2]
  rcases hk with rfl | rfl
  exacts [h3.1, h3.2]

end Pre

/-! ## The reference -/

section Ref

open Cert.ReferenceIdeal.Nms

variable (m : (ℓ : Loc Cert.ReferenceIdeal.nD Cert.ReferenceIdeal.τ Cert.ReferenceIdeal.sig) → Buf (Elt Ideal) ℓ) (c : Dev Cert.ReferenceIdeal.nD)

/-- What the reference's loop starts from is the given image. -/
theorem ref_img (b : Fin 8) : imgOf (E m c) b (fun q => (colR m c b q).class) = (given (L m c)).img b := by
  unfold imgOf Given.img
  congr 1
  · funext q
    unfold boxOf
    rw [E_B, E_B, E_B, E_B]
    rfl
  · funext q
    exact E_S m c b q

end Ref

/-! ## The kernel -/

section Ker

open Cert.KernelIdeal.Nms Cert.KernelIdeal.Gen Cert.KernelIdeal

variable (m : (ℓ : Loc Cert.KernelIdeal.nD Cert.KernelIdeal.τ Cert.KernelIdeal.sig) → Buf (Elt Ideal) ℓ) (c : Dev Cert.KernelIdeal.nD)

variable (t : Fin (cfg1 (F := Ideal)).N) (p : P)

/-- A box's column, at its place. -/
theorem cols_in (h : num p < 20000) : cols' (V3 m) c t p = (given (V0 m c)).col (img t) ⟨num p, h⟩ := by
  rw [cols_eq]
  funext ch
  exact dif_pos h

/-- The places after the boxes hold zeros, and score as no box. -/
theorem cols_out (h : ¬ num p < 20000) : (cols' (V3 m) c t p).score = gone := by
  rw [cols_eq]
  unfold Col.score
  refine if_neg fun hh => ?_
  have h1 := hh.1
  simp only [dif_neg h] at h1
  rw [c_quarter] at h1
  exact absurd h1 (not_lt.mpr (EReal.coe_le_coe_iff.mpr (by norm_num : (0 : ℝ) ≤ 1 / 4)))

/-- The second kernel is given the image. -/
theorem ker_is : ((given (V0 m c)).img (img t)).Is (insAt (W4 m) c t) where
  box p h := by
    unfold boxAt
    rw [ins_x1, ins_y1, ins_x2, ins_y2, ins_a, cols_in m c t p h]
    rfl
  cls p h := by
    rw [ins_j, cols_in m c t p h]
    exact Col.class_eq _
  s p h := by
    rw [ins_s, cols_in m c t p h]
    rfl
  pad p h := by
    rw [ins_s]
    exact cols_out m c t p h
  hj p := by
    rw [ins_j]
    exact ⟨_, Col.class_eq _⟩

/-- A place's column of the result is its box's row. -/
theorem col_row (h : num p < 20000) (f : Fin 6) (x : EReal) (hx : x = ((given (V0 m c)).col (img t) ⟨num p, h⟩).conf) :
    colOf (insAt (W4 m) c t) p x ⟨f.val, by omega⟩ = Cert.ReferenceIdeal.Nms.rowOf ((given (V0 m c)).col (img t) ⟨num p, h⟩) f := by
  unfold colOf Cert.ReferenceIdeal.Nms.rowOf
  rw [ins_ux1, ins_uy1, ins_ux2, ins_uy2, ins_j, cols_in m c t p h, hx]
  fin_cases f <;> rfl

end Ker

/-- A positive score is the confidence. -/
theorem score_conf (f : Col) (h : 0 < f.score) : f.score = f.conf := by
  unfold Col.score at h ⊢
  split at h
  · next h' => rw [if_pos h']
  · exact absurd h (lt_asymm Cert.KernelIdeal.Nms.gone_neg)

/-! ## Both -/

section Both

variable (m : (ℓ : Loc Cert.KernelIdeal.nD Cert.KernelIdeal.τ Cert.KernelIdeal.sig) → Buf (Elt Ideal) ℓ) (c : Dev Cert.KernelIdeal.nD)
  (m' : (ℓ : Loc Cert.ReferenceIdeal.nD Cert.ReferenceIdeal.τ Cert.ReferenceIdeal.sig) → Buf (Elt Ideal) ℓ) (c' : Dev Cert.ReferenceIdeal.nD)

/-- The results agree, number by number. -/
theorem same_at (hX : Cert.ReferenceIdeal.Nms.given (Cert.ReferenceIdeal.Nms.L m' c') = Cert.KernelIdeal.Nms.given (Cert.KernelIdeal.Gen.V0 m c))
    (hr : (Cert.KernelIdeal.Nms.given (Cert.KernelIdeal.Gen.V0 m c)).InRange) (b : Fin 8) (i : Fin 1000) (f : Fin 6) :
    (Cert.KernelIdeal.Nms.W6 m c (Proc.devRef .tc Cert.KernelIdeal.main_v12) : Cert.KernelIdeal.S8x1000x6.Idx → EReal) (ix3 b i f) =
      (finalContents Cert.ReferenceIdeal.Value.condOps Cert.ReferenceIdeal.Value.preI Cert.ReferenceIdeal.Value.bodyI Cert.ReferenceIdeal.Value.postI 1000 m' c'
        (Proc.devRef .tc Cert.ReferenceIdeal.main_v85) : Cert.ReferenceIdeal.S8x1000x6.Idx → EReal) (ix3 b i f) := by
  have hG := Given.good _ hr b
  have hran := Cert.ReferenceIdeal.Nms.ran (Cert.ReferenceIdeal.Nms.E m' c') (fun b => Cert.ReferenceIdeal.Nms.E_Im m' c' b) b
    (fun q => (Cert.ReferenceIdeal.Nms.colR m' c' b q).class)
  rw [ref_img, hX] at hran
  obtain ⟨M, σ, hrun, hout⟩ := Cert.KernelIdeal.Nms.out_of_run m c b
  rw [hout, Cert.ReferenceIdeal.Nms.out_at]
  rcases Cert.KernelIdeal.Nms.sim hran hG (ker_is m c _) hrun i with ⟨hpos, p, hp, hcol⟩ | ⟨hpos, hz⟩
  · have hlt : num p < 20000 := by rw [hp]; exact Fin.isLt _
    have e : (⟨num p, hlt⟩ : Fin 20000) = Cert.ReferenceIdeal.Nms.pick (Cert.ReferenceIdeal.Nms.E m' c') b i := Fin.ext hp
    rw [if_pos hpos, hcol, ← e]
    have hs : 0 < ((Cert.KernelIdeal.Nms.given (Cert.KernelIdeal.Gen.V0 m c)).col b ⟨num p, hlt⟩).score := by
      refine hpos.trans_le ?_
      rw [e]
      exact (hran.falls hG (Nat.zero_le i.val) _).trans (hran.zero _).le
    refine (col_row m c _ p hlt f _ ?_).trans ?_
    · exact score_conf _ hs
    · unfold Cert.ReferenceIdeal.Nms.colR
      rw [hX]
      rfl
  · rw [if_neg hpos]
    exact hz _

/-- The results agree. -/
theorem same (hX : Cert.ReferenceIdeal.Nms.given (Cert.ReferenceIdeal.Nms.L m' c') = Cert.KernelIdeal.Nms.given (Cert.KernelIdeal.Gen.V0 m c))
    (hr : (Cert.KernelIdeal.Nms.given (Cert.KernelIdeal.Gen.V0 m c)).InRange) :
    (Cert.KernelIdeal.Nms.W6 m c (Proc.devRef .tc Cert.KernelIdeal.main_v12) : Cert.KernelIdeal.S8x1000x6.Idx → EReal) =
      (finalContents Cert.ReferenceIdeal.Value.condOps Cert.ReferenceIdeal.Value.preI Cert.ReferenceIdeal.Value.bodyI Cert.ReferenceIdeal.Value.postI 1000 m' c'
        (Proc.devRef .tc Cert.ReferenceIdeal.main_v85) : Cert.ReferenceIdeal.S8x1000x6.Idx → EReal) := by
  funext j
  have e : j = ix3 (j 0) (j 1) (j 2) := by
    funext a
    match a with | ⟨0, _⟩ => rfl | ⟨1, _⟩ => rfl | ⟨2, _⟩ => rfl
  rw [e]
  exact same_at m c m' c' hX hr (j 0) (j 1) (j 2)

end Both

end Cert.Proof

end
-- ==== Proof.lean ====
/-
  The claims about the two idealised programs.
-/
module

public import proofs.«01_k».proof.Defs
public import proofs.«01_k».proof.Proof.Ker.Frame
public import proofs.«01_k».proof.Proof.Ref.Frame
public import proofs.«01_k».proof.Proof.Value

@[expose] public section

noncomputable section

namespace Cert.Proof

open Idealize.ShloMosaic Idealize.SL.Sem

/-- The kernel's program runs to its end and leaves its argument alone. -/
theorem kernel_frame : Cert.quiescent_KernelIdeal (hKernelIdeal := Cert.KernelIdeal.Gen.facts) := fun m g _ =>
  θ_run_mono (Cert.KernelIdeal.Nms.run m g (Cert.KernelIdeal.Nms.ends m)) fun _ h => ⟨fun c => (h.1 c).2, h.2⟩

/-- The reference's program runs to its end and leaves its argument alone. -/
theorem reference_frame : Cert.quiescent_ReferenceIdeal (hReferenceIdeal := Cert.ReferenceIdeal.Gen.facts) := fun m g _ =>
  θ_run_mono (Cert.ReferenceIdeal.Value.run m g) fun _ h => ⟨fun c => (h.1 c).2, h.2⟩

/-- The kernel's and the reference's results are equal when the box numbers lie in [0, 2048]. -/
theorem values_agree : Cert.algebraic_KernelIdeal_ReferenceIdeal_pre_boxes_in_range (hKernelIdeal := Cert.KernelIdeal.Gen.facts)
    (hReferenceIdeal := Cert.ReferenceIdeal.Gen.facts) (hPre_boxes_in_range := pre_facts) := fun m g m' g' hpre hagree =>
  ⟨fun c => Cert.KernelIdeal.Nms.W6 m c (Proc.devRef .tc Cert.KernelIdeal.main_v12),
   θ_run_mono (Cert.KernelIdeal.Nms.run m g (Cert.KernelIdeal.Nms.ends m)) fun _ h => h.1,
   θ_run_mono (Cert.ReferenceIdeal.Value.run m' g') fun _ h c => ⟨(h.1 c).1.trans (same m c m' c (hagree c) (in_range _ (hpre c))).symm, (h.1 c).2⟩⟩

/-- Everything claimed. -/
theorem claim : Cert.Claim :=
  ⟨Cert.KernelIdeal.Gen.facts, Cert.ReferenceIdeal.Gen.facts, pre_facts, kernel_frame, fun m g _ => kernel_frame m g trivial,
    reference_frame, fun m g _ => reference_frame m g trivial, values_agree⟩

end Cert.Proof

end
